-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Kernel23Ideal_finite3 [hPre_finite3 : Cert.Pre_finite3.Facts] (m : (ℓ : Loc Cert.Kernel23Ideal.nD Cert.Kernel23Ideal.τ Cert.Kernel23Ideal.sig) → Buf (Elt Ideal) ℓ) : Prop :=
  ∀ c : Dev Cert.Kernel23Ideal.nD,
    (Cert.Pre_finite3.fn (F := Ideal) (m ((c.tc : Thread Cert.Kernel23Ideal.nD Cert.Kernel23Ideal.τ).loc Cert.Kernel23Ideal.main_arg0)) (m ((c.tc : Thread Cert.Kernel23Ideal.nD Cert.Kernel23Ideal.τ).loc Cert.Kernel23Ideal.main_arg1)) (m ((c.tc : Thread Cert.Kernel23Ideal.nD Cert.Kernel23Ideal.τ).loc Cert.Kernel23Ideal.main_arg2)) (m ((c.tc : Thread Cert.Kernel23Ideal.nD Cert.Kernel23Ideal.τ).loc Cert.Kernel23Ideal.main_arg3)) (m ((c.tc : Thread Cert.Kernel23Ideal.nD Cert.Kernel23Ideal.τ).loc Cert.Kernel23Ideal.main_arg4)) (m ((c.tc : Thread Cert.Kernel23Ideal.nD Cert.Kernel23Ideal.τ).loc Cert.Kernel23Ideal.main_arg5))).1 = (fun _ => 1#1)
    ∧ (Cert.Pre_finite3.fn (F := Ideal) (m ((c.tc : Thread Cert.Kernel23Ideal.nD Cert.Kernel23Ideal.τ).loc Cert.Kernel23Ideal.main_arg0)) (m ((c.tc : Thread Cert.Kernel23Ideal.nD Cert.Kernel23Ideal.τ).loc Cert.Kernel23Ideal.main_arg1)) (m ((c.tc : Thread Cert.Kernel23Ideal.nD Cert.Kernel23Ideal.τ).loc Cert.Kernel23Ideal.main_arg2)) (m ((c.tc : Thread Cert.Kernel23Ideal.nD Cert.Kernel23Ideal.τ).loc Cert.Kernel23Ideal.main_arg3)) (m ((c.tc : Thread Cert.Kernel23Ideal.nD Cert.Kernel23Ideal.τ).loc Cert.Kernel23Ideal.main_arg4)) (m ((c.tc : Thread Cert.Kernel23Ideal.nD Cert.Kernel23Ideal.τ).loc Cert.Kernel23Ideal.main_arg5))).2.1 = (fun _ => 1#1)
    ∧ (Cert.Pre_finite3.fn (F := Ideal) (m ((c.tc : Thread Cert.Kernel23Ideal.nD Cert.Kernel23Ideal.τ).loc Cert.Kernel23Ideal.main_arg0)) (m ((c.tc : Thread Cert.Kernel23Ideal.nD Cert.Kernel23Ideal.τ).loc Cert.Kernel23Ideal.main_arg1)) (m ((c.tc : Thread Cert.Kernel23Ideal.nD Cert.Kernel23Ideal.τ).loc Cert.Kernel23Ideal.main_arg2)) (m ((c.tc : Thread Cert.Kernel23Ideal.nD Cert.Kernel23Ideal.τ).loc Cert.Kernel23Ideal.main_arg3)) (m ((c.tc : Thread Cert.Kernel23Ideal.nD Cert.Kernel23Ideal.τ).loc Cert.Kernel23Ideal.main_arg4)) (m ((c.tc : Thread Cert.Kernel23Ideal.nD Cert.Kernel23Ideal.τ).loc Cert.Kernel23Ideal.main_arg5))).2.2.1 = (fun _ => 1#1)
    ∧ (Cert.Pre_finite3.fn (F := Ideal) (m ((c.tc : Thread Cert.Kernel23Ideal.nD Cert.Kernel23Ideal.τ).loc Cert.Kernel23Ideal.main_arg0)) (m ((c.tc : Thread Cert.Kernel23Ideal.nD Cert.Kernel23Ideal.τ).loc Cert.Kernel23Ideal.main_arg1)) (m ((c.tc : Thread Cert.Kernel23Ideal.nD Cert.Kernel23Ideal.τ).loc Cert.Kernel23Ideal.main_arg2)) (m ((c.tc : Thread Cert.Kernel23Ideal.nD Cert.Kernel23Ideal.τ).loc Cert.Kernel23Ideal.main_arg3)) (m ((c.tc : Thread Cert.Kernel23Ideal.nD Cert.Kernel23Ideal.τ).loc Cert.Kernel23Ideal.main_arg4)) (m ((c.tc : Thread Cert.Kernel23Ideal.nD Cert.Kernel23Ideal.τ).loc Cert.Kernel23Ideal.main_arg5))).2.2.2.1 = (fun _ => 1#1)
    ∧ (Cert.Pre_finite3.fn (F := Ideal) (m ((c.tc : Thread Cert.Kernel23Ideal.nD Cert.Kernel23Ideal.τ).loc Cert.Kernel23Ideal.main_arg0)) (m ((c.tc : Thread Cert.Kernel23Ideal.nD Cert.Kernel23Ideal.τ).loc Cert.Kernel23Ideal.main_arg1)) (m ((c.tc : Thread Cert.Kernel23Ideal.nD Cert.Kernel23Ideal.τ).loc Cert.Kernel23Ideal.main_arg2)) (m ((c.tc : Thread Cert.Kernel23Ideal.nD Cert.Kernel23Ideal.τ).loc Cert.Kernel23Ideal.main_arg3)) (m ((c.tc : Thread Cert.Kernel23Ideal.nD Cert.Kernel23Ideal.τ).loc Cert.Kernel23Ideal.main_arg4)) (m ((c.tc : Thread Cert.Kernel23Ideal.nD Cert.Kernel23Ideal.τ).loc Cert.Kernel23Ideal.main_arg5))).2.2.2.2.1 = (fun _ => 1#1)
    ∧ (Cert.Pre_finite3.fn (F := Ideal) (m ((c.tc : Thread Cert.Kernel23Ideal.nD Cert.Kernel23Ideal.τ).loc Cert.Kernel23Ideal.main_arg0)) (m ((c.tc : Thread Cert.Kernel23Ideal.nD Cert.Kernel23Ideal.τ).loc Cert.Kernel23Ideal.main_arg1)) (m ((c.tc : Thread Cert.Kernel23Ideal.nD Cert.Kernel23Ideal.τ).loc Cert.Kernel23Ideal.main_arg2)) (m ((c.tc : Thread Cert.Kernel23Ideal.nD Cert.Kernel23Ideal.τ).loc Cert.Kernel23Ideal.main_arg3)) (m ((c.tc : Thread Cert.Kernel23Ideal.nD Cert.Kernel23Ideal.τ).loc Cert.Kernel23Ideal.main_arg4)) (m ((c.tc : Thread Cert.Kernel23Ideal.nD Cert.Kernel23Ideal.τ).loc Cert.Kernel23Ideal.main_arg5))).2.2.2.2.2 = (fun _ => 1#1)

def Pre_Reference23Ideal (m : (ℓ : Loc Cert.Reference23Ideal.nD Cert.Reference23Ideal.τ Cert.Reference23Ideal.sig) → Buf (Elt Ideal) ℓ) : Prop :=
  True

def Pre_Reference23Ideal_finite3 [hPre_finite3 : Cert.Pre_finite3.Facts] (m : (ℓ : Loc Cert.Reference23Ideal.nD Cert.Reference23Ideal.τ Cert.Reference23Ideal.sig) → Buf (Elt Ideal) ℓ) : Prop :=
  ∀ c : Dev Cert.Reference23Ideal.nD,
    (Cert.Pre_finite3.fn (F := Ideal) (m ((c.tc : Thread Cert.Reference23Ideal.nD Cert.Reference23Ideal.τ).loc Cert.Reference23Ideal.main_arg0)) (m ((c.tc : Thread Cert.Reference23Ideal.nD Cert.Reference23Ideal.τ).loc Cert.Reference23Ideal.main_arg1)) (m ((c.tc : Thread Cert.Reference23Ideal.nD Cert.Reference23Ideal.τ).loc Cert.Reference23Ideal.main_arg2)) (m ((c.tc : Thread Cert.Reference23Ideal.nD Cert.Reference23Ideal.τ).loc Cert.Reference23Ideal.main_arg3)) (m ((c.tc : Thread Cert.Reference23Ideal.nD Cert.Reference23Ideal.τ).loc Cert.Reference23Ideal.main_arg4)) (m ((c.tc : Thread Cert.Reference23Ideal.nD Cert.Reference23Ideal.τ).loc Cert.Reference23Ideal.main_arg5))).1 = (fun _ => 1#1)
    ∧ (Cert.Pre_finite3.fn (F := Ideal) (m ((c.tc : Thread Cert.Reference23Ideal.nD Cert.Reference23Ideal.τ).loc Cert.Reference23Ideal.main_arg0)) (m ((c.tc : Thread Cert.Reference23Ideal.nD Cert.Reference23Ideal.τ).loc Cert.Reference23Ideal.main_arg1)) (m ((c.tc : Thread Cert.Reference23Ideal.nD Cert.Reference23Ideal.τ).loc Cert.Reference23Ideal.main_arg2)) (m ((c.tc : Thread Cert.Reference23Ideal.nD Cert.Reference23Ideal.τ).loc Cert.Reference23Ideal.main_arg3)) (m ((c.tc : Thread Cert.Reference23Ideal.nD Cert.Reference23Ideal.τ).loc Cert.Reference23Ideal.main_arg4)) (m ((c.tc : Thread Cert.Reference23Ideal.nD Cert.Reference23Ideal.τ).loc Cert.Reference23Ideal.main_arg5))).2.1 = (fun _ => 1#1)
    ∧ (Cert.Pre_finite3.fn (F := Ideal) (m ((c.tc : Thread Cert.Reference23Ideal.nD Cert.Reference23Ideal.τ).loc Cert.Reference23Ideal.main_arg0)) (m ((c.tc : Thread Cert.Reference23Ideal.nD Cert.Reference23Ideal.τ).loc Cert.Reference23Ideal.main_arg1)) (m ((c.tc : Thread Cert.Reference23Ideal.nD Cert.Reference23Ideal.τ).loc Cert.Reference23Ideal.main_arg2)) (m ((c.tc : Thread Cert.Reference23Ideal.nD Cert.Reference23Ideal.τ).loc Cert.Reference23Ideal.main_arg3)) (m ((c.tc : Thread Cert.Reference23Ideal.nD Cert.Reference23Ideal.τ).loc Cert.Reference23Ideal.main_arg4)) (m ((c.tc : Thread Cert.Reference23Ideal.nD Cert.Reference23Ideal.τ).loc Cert.Reference23Ideal.main_arg5))).2.2.1 = (fun _ => 1#1)
    ∧ (Cert.Pre_finite3.fn (F := Ideal) (m ((c.tc : Thread Cert.Reference23Ideal.nD Cert.Reference23Ideal.τ).loc Cert.Reference23Ideal.main_arg0)) (m ((c.tc : Thread Cert.Reference23Ideal.nD Cert.Reference23Ideal.τ).loc Cert.Reference23Ideal.main_arg1)) (m ((c.tc : Thread Cert.Reference23Ideal.nD Cert.Reference23Ideal.τ).loc Cert.Reference23Ideal.main_arg2)) (m ((c.tc : Thread Cert.Reference23Ideal.nD Cert.Reference23Ideal.τ).loc Cert.Reference23Ideal.main_arg3)) (m ((c.tc : Thread Cert.Reference23Ideal.nD Cert.Reference23Ideal.τ).loc Cert.Reference23Ideal.main_arg4)) (m ((c.tc : Thread Cert.Reference23Ideal.nD Cert.Reference23Ideal.τ).loc Cert.Reference23Ideal.main_arg5))).2.2.2.1 = (fun _ => 1#1)
    ∧ (Cert.Pre_finite3.fn (F := Ideal) (m ((c.tc : Thread Cert.Reference23Ideal.nD Cert.Reference23Ideal.τ).loc Cert.Reference23Ideal.main_arg0)) (m ((c.tc : Thread Cert.Reference23Ideal.nD Cert.Reference23Ideal.τ).loc Cert.Reference23Ideal.main_arg1)) (m ((c.tc : Thread Cert.Reference23Ideal.nD Cert.Reference23Ideal.τ).loc Cert.Reference23Ideal.main_arg2)) (m ((c.tc : Thread Cert.Reference23Ideal.nD Cert.Reference23Ideal.τ).loc Cert.Reference23Ideal.main_arg3)) (m ((c.tc : Thread Cert.Reference23Ideal.nD Cert.Reference23Ideal.τ).loc Cert.Reference23Ideal.main_arg4)) (m ((c.tc : Thread Cert.Reference23Ideal.nD Cert.Reference23Ideal.τ).loc Cert.Reference23Ideal.main_arg5))).2.2.2.2.1 = (fun _ => 1#1)
    ∧ (Cert.Pre_finite3.fn (F := Ideal) (m ((c.tc : Thread Cert.Reference23Ideal.nD Cert.Reference23Ideal.τ).loc Cert.Reference23Ideal.main_arg0)) (m ((c.tc : Thread Cert.Reference23Ideal.nD Cert.Reference23Ideal.τ).loc Cert.Reference23Ideal.main_arg1)) (m ((c.tc : Thread Cert.Reference23Ideal.nD Cert.Reference23Ideal.τ).loc Cert.Reference23Ideal.main_arg2)) (m ((c.tc : Thread Cert.Reference23Ideal.nD Cert.Reference23Ideal.τ).loc Cert.Reference23Ideal.main_arg3)) (m ((c.tc : Thread Cert.Reference23Ideal.nD Cert.Reference23Ideal.τ).loc Cert.Reference23Ideal.main_arg4)) (m ((c.tc : Thread Cert.Reference23Ideal.nD Cert.Reference23Ideal.τ).loc Cert.Reference23Ideal.main_arg5))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3)
      ∧ r.2.mem ((c.tc : Thread Cert.Kernel21.nD Cert.Kernel21.τ).loc Cert.Kernel21.main_arg4) = m ((c.tc : Thread Cert.Kernel21.nD Cert.Kernel21.τ).loc Cert.Kernel21.main_arg4))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
      ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3)
      ∧ r.2.mem ((c.tc : Thread Cert.Reference21Ideal.nD Cert.Reference21Ideal.τ).loc Cert.Reference21Ideal.main_arg4) = m ((c.tc : Thread Cert.Reference21Ideal.nD Cert.Reference21Ideal.τ).loc Cert.Reference21Ideal.main_arg4))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3)
      ∧ r.2.mem ((c.tc : Thread Cert.Kernel22.nD Cert.Kernel22.τ).loc Cert.Kernel22.main_arg4) = m ((c.tc : Thread Cert.Kernel22.nD Cert.Kernel22.τ).loc Cert.Kernel22.main_arg4))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
      ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3)
      ∧ r.2.mem ((c.tc : Thread Cert.Reference22Ideal.nD Cert.Reference22Ideal.τ).loc Cert.Reference22Ideal.main_arg4) = m ((c.tc : Thread Cert.Reference22Ideal.nD Cert.Reference22Ideal.τ).loc Cert.Reference22Ideal.main_arg4))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3)
      ∧ r.2.mem ((c.tc : Thread Cert.Kernel23.nD Cert.Kernel23.τ).loc Cert.Kernel23.main_arg4) = m ((c.tc : Thread Cert.Kernel23.nD Cert.Kernel23.τ).loc Cert.Kernel23.main_arg4)
      ∧ r.2.mem ((c.tc : Thread Cert.Kernel23.nD Cert.Kernel23.τ).loc Cert.Kernel23.main_arg5) = m ((c.tc : Thread Cert.Kernel23.nD Cert.Kernel23.τ).loc Cert.Kernel23.main_arg5))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
      ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4)
      ∧ r.2.mem ((c.tc : Thread Cert.Kernel23Ideal.nD Cert.Kernel23Ideal.τ).loc Cert.Kernel23Ideal.main_arg5) = m ((c.tc : Thread Cert.Kernel23Ideal.nD Cert.Kernel23Ideal.τ).loc Cert.Kernel23Ideal.main_arg5))
      ∧ r.2.sem = fun _ => 0)

def quiescent_Kernel23Ideal_pre_finite3 [hKernel23Ideal : Cert.Kernel23Ideal.Facts] [hPre_finite3 : Cert.Pre_finite3.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal_finite3 m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
      ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4)
      ∧ r.2.mem ((c.tc : Thread Cert.Kernel23Ideal.nD Cert.Kernel23Ideal.τ).loc Cert.Kernel23Ideal.main_arg5) = m ((c.tc : Thread Cert.Kernel23Ideal.nD Cert.Kernel23Ideal.τ).loc Cert.Kernel23Ideal.main_arg5))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3)
      ∧ r.2.mem ((c.tc : Thread Cert.Reference23Ideal.nD Cert.Reference23Ideal.τ).loc Cert.Reference23Ideal.main_arg4) = m ((c.tc : Thread Cert.Reference23Ideal.nD Cert.Reference23Ideal.τ).loc Cert.Reference23Ideal.main_arg4)
      ∧ r.2.mem ((c.tc : Thread Cert.Reference23Ideal.nD Cert.Reference23Ideal.τ).loc Cert.Reference23Ideal.main_arg5) = m ((c.tc : Thread Cert.Reference23Ideal.nD Cert.Reference23Ideal.τ).loc Cert.Reference23Ideal.main_arg5))
      ∧ r.2.sem = fun _ => 0)

def quiescent_Reference23Ideal_pre_finite3 [hReference23Ideal : Cert.Reference23Ideal.Facts] [hPre_finite3 : Cert.Pre_finite3.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal_finite3 m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3)
      ∧ r.2.mem ((c.tc : Thread Cert.Reference23Ideal.nD Cert.Reference23Ideal.τ).loc Cert.Reference23Ideal.main_arg4) = m ((c.tc : Thread Cert.Reference23Ideal.nD Cert.Reference23Ideal.τ).loc Cert.Reference23Ideal.main_arg4)
      ∧ r.2.mem ((c.tc : Thread Cert.Reference23Ideal.nD Cert.Reference23Ideal.τ).loc Cert.Reference23Ideal.main_arg5) = m ((c.tc : Thread Cert.Reference23Ideal.nD Cert.Reference23Ideal.τ).loc Cert.Reference23Ideal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)) (v3 : (c : Dev Cert.KernelIdeal.nD) → Buf (Elt Ideal) ((c.tc : Thread Cert.KernelIdeal.nD Cert.KernelIdeal.τ).loc Cert.KernelIdeal.main_v4_3)) (v4 : (c : Dev Cert.KernelIdeal.nD) → Buf (Elt Ideal) ((c.tc : Thread Cert.KernelIdeal.nD Cert.KernelIdeal.τ).loc Cert.KernelIdeal.main_v4_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_v4_3) = v3 c
          ∧ r.2.mem ((c.tc : Thread Cert.KernelIdeal.nD Cert.KernelIdeal.τ).loc Cert.KernelIdeal.main_v4_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_v106) = v1 c
          ∧ r.2.mem ((c.tc : Thread Cert.ReferenceIdeal.nD Cert.ReferenceIdeal.τ).loc Cert.ReferenceIdeal.main_v107) = v2 c
          ∧ r.2.mem ((c.tc : Thread Cert.ReferenceIdeal.nD Cert.ReferenceIdeal.τ).loc Cert.ReferenceIdeal.main_v60) = v3 c
          ∧ r.2.mem ((c.tc : Thread Cert.ReferenceIdeal.nD Cert.ReferenceIdeal.τ).loc Cert.ReferenceIdeal.main_v108) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  IdealRules.named_const.Statement Cert.Kernel2Ideal.κ "scale_log2e" .f32 0x3E0293EE#32 (((Real.sqrt 128)⁻¹ * (Real.log 2)⁻¹ : ℝ) : EReal)
  ∧ IdealRules.named_const.Statement Cert.Kernel2Ideal.κ "scale" .f32 0x3DB504F3#32 (((Real.sqrt 128)⁻¹ : ℝ) : EReal)
  ∧ IdealRules.named_const.Statement Cert.Kernel2Ideal.κ "log2e" .f32 0x3FB8AA3B#32 (((Real.log 2)⁻¹ : ℝ) : EReal)

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v1_0)) (v2 : (c : Dev Cert.Kernel2Ideal.nD) → Buf (Elt Ideal) ((c.tc : Thread Cert.Kernel2Ideal.nD Cert.Kernel2Ideal.τ).loc Cert.Kernel2Ideal.main_v1_1)) (v3 : (c : Dev Cert.Kernel2Ideal.nD) → Buf (Elt Ideal) ((c.tc : Thread Cert.Kernel2Ideal.nD Cert.Kernel2Ideal.τ).loc Cert.Kernel2Ideal.main_v1_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v1_0) = v1 c
          ∧ r.2.mem ((c.tc : Thread Cert.Kernel2Ideal.nD Cert.Kernel2Ideal.τ).loc Cert.Kernel2Ideal.main_v1_1) = v2 c
          ∧ r.2.mem ((c.tc : Thread Cert.Kernel2Ideal.nD Cert.Kernel2Ideal.τ).loc Cert.Kernel2Ideal.main_v1_2) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v42) = v0 c
          ∧ r.2.mem ((c.tc : Thread Cert.Reference2Ideal.nD Cert.Reference2Ideal.τ).loc Cert.Reference2Ideal.main_v70) = v1 c
          ∧ r.2.mem ((c.tc : Thread Cert.Reference2Ideal.nD Cert.Reference2Ideal.τ).loc Cert.Reference2Ideal.main_v69) = v2 c
          ∧ r.2.mem ((c.tc : Thread Cert.Reference2Ideal.nD Cert.Reference2Ideal.τ).loc Cert.Reference2Ideal.main_v68) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v14) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v10) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v2) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v14) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v10) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v6) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v4) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v6) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v2) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v10) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v6) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v6) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v4) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v4) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v2) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)
      ∧ m' ((c.tc : Thread Cert.Reference21Ideal.nD Cert.Reference21Ideal.τ).loc Cert.Reference21Ideal.main_arg4) = m ((c.tc : Thread Cert.Kernel21Ideal.nD Cert.Kernel21Ideal.τ).loc Cert.Kernel21Ideal.main_arg4)) →
    ∃ (v0 : (c : Dev Cert.Kernel21Ideal.nD) → Buf (Elt Ideal) ((c.tc : Thread Cert.Kernel21Ideal.nD Cert.Kernel21Ideal.τ).loc Cert.Kernel21Ideal.main_v4)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v4) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
          ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v42) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3)
          ∧ r.2.mem ((c.tc : Thread Cert.Reference21Ideal.nD Cert.Reference21Ideal.τ).loc Cert.Reference21Ideal.main_arg4) = m' ((c.tc : Thread Cert.Reference21Ideal.nD Cert.Reference21Ideal.τ).loc Cert.Reference21Ideal.main_arg4))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)
      ∧ m' ((c.tc : Thread Cert.Reference22Ideal.nD Cert.Reference22Ideal.τ).loc Cert.Reference22Ideal.main_arg4) = m ((c.tc : Thread Cert.Kernel22Ideal.nD Cert.Kernel22Ideal.τ).loc Cert.Kernel22Ideal.main_arg4)) →
    ∃ (v0 : (c : Dev Cert.Kernel22Ideal.nD) → Buf (Elt Ideal) ((c.tc : Thread Cert.Kernel22Ideal.nD Cert.Kernel22Ideal.τ).loc Cert.Kernel22Ideal.main_v4)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v4) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
          ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v42) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3)
          ∧ r.2.mem ((c.tc : Thread Cert.Reference22Ideal.nD Cert.Reference22Ideal.τ).loc Cert.Reference22Ideal.main_arg4) = m' ((c.tc : Thread Cert.Reference22Ideal.nD Cert.Reference22Ideal.τ).loc Cert.Reference22Ideal.main_arg4))

def preserves_Kernel23_Kernel23Ideal : Prop :=
  True

def algebraic_Kernel23Ideal_Reference23Ideal_pre_finite3 [hKernel23Ideal : Cert.Kernel23Ideal.Facts] [hReference23Ideal : Cert.Reference23Ideal.Facts] [hPre_finite3 : Cert.Pre_finite3.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal_finite3 m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)
      ∧ m' ((c.tc : Thread Cert.Reference23Ideal.nD Cert.Reference23Ideal.τ).loc Cert.Reference23Ideal.main_arg4) = m ((c.tc : Thread Cert.Kernel23Ideal.nD Cert.Kernel23Ideal.τ).loc Cert.Kernel23Ideal.main_arg4)
      ∧ m' ((c.tc : Thread Cert.Reference23Ideal.nD Cert.Reference23Ideal.τ).loc Cert.Reference23Ideal.main_arg5) = m ((c.tc : Thread Cert.Kernel23Ideal.nD Cert.Kernel23Ideal.τ).loc Cert.Kernel23Ideal.main_arg5)) →
    ∃ (v0 : (c : Dev Cert.Kernel23Ideal.nD) → Buf (Elt Ideal) ((c.tc : Thread Cert.Kernel23Ideal.nD Cert.Kernel23Ideal.τ).loc Cert.Kernel23Ideal.main_v4_0)) (v1 : (c : Dev Cert.Kernel23Ideal.nD) → Buf (Elt Ideal) ((c.tc : Thread Cert.Kernel23Ideal.nD Cert.Kernel23Ideal.τ).loc Cert.Kernel23Ideal.main_v4_1)) (v2 : (c : Dev Cert.Kernel23Ideal.nD) → Buf (Elt Ideal) ((c.tc : Thread Cert.Kernel23Ideal.nD Cert.Kernel23Ideal.τ).loc Cert.Kernel23Ideal.main_v4_2)) (v3 : (c : Dev Cert.Kernel23Ideal.nD) → Buf (Elt Ideal) ((c.tc : Thread Cert.Kernel23Ideal.nD Cert.Kernel23Ideal.τ).loc Cert.Kernel23Ideal.main_v4_3)) (v4 : (c : Dev Cert.Kernel23Ideal.nD) → Buf (Elt Ideal) ((c.tc : Thread Cert.Kernel23Ideal.nD Cert.Kernel23Ideal.τ).loc Cert.Kernel23Ideal.main_v4_4)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v4_0) = v0 c
          ∧ r.2.mem ((c.tc : Thread Cert.Kernel23Ideal.nD Cert.Kernel23Ideal.τ).loc Cert.Kernel23Ideal.main_v4_1) = v1 c
          ∧ r.2.mem ((c.tc : Thread Cert.Kernel23Ideal.nD Cert.Kernel23Ideal.τ).loc Cert.Kernel23Ideal.main_v4_2) = v2 c
          ∧ r.2.mem ((c.tc : Thread Cert.Kernel23Ideal.nD Cert.Kernel23Ideal.τ).loc Cert.Kernel23Ideal.main_v4_3) = v3 c
          ∧ r.2.mem ((c.tc : Thread Cert.Kernel23Ideal.nD Cert.Kernel23Ideal.τ).loc Cert.Kernel23Ideal.main_v4_4) = v4 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
          ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4)
          ∧ r.2.mem ((c.tc : Thread Cert.Kernel23Ideal.nD Cert.Kernel23Ideal.τ).loc Cert.Kernel23Ideal.main_arg5) = m ((c.tc : Thread Cert.Kernel23Ideal.nD Cert.Kernel23Ideal.τ).loc Cert.Kernel23Ideal.main_arg5))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v105) = v0 c
          ∧ r.2.mem ((c.tc : Thread Cert.Reference23Ideal.nD Cert.Reference23Ideal.τ).loc Cert.Reference23Ideal.main_v106) = v1 c
          ∧ r.2.mem ((c.tc : Thread Cert.Reference23Ideal.nD Cert.Reference23Ideal.τ).loc Cert.Reference23Ideal.main_v107) = v2 c
          ∧ r.2.mem ((c.tc : Thread Cert.Reference23Ideal.nD Cert.Reference23Ideal.τ).loc Cert.Reference23Ideal.main_v60) = v3 c
          ∧ r.2.mem ((c.tc : Thread Cert.Reference23Ideal.nD Cert.Reference23Ideal.τ).loc Cert.Reference23Ideal.main_v108) = v4 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3)
          ∧ r.2.mem ((c.tc : Thread Cert.Reference23Ideal.nD Cert.Reference23Ideal.τ).loc Cert.Reference23Ideal.main_arg4) = m' ((c.tc : Thread Cert.Reference23Ideal.nD Cert.Reference23Ideal.τ).loc Cert.Reference23Ideal.main_arg4)
          ∧ r.2.mem ((c.tc : Thread Cert.Reference23Ideal.nD Cert.Reference23Ideal.τ).loc Cert.Reference23Ideal.main_arg5) = m' ((c.tc : Thread Cert.Reference23Ideal.nD Cert.Reference23Ideal.τ).loc Cert.Reference23Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hPre_finite : Cert.Pre_finite.Facts) (hPre_finite2 : Cert.Pre_finite2.Facts) (hPre_finite3 : Cert.Pre_finite3.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Kernel23Ideal_pre_finite3 (hKernel23Ideal := hKernel23Ideal) (hPre_finite3 := hPre_finite3)
    ∧ quiescent_Reference23Ideal (hReference23Ideal := hReference23Ideal)
    ∧ quiescent_Reference23Ideal_pre_finite3 (hReference23Ideal := hReference23Ideal) (hPre_finite3 := hPre_finite3)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal_pre_finite3 (hKernel23Ideal := hKernel23Ideal) (hReference23Ideal := hReference23Ideal) (hPre_finite3 := hPre_finite3)
-- ==== Pre_finite.lean ====
abbrev S3x4096x4096 : Shape := ⟨3, ![3, 4096, 4096]⟩
abbrev S4096x4096 : Shape := ⟨2, ![4096, 4096]⟩
abbrev S4096 : Shape := ⟨1, ![4096]⟩
abbrev S16x128x128 : Shape := ⟨3, ![16, 128, 128]⟩
abbrev S16x128 : Shape := ⟨2, ![16, 128]⟩
abbrev S_ : Shape := ⟨0, ![]⟩

class Facts : Prop where
  bcast_S_S3x4096x4096 : S_.BroadcastsInDim S3x4096x4096 (![] : Fin 0 → Fin S3x4096x4096.rank)
  bcast_S_S4096x4096 : S_.BroadcastsInDim S4096x4096 (![] : Fin 0 → Fin S4096x4096.rank)
  bcast_S_S4096 : S_.BroadcastsInDim S4096 (![] : Fin 0 → Fin S4096.rank)
  bcast_S_S16x128x128 : S_.BroadcastsInDim S16x128x128 (![] : Fin 0 → Fin S16x128x128.rank)
  bcast_S_S16x128 : S_.BroadcastsInDim S16x128 (![] : Fin 0 → Fin S16x128.rank)

variable [Facts]

def fn {F : FTy → Type} [FloatOps F] (main_arg0 : FVec F S3x4096x4096 .f32) (main_arg1 : FVec F S4096x4096 .f32) (main_arg2 : FVec F S4096 .f32) (main_arg3 : FVec F S4096 .f32) (main_arg4 : FVec F S16x128x128 .f32) (main_arg5 : FVec F S16x128 .f32) : IVec S3x4096x4096 1 × IVec S4096x4096 1 × IVec S4096 1 × IVec S4096 1 × IVec S16x128x128 1 × IVec S16x128 1 :=
  let main_v0 : FVec F S3x4096x4096 .f32 := Host.absf main_arg0
  let main_cst : FVec F S_ .f32 := constant S_ .f32 0x7F800000#32
  let main_v1 : FVec F S3x4096x4096 .f32 := broadcastInDim S3x4096x4096 ![] bcast_S_S3x4096x4096 main_cst
  let main_v2 : IVec S3x4096x4096 1 := cmpf .olt main_v0 main_v1
  let main_v3 : FVec F S4096x4096 .f32 := Host.absf main_arg1
  let main_cst_0 : FVec F S_ .f32 := constant S_ .f32 0x7F800000#32
  let main_v4 : FVec F S4096x4096 .f32 := broadcastInDim S4096x4096 ![] bcast_S_S4096x4096 main_cst_0
  let main_v5 : IVec S4096x4096 1 := cmpf .olt main_v3 main_v4
  let main_v6 : FVec F S4096 .f32 := Host.absf main_arg2
  let main_cst_1 : FVec F S_ .f32 := constant S_ .f32 0x7F800000#32
  let main_v7 : FVec F S4096 .f32 := broadcastInDim S4096 ![] bcast_S_S4096 main_cst_1
  let main_v8 : IVec S4096 1 := cmpf .olt main_v6 main_v7
  let main_v9 : FVec F S4096 .f32 := Host.absf main_arg3
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_v12 : FVec F S16x128x128 .f32 := Host.absf main_arg4
  let main_cst_3 : FVec F S_ .f32 := constant S_ .f32 0x7F800000#32
  let main_v13 : FVec F S16x128x128 .f32 := broadcastInDim S16x128x128 ![] bcast_S_S16x128x128 main_cst_3
  let main_v14 : IVec S16x128x128 1 := cmpf .olt main_v12 main_v13
  let main_v15 : FVec F S16x128 .f32 := Host.absf main_arg5
  let main_cst_4 : FVec F S_ .f32 := constant S_ .f32 0x7F800000#32
  let main_v16 : FVec F S16x128 .f32 := broadcastInDim S16x128 ![] bcast_S_S16x128 main_cst_4
  let main_v17 : IVec S16x128 1 := cmpf .olt main_v15 main_v16
  (main_v2, main_v5, main_v8, main_v11, main_v14, main_v17)
-- ==== Pre_finite2.lean ====
abbrev S4352x2048 : Shape := ⟨2, ![4352, 2048]⟩
abbrev S4352x512 : Shape := ⟨2, ![4352, 512]⟩
abbrev S4096x2048 : Shape := ⟨2, ![4096, 2048]⟩
abbrev S_ : Shape := ⟨0, ![]⟩

class Facts : Prop where
  bitsLt_bf16_f32 : FTy.bits .bf16 < FTy.bits .f32
  bcast_S_S4352x2048 : S_.BroadcastsInDim S4352x2048 (![] : Fin 0 → Fin S4352x2048.rank)
  bcast_S_S4352x512 : S_.BroadcastsInDim S4352x512 (![] : Fin 0 → Fin S4352x512.rank)
  bcast_S_S4096x2048 : S_.BroadcastsInDim S4096x2048 (![] : Fin 0 → Fin S4096x2048.rank)

variable [Facts]

def fn {F : FTy → Type} [FloatOps F] (main_arg0 : FVec F S4352x2048 .bf16) (main_arg1 : FVec F S4352x512 .bf16) (main_arg2 : FVec F S4352x512 .bf16) (main_arg3 : FVec F S4096x2048 .bf16) : IVec S4352x2048 1 × IVec S4352x512 1 × IVec S4352x512 1 × IVec S4096x2048 1 :=
  let main_v0 : FVec F S4352x2048 .f32 := (extf .f32 · bitsLt_bf16_f32) main_arg0
  let main_v1 : FVec F S4352x2048 .f32 := Host.absf main_v0
  let main_cst : FVec F S_ .f32 := constant S_ .f32 0x7F800000#32
  let main_v2 : FVec F S4352x2048 .f32 := broadcastInDim S4352x2048 ![] bcast_S_S4352x2048 main_cst
  let main_v3 : IVec S4352x2048 1 := cmpf .olt main_v1 main_v2
  let main_v4 : FVec F S4352x512 .f32 := (extf .f32 · bitsLt_bf16_f32) main_arg1
  let main_v5 : FVec F S4352x512 .f32 := Host.absf main_v4
  let main_cst_0 : FVec F S_ .f32 := constant S_ .f32 0x7F800000#32
  let main_v6 : FVec F S4352x512 .f32 := broadcastInDim S4352x512 ![] bcast_S_S4352x512 main_cst_0
  let main_v7 : IVec S4352x512 1 := cmpf .olt main_v5 main_v6
  let main_v8 : FVec F S4352x512 .f32 := (extf .f32 · bitsLt_bf16_f32) main_arg2
  let main_v9 : FVec F S4352x512 .f32 := Host.absf main_v8
  let main_cst_1 : FVec F S_ .f32 := constant S_ .f32 0x7F800000#32
  let main_v10 : FVec F S4352x512 .f32 := broadcastInDim S4352x512 ![] bcast_S_S4352x512 main_cst_1
  let main_v11 : IVec S4352x512 1 := cmpf .olt main_v9 main_v10
  let main_v12 : FVec F S4096x2048 .f32 := (extf .f32 · bitsLt_bf16_f32) main_arg3
  let main_v13 : FVec F S4096x2048 .f32 := Host.absf main_v12
  let main_cst_2 : FVec F S_ .f32 := constant S_ .f32 0x7F800000#32
  let main_v14 : FVec F S4096x2048 .f32 := broadcastInDim S4096x2048 ![] bcast_S_S4096x2048 main_cst_2
  let main_v15 : IVec S4096x2048 1 := cmpf .olt main_v13 main_v14
  (main_v3, main_v7, main_v11, main_v15)
-- ==== Pre_finite3.lean ====
abbrev S3x4352x4096 : Shape := ⟨3, ![3, 4352, 4096]⟩
abbrev S4352x4096 : Shape := ⟨2, ![4352, 4096]⟩
abbrev S4096 : Shape := ⟨1, ![4096]⟩
abbrev S16x128x128 : Shape := ⟨3, ![16, 128, 128]⟩
abbrev S16x128 : Shape := ⟨2, ![16, 128]⟩
abbrev S_ : Shape := ⟨0, ![]⟩

class Facts : Prop where
  bcast_S_S3x4352x4096 : S_.BroadcastsInDim S3x4352x4096 (![] : Fin 0 → Fin S3x4352x4096.rank)
  bcast_S_S4352x4096 : S_.BroadcastsInDim S4352x4096 (![] : Fin 0 → Fin S4352x4096.rank)
  bcast_S_S4096 : S_.BroadcastsInDim S4096 (![] : Fin 0 → Fin S4096.rank)
  bcast_S_S16x128x128 : S_.BroadcastsInDim S16x128x128 (![] : Fin 0 → Fin S16x128x128.rank)
  bcast_S_S16x128 : S_.BroadcastsInDim S16x128 (![] : Fin 0 → Fin S16x128.rank)

variable [Facts]

def fn {F : FTy → Type} [FloatOps F] (main_arg0 : FVec F S3x4352x4096 .f32) (main_arg1 : FVec F S4352x4096 .f32) (main_arg2 : FVec F S4096 .f32) (main_arg3 : FVec F S4096 .f32) (main_arg4 : FVec F S16x128x128 .f32) (main_arg5 : FVec F S16x128 .f32) : IVec S3x4352x4096 1 × IVec S4352x4096 1 × IVec S4096 1 × IVec S4096 1 × IVec S16x128x128 1 × IVec S16x128 1 :=
  let main_v0 : FVec F S3x4352x4096 .f32 := Host.absf main_arg0
  let main_cst : FVec F S_ .f32 := constant S_ .f32 0x7F800000#32
  let main_v1 : FVec F S3x4352x4096 .f32 := broadcastInDim S3x4352x4096 ![] bcast_S_S3x4352x4096 main_cst
  let main_v2 : IVec S3x4352x4096 1 := cmpf .olt main_v0 main_v1
  let main_v3 : FVec F S4352x4096 .f32 := Host.absf main_arg1
  let main_cst_0 : FVec F S_ .f32 := constant S_ .f32 0x7F800000#32
  let main_v4 : FVec F S4352x4096 .f32 := broadcastInDim S4352x4096 ![] bcast_S_S4352x4096 main_cst_0
  let main_v5 : IVec S4352x4096 1 := cmpf .olt main_v3 main_v4
  let main_v6 : FVec F S4096 .f32 := Host.absf main_arg2
  let main_cst_1 : FVec F S_ .f32 := constant S_ .f32 0x7F800000#32
  let main_v7 : FVec F S4096 .f32 := broadcastInDim S4096 ![] bcast_S_S4096 main_cst_1
  let main_v8 : IVec S4096 1 := cmpf .olt main_v6 main_v7
  let main_v9 : FVec F S4096 .f32 := Host.absf main_arg3
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_v12 : FVec F S16x128x128 .f32 := Host.absf main_arg4
  let main_cst_3 : FVec F S_ .f32 := constant S_ .f32 0x7F800000#32
  let main_v13 : FVec F S16x128x128 .f32 := broadcastInDim S16x128x128 ![] bcast_S_S16x128x128 main_cst_3
  let main_v14 : IVec S16x128x128 1 := cmpf .olt main_v12 main_v13
  let main_v15 : FVec F S16x128 .f32 := Host.absf main_arg5
  let main_cst_4 : FVec F S_ .f32 := constant S_ .f32 0x7F800000#32
  let main_v16 : FVec F S16x128 .f32 := broadcastInDim S16x128 ![] bcast_S_S16x128 main_cst_4
  let main_v17 : IVec S16x128 1 := cmpf .olt main_v15 main_v16
  (main_v2, main_v5, main_v8, main_v11, main_v14, main_v17)
-- ==== Kernel.lean ====
abbrev S3x4096x4096 : Shape := ⟨3, ![3, 4096, 4096]⟩
abbrev S4096x4096 : Shape := ⟨2, ![4096, 4096]⟩
abbrev S4096 : Shape := ⟨1, ![4096]⟩
abbrev S16x128x128 : Shape := ⟨3, ![16, 128, 128]⟩
abbrev S16x128 : Shape := ⟨2, ![16, 128]⟩
abbrev S128x16 : Shape := ⟨2, ![128, 16]⟩
abbrev S1x4096 : Shape := ⟨2, ![1, 4096]⟩
abbrev S3x128x4096 : Shape := ⟨3, ![3, 128, 4096]⟩
abbrev S128x4096 : Shape := ⟨2, ![128, 4096]⟩
abbrev S1x128x4096 : Shape := ⟨3, ![1, 128, 4096]⟩
abbrev S128 : Shape := ⟨1, ![128]⟩
abbrev S128x1 : Shape := ⟨2, ![128, 1]⟩
abbrev S128x256 : Shape := ⟨2, ![128, 256]⟩
abbrev S1x128x128 : Shape := ⟨3, ![1, 128, 128]⟩
abbrev S128x128 : Shape := ⟨2, ![128, 128]⟩
abbrev S1x128x256 : Shape := ⟨3, ![1, 128, 256]⟩

abbrev nBuf : Space → Nat
  | .hbm => 15
  | .vmem => 15
  | .smem => 0
  | _ => 0

abbrev bufTy : (tb : Table) → Fin (tcTables nBuf tb) → BufTy
  | .hbm, ⟨0, _⟩ => ⟨S3x4096x4096, .f32⟩
  | .hbm, ⟨1, _⟩ => ⟨S4096x4096, .f32⟩
  | .hbm, ⟨2, _⟩ => ⟨S4096, .f32⟩
  | .hbm, ⟨3, _⟩ => ⟨S4096, .f32⟩
  | .hbm, ⟨4, _⟩ => ⟨S16x128x128, .f32⟩
  | .hbm, ⟨5, _⟩ => ⟨S16x128, .f32⟩
  | .hbm, ⟨6, _⟩ => ⟨S16x128x128, .bf16⟩
  | .hbm, ⟨7, _⟩ => ⟨S128x16, .f32⟩
  | .hbm, ⟨8, _⟩ => ⟨S1x4096, .f32⟩
  | .hbm, ⟨9, _⟩ => ⟨S1x4096, .f32⟩
  | .hbm, ⟨10, _⟩ => ⟨S3x4096x4096, .bf16⟩
  | .hbm, ⟨11, _⟩ => ⟨S1x4096, .f32⟩
  | .hbm, ⟨12, _⟩ => ⟨S1x4096, .f32⟩
  | .hbm, ⟨13, _⟩ => ⟨S16x128x128, .f32⟩
  | .hbm, ⟨14, _⟩ => ⟨S128x16, .f32⟩
  | .local _ .vmem, ⟨0, _⟩ => ⟨S3x128x4096, .f32⟩
  | .local _ .vmem, ⟨1, _⟩ => ⟨S3x128x4096, .f32⟩
  | .local _ .vmem, ⟨2, _⟩ => ⟨S128x4096, .f32⟩
  | .local _ .vmem, ⟨3, _⟩ => ⟨S128x4096, .f32⟩
  | .local _ .vmem, ⟨4, _⟩ => ⟨S1x4096, .f32⟩
  | .local _ .vmem, ⟨5, _⟩ => ⟨S1x4096, .f32⟩
  | .local _ .vmem, ⟨6, _⟩ => ⟨S16x128x128, .bf16⟩
  | .local _ .vmem, ⟨7, _⟩ => ⟨S128x16, .f32⟩
  | .local _ .vmem, ⟨8, _⟩ => ⟨S3x128x4096, .bf16⟩
  | .local _ .vmem, ⟨9, _⟩ => ⟨S3x128x4096, .bf16⟩
  | .local _ .vmem, ⟨10, _⟩ => ⟨S1x4096, .f32⟩
  | .local _ .vmem, ⟨11, _⟩ => ⟨S1x4096, .f32⟩
  | .local _ .vmem, ⟨12, _⟩ => ⟨S16x128x128, .f32⟩
  | .local _ .vmem, ⟨13, _⟩ => ⟨S128x16, .f32⟩
  | .local _ .vmem, ⟨14, _⟩ => ⟨S128x4096, .f32⟩
  | _, _ => ⟨S3x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev main_v4_4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem9_0 : DmaSem sig := 12
abbrev cc0_sem10_0 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S3x128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S3x128x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S16x128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x16 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceIdeal.lean ====
abbrev S3x4096x4096 : Shape := ⟨3, ![3, 4096, 4096]⟩
abbrev S4096x4096 : Shape := ⟨2, ![4096, 4096]⟩
abbrev S4096 : Shape := ⟨1, ![4096]⟩
abbrev S16x128x128 : Shape := ⟨3, ![16, 128, 128]⟩
abbrev S16x128 : Shape := ⟨2, ![16, 128]⟩
abbrev S1x4096x4096 : Shape := ⟨3, ![1, 4096, 4096]⟩
abbrev S_ : Shape := ⟨0, ![]⟩
abbrev S4096x1 : Shape := ⟨2, ![4096, 1]⟩
abbrev S1x4096 : Shape := ⟨2, ![1, 4096]⟩
abbrev S32x128x16x256 : Shape := ⟨4, ![32, 128, 16, 256]⟩
abbrev S16x32x256x128 : Shape := ⟨4, ![16, 32, 256, 128]⟩
abbrev S128x16 : Shape := ⟨2, ![128, 16]⟩
abbrev S128x16x1 : Shape := ⟨3, ![128, 16, 1]⟩
abbrev S1x128x16x1 : Shape := ⟨4, ![1, 128, 16, 1]⟩

abbrev nBuf : Space → Nat
  | .hbm => 154
  | .vmem => 0
  | .smem => 0
  | _ => 0

abbrev hbmTy0_0 (i : Nat) : BufTy := match i % 128 with
  | 0 => ⟨S3x4096x4096, .f32⟩
  | 1 => ⟨S4096x4096, .f32⟩
  | 2 => ⟨S4096, .f32⟩
  | 3 => ⟨S4096, .f32⟩
  | 4 => ⟨S16x128x128, .f32⟩
  | 5 => ⟨S16x128, .f32⟩
  | 6 => ⟨S1x4096x4096, .f32⟩
  | 7 => ⟨S4096x4096, .f32⟩
  | 8 => ⟨S1x4096x4096, .f32⟩
  | 9 => ⟨S4096x4096, .f32⟩
  | 10 => ⟨S1x4096x4096, .f32⟩
  | 11 => ⟨S4096x4096, .f32⟩
  | 12 => ⟨S_, .f32⟩
  | 13 => ⟨S4096, .f32⟩
  | 14 => ⟨S4096x1, .f32⟩
  | 15 => ⟨S_, .f32⟩
  | 16 => ⟨S4096x1, .f32⟩
  | 17 => ⟨S4096x1, .f32⟩
  | 18 => ⟨S4096x4096, .f32⟩
  | 19 => ⟨S4096x4096, .f32⟩
  | 20 => ⟨S4096x4096, .f32⟩
  | 21 => ⟨S_, .f32⟩
  | 22 => ⟨S4096x4096, .f32⟩
  | 23 => ⟨S4096x4096, .f32⟩
  | 24 => ⟨S_, .f32⟩
  | 25 => ⟨S4096, .f32⟩
  | 26 => ⟨S4096x1, .f32⟩
  | 27 => ⟨S_, .f32⟩
  | 28 => ⟨S4096x1, .f32⟩
  | 29 => ⟨S4096x1, .f32⟩
  | 30 => ⟨S4096x4096, .f32⟩
  | 31 => ⟨S4096x4096, .f32⟩
  | 32 => ⟨S_, .f32⟩
  | 33 => ⟨S4096x1, .f32⟩
  | 34 => ⟨S4096x1, .f32⟩
  | 35 => ⟨S4096x1, .f32⟩
  | 36 => ⟨S4096x1, .f32⟩
  | 37 => ⟨S_, .f32⟩
  | 38 => ⟨S4096x1, .f32⟩
  | 39 => ⟨S4096x1, .f32⟩
  | 40 => ⟨S4096x4096, .f32⟩
  | 41 => ⟨S4096x4096, .f32⟩
  | 42 => ⟨S1x4096, .f32⟩
  | 43 => ⟨S4096x4096, .f32⟩
  | 44 => ⟨S4096x4096, .f32⟩
  | 45 => ⟨S1x4096, .f32⟩
  | 46 => ⟨S4096x4096, .f32⟩
  | 47 => ⟨S4096x4096, .f32⟩
  | 48 => ⟨S32x128x16x256, .f32⟩
  | 49 => ⟨S16x32x256x128, .f32⟩
  | 50 => ⟨S32x128x16x256, .f32⟩
  | 51 => ⟨S128x16, .f32⟩
  | 52 => ⟨S128x16x1, .f32⟩
  | 53 => ⟨S1x128x16x1, .f32⟩
  | 54 => ⟨S32x128x16x256, .f32⟩
  | 55 => ⟨S32x128x16x256, .f32⟩
  | 56 => ⟨S4096x4096, .f32⟩
  | 57 => ⟨S4096x4096, .f32⟩
  | 58 => ⟨S4096x4096, .f32⟩
  | 59 => ⟨S4096x4096, .f32⟩
  | 60 => ⟨S_, .f32⟩
  | 61 => ⟨S4096x4096, .f32⟩
  | 62 => ⟨S4096x4096, .f32⟩
  | 63 => ⟨S_, .f32⟩
  | 64 => ⟨S4096x4096, .f32⟩
  | 65 => ⟨S4096x4096, .f32⟩
  | 66 => ⟨S_, .f32⟩
  | 67 => ⟨S4096x4096, .f32⟩
  | 68 => ⟨S4096x4096, .f32⟩
  | 69 => ⟨S4096x4096, .f32⟩
  | 70 => ⟨S4096x4096, .f32⟩
  | 71 => ⟨S4096x4096, .f32⟩
  | 72 => ⟨S4096x4096, .f32⟩
  | 73 => ⟨S4096x4096, .f32⟩
  | 74 => ⟨S4096x4096, .f32⟩
  | 75 => ⟨S4096x4096, .f32⟩
  | 76 => ⟨S4096x4096, .f32⟩
  | 77 => ⟨S4096x4096, .f32⟩
  | 78 => ⟨S4096x4096, .f32⟩
  | 79 => ⟨S4096x4096, .f32⟩
  | 80 => ⟨S32x128x16x256, .f32⟩
  | 81 => ⟨S_, .f32⟩
  | 82 => ⟨S128x16, .f32⟩
  | 83 => ⟨S1x128x16x1, .f32⟩
  | 84 => ⟨S_, .f32⟩
  | 85 => ⟨S128x16, .f32⟩
  | 86 => ⟨S128x16x1, .f32⟩
  | 87 => ⟨S_, .f32⟩
  | 88 => ⟨S128x16, .f32⟩
  | 89 => ⟨S16x128, .f32⟩
  | 90 => ⟨S16x32x256x128, .f32⟩
  | 91 => ⟨S16x128x128, .f32⟩
  | 92 => ⟨S16x32x256x128, .f32⟩
  | 93 => ⟨S32x128x16x256, .f32⟩
  | 94 => ⟨S4096x4096, .f32⟩
  | 95 => ⟨S_, .f32⟩
  | 96 => ⟨S4096, .f32⟩
  | 97 => ⟨S1x4096, .f32⟩
  | 98 => ⟨S_, .f32⟩
  | 99 => ⟨S4096, .f32⟩
  | 100 => ⟨S4096x4096, .f32⟩
  | 101 => ⟨S_, .f32⟩
  | 102 => ⟨S4096, .f32⟩
  | 103 => ⟨S1x4096, .f32⟩
  | 104 => ⟨S4096x4096, .f32⟩
  | 105 => ⟨S4096x4096, .f32⟩
  | 106 => ⟨S_, .f32⟩
  | 107 => ⟨S4096, .f32⟩
  | 108 => ⟨S4096x4096, .f32⟩
  | 109 => ⟨S_, .f32⟩
  | 110 => ⟨S4096, .f32⟩
  | 111 => ⟨S4096x1, .f32⟩
  | 112 => ⟨S4096x4096, .f32⟩
  | 113 => ⟨S4096x4096, .f32⟩
  | 114 => ⟨S4096x1, .f32⟩
  | 115 => ⟨S4096x4096, .f32⟩
  | 116 => ⟨S_, .f32⟩
  | 117 => ⟨S4096, .f32⟩
  | 118 => ⟨S4096x1, .f32⟩
  | 119 => ⟨S_, .f32⟩
  | 120 => ⟨S4096x1, .f32⟩
  | 121 => ⟨S4096x1, .f32⟩
  | 122 => ⟨S_, .f32⟩
  | 123 => ⟨S4096, .f32⟩
  | 124 => ⟨S4096x4096, .f32⟩
  | 125 => ⟨S4096x4096, .f32⟩
  | 126 => ⟨S4096x4096, .f32⟩
  | 127 => ⟨S_, .f32⟩
  | _ => ⟨S3x4096x4096, .f32⟩

abbrev hbmTy0_1 (i : Nat) : BufTy := match i % 128 with
  | 0 => ⟨S4096, .f32⟩
  | 1 => ⟨S4096x1, .f32⟩
  | 2 => ⟨S4096x4096, .f32⟩
  | 3 => ⟨S4096x1, .f32⟩
  | 4 => ⟨S_, .f32⟩
  | 5 => ⟨S4096x1, .f32⟩
  | 6 => ⟨S4096x1, .f32⟩
  | 7 => ⟨S_, .f32⟩
  | 8 => ⟨S4096, .f32⟩
  | 9 => ⟨S4096x4096, .f32⟩
  | 10 => ⟨S4096x4096, .f32⟩
  | 11 => ⟨S1x4096x4096, .f32⟩
  | 12 => ⟨S_, .f32⟩
  | 13 => ⟨S3x4096x4096, .f32⟩
  | 14 => ⟨S1x4096x4096, .f32⟩
  | 15 => ⟨S_, .f32⟩
  | 16 => ⟨S3x4096x4096, .f32⟩
  | 17 => ⟨S3x4096x4096, .f32⟩
  | 18 => ⟨S1x4096x4096, .f32⟩
  | 19 => ⟨S_, .f32⟩
  | 20 => ⟨S3x4096x4096, .f32⟩
  | 21 => ⟨S3x4096x4096, .f32⟩
  | 22 => ⟨S3x4096x4096, .bf16⟩
  | 23 => ⟨S1x4096, .f32⟩
  | 24 => ⟨S1x4096, .f32⟩
  | 25 => ⟨S128x16, .f32⟩
  | _ => ⟨S3x4096x4096, .f32⟩

abbrev hbmTy (i : Nat) : BufTy := match i / 128 with
  | 0 => hbmTy0_0 i
  | 1 => hbmTy0_1 i
  | _ => ⟨S3x4096x4096, .f32⟩

abbrev bufTy : (tb : Table) → Fin (tcTables nBuf tb) → BufTy
  | .hbm, ⟨i, _⟩ => hbmTy i
  | _, _ => ⟨S3x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_call0_v0 : Ref sig .tc := ⟨.hbm, 58, rfl⟩
abbrev main_call0_v1 : Ref sig .tc := ⟨.hbm, 59, rfl⟩
abbrev main_call0_cst : Ref sig .tc := ⟨.hbm, 60, rfl⟩
abbrev main_call0_v2 : Ref sig .tc := ⟨.hbm, 61, rfl⟩
abbrev main_call0_v3 : Ref sig .tc := ⟨.hbm, 62, rfl⟩
abbrev main_call0_cst_0 : Ref sig .tc := ⟨.hbm, 63, rfl⟩
abbrev main_call0_v4 : Ref sig .tc := ⟨.hbm, 64, rfl⟩
abbrev main_v45_2 : Ref sig .tc := ⟨.hbm, 65, rfl⟩
abbrev main_call0_cst_1 : Ref sig .tc := ⟨.hbm, 66, rfl⟩
abbrev main_call0_v6 : Ref sig .tc := ⟨.hbm, 67, rfl⟩
abbrev main_call0_v7 : Ref sig .tc := ⟨.hbm, 68, rfl⟩
abbrev main_v45_1 : Ref sig .tc := ⟨.hbm, 69, rfl⟩
abbrev main_v45_0 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_call1_v0 : Ref sig .tc := ⟨.hbm, 74, rfl⟩
abbrev main_call1_v1 : Ref sig .tc := ⟨.hbm, 75, rfl⟩
abbrev main_call1_v2 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_cst_6 : Ref sig .tc := ⟨.hbm, 81, rfl⟩
abbrev main_v53 : Ref sig .tc := ⟨.hbm, 82, rfl⟩
abbrev main_v54 : Ref sig .tc := ⟨.hbm, 83, rfl⟩
abbrev main_cst_7 : Ref sig .tc := ⟨.hbm, 84, rfl⟩
abbrev main_v55 : Ref sig .tc := ⟨.hbm, 85, rfl⟩
abbrev main_v56 : Ref sig .tc := ⟨.hbm, 86, rfl⟩
abbrev main_cst_8 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_cst_9 : Ref sig .tc := ⟨.hbm, 95, rfl⟩
abbrev main_v64 : Ref sig .tc := ⟨.hbm, 96, rfl⟩
abbrev main_v65 : Ref sig .tc := ⟨.hbm, 97, rfl⟩
abbrev main_cst_10 : Ref sig .tc := ⟨.hbm, 98, rfl⟩
abbrev main_v66 : Ref sig .tc := ⟨.hbm, 99, rfl⟩
abbrev main_v67 : Ref sig .tc := ⟨.hbm, 100, rfl⟩
abbrev main_cst_11 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_cst_12 : Ref sig .tc := ⟨.hbm, 106, rfl⟩
abbrev main_v72 : Ref sig .tc := ⟨.hbm, 107, rfl⟩
abbrev main_v73 : Ref sig .tc := ⟨.hbm, 108, rfl⟩
abbrev main_cst_13 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_cst_14 : Ref sig .tc := ⟨.hbm, 116, rfl⟩
abbrev main_v80 : Ref sig .tc := ⟨.hbm, 117, rfl⟩
abbrev main_v81 : Ref sig .tc := ⟨.hbm, 118, rfl⟩
abbrev main_cst_15 : Ref sig .tc := ⟨.hbm, 119, rfl⟩
abbrev main_v82 : Ref sig .tc := ⟨.hbm, 120, rfl⟩
abbrev main_v83 : Ref sig .tc := ⟨.hbm, 121, rfl⟩
abbrev main_cst_16 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_cst_17 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_cst_18 : Ref sig .tc := ⟨.hbm, 132, rfl⟩
abbrev main_v92 : Ref sig .tc := ⟨.hbm, 133, rfl⟩
abbrev main_v93 : Ref sig .tc := ⟨.hbm, 134, rfl⟩
abbrev main_cst_19 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_cst_20 : Ref sig .tc := ⟨.hbm, 140, rfl⟩
abbrev main_v98 : Ref sig .tc := ⟨.hbm, 141, rfl⟩
abbrev main_v99 : Ref sig .tc := ⟨.hbm, 142, rfl⟩
abbrev main_cst_21 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_cst_22 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩

abbrev nD : Nat := 1
abbrev τ : Topo := Topo.v7x

variable {F : FTy → Type} [FloatOps F]
-- ==== Kernel2.lean ====
abbrev S4352x2048 : Shape := ⟨2, ![4352, 2048]⟩
abbrev S4352x512 : Shape := ⟨2, ![4352, 512]⟩
abbrev S4096x2048 : Shape := ⟨2, ![4096, 2048]⟩
abbrev S4x4096x4 : Shape := ⟨3, ![4, 4096, 4]⟩
abbrev S256x512 : Shape := ⟨2, ![256, 512]⟩
abbrev S4352x128 : Shape := ⟨2, ![4352, 128]⟩
abbrev S1x256x4 : Shape := ⟨3, ![1, 256, 4]⟩
abbrev S256x128 : Shape := ⟨2, ![256, 128]⟩
abbrev S256x4352 : Shape := ⟨2, ![256, 4352]⟩
abbrev S256 : Shape := ⟨1, ![256]⟩
abbrev S256x1 : Shape := ⟨2, ![256, 1]⟩
abbrev S1x256x1 : Shape := ⟨3, ![1, 256, 1]⟩

abbrev nBuf : Space → Nat
  | .hbm => 9
  | .vmem => 26
  | .smem => 0
  | _ => 0

abbrev bufTy : (tb : Table) → Fin (tcTables nBuf tb) → BufTy
  | .hbm, ⟨0, _⟩ => ⟨S4352x2048, .bf16⟩
  | .hbm, ⟨1, _⟩ => ⟨S4352x512, .bf16⟩
  | .hbm, ⟨2, _⟩ => ⟨S4352x512, .bf16⟩
  | .hbm, ⟨3, _⟩ => ⟨S4096x2048, .bf16⟩
  | .hbm, ⟨4, _⟩ => ⟨S4096x2048, .f32⟩
  | .hbm, ⟨5, _⟩ => ⟨S4x4096x4, .f32⟩
  | .hbm, ⟨6, _⟩ => ⟨S4096x2048, .f32⟩
  | .hbm, ⟨7, _⟩ => ⟨S4352x512, .f32⟩
  | .hbm, ⟨8, _⟩ => ⟨S4352x512, .f32⟩
  | .local _ .vmem, ⟨0, _⟩ => ⟨S256x512, .bf16⟩
  | .local _ .vmem, ⟨1, _⟩ => ⟨S256x512, .bf16⟩
  | .local _ .vmem, ⟨2, _⟩ => ⟨S4352x128, .bf16⟩
  | .local _ .vmem, ⟨3, _⟩ => ⟨S4352x128, .bf16⟩
  | .local _ .vmem, ⟨4, _⟩ => ⟨S4352x128, .bf16⟩
  | .local _ .vmem, ⟨5, _⟩ => ⟨S4352x128, .bf16⟩
  | .local _ .vmem, ⟨6, _⟩ => ⟨S256x512, .f32⟩
  | .local _ .vmem, ⟨7, _⟩ => ⟨S256x512, .f32⟩
  | .local _ .vmem, ⟨8, _⟩ => ⟨S1x256x4, .f32⟩
  | .local _ .vmem, ⟨9, _⟩ => ⟨S1x256x4, .f32⟩
  | .local _ .vmem, ⟨10, _⟩ => ⟨S256x512, .bf16⟩
  | .local _ .vmem, ⟨11, _⟩ => ⟨S256x512, .bf16⟩
  | .local _ .vmem, ⟨12, _⟩ => ⟨S4352x128, .bf16⟩
  | .local _ .vmem, ⟨13, _⟩ => ⟨S4352x128, .bf16⟩
  | .local _ .vmem, ⟨14, _⟩ => ⟨S4352x128, .bf16⟩
  | .local _ .vmem, ⟨15, _⟩ => ⟨S4352x128, .bf16⟩
  | .local _ .vmem, ⟨16, _⟩ => ⟨S256x512, .bf16⟩
  | .local _ .vmem, ⟨17, _⟩ => ⟨S256x512, .bf16⟩
  | .local _ .vmem, ⟨18, _⟩ => ⟨S1x256x4, .f32⟩
  | .local _ .vmem, ⟨19, _⟩ => ⟨S1x256x4, .f32⟩
  | .local _ .vmem, ⟨20, _⟩ => ⟨S256x512, .f32⟩
  | .local _ .vmem, ⟨21, _⟩ => ⟨S256x512, .f32⟩
  | .local _ .vmem, ⟨22, _⟩ => ⟨S4352x128, .f32⟩
  | .local _ .vmem, ⟨23, _⟩ => ⟨S4352x128, .f32⟩
  | .local _ .vmem, ⟨24, _⟩ => ⟨S4352x128, .f32⟩
  | .local _ .vmem, ⟨25, _⟩ => ⟨S4352x128, .f32⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc1_stg7_0 : Ref sig .tc := ⟨.vmem, 24, rfl⟩
abbrev cc1_stg7_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23
abbrev cc1_sem7_0 : DmaSem sig := 24
abbrev cc1_sem7_1 : DmaSem sig := 25

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4352x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4352x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x4 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![4, 16], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S256x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S4352x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S4352x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S256x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x256x4 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S256x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S4352x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev stage1_7 : Fin 2 → Memref sig .tc .vmem S4352x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]
-- ==== Kernel2Ideal.lean ====
variable {F : FTy → Type} [FloatOps F] [Named F]
def κ : String → Option EReal := fun
  | "log2e" => some (((Real.log 2)⁻¹ : ℝ) : EReal)
  | "scale" => some (((Real.sqrt 128)⁻¹ : ℝ) : EReal)
  | "scale_log2e" => some (((Real.sqrt 128)⁻¹ * (Real.log 2)⁻¹ : ℝ) : EReal)
  | _ => none
-- ==== Reference2Ideal.lean ====
abbrev S4352x2048 : Shape := ⟨2, ![4352, 2048]⟩
abbrev S4352x512 : Shape := ⟨2, ![4352, 512]⟩
abbrev S4096x2048 : Shape := ⟨2, ![4096, 2048]⟩
abbrev S4096x4x4x128 : Shape := ⟨4, ![4096, 4, 4, 128]⟩
abbrev S4352x4x128 : Shape := ⟨3, ![4352, 4, 128]⟩
abbrev S4x4352x4096x4 : Shape := ⟨4, ![4, 4352, 4096, 4]⟩
abbrev S4x4x4096x4352 : Shape := ⟨4, ![4, 4, 4096, 4352]⟩
abbrev S_ : Shape := ⟨0, ![]⟩
abbrev S4x4x4096 : Shape := ⟨3, ![4, 4, 4096]⟩
abbrev S4x4x4096x1 : Shape := ⟨4, ![4, 4, 4096, 1]⟩
abbrev S4x128x4x4096 : Shape := ⟨4, ![4, 128, 4, 4096]⟩
abbrev S4x128x4352 : Shape := ⟨3, ![4, 128, 4352]⟩
abbrev S4x4096x4x128 : Shape := ⟨4, ![4, 4096, 4, 128]⟩
abbrev S4x4352x128 : Shape := ⟨3, ![4, 4352, 128]⟩

abbrev nBuf : Space → Nat
  | .hbm => 88
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S4352x512, .bf16⟩
  | .hbm, ⟨2, _⟩ => ⟨S4352x512, .bf16⟩
  | .hbm, ⟨3, _⟩ => ⟨S4096x2048, .bf16⟩
  | .hbm, ⟨4, _⟩ => ⟨S4096x2048, .bf16⟩
  | .hbm, ⟨5, _⟩ => ⟨S4096x2048, .f32⟩
  | .hbm, ⟨6, _⟩ => ⟨S4352x512, .f32⟩
  | .hbm, ⟨7, _⟩ => ⟨S4352x512, .f32⟩
  | .hbm, ⟨8, _⟩ => ⟨S4096x4x4x128, .f32⟩
  | .hbm, ⟨9, _⟩ => ⟨S4352x4x128, .f32⟩
  | .hbm, ⟨10, _⟩ => ⟨S4352x4x128, .f32⟩
  | .hbm, ⟨11, _⟩ => ⟨S4x4352x4096x4, .f32⟩
  | .hbm, ⟨12, _⟩ => ⟨S4x4x4096x4352, .f32⟩
  | .hbm, ⟨13, _⟩ => ⟨S_, .f32⟩
  | .hbm, ⟨14, _⟩ => ⟨S_, .f32⟩
  | .hbm, ⟨15, _⟩ => ⟨S4x4x4096x4352, .f32⟩
  | .hbm, ⟨16, _⟩ => ⟨S4x4x4096x4352, .f32⟩
  | .hbm, ⟨17, _⟩ => ⟨S_, .f32⟩
  | .hbm, ⟨18, _⟩ => ⟨S4x4x4096, .f32⟩
  | .hbm, ⟨19, _⟩ => ⟨S4x4x4096x1, .f32⟩
  | .hbm, ⟨20, _⟩ => ⟨S4x4x4096x4352, .f32⟩
  | .hbm, ⟨21, _⟩ => ⟨S4x4x4096x4352, .i1⟩
  | .hbm, ⟨22, _⟩ => ⟨S4x4x4096x4352, .f32⟩
  | .hbm, ⟨23, _⟩ => ⟨S_, .f32⟩
  | .hbm, ⟨24, _⟩ => ⟨S4x4x4096, .f32⟩
  | .hbm, ⟨25, _⟩ => ⟨S_, .f32⟩
  | .hbm, ⟨26, _⟩ => ⟨S4x4x4096, .f32⟩
  | .hbm, ⟨27, _⟩ => ⟨S4x4x4096, .f32⟩
  | .hbm, ⟨28, _⟩ => ⟨S_, .f32⟩
  | .hbm, ⟨29, _⟩ => ⟨S4x4x4096, .f32⟩
  | .hbm, ⟨30, _⟩ => ⟨S4x4x4096, .i1⟩
  | .hbm, ⟨31, _⟩ => ⟨S_, .f32⟩
  | .hbm, ⟨32, _⟩ => ⟨S4x4x4096, .f32⟩
  | .hbm, ⟨33, _⟩ => ⟨S4x4x4096, .i1⟩
  | .hbm, ⟨34, _⟩ => ⟨S_, .f32⟩
  | .hbm, ⟨35, _⟩ => ⟨S4x4x4096, .f32⟩
  | .hbm, ⟨36, _⟩ => ⟨S_, .f32⟩
  | .hbm, ⟨37, _⟩ => ⟨S4x4x4096, .f32⟩
  | .hbm, ⟨38, _⟩ => ⟨S_, .f32⟩
  | .hbm, ⟨39, _⟩ => ⟨S4x4x4096, .f32⟩
  | .hbm, ⟨40, _⟩ => ⟨S4x4x4096, .f32⟩
  | .hbm, ⟨41, _⟩ => ⟨S4x4x4096, .f32⟩
  | .hbm, ⟨42, _⟩ => ⟨S4x4x4096x1, .f32⟩
  | .hbm, ⟨43, _⟩ => ⟨S4x4x4096x4352, .f32⟩
  | .hbm, ⟨44, _⟩ => ⟨S4x4x4096x4352, .f32⟩
  | .hbm, ⟨45, _⟩ => ⟨S4x4x4096x4352, .f32⟩
  | .hbm, ⟨46, _⟩ => ⟨S_, .f32⟩
  | .hbm, ⟨47, _⟩ => ⟨S4x4x4096, .f32⟩
  | .hbm, ⟨48, _⟩ => ⟨S4x4x4096x1, .f32⟩
  | .hbm, ⟨49, _⟩ => ⟨S4x4x4096x4352, .f32⟩
  | .hbm, ⟨50, _⟩ => ⟨S4x4x4096x4352, .f32⟩
  | .hbm, ⟨51, _⟩ => ⟨S4x4x4096x1, .f32⟩
  | .hbm, ⟨52, _⟩ => ⟨S_, .f32⟩
  | .hbm, ⟨53, _⟩ => ⟨S4x4x4096x1, .f32⟩
  | .hbm, ⟨54, _⟩ => ⟨S4x4x4096x1, .f32⟩
  | .hbm, ⟨55, _⟩ => ⟨S4x128x4x4096, .f32⟩
  | .hbm, ⟨56, _⟩ => ⟨S4096x4x4x128, .f32⟩
  | .hbm, ⟨57, _⟩ => ⟨S4096x2048, .f32⟩
  | .hbm, ⟨58, _⟩ => ⟨S4096x2048, .f32⟩
  | .hbm, ⟨59, _⟩ => ⟨S4096x4x4x128, .f32⟩
  | .hbm, ⟨60, _⟩ => ⟨S4x128x4x4096, .f32⟩
  | .hbm, ⟨61, _⟩ => ⟨S4x4x4096x4352, .f32⟩
  | .hbm, ⟨62, _⟩ => ⟨S4x128x4352, .f32⟩
  | .hbm, ⟨63, _⟩ => ⟨S4352x4x128, .f32⟩
  | .hbm, ⟨64, _⟩ => ⟨S4x4x4096x4352, .f32⟩
  | .hbm, ⟨65, _⟩ => ⟨S4x4x4096x4352, .f32⟩
  | .hbm, ⟨66, _⟩ => ⟨S4x4x4096x4352, .f32⟩
  | .hbm, ⟨67, _⟩ => ⟨S_, .f32⟩
  | .hbm, ⟨68, _⟩ => ⟨S4x4x4096, .f32⟩
  | .hbm, ⟨69, _⟩ => ⟨S4x4x4096x1, .f32⟩
  | .hbm, ⟨70, _⟩ => ⟨S4x4x4096x1, .f32⟩
  | .hbm, ⟨71, _⟩ => ⟨S4x4x4096x4352, .f32⟩
  | .hbm, ⟨72, _⟩ => ⟨S4x4x4096x4352, .f32⟩
  | .hbm, ⟨73, _⟩ => ⟨S_, .f32⟩
  | .hbm, ⟨74, _⟩ => ⟨S4x4x4096, .f32⟩
  | .hbm, ⟨75, _⟩ => ⟨S4x4x4096x4352, .f32⟩
  | .hbm, ⟨76, _⟩ => ⟨S4x4x4096x4352, .f32⟩
  | .hbm, ⟨77, _⟩ => ⟨S4x4x4096x4352, .f32⟩
  | .hbm, ⟨78, _⟩ => ⟨S4x4x4096x4352, .f32⟩
  | .hbm, ⟨79, _⟩ => ⟨S4x4x4096x4352, .f32⟩
  | .hbm, ⟨80, _⟩ => ⟨S4x4352x4096x4, .f32⟩
  | .hbm, ⟨81, _⟩ => ⟨S4x4096x4x128, .f32⟩
  | .hbm, ⟨82, _⟩ => ⟨S4096x4x4x128, .f32⟩
  | .hbm, ⟨83, _⟩ => ⟨S4x4352x128, .f32⟩
  | .hbm, ⟨84, _⟩ => ⟨S4352x4x128, .f32⟩
  | .hbm, ⟨85, _⟩ => ⟨S4352x512, .f32⟩
  | .hbm, ⟨86, _⟩ => ⟨S4352x512, .f32⟩
  | .hbm, ⟨87, _⟩ => ⟨S4096x2048, .f32⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_cst_6 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_8 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_9 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_cst_10 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_cst_11 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩

abbrev nD : Nat := 1
abbrev τ : Topo := Topo.v7x

variable {F : FTy → Type} [FloatOps F]
-- ==== Kernel3.lean ====
abbrev S4352x2048 : Shape := ⟨2, ![4352, 2048]⟩
abbrev S3x4352x4096 : Shape := ⟨3, ![3, 4352, 4096]⟩
abbrev S8x2048x1536 : Shape := ⟨3, ![8, 2048, 1536]⟩
abbrev S2176x1024 : Shape := ⟨2, ![2176, 1024]⟩
abbrev S1x2176x512 : Shape := ⟨3, ![1, 2176, 512]⟩
abbrev S1x1024x512 : Shape := ⟨3, ![1, 1024, 512]⟩
abbrev S1024x512 : Shape := ⟨2, ![1024, 512]⟩
abbrev S2176x512 : Shape := ⟨2, ![2176, 512]⟩

abbrev nBuf : Space → Nat
  | .hbm => 3
  | .vmem => 7
  | .smem => 0
  | _ => 0

abbrev bufTy : (tb : Table) → Fin (tcTables nBuf tb) → BufTy
  | .hbm, ⟨0, _⟩ => ⟨S4352x2048, .bf16⟩
  | .hbm, ⟨1, _⟩ => ⟨S3x4352x4096, .bf16⟩
  | .hbm, ⟨2, _⟩ => ⟨S8x2048x1536, .bf16⟩
  | .local _ .vmem, ⟨0, _⟩ => ⟨S2176x1024, .bf16⟩
  | .local _ .vmem, ⟨1, _⟩ => ⟨S2176x1024, .bf16⟩
  | .local _ .vmem, ⟨2, _⟩ => ⟨S1x2176x512, .bf16⟩
  | .local _ .vmem, ⟨3, _⟩ => ⟨S1x2176x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1024x512, .f32⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 24, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.divsi arg1 c8_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg1 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.divsi arg1 c3_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg1 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32_4 : BitVec 32 := 3#32
  let c0_i32_5 : BitVec 32 := 0#32
  let v17 : BitVec 1 := Scalar.cmpi .eq c3_i32_4 c0_i32_5
  let c1_i32_6 : BitVec 32 := 1#32
  let v18 : BitVec 32 := Scalar.select v17 c1_i32_6 c3_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S2176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2176x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4352x2048 : Shape := ⟨2, ![4352, 2048]⟩
abbrev S3x4352x4096 : Shape := ⟨3, ![3, 4352, 4096]⟩
abbrev S_ : Shape := ⟨0, ![]⟩
abbrev S8x2048x1536 : Shape := ⟨3, ![8, 2048, 1536]⟩
abbrev S2048x8x1536 : Shape := ⟨3, ![2048, 8, 1536]⟩
abbrev S2048x12288 : Shape := ⟨2, ![2048, 12288]⟩
abbrev S4352x12288 : Shape := ⟨2, ![4352, 12288]⟩
abbrev S4352x3x4096 : Shape := ⟨3, ![4352, 3, 4096]⟩
abbrev S12288x2048 : Shape := ⟨2, ![12288, 2048]⟩

abbrev nBuf : Space → Nat
  | .hbm => 18
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S3x4352x4096, .bf16⟩
  | .hbm, ⟨2, _⟩ => ⟨S4352x2048, .f32⟩
  | .hbm, ⟨3, _⟩ => ⟨S3x4352x4096, .f32⟩
  | .hbm, ⟨4, _⟩ => ⟨S_, .f32⟩
  | .hbm, ⟨5, _⟩ => ⟨S8x2048x1536, .f32⟩
  | .hbm, ⟨6, _⟩ => ⟨S2048x8x1536, .f32⟩
  | .hbm, ⟨7, _⟩ => ⟨S2048x12288, .f32⟩
  | .hbm, ⟨8, _⟩ => ⟨S4352x12288, .f32⟩
  | .hbm, ⟨9, _⟩ => ⟨S4352x3x4096, .f32⟩
  | .hbm, ⟨10, _⟩ => ⟨S3x4352x4096, .f32⟩
  | .hbm, ⟨11, _⟩ => ⟨S4352x3x4096, .f32⟩
  | .hbm, ⟨12, _⟩ => ⟨S4352x12288, .f32⟩
  | .hbm, ⟨13, _⟩ => ⟨S12288x2048, .f32⟩
  | .hbm, ⟨14, _⟩ => ⟨S2048x12288, .f32⟩
  | .hbm, ⟨15, _⟩ => ⟨S2048x8x1536, .f32⟩
  | .hbm, ⟨16, _⟩ => ⟨S8x2048x1536, .f32⟩
  | .hbm, ⟨17, _⟩ => ⟨S8x2048x1536, .bf16⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩

abbrev nD : Nat := 1
abbrev τ : Topo := Topo.v7x

variable {F : FTy → Type} [FloatOps F]
-- ==== Kernel4.lean ====
abbrev S3x4352x4096 : Shape := ⟨3, ![3, 4352, 4096]⟩
abbrev S8x2048x1536 : Shape := ⟨3, ![8, 2048, 1536]⟩
abbrev S4352x2048 : Shape := ⟨2, ![4352, 2048]⟩
abbrev S1x1088x512 : Shape := ⟨3, ![1, 1088, 512]⟩
abbrev S1x2048x512 : Shape := ⟨3, ![1, 2048, 512]⟩
abbrev S1088x2048 : Shape := ⟨2, ![1088, 2048]⟩
abbrev S1088x512 : Shape := ⟨2, ![1088, 512]⟩
abbrev S2048x512 : Shape := ⟨2, ![2048, 512]⟩

abbrev nBuf : Space → Nat
  | .hbm => 3
  | .vmem => 7
  | .smem => 0
  | _ => 0

abbrev bufTy : (tb : Table) → Fin (tcTables nBuf tb) → BufTy
  | .hbm, ⟨0, _⟩ => ⟨S3x4352x4096, .bf16⟩
  | .hbm, ⟨1, _⟩ => ⟨S8x2048x1536, .bf16⟩
  | .hbm, ⟨2, _⟩ => ⟨S4352x2048, .f32⟩
  | .local _ .vmem, ⟨0, _⟩ => ⟨S1x1088x512, .bf16⟩
  | .local _ .vmem, ⟨1, _⟩ => ⟨S1x1088x512, .bf16⟩
  | .local _ .vmem, ⟨2, _⟩ => ⟨S1x2048x512, .bf16⟩
  | .local _ .vmem, ⟨3, _⟩ => ⟨S1x2048x512, .bf16⟩
  | .local _ .vmem, ⟨4, _⟩ => ⟨S1088x2048, .f32⟩
  | .local _ .vmem, ⟨5, _⟩ => ⟨S1088x2048, .f32⟩
  | .local _ .vmem, ⟨6, _⟩ => ⟨S1088x2048, .f32⟩
  | _, _ => ⟨S3x4352x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 24], ![false, false]⟩

def k0_cond2 (i : grid0.Coords) : BitVec 1 :=
  let arg1 : BitVec 32 := BitVec.ofNat 32 (i 1).val
  let c23_i32 : BitVec 32 := 23#32
  let v13 : BitVec 1 := Scalar.cmpi .eq arg1 c23_i32
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg1 c8_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg1 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.divsi arg1 c3_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg1 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32_4 : BitVec 32 := 3#32
  let c0_i32_5 : BitVec 32 := 0#32
  let v17 : BitVec 1 := Scalar.cmpi .eq c3_i32_4 c0_i32_5
  let c1_i32_6 : BitVec 32 := 1#32
  let v18 : BitVec 32 := Scalar.select v17 c1_i32_6 c3_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x1088x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1088x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference4Ideal.lean ====
abbrev S3x4352x4096 : Shape := ⟨3, ![3, 4352, 4096]⟩
abbrev S8x2048x1536 : Shape := ⟨3, ![8, 2048, 1536]⟩
abbrev S_ : Shape := ⟨0, ![]⟩
abbrev S4352x2048 : Shape := ⟨2, ![4352, 2048]⟩
abbrev S2048x8x1536 : Shape := ⟨3, ![2048, 8, 1536]⟩
abbrev S2048x12288 : Shape := ⟨2, ![2048, 12288]⟩
abbrev S4352x12288 : Shape := ⟨2, ![4352, 12288]⟩
abbrev S4352x3x4096 : Shape := ⟨3, ![4352, 3, 4096]⟩

abbrev nBuf : Space → Nat
  | .hbm => 14
  | .vmem => 0
  | .smem => 0
  | _ => 0

abbrev bufTy : (tb : Table) → Fin (tcTables nBuf tb) → BufTy
  | .hbm, ⟨0, _⟩ => ⟨S3x4352x4096, .bf16⟩
  | .hbm, ⟨1, _⟩ => ⟨S8x2048x1536, .bf16⟩
  | .hbm, ⟨2, _⟩ => ⟨S3x4352x4096, .f32⟩
  | .hbm, ⟨3, _⟩ => ⟨S8x2048x1536, .f32⟩
  | .hbm, ⟨4, _⟩ => ⟨S_, .f32⟩
  | .hbm, ⟨5, _⟩ => ⟨S4352x2048, .f32⟩
  | .hbm, ⟨6, _⟩ => ⟨S2048x8x1536, .f32⟩
  | .hbm, ⟨7, _⟩ => ⟨S2048x12288, .f32⟩
  | .hbm, ⟨8, _⟩ => ⟨S4352x12288, .f32⟩
  | .hbm, ⟨9, _⟩ => ⟨S4352x3x4096, .f32⟩
  | .hbm, ⟨10, _⟩ => ⟨S3x4352x4096, .f32⟩
  | .hbm, ⟨11, _⟩ => ⟨S4352x3x4096, .f32⟩
  | .hbm, ⟨12, _⟩ => ⟨S4352x12288, .f32⟩
  | .hbm, ⟨13, _⟩ => ⟨S4352x2048, .f32⟩
  | _, _ => ⟨S3x4352x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel5.lean ====
abbrev S4352x4096 : Shape := ⟨2, ![4352, 4096]⟩
abbrev S4352x2048 : Shape := ⟨2, ![4352, 2048]⟩
abbrev S4096x2048 : Shape := ⟨2, ![4096, 2048]⟩
abbrev S2176x1024 : Shape := ⟨2, ![2176, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4352x4096, .bf16⟩
  | .hbm, ⟨1, _⟩ => ⟨S4352x2048, .bf16⟩
  | .hbm, ⟨2, _⟩ => ⟨S4096x2048, .bf16⟩
  | .local _ .vmem, ⟨0, _⟩ => ⟨S2176x1024, .bf16⟩
  | .local _ .vmem, ⟨1, _⟩ => ⟨S2176x1024, .bf16⟩
  | .local _ .vmem, ⟨2, _⟩ => ⟨S2176x1024, .bf16⟩
  | .local _ .vmem, ⟨3, _⟩ => ⟨S2176x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4352x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4352x4096 : Shape := ⟨2, ![4352, 4096]⟩
abbrev S4352x2048 : Shape := ⟨2, ![4352, 2048]⟩
abbrev S_ : Shape := ⟨0, ![]⟩
abbrev S4096x2048 : Shape := ⟨2, ![4096, 2048]⟩
abbrev S2048x4096 : Shape := ⟨2, ![2048, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4352x4096, .bf16⟩
  | .hbm, ⟨1, _⟩ => ⟨S4352x2048, .bf16⟩
  | .hbm, ⟨2, _⟩ => ⟨S4352x4096, .f32⟩
  | .hbm, ⟨3, _⟩ => ⟨S4352x2048, .f32⟩
  | .hbm, ⟨4, _⟩ => ⟨S_, .f32⟩
  | .hbm, ⟨5, _⟩ => ⟨S4096x2048, .f32⟩
  | .hbm, ⟨6, _⟩ => ⟨S4352x2048, .f32⟩
  | .hbm, ⟨7, _⟩ => ⟨S2048x4096, .f32⟩
  | .hbm, ⟨8, _⟩ => ⟨S4096x2048, .f32⟩
  | .hbm, ⟨9, _⟩ => ⟨S4096x2048, .bf16⟩
  | _, _ => ⟨S4352x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel6.lean ====
abbrev S4352x2048 : Shape := ⟨2, ![4352, 2048]⟩
abbrev S4096x2048 : Shape := ⟨2, ![4096, 2048]⟩
abbrev S4352x4096 : Shape := ⟨2, ![4352, 4096]⟩
abbrev S1088x2048 : Shape := ⟨2, ![1088, 2048]⟩
abbrev S1024x2048 : Shape := ⟨2, ![1024, 2048]⟩
abbrev S1088x1024 : Shape := ⟨2, ![1088, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4352x2048, .bf16⟩
  | .hbm, ⟨1, _⟩ => ⟨S4096x2048, .bf16⟩
  | .hbm, ⟨2, _⟩ => ⟨S4352x4096, .f32⟩
  | .local _ .vmem, ⟨0, _⟩ => ⟨S1088x2048, .bf16⟩
  | .local _ .vmem, ⟨1, _⟩ => ⟨S1088x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1088x1024, .f32⟩
  | .local _ .vmem, ⟨5, _⟩ => ⟨S1088x1024, .f32⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S4352x2048 : Shape := ⟨2, ![4352, 2048]⟩
abbrev S4096x2048 : Shape := ⟨2, ![4096, 2048]⟩
abbrev S_ : Shape := ⟨0, ![]⟩
abbrev S4352x4096 : Shape := ⟨2, ![4352, 4096]⟩

abbrev nBuf : Space → Nat
  | .hbm => 8
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S4096x2048, .bf16⟩
  | .hbm, ⟨2, _⟩ => ⟨S4352x2048, .f32⟩
  | .hbm, ⟨3, _⟩ => ⟨S4096x2048, .f32⟩
  | .hbm, ⟨4, _⟩ => ⟨S_, .f32⟩
  | .hbm, ⟨5, _⟩ => ⟨S4352x4096, .f32⟩
  | .hbm, ⟨6, _⟩ => ⟨S4352x2048, .f32⟩
  | .hbm, ⟨7, _⟩ => ⟨S4352x4096, .f32⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel7.lean ====
abbrev S4352x2048 : Shape := ⟨2, ![4352, 2048]⟩
abbrev S8x2048x1536 : Shape := ⟨3, ![8, 2048, 1536]⟩
abbrev S3x4352x4096 : Shape := ⟨3, ![3, 4352, 4096]⟩
abbrev S1088x2048 : Shape := ⟨2, ![1088, 2048]⟩
abbrev S1x2048x512 : Shape := ⟨3, ![1, 2048, 512]⟩
abbrev S1x1088x512 : Shape := ⟨3, ![1, 1088, 512]⟩
abbrev S2048x512 : Shape := ⟨2, ![2048, 512]⟩
abbrev S1088x512 : Shape := ⟨2, ![1088, 512]⟩

abbrev nBuf : Space → Nat
  | .hbm => 3
  | .vmem => 6
  | .smem => 0
  | _ => 0

abbrev bufTy : (tb : Table) → Fin (tcTables nBuf tb) → BufTy
  | .hbm, ⟨0, _⟩ => ⟨S4352x2048, .bf16⟩
  | .hbm, ⟨1, _⟩ => ⟨S8x2048x1536, .bf16⟩
  | .hbm, ⟨2, _⟩ => ⟨S3x4352x4096, .f32⟩
  | .local _ .vmem, ⟨0, _⟩ => ⟨S1088x2048, .bf16⟩
  | .local _ .vmem, ⟨1, _⟩ => ⟨S1088x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x1088x512, .f32⟩
  | .local _ .vmem, ⟨5, _⟩ => ⟨S1x1088x512, .f32⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 24], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.divsi arg1 c3_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg1 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32_4 : BitVec 32 := 3#32
  let c0_i32_5 : BitVec 32 := 0#32
  let v17 : BitVec 1 := Scalar.cmpi .eq c3_i32_4 c0_i32_5
  let c1_i32_6 : BitVec 32 := 1#32
  let v18 : BitVec 32 := Scalar.select v17 c1_i32_6 c3_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg1 c8_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg1 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1088x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference7Ideal.lean ====
abbrev S4352x2048 : Shape := ⟨2, ![4352, 2048]⟩
abbrev S8x2048x1536 : Shape := ⟨3, ![8, 2048, 1536]⟩
abbrev S2048x8x1536 : Shape := ⟨3, ![2048, 8, 1536]⟩
abbrev S2048x12288 : Shape := ⟨2, ![2048, 12288]⟩
abbrev S4352x12288 : Shape := ⟨2, ![4352, 12288]⟩
abbrev S4352x3x4096 : Shape := ⟨3, ![4352, 3, 4096]⟩
abbrev S3x4352x4096 : Shape := ⟨3, ![3, 4352, 4096]⟩

abbrev nBuf : Space → Nat
  | .hbm => 9
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S8x2048x1536, .bf16⟩
  | .hbm, ⟨2, _⟩ => ⟨S4352x2048, .f32⟩
  | .hbm, ⟨3, _⟩ => ⟨S8x2048x1536, .f32⟩
  | .hbm, ⟨4, _⟩ => ⟨S2048x8x1536, .f32⟩
  | .hbm, ⟨5, _⟩ => ⟨S2048x12288, .f32⟩
  | .hbm, ⟨6, _⟩ => ⟨S4352x12288, .f32⟩
  | .hbm, ⟨7, _⟩ => ⟨S4352x3x4096, .f32⟩
  | .hbm, ⟨8, _⟩ => ⟨S3x4352x4096, .f32⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== Kernel8.lean ====
abbrev S4352x4096 : Shape := ⟨2, ![4352, 4096]⟩
abbrev S4096x2048 : Shape := ⟨2, ![4096, 2048]⟩
abbrev S4352x2048 : Shape := ⟨2, ![4352, 2048]⟩
abbrev S1088x4096 : Shape := ⟨2, ![1088, 4096]⟩
abbrev S4096x512 : Shape := ⟨2, ![4096, 512]⟩
abbrev S1088x512 : Shape := ⟨2, ![1088, 512]⟩

abbrev nBuf : Space → Nat
  | .hbm => 3
  | .vmem => 6
  | .smem => 0
  | _ => 0

abbrev bufTy : (tb : Table) → Fin (tcTables nBuf tb) → BufTy
  | .hbm, ⟨0, _⟩ => ⟨S4352x4096, .bf16⟩
  | .hbm, ⟨1, _⟩ => ⟨S4096x2048, .bf16⟩
  | .hbm, ⟨2, _⟩ => ⟨S4352x2048, .f32⟩
  | .local _ .vmem, ⟨0, _⟩ => ⟨S1088x4096, .bf16⟩
  | .local _ .vmem, ⟨1, _⟩ => ⟨S1088x4096, .bf16⟩
  | .local _ .vmem, ⟨2, _⟩ => ⟨S4096x512, .bf16⟩
  | .local _ .vmem, ⟨3, _⟩ => ⟨S4096x512, .bf16⟩
  | .local _ .vmem, ⟨4, _⟩ => ⟨S1088x512, .f32⟩
  | .local _ .vmem, ⟨5, _⟩ => ⟨S1088x512, .f32⟩
  | _, _ => ⟨S4352x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1088x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1088x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference8Ideal.lean ====
abbrev S4352x4096 : Shape := ⟨2, ![4352, 4096]⟩
abbrev S4096x2048 : Shape := ⟨2, ![4096, 2048]⟩
abbrev S4352x2048 : Shape := ⟨2, ![4352, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4352x4096, .bf16⟩
  | .hbm, ⟨1, _⟩ => ⟨S4096x2048, .bf16⟩
  | .hbm, ⟨2, _⟩ => ⟨S4352x4096, .f32⟩
  | .hbm, ⟨3, _⟩ => ⟨S4096x2048, .f32⟩
  | .hbm, ⟨4, _⟩ => ⟨S4352x2048, .f32⟩
  | _, _ => ⟨S4352x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel9.lean ====
abbrev S4096x2048 : Shape := ⟨2, ![4096, 2048]⟩
abbrev S3x4096x4096 : Shape := ⟨3, ![3, 4096, 4096]⟩
abbrev S8x2048x1536 : Shape := ⟨3, ![8, 2048, 1536]⟩
abbrev S2048x1024 : Shape := ⟨2, ![2048, 1024]⟩
abbrev S1x2048x512 : Shape := ⟨3, ![1, 2048, 512]⟩
abbrev S1x1024x512 : Shape := ⟨3, ![1, 1024, 512]⟩
abbrev S1024x512 : Shape := ⟨2, ![1024, 512]⟩
abbrev S2048x512 : Shape := ⟨2, ![2048, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S3x4096x4096, .bf16⟩
  | .hbm, ⟨2, _⟩ => ⟨S8x2048x1536, .bf16⟩
  | .local _ .vmem, ⟨0, _⟩ => ⟨S2048x1024, .bf16⟩
  | .local _ .vmem, ⟨1, _⟩ => ⟨S2048x1024, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1024x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 24, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.divsi arg1 c8_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg1 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.divsi arg1 c3_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg1 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32_4 : BitVec 32 := 3#32
  let c0_i32_5 : BitVec 32 := 0#32
  let v17 : BitVec 1 := Scalar.cmpi .eq c3_i32_4 c0_i32_5
  let c1_i32_6 : BitVec 32 := 1#32
  let v18 : BitVec 32 := Scalar.select v17 c1_i32_6 c3_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S4096x2048 : Shape := ⟨2, ![4096, 2048]⟩
abbrev S3x4096x4096 : Shape := ⟨3, ![3, 4096, 4096]⟩
abbrev S_ : Shape := ⟨0, ![]⟩
abbrev S8x2048x1536 : Shape := ⟨3, ![8, 2048, 1536]⟩
abbrev S2048x8x1536 : Shape := ⟨3, ![2048, 8, 1536]⟩
abbrev S2048x12288 : Shape := ⟨2, ![2048, 12288]⟩
abbrev S4096x12288 : Shape := ⟨2, ![4096, 12288]⟩
abbrev S4096x3x4096 : Shape := ⟨3, ![4096, 3, 4096]⟩
abbrev S12288x2048 : Shape := ⟨2, ![12288, 2048]⟩

abbrev nBuf : Space → Nat
  | .hbm => 18
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S3x4096x4096, .bf16⟩
  | .hbm, ⟨2, _⟩ => ⟨S4096x2048, .f32⟩
  | .hbm, ⟨3, _⟩ => ⟨S3x4096x4096, .f32⟩
  | .hbm, ⟨4, _⟩ => ⟨S_, .f32⟩
  | .hbm, ⟨5, _⟩ => ⟨S8x2048x1536, .f32⟩
  | .hbm, ⟨6, _⟩ => ⟨S2048x8x1536, .f32⟩
  | .hbm, ⟨7, _⟩ => ⟨S2048x12288, .f32⟩
  | .hbm, ⟨8, _⟩ => ⟨S4096x12288, .f32⟩
  | .hbm, ⟨9, _⟩ => ⟨S4096x3x4096, .f32⟩
  | .hbm, ⟨10, _⟩ => ⟨S3x4096x4096, .f32⟩
  | .hbm, ⟨11, _⟩ => ⟨S4096x3x4096, .f32⟩
  | .hbm, ⟨12, _⟩ => ⟨S4096x12288, .f32⟩
  | .hbm, ⟨13, _⟩ => ⟨S12288x2048, .f32⟩
  | .hbm, ⟨14, _⟩ => ⟨S2048x12288, .f32⟩
  | .hbm, ⟨15, _⟩ => ⟨S2048x8x1536, .f32⟩
  | .hbm, ⟨16, _⟩ => ⟨S8x2048x1536, .f32⟩
  | .hbm, ⟨17, _⟩ => ⟨S8x2048x1536, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩

abbrev nD : Nat := 1
abbrev τ : Topo := Topo.v7x

variable {F : FTy → Type} [FloatOps F]
-- ==== Kernel10.lean ====
abbrev S3x4096x4096 : Shape := ⟨3, ![3, 4096, 4096]⟩
abbrev S8x2048x1536 : Shape := ⟨3, ![8, 2048, 1536]⟩
abbrev S4096x2048 : Shape := ⟨2, ![4096, 2048]⟩
abbrev S1x1024x512 : Shape := ⟨3, ![1, 1024, 512]⟩
abbrev S1x2048x512 : Shape := ⟨3, ![1, 2048, 512]⟩
abbrev S1024x2048 : Shape := ⟨2, ![1024, 2048]⟩
abbrev S1024x512 : Shape := ⟨2, ![1024, 512]⟩
abbrev S2048x512 : Shape := ⟨2, ![2048, 512]⟩

abbrev nBuf : Space → Nat
  | .hbm => 3
  | .vmem => 7
  | .smem => 0
  | _ => 0

abbrev bufTy : (tb : Table) → Fin (tcTables nBuf tb) → BufTy
  | .hbm, ⟨0, _⟩ => ⟨S3x4096x4096, .bf16⟩
  | .hbm, ⟨1, _⟩ => ⟨S8x2048x1536, .bf16⟩
  | .hbm, ⟨2, _⟩ => ⟨S4096x2048, .f32⟩
  | .local _ .vmem, ⟨0, _⟩ => ⟨S1x1024x512, .bf16⟩
  | .local _ .vmem, ⟨1, _⟩ => ⟨S1x1024x512, .bf16⟩
  | .local _ .vmem, ⟨2, _⟩ => ⟨S1x2048x512, .bf16⟩
  | .local _ .vmem, ⟨3, _⟩ => ⟨S1x2048x512, .bf16⟩
  | .local _ .vmem, ⟨4, _⟩ => ⟨S1024x2048, .f32⟩
  | .local _ .vmem, ⟨5, _⟩ => ⟨S1024x2048, .f32⟩
  | .local _ .vmem, ⟨6, _⟩ => ⟨S1024x2048, .f32⟩
  | _, _ => ⟨S3x4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 24], ![false, false]⟩

def k0_cond2 (i : grid0.Coords) : BitVec 1 :=
  let arg1 : BitVec 32 := BitVec.ofNat 32 (i 1).val
  let c23_i32 : BitVec 32 := 23#32
  let v13 : BitVec 1 := Scalar.cmpi .eq arg1 c23_i32
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg1 c8_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg1 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.divsi arg1 c3_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg1 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32_4 : BitVec 32 := 3#32
  let c0_i32_5 : BitVec 32 := 0#32
  let v17 : BitVec 1 := Scalar.cmpi .eq c3_i32_4 c0_i32_5
  let c1_i32_6 : BitVec 32 := 1#32
  let v18 : BitVec 32 := Scalar.select v17 c1_i32_6 c3_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference10Ideal.lean ====
abbrev S3x4096x4096 : Shape := ⟨3, ![3, 4096, 4096]⟩
abbrev S8x2048x1536 : Shape := ⟨3, ![8, 2048, 1536]⟩
abbrev S_ : Shape := ⟨0, ![]⟩
abbrev S4096x2048 : Shape := ⟨2, ![4096, 2048]⟩
abbrev S2048x8x1536 : Shape := ⟨3, ![2048, 8, 1536]⟩
abbrev S2048x12288 : Shape := ⟨2, ![2048, 12288]⟩
abbrev S4096x12288 : Shape := ⟨2, ![4096, 12288]⟩
abbrev S4096x3x4096 : Shape := ⟨3, ![4096, 3, 4096]⟩

abbrev nBuf : Space → Nat
  | .hbm => 14
  | .vmem => 0
  | .smem => 0
  | _ => 0

abbrev bufTy : (tb : Table) → Fin (tcTables nBuf tb) → BufTy
  | .hbm, ⟨0, _⟩ => ⟨S3x4096x4096, .bf16⟩
  | .hbm, ⟨1, _⟩ => ⟨S8x2048x1536, .bf16⟩
  | .hbm, ⟨2, _⟩ => ⟨S3x4096x4096, .f32⟩
  | .hbm, ⟨3, _⟩ => ⟨S8x2048x1536, .f32⟩
  | .hbm, ⟨4, _⟩ => ⟨S_, .f32⟩
  | .hbm, ⟨5, _⟩ => ⟨S4096x2048, .f32⟩
  | .hbm, ⟨6, _⟩ => ⟨S2048x8x1536, .f32⟩
  | .hbm, ⟨7, _⟩ => ⟨S2048x12288, .f32⟩
  | .hbm, ⟨8, _⟩ => ⟨S4096x12288, .f32⟩
  | .hbm, ⟨9, _⟩ => ⟨S4096x3x4096, .f32⟩
  | .hbm, ⟨10, _⟩ => ⟨S3x4096x4096, .f32⟩
  | .hbm, ⟨11, _⟩ => ⟨S4096x3x4096, .f32⟩
  | .hbm, ⟨12, _⟩ => ⟨S4096x12288, .f32⟩
  | .hbm, ⟨13, _⟩ => ⟨S4096x2048, .f32⟩
  | _, _ => ⟨S3x4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel11.lean ====
abbrev S4096x4096 : Shape := ⟨2, ![4096, 4096]⟩
abbrev S4096x2048 : Shape := ⟨2, ![4096, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .bf16⟩
  | .hbm, ⟨2, _⟩ => ⟨S4096x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S4096x4096 : Shape := ⟨2, ![4096, 4096]⟩
abbrev S4096x2048 : Shape := ⟨2, ![4096, 2048]⟩
abbrev S_ : Shape := ⟨0, ![]⟩
abbrev S2048x4096 : Shape := ⟨2, ![2048, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .bf16⟩
  | .hbm, ⟨2, _⟩ => ⟨S4096x4096, .f32⟩
  | .hbm, ⟨3, _⟩ => ⟨S4096x2048, .f32⟩
  | .hbm, ⟨4, _⟩ => ⟨S_, .f32⟩
  | .hbm, ⟨5, _⟩ => ⟨S4096x2048, .f32⟩
  | .hbm, ⟨6, _⟩ => ⟨S4096x2048, .f32⟩
  | .hbm, ⟨7, _⟩ => ⟨S2048x4096, .f32⟩
  | .hbm, ⟨8, _⟩ => ⟨S4096x2048, .f32⟩
  | .hbm, ⟨9, _⟩ => ⟨S4096x2048, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel12.lean ====
abbrev S4096x2048 : Shape := ⟨2, ![4096, 2048]⟩
abbrev S4096x4096 : Shape := ⟨2, ![4096, 4096]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4096x4096, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference12Ideal.lean ====
abbrev S4096x2048 : Shape := ⟨2, ![4096, 2048]⟩
abbrev S_ : Shape := ⟨0, ![]⟩
abbrev S4096x4096 : Shape := ⟨2, ![4096, 4096]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S4096x4096, .f32⟩
  | .hbm, ⟨6, _⟩ => ⟨S4096x2048, .f32⟩
  | .hbm, ⟨7, _⟩ => ⟨S4096x4096, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel13.lean ====
abbrev S4096x2048 : Shape := ⟨2, ![4096, 2048]⟩
abbrev S8x2048x1536 : Shape := ⟨3, ![8, 2048, 1536]⟩
abbrev S3x4096x4096 : Shape := ⟨3, ![3, 4096, 4096]⟩
abbrev S1024x2048 : Shape := ⟨2, ![1024, 2048]⟩
abbrev S1x2048x512 : Shape := ⟨3, ![1, 2048, 512]⟩
abbrev S1x1024x512 : Shape := ⟨3, ![1, 1024, 512]⟩
abbrev S2048x512 : Shape := ⟨2, ![2048, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S8x2048x1536, .bf16⟩
  | .hbm, ⟨2, _⟩ => ⟨S3x4096x4096, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x1024x512, .f32⟩
  | .local _ .vmem, ⟨5, _⟩ => ⟨S1x1024x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 24], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.divsi arg1 c3_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg1 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32_4 : BitVec 32 := 3#32
  let c0_i32_5 : BitVec 32 := 0#32
  let v17 : BitVec 1 := Scalar.cmpi .eq c3_i32_4 c0_i32_5
  let c1_i32_6 : BitVec 32 := 1#32
  let v18 : BitVec 32 := Scalar.select v17 c1_i32_6 c3_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg1 c8_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg1 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference13Ideal.lean ====
abbrev S4096x2048 : Shape := ⟨2, ![4096, 2048]⟩
abbrev S8x2048x1536 : Shape := ⟨3, ![8, 2048, 1536]⟩
abbrev S2048x8x1536 : Shape := ⟨3, ![2048, 8, 1536]⟩
abbrev S2048x12288 : Shape := ⟨2, ![2048, 12288]⟩
abbrev S4096x12288 : Shape := ⟨2, ![4096, 12288]⟩
abbrev S4096x3x4096 : Shape := ⟨3, ![4096, 3, 4096]⟩
abbrev S3x4096x4096 : Shape := ⟨3, ![3, 4096, 4096]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S8x2048x1536, .bf16⟩
  | .hbm, ⟨2, _⟩ => ⟨S4096x2048, .f32⟩
  | .hbm, ⟨3, _⟩ => ⟨S8x2048x1536, .f32⟩
  | .hbm, ⟨4, _⟩ => ⟨S2048x8x1536, .f32⟩
  | .hbm, ⟨5, _⟩ => ⟨S2048x12288, .f32⟩
  | .hbm, ⟨6, _⟩ => ⟨S4096x12288, .f32⟩
  | .hbm, ⟨7, _⟩ => ⟨S4096x3x4096, .f32⟩
  | .hbm, ⟨8, _⟩ => ⟨S3x4096x4096, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== Kernel14.lean ====
abbrev S4096x4096 : Shape := ⟨2, ![4096, 4096]⟩
abbrev S4096x2048 : Shape := ⟨2, ![4096, 2048]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .bf16⟩
  | .hbm, ⟨2, _⟩ => ⟨S4096x2048, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference14Ideal.lean ====
abbrev S4096x4096 : Shape := ⟨2, ![4096, 4096]⟩
abbrev S4096x2048 : Shape := ⟨2, ![4096, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .bf16⟩
  | .hbm, ⟨2, _⟩ => ⟨S4096x4096, .f32⟩
  | .hbm, ⟨3, _⟩ => ⟨S4096x2048, .f32⟩
  | .hbm, ⟨4, _⟩ => ⟨S4096x2048, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel15.lean ====
abbrev S4352x2048 : Shape := ⟨2, ![4352, 2048]⟩
abbrev S4352x5120 : Shape := ⟨2, ![4352, 5120]⟩
abbrev S8x2048x640 : Shape := ⟨3, ![8, 2048, 640]⟩
abbrev S2176x1024 : Shape := ⟨2, ![2176, 1024]⟩
abbrev S2176x640 : Shape := ⟨2, ![2176, 640]⟩
abbrev S1x1024x640 : Shape := ⟨3, ![1, 1024, 640]⟩
abbrev S1024x640 : Shape := ⟨2, ![1024, 640]⟩

abbrev nBuf : Space → Nat
  | .hbm => 3
  | .vmem => 7
  | .smem => 0
  | _ => 0

abbrev bufTy : (tb : Table) → Fin (tcTables nBuf tb) → BufTy
  | .hbm, ⟨0, _⟩ => ⟨S4352x2048, .bf16⟩
  | .hbm, ⟨1, _⟩ => ⟨S4352x5120, .bf16⟩
  | .hbm, ⟨2, _⟩ => ⟨S8x2048x640, .bf16⟩
  | .local _ .vmem, ⟨0, _⟩ => ⟨S2176x1024, .bf16⟩
  | .local _ .vmem, ⟨1, _⟩ => ⟨S2176x1024, .bf16⟩
  | .local _ .vmem, ⟨2, _⟩ => ⟨S2176x640, .bf16⟩
  | .local _ .vmem, ⟨3, _⟩ => ⟨S2176x640, .bf16⟩
  | .local _ .vmem, ⟨4, _⟩ => ⟨S1x1024x640, .bf16⟩
  | .local _ .vmem, ⟨5, _⟩ => ⟨S1x1024x640, .bf16⟩
  | .local _ .vmem, ⟨6, _⟩ => ⟨S1024x640, .f32⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2176x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S4352x2048 : Shape := ⟨2, ![4352, 2048]⟩
abbrev S4352x5120 : Shape := ⟨2, ![4352, 5120]⟩
abbrev S_ : Shape := ⟨0, ![]⟩
abbrev S8x2048x640 : Shape := ⟨3, ![8, 2048, 640]⟩
abbrev S2048x8x640 : Shape := ⟨3, ![2048, 8, 640]⟩
abbrev S2048x5120 : Shape := ⟨2, ![2048, 5120]⟩
abbrev S5120x2048 : Shape := ⟨2, ![5120, 2048]⟩

abbrev nBuf : Space → Nat
  | .hbm => 14
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S4352x5120, .bf16⟩
  | .hbm, ⟨2, _⟩ => ⟨S4352x2048, .f32⟩
  | .hbm, ⟨3, _⟩ => ⟨S4352x5120, .f32⟩
  | .hbm, ⟨4, _⟩ => ⟨S_, .f32⟩
  | .hbm, ⟨5, _⟩ => ⟨S8x2048x640, .f32⟩
  | .hbm, ⟨6, _⟩ => ⟨S2048x8x640, .f32⟩
  | .hbm, ⟨7, _⟩ => ⟨S2048x5120, .f32⟩
  | .hbm, ⟨8, _⟩ => ⟨S4352x5120, .f32⟩
  | .hbm, ⟨9, _⟩ => ⟨S5120x2048, .f32⟩
  | .hbm, ⟨10, _⟩ => ⟨S2048x5120, .f32⟩
  | .hbm, ⟨11, _⟩ => ⟨S2048x8x640, .f32⟩
  | .hbm, ⟨12, _⟩ => ⟨S8x2048x640, .f32⟩
  | .hbm, ⟨13, _⟩ => ⟨S8x2048x640, .bf16⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel16.lean ====
abbrev S4352x5120 : Shape := ⟨2, ![4352, 5120]⟩
abbrev S8x2048x640 : Shape := ⟨3, ![8, 2048, 640]⟩
abbrev S4352x2048 : Shape := ⟨2, ![4352, 2048]⟩
abbrev S1088x640 : Shape := ⟨2, ![1088, 640]⟩
abbrev S1x2048x640 : Shape := ⟨3, ![1, 2048, 640]⟩
abbrev S1088x2048 : Shape := ⟨2, ![1088, 2048]⟩
abbrev S2048x640 : Shape := ⟨2, ![2048, 640]⟩

abbrev nBuf : Space → Nat
  | .hbm => 3
  | .vmem => 7
  | .smem => 0
  | _ => 0

abbrev bufTy : (tb : Table) → Fin (tcTables nBuf tb) → BufTy
  | .hbm, ⟨0, _⟩ => ⟨S4352x5120, .bf16⟩
  | .hbm, ⟨1, _⟩ => ⟨S8x2048x640, .bf16⟩
  | .hbm, ⟨2, _⟩ => ⟨S4352x2048, .f32⟩
  | .local _ .vmem, ⟨0, _⟩ => ⟨S1088x640, .bf16⟩
  | .local _ .vmem, ⟨1, _⟩ => ⟨S1088x640, .bf16⟩
  | .local _ .vmem, ⟨2, _⟩ => ⟨S1x2048x640, .bf16⟩
  | .local _ .vmem, ⟨3, _⟩ => ⟨S1x2048x640, .bf16⟩
  | .local _ .vmem, ⟨4, _⟩ => ⟨S1088x2048, .f32⟩
  | .local _ .vmem, ⟨5, _⟩ => ⟨S1088x2048, .f32⟩
  | .local _ .vmem, ⟨6, _⟩ => ⟨S1088x2048, .f32⟩
  | _, _ => ⟨S4352x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v12 : BitVec 1 := Scalar.cmpi .eq arg1 c7_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1088x640 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1088x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference16Ideal.lean ====
abbrev S4352x5120 : Shape := ⟨2, ![4352, 5120]⟩
abbrev S8x2048x640 : Shape := ⟨3, ![8, 2048, 640]⟩
abbrev S_ : Shape := ⟨0, ![]⟩
abbrev S4352x2048 : Shape := ⟨2, ![4352, 2048]⟩
abbrev S2048x8x640 : Shape := ⟨3, ![2048, 8, 640]⟩
abbrev S2048x5120 : Shape := ⟨2, ![2048, 5120]⟩

abbrev nBuf : Space → Nat
  | .hbm => 10
  | .vmem => 0
  | .smem => 0
  | _ => 0

abbrev bufTy : (tb : Table) → Fin (tcTables nBuf tb) → BufTy
  | .hbm, ⟨0, _⟩ => ⟨S4352x5120, .bf16⟩
  | .hbm, ⟨1, _⟩ => ⟨S8x2048x640, .bf16⟩
  | .hbm, ⟨2, _⟩ => ⟨S4352x5120, .f32⟩
  | .hbm, ⟨3, _⟩ => ⟨S8x2048x640, .f32⟩
  | .hbm, ⟨4, _⟩ => ⟨S_, .f32⟩
  | .hbm, ⟨5, _⟩ => ⟨S4352x2048, .f32⟩
  | .hbm, ⟨6, _⟩ => ⟨S2048x8x640, .f32⟩
  | .hbm, ⟨7, _⟩ => ⟨S2048x5120, .f32⟩
  | .hbm, ⟨8, _⟩ => ⟨S4352x5120, .f32⟩
  | .hbm, ⟨9, _⟩ => ⟨S4352x2048, .f32⟩
  | _, _ => ⟨S4352x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel17.lean ====
abbrev S4096x2048 : Shape := ⟨2, ![4096, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S2048x2048, .f32⟩
  | .hbm, ⟨6, _⟩ => ⟨S4096x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel18.lean ====
abbrev S4096x2048 : Shape := ⟨2, ![4096, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference18Ideal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S2048x2048, .f32⟩
  | .hbm, ⟨4, _⟩ => ⟨S_, .f32⟩
  | .hbm, ⟨5, _⟩ => ⟨S4096x2048, .f32⟩
  | .hbm, ⟨6, _⟩ => ⟨S4096x2048, .f32⟩
  | .hbm, ⟨7, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel19.lean ====
abbrev S4352x2048 : Shape := ⟨2, ![4352, 2048]⟩
abbrev S8x2048x640 : Shape := ⟨3, ![8, 2048, 640]⟩
abbrev S4352x5120 : Shape := ⟨2, ![4352, 5120]⟩
abbrev S1088x2048 : Shape := ⟨2, ![1088, 2048]⟩
abbrev S1x2048x640 : Shape := ⟨3, ![1, 2048, 640]⟩
abbrev S1088x640 : Shape := ⟨2, ![1088, 640]⟩
abbrev S2048x640 : Shape := ⟨2, ![2048, 640]⟩

abbrev nBuf : Space → Nat
  | .hbm => 3
  | .vmem => 6
  | .smem => 0
  | _ => 0

abbrev bufTy : (tb : Table) → Fin (tcTables nBuf tb) → BufTy
  | .hbm, ⟨0, _⟩ => ⟨S4352x2048, .bf16⟩
  | .hbm, ⟨1, _⟩ => ⟨S8x2048x640, .bf16⟩
  | .hbm, ⟨2, _⟩ => ⟨S4352x5120, .f32⟩
  | .local _ .vmem, ⟨0, _⟩ => ⟨S1088x2048, .bf16⟩
  | .local _ .vmem, ⟨1, _⟩ => ⟨S1088x2048, .bf16⟩
  | .local _ .vmem, ⟨2, _⟩ => ⟨S1x2048x640, .bf16⟩
  | .local _ .vmem, ⟨3, _⟩ => ⟨S1x2048x640, .bf16⟩
  | .local _ .vmem, ⟨4, _⟩ => ⟨S1088x640, .f32⟩
  | .local _ .vmem, ⟨5, _⟩ => ⟨S1088x640, .f32⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1088x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference19Ideal.lean ====
abbrev S4352x2048 : Shape := ⟨2, ![4352, 2048]⟩
abbrev S8x2048x640 : Shape := ⟨3, ![8, 2048, 640]⟩
abbrev S2048x8x640 : Shape := ⟨3, ![2048, 8, 640]⟩
abbrev S2048x5120 : Shape := ⟨2, ![2048, 5120]⟩
abbrev S4352x5120 : Shape := ⟨2, ![4352, 5120]⟩

abbrev nBuf : Space → Nat
  | .hbm => 7
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S8x2048x640, .bf16⟩
  | .hbm, ⟨2, _⟩ => ⟨S4352x2048, .f32⟩
  | .hbm, ⟨3, _⟩ => ⟨S8x2048x640, .f32⟩
  | .hbm, ⟨4, _⟩ => ⟨S2048x8x640, .f32⟩
  | .hbm, ⟨5, _⟩ => ⟨S2048x5120, .f32⟩
  | .hbm, ⟨6, _⟩ => ⟨S4352x5120, .f32⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel20.lean ====
abbrev S4096x2048 : Shape := ⟨2, ![4096, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference20Ideal.lean ====
abbrev S4096x2048 : Shape := ⟨2, ![4096, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S2048x2048, .f32⟩
  | .hbm, ⟨4, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel21.lean ====
abbrev S3x4096x4096 : Shape := ⟨3, ![3, 4096, 4096]⟩
abbrev S4096 : Shape := ⟨1, ![4096]⟩
abbrev S16x128x128 : Shape := ⟨3, ![16, 128, 128]⟩
abbrev S16x128 : Shape := ⟨2, ![16, 128]⟩
abbrev S128x16 : Shape := ⟨2, ![128, 16]⟩
abbrev S1x4096 : Shape := ⟨2, ![1, 4096]⟩
abbrev S4096x4096 : Shape := ⟨2, ![4096, 4096]⟩
abbrev S3x128x4096 : Shape := ⟨3, ![3, 128, 4096]⟩
abbrev S128x4096 : Shape := ⟨2, ![128, 4096]⟩
abbrev S1x128x4096 : Shape := ⟨3, ![1, 128, 4096]⟩
abbrev S128 : Shape := ⟨1, ![128]⟩
abbrev S128x1 : Shape := ⟨2, ![128, 1]⟩
abbrev S1x128x128 : Shape := ⟨3, ![1, 128, 128]⟩
abbrev S128x128 : Shape := ⟨2, ![128, 128]⟩
abbrev S128x256 : Shape := ⟨2, ![128, 256]⟩
abbrev S1x128x256 : Shape := ⟨3, ![1, 128, 256]⟩

abbrev nBuf : Space → Nat
  | .hbm => 10
  | .vmem => 8
  | .smem => 0
  | _ => 0

abbrev bufTy : (tb : Table) → Fin (tcTables nBuf tb) → BufTy
  | .hbm, ⟨0, _⟩ => ⟨S3x4096x4096, .f32⟩
  | .hbm, ⟨1, _⟩ => ⟨S4096, .f32⟩
  | .hbm, ⟨2, _⟩ => ⟨S4096, .f32⟩
  | .hbm, ⟨3, _⟩ => ⟨S16x128x128, .f32⟩
  | .hbm, ⟨4, _⟩ => ⟨S16x128, .f32⟩
  | .hbm, ⟨5, _⟩ => ⟨S16x128x128, .bf16⟩
  | .hbm, ⟨6, _⟩ => ⟨S128x16, .f32⟩
  | .hbm, ⟨7, _⟩ => ⟨S1x4096, .f32⟩
  | .hbm, ⟨8, _⟩ => ⟨S1x4096, .f32⟩
  | .hbm, ⟨9, _⟩ => ⟨S4096x4096, .bf16⟩
  | .local _ .vmem, ⟨0, _⟩ => ⟨S3x128x4096, .f32⟩
  | .local _ .vmem, ⟨1, _⟩ => ⟨S3x128x4096, .f32⟩
  | .local _ .vmem, ⟨2, _⟩ => ⟨S1x4096, .f32⟩
  | .local _ .vmem, ⟨3, _⟩ => ⟨S1x4096, .f32⟩
  | .local _ .vmem, ⟨4, _⟩ => ⟨S16x128x128, .bf16⟩
  | .local _ .vmem, ⟨5, _⟩ => ⟨S128x16, .f32⟩
  | .local _ .vmem, ⟨6, _⟩ => ⟨S128x4096, .bf16⟩
  | .local _ .vmem, ⟨7, _⟩ => ⟨S128x4096, .bf16⟩
  | _, _ => ⟨S3x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3x128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference21Ideal.lean ====
abbrev S3x4096x4096 : Shape := ⟨3, ![3, 4096, 4096]⟩
abbrev S4096 : Shape := ⟨1, ![4096]⟩
abbrev S16x128x128 : Shape := ⟨3, ![16, 128, 128]⟩
abbrev S16x128 : Shape := ⟨2, ![16, 128]⟩
abbrev S1x4096x4096 : Shape := ⟨3, ![1, 4096, 4096]⟩
abbrev S4096x4096 : Shape := ⟨2, ![4096, 4096]⟩
abbrev S_ : Shape := ⟨0, ![]⟩
abbrev S4096x1 : Shape := ⟨2, ![4096, 1]⟩
abbrev S1x4096 : Shape := ⟨2, ![1, 4096]⟩
abbrev S32x128x16x256 : Shape := ⟨4, ![32, 128, 16, 256]⟩
abbrev S16x32x256x128 : Shape := ⟨4, ![16, 32, 256, 128]⟩
abbrev S128x16 : Shape := ⟨2, ![128, 16]⟩
abbrev S128x16x1 : Shape := ⟨3, ![128, 16, 1]⟩
abbrev S1x128x16x1 : Shape := ⟨4, ![1, 128, 16, 1]⟩

abbrev nBuf : Space → Nat
  | .hbm => 61
  | .vmem => 0
  | .smem => 0
  | _ => 0

abbrev bufTy : (tb : Table) → Fin (tcTables nBuf tb) → BufTy
  | .hbm, ⟨0, _⟩ => ⟨S3x4096x4096, .f32⟩
  | .hbm, ⟨1, _⟩ => ⟨S4096, .f32⟩
  | .hbm, ⟨2, _⟩ => ⟨S4096, .f32⟩
  | .hbm, ⟨3, _⟩ => ⟨S16x128x128, .f32⟩
  | .hbm, ⟨4, _⟩ => ⟨S16x128, .f32⟩
  | .hbm, ⟨5, _⟩ => ⟨S1x4096x4096, .f32⟩
  | .hbm, ⟨6, _⟩ => ⟨S4096x4096, .f32⟩
  | .hbm, ⟨7, _⟩ => ⟨S1x4096x4096, .f32⟩
  | .hbm, ⟨8, _⟩ => ⟨S4096x4096, .f32⟩
  | .hbm, ⟨9, _⟩ => ⟨S1x4096x4096, .f32⟩
  | .hbm, ⟨10, _⟩ => ⟨S4096x4096, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x4096, .f32⟩
  | .hbm, ⟨18, _⟩ => ⟨S4096x4096, .f32⟩
  | .hbm, ⟨19, _⟩ => ⟨S4096x4096, .f32⟩
  | .hbm, ⟨20, _⟩ => ⟨S_, .f32⟩
  | .hbm, ⟨21, _⟩ => ⟨S4096, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x4096, .f32⟩
  | .hbm, ⟨27, _⟩ => ⟨S4096x4096, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S4096x1, .f32⟩
  | .hbm, ⟨32, _⟩ => ⟨S4096x4096, .f32⟩
  | .hbm, ⟨33, _⟩ => ⟨S4096x4096, .f32⟩
  | .hbm, ⟨34, _⟩ => ⟨S1x4096, .f32⟩
  | .hbm, ⟨35, _⟩ => ⟨S4096x4096, .f32⟩
  | .hbm, ⟨36, _⟩ => ⟨S4096x4096, .f32⟩
  | .hbm, ⟨37, _⟩ => ⟨S1x4096, .f32⟩
  | .hbm, ⟨38, _⟩ => ⟨S4096x4096, .f32⟩
  | .hbm, ⟨39, _⟩ => ⟨S4096x4096, .f32⟩
  | .hbm, ⟨40, _⟩ => ⟨S32x128x16x256, .f32⟩
  | .hbm, ⟨41, _⟩ => ⟨S16x32x256x128, .f32⟩
  | .hbm, ⟨42, _⟩ => ⟨S32x128x16x256, .f32⟩
  | .hbm, ⟨43, _⟩ => ⟨S128x16, .f32⟩
  | .hbm, ⟨44, _⟩ => ⟨S128x16x1, .f32⟩
  | .hbm, ⟨45, _⟩ => ⟨S1x128x16x1, .f32⟩
  | .hbm, ⟨46, _⟩ => ⟨S32x128x16x256, .f32⟩
  | .hbm, ⟨47, _⟩ => ⟨S32x128x16x256, .f32⟩
  | .hbm, ⟨48, _⟩ => ⟨S4096x4096, .f32⟩
  | .hbm, ⟨49, _⟩ => ⟨S4096x4096, .f32⟩
  | .hbm, ⟨50, _⟩ => ⟨S4096x4096, .f32⟩
  | .hbm, ⟨51, _⟩ => ⟨S4096x4096, .f32⟩
  | .hbm, ⟨52, _⟩ => ⟨S_, .f32⟩
  | .hbm, ⟨53, _⟩ => ⟨S4096x4096, .f32⟩
  | .hbm, ⟨54, _⟩ => ⟨S4096x4096, .f32⟩
  | .hbm, ⟨55, _⟩ => ⟨S_, .f32⟩
  | .hbm, ⟨56, _⟩ => ⟨S4096x4096, .f32⟩
  | .hbm, ⟨57, _⟩ => ⟨S4096x4096, .f32⟩
  | .hbm, ⟨58, _⟩ => ⟨S4096x4096, .f32⟩
  | .hbm, ⟨59, _⟩ => ⟨S4096x4096, .f32⟩
  | .hbm, ⟨60, _⟩ => ⟨S4096x4096, .bf16⟩
  | _, _ => ⟨S3x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_call0_v0 : Ref sig .tc := ⟨.hbm, 50, rfl⟩
abbrev main_call0_v1 : Ref sig .tc := ⟨.hbm, 51, rfl⟩
abbrev main_call0_cst : Ref sig .tc := ⟨.hbm, 52, rfl⟩
abbrev main_call0_v2 : Ref sig .tc := ⟨.hbm, 53, rfl⟩
abbrev main_call0_v3 : Ref sig .tc := ⟨.hbm, 54, rfl⟩
abbrev main_call0_cst_0 : Ref sig .tc := ⟨.hbm, 55, rfl⟩
abbrev main_call0_v4 : Ref sig .tc := ⟨.hbm, 56, rfl⟩
abbrev main_call0_v5 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩

abbrev nD : Nat := 1
abbrev τ : Topo := Topo.v7x

variable {F : FTy → Type} [FloatOps F]
-- ==== Kernel22.lean ====
abbrev S3x4352x4096 : Shape := ⟨3, ![3, 4352, 4096]⟩
abbrev S4096 : Shape := ⟨1, ![4096]⟩
abbrev S16x128x128 : Shape := ⟨3, ![16, 128, 128]⟩
abbrev S16x128 : Shape := ⟨2, ![16, 128]⟩
abbrev S128x16 : Shape := ⟨2, ![128, 16]⟩
abbrev S1x4096 : Shape := ⟨2, ![1, 4096]⟩
abbrev S4352x4096 : Shape := ⟨2, ![4352, 4096]⟩
abbrev S3x128x4096 : Shape := ⟨3, ![3, 128, 4096]⟩
abbrev S128x4096 : Shape := ⟨2, ![128, 4096]⟩
abbrev S1x128x4096 : Shape := ⟨3, ![1, 128, 4096]⟩
abbrev S128 : Shape := ⟨1, ![128]⟩
abbrev S128x1 : Shape := ⟨2, ![128, 1]⟩
abbrev S1x128x128 : Shape := ⟨3, ![1, 128, 128]⟩
abbrev S128x128 : Shape := ⟨2, ![128, 128]⟩
abbrev S128x256 : Shape := ⟨2, ![128, 256]⟩
abbrev S1x128x256 : Shape := ⟨3, ![1, 128, 256]⟩

abbrev nBuf : Space → Nat
  | .hbm => 10
  | .vmem => 8
  | .smem => 0
  | _ => 0

abbrev bufTy : (tb : Table) → Fin (tcTables nBuf tb) → BufTy
  | .hbm, ⟨0, _⟩ => ⟨S3x4352x4096, .f32⟩
  | .hbm, ⟨1, _⟩ => ⟨S4096, .f32⟩
  | .hbm, ⟨2, _⟩ => ⟨S4096, .f32⟩
  | .hbm, ⟨3, _⟩ => ⟨S16x128x128, .f32⟩
  | .hbm, ⟨4, _⟩ => ⟨S16x128, .f32⟩
  | .hbm, ⟨5, _⟩ => ⟨S16x128x128, .bf16⟩
  | .hbm, ⟨6, _⟩ => ⟨S128x16, .f32⟩
  | .hbm, ⟨7, _⟩ => ⟨S1x4096, .f32⟩
  | .hbm, ⟨8, _⟩ => ⟨S1x4096, .f32⟩
  | .hbm, ⟨9, _⟩ => ⟨S4352x4096, .bf16⟩
  | .local _ .vmem, ⟨0, _⟩ => ⟨S3x128x4096, .f32⟩
  | .local _ .vmem, ⟨1, _⟩ => ⟨S3x128x4096, .f32⟩
  | .local _ .vmem, ⟨2, _⟩ => ⟨S1x4096, .f32⟩
  | .local _ .vmem, ⟨3, _⟩ => ⟨S1x4096, .f32⟩
  | .local _ .vmem, ⟨4, _⟩ => ⟨S16x128x128, .bf16⟩
  | .local _ .vmem, ⟨5, _⟩ => ⟨S128x16, .f32⟩
  | .local _ .vmem, ⟨6, _⟩ => ⟨S128x4096, .bf16⟩
  | .local _ .vmem, ⟨7, _⟩ => ⟨S128x4096, .bf16⟩
  | _, _ => ⟨S3x4352x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![34], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3x128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference22Ideal.lean ====
abbrev S3x4352x4096 : Shape := ⟨3, ![3, 4352, 4096]⟩
abbrev S4096 : Shape := ⟨1, ![4096]⟩
abbrev S16x128x128 : Shape := ⟨3, ![16, 128, 128]⟩
abbrev S16x128 : Shape := ⟨2, ![16, 128]⟩
abbrev S1x4352x4096 : Shape := ⟨3, ![1, 4352, 4096]⟩
abbrev S4352x4096 : Shape := ⟨2, ![4352, 4096]⟩
abbrev S_ : Shape := ⟨0, ![]⟩
abbrev S4352 : Shape := ⟨1, ![4352]⟩
abbrev S4352x1 : Shape := ⟨2, ![4352, 1]⟩
abbrev S1x4096 : Shape := ⟨2, ![1, 4096]⟩
abbrev S34x128x16x256 : Shape := ⟨4, ![34, 128, 16, 256]⟩
abbrev S16x34x256x128 : Shape := ⟨4, ![16, 34, 256, 128]⟩
abbrev S128x16 : Shape := ⟨2, ![128, 16]⟩
abbrev S128x16x1 : Shape := ⟨3, ![128, 16, 1]⟩
abbrev S1x128x16x1 : Shape := ⟨4, ![1, 128, 16, 1]⟩

abbrev nBuf : Space → Nat
  | .hbm => 61
  | .vmem => 0
  | .smem => 0
  | _ => 0

abbrev bufTy : (tb : Table) → Fin (tcTables nBuf tb) → BufTy
  | .hbm, ⟨0, _⟩ => ⟨S3x4352x4096, .f32⟩
  | .hbm, ⟨1, _⟩ => ⟨S4096, .f32⟩
  | .hbm, ⟨2, _⟩ => ⟨S4096, .f32⟩
  | .hbm, ⟨3, _⟩ => ⟨S16x128x128, .f32⟩
  | .hbm, ⟨4, _⟩ => ⟨S16x128, .f32⟩
  | .hbm, ⟨5, _⟩ => ⟨S1x4352x4096, .f32⟩
  | .hbm, ⟨6, _⟩ => ⟨S4352x4096, .f32⟩
  | .hbm, ⟨7, _⟩ => ⟨S1x4352x4096, .f32⟩
  | .hbm, ⟨8, _⟩ => ⟨S4352x4096, .f32⟩
  | .hbm, ⟨9, _⟩ => ⟨S1x4352x4096, .f32⟩
  | .hbm, ⟨10, _⟩ => ⟨S4352x4096, .f32⟩
  | .hbm, ⟨11, _⟩ => ⟨S_, .f32⟩
  | .hbm, ⟨12, _⟩ => ⟨S4352, .f32⟩
  | .hbm, ⟨13, _⟩ => ⟨S4352x1, .f32⟩
  | .hbm, ⟨14, _⟩ => ⟨S_, .f32⟩
  | .hbm, ⟨15, _⟩ => ⟨S4352x1, .f32⟩
  | .hbm, ⟨16, _⟩ => ⟨S4352x1, .f32⟩
  | .hbm, ⟨17, _⟩ => ⟨S4352x4096, .f32⟩
  | .hbm, ⟨18, _⟩ => ⟨S4352x4096, .f32⟩
  | .hbm, ⟨19, _⟩ => ⟨S4352x4096, .f32⟩
  | .hbm, ⟨20, _⟩ => ⟨S_, .f32⟩
  | .hbm, ⟨21, _⟩ => ⟨S4352, .f32⟩
  | .hbm, ⟨22, _⟩ => ⟨S4352x1, .f32⟩
  | .hbm, ⟨23, _⟩ => ⟨S_, .f32⟩
  | .hbm, ⟨24, _⟩ => ⟨S4352x1, .f32⟩
  | .hbm, ⟨25, _⟩ => ⟨S4352x1, .f32⟩
  | .hbm, ⟨26, _⟩ => ⟨S4352x4096, .f32⟩
  | .hbm, ⟨27, _⟩ => ⟨S4352x4096, .f32⟩
  | .hbm, ⟨28, _⟩ => ⟨S_, .f32⟩
  | .hbm, ⟨29, _⟩ => ⟨S4352x1, .f32⟩
  | .hbm, ⟨30, _⟩ => ⟨S4352x1, .f32⟩
  | .hbm, ⟨31, _⟩ => ⟨S4352x1, .f32⟩
  | .hbm, ⟨32, _⟩ => ⟨S4352x4096, .f32⟩
  | .hbm, ⟨33, _⟩ => ⟨S4352x4096, .f32⟩
  | .hbm, ⟨34, _⟩ => ⟨S1x4096, .f32⟩
  | .hbm, ⟨35, _⟩ => ⟨S4352x4096, .f32⟩
  | .hbm, ⟨36, _⟩ => ⟨S4352x4096, .f32⟩
  | .hbm, ⟨37, _⟩ => ⟨S1x4096, .f32⟩
  | .hbm, ⟨38, _⟩ => ⟨S4352x4096, .f32⟩
  | .hbm, ⟨39, _⟩ => ⟨S4352x4096, .f32⟩
  | .hbm, ⟨40, _⟩ => ⟨S34x128x16x256, .f32⟩
  | .hbm, ⟨41, _⟩ => ⟨S16x34x256x128, .f32⟩
  | .hbm, ⟨42, _⟩ => ⟨S34x128x16x256, .f32⟩
  | .hbm, ⟨43, _⟩ => ⟨S128x16, .f32⟩
  | .hbm, ⟨44, _⟩ => ⟨S128x16x1, .f32⟩
  | .hbm, ⟨45, _⟩ => ⟨S1x128x16x1, .f32⟩
  | .hbm, ⟨46, _⟩ => ⟨S34x128x16x256, .f32⟩
  | .hbm, ⟨47, _⟩ => ⟨S34x128x16x256, .f32⟩
  | .hbm, ⟨48, _⟩ => ⟨S4352x4096, .f32⟩
  | .hbm, ⟨49, _⟩ => ⟨S4352x4096, .f32⟩
  | .hbm, ⟨50, _⟩ => ⟨S4352x4096, .f32⟩
  | .hbm, ⟨51, _⟩ => ⟨S4352x4096, .f32⟩
  | .hbm, ⟨52, _⟩ => ⟨S_, .f32⟩
  | .hbm, ⟨53, _⟩ => ⟨S4352x4096, .f32⟩
  | .hbm, ⟨54, _⟩ => ⟨S4352x4096, .f32⟩
  | .hbm, ⟨55, _⟩ => ⟨S_, .f32⟩
  | .hbm, ⟨56, _⟩ => ⟨S4352x4096, .f32⟩
  | .hbm, ⟨57, _⟩ => ⟨S4352x4096, .f32⟩
  | .hbm, ⟨58, _⟩ => ⟨S4352x4096, .f32⟩
  | .hbm, ⟨59, _⟩ => ⟨S4352x4096, .f32⟩
  | .hbm, ⟨60, _⟩ => ⟨S4352x4096, .bf16⟩
  | _, _ => ⟨S3x4352x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_call0_v0 : Ref sig .tc := ⟨.hbm, 50, rfl⟩
abbrev main_call0_v1 : Ref sig .tc := ⟨.hbm, 51, rfl⟩
abbrev main_call0_cst : Ref sig .tc := ⟨.hbm, 52, rfl⟩
abbrev main_call0_v2 : Ref sig .tc := ⟨.hbm, 53, rfl⟩
abbrev main_call0_v3 : Ref sig .tc := ⟨.hbm, 54, rfl⟩
abbrev main_call0_cst_0 : Ref sig .tc := ⟨.hbm, 55, rfl⟩
abbrev main_call0_v4 : Ref sig .tc := ⟨.hbm, 56, rfl⟩
abbrev main_call0_v5 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩

abbrev nD : Nat := 1
abbrev τ : Topo := Topo.v7x

variable {F : FTy → Type} [FloatOps F]
-- ==== Kernel23.lean ====
abbrev S3x4352x4096 : Shape := ⟨3, ![3, 4352, 4096]⟩
abbrev S4352x4096 : Shape := ⟨2, ![4352, 4096]⟩
abbrev S4096 : Shape := ⟨1, ![4096]⟩
abbrev S16x128x128 : Shape := ⟨3, ![16, 128, 128]⟩
abbrev S16x128 : Shape := ⟨2, ![16, 128]⟩
abbrev S128x16 : Shape := ⟨2, ![128, 16]⟩
abbrev S1x4096 : Shape := ⟨2, ![1, 4096]⟩
abbrev S3x128x4096 : Shape := ⟨3, ![3, 128, 4096]⟩
abbrev S128x4096 : Shape := ⟨2, ![128, 4096]⟩
abbrev S1x128x4096 : Shape := ⟨3, ![1, 128, 4096]⟩
abbrev S128 : Shape := ⟨1, ![128]⟩
abbrev S128x1 : Shape := ⟨2, ![128, 1]⟩
abbrev S128x256 : Shape := ⟨2, ![128, 256]⟩
abbrev S1x128x128 : Shape := ⟨3, ![1, 128, 128]⟩
abbrev S128x128 : Shape := ⟨2, ![128, 128]⟩
abbrev S1x128x256 : Shape := ⟨3, ![1, 128, 256]⟩

abbrev nBuf : Space → Nat
  | .hbm => 15
  | .vmem => 15
  | .smem => 0
  | _ => 0

abbrev bufTy : (tb : Table) → Fin (tcTables nBuf tb) → BufTy
  | .hbm, ⟨0, _⟩ => ⟨S3x4352x4096, .f32⟩
  | .hbm, ⟨1, _⟩ => ⟨S4352x4096, .f32⟩
  | .hbm, ⟨2, _⟩ => ⟨S4096, .f32⟩
  | .hbm, ⟨3, _⟩ => ⟨S4096, .f32⟩
  | .hbm, ⟨4, _⟩ => ⟨S16x128x128, .f32⟩
  | .hbm, ⟨5, _⟩ => ⟨S16x128, .f32⟩
  | .hbm, ⟨6, _⟩ => ⟨S16x128x128, .bf16⟩
  | .hbm, ⟨7, _⟩ => ⟨S128x16, .f32⟩
  | .hbm, ⟨8, _⟩ => ⟨S1x4096, .f32⟩
  | .hbm, ⟨9, _⟩ => ⟨S1x4096, .f32⟩
  | .hbm, ⟨10, _⟩ => ⟨S3x4352x4096, .bf16⟩
  | .hbm, ⟨11, _⟩ => ⟨S1x4096, .f32⟩
  | .hbm, ⟨12, _⟩ => ⟨S1x4096, .f32⟩
  | .hbm, ⟨13, _⟩ => ⟨S16x128x128, .f32⟩
  | .hbm, ⟨14, _⟩ => ⟨S128x16, .f32⟩
  | .local _ .vmem, ⟨0, _⟩ => ⟨S3x128x4096, .f32⟩
  | .local _ .vmem, ⟨1, _⟩ => ⟨S3x128x4096, .f32⟩
  | .local _ .vmem, ⟨2, _⟩ => ⟨S128x4096, .f32⟩
  | .local _ .vmem, ⟨3, _⟩ => ⟨S128x4096, .f32⟩
  | .local _ .vmem, ⟨4, _⟩ => ⟨S1x4096, .f32⟩
  | .local _ .vmem, ⟨5, _⟩ => ⟨S1x4096, .f32⟩
  | .local _ .vmem, ⟨6, _⟩ => ⟨S16x128x128, .bf16⟩
  | .local _ .vmem, ⟨7, _⟩ => ⟨S128x16, .f32⟩
  | .local _ .vmem, ⟨8, _⟩ => ⟨S3x128x4096, .bf16⟩
  | .local _ .vmem, ⟨9, _⟩ => ⟨S3x128x4096, .bf16⟩
  | .local _ .vmem, ⟨10, _⟩ => ⟨S1x4096, .f32⟩
  | .local _ .vmem, ⟨11, _⟩ => ⟨S1x4096, .f32⟩
  | .local _ .vmem, ⟨12, _⟩ => ⟨S16x128x128, .f32⟩
  | .local _ .vmem, ⟨13, _⟩ => ⟨S128x16, .f32⟩
  | .local _ .vmem, ⟨14, _⟩ => ⟨S128x4096, .f32⟩
  | _, _ => ⟨S3x4352x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev main_v4_4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem9_0 : DmaSem sig := 12
abbrev cc0_sem10_0 : DmaSem sig := 13

abbrev nD : Nat := 1
abbrev τ : Topo := Topo.v7x

variable {F : FTy → Type} [FloatOps F]

abbrev grid0 : Pipeline.Grid := ⟨1, ![34], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S3x128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S3x128x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S16x128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x16 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference23Ideal.lean ====
abbrev S3x4352x4096 : Shape := ⟨3, ![3, 4352, 4096]⟩
abbrev S4352x4096 : Shape := ⟨2, ![4352, 4096]⟩
abbrev S4096 : Shape := ⟨1, ![4096]⟩
abbrev S16x128x128 : Shape := ⟨3, ![16, 128, 128]⟩
abbrev S16x128 : Shape := ⟨2, ![16, 128]⟩
abbrev S1x4352x4096 : Shape := ⟨3, ![1, 4352, 4096]⟩
abbrev S_ : Shape := ⟨0, ![]⟩
abbrev S4352 : Shape := ⟨1, ![4352]⟩
abbrev S4352x1 : Shape := ⟨2, ![4352, 1]⟩
abbrev S1x4096 : Shape := ⟨2, ![1, 4096]⟩
abbrev S34x128x16x256 : Shape := ⟨4, ![34, 128, 16, 256]⟩
abbrev S16x34x256x128 : Shape := ⟨4, ![16, 34, 256, 128]⟩
abbrev S128x16 : Shape := ⟨2, ![128, 16]⟩
abbrev S128x16x1 : Shape := ⟨3, ![128, 16, 1]⟩
abbrev S1x128x16x1 : Shape := ⟨4, ![1, 128, 16, 1]⟩

abbrev nBuf : Space → Nat
  | .hbm => 154
  | .vmem => 0
  | .smem => 0
  | _ => 0

abbrev hbmTy0_0 (i : Nat) : BufTy := match i % 128 with
  | 0 => ⟨S3x4352x4096, .f32⟩
  | 1 => ⟨S4352x4096, .f32⟩
  | 2 => ⟨S4096, .f32⟩
  | 3 => ⟨S4096, .f32⟩
  | 4 => ⟨S16x128x128, .f32⟩
  | 5 => ⟨S16x128, .f32⟩
  | 6 => ⟨S1x4352x4096, .f32⟩
  | 7 => ⟨S4352x4096, .f32⟩
  | 8 => ⟨S1x4352x4096, .f32⟩
  | 9 => ⟨S4352x4096, .f32⟩
  | 10 => ⟨S1x4352x4096, .f32⟩
  | 11 => ⟨S4352x4096, .f32⟩
  | 12 => ⟨S_, .f32⟩
  | 13 => ⟨S4352, .f32⟩
  | 14 => ⟨S4352x1, .f32⟩
  | 15 => ⟨S_, .f32⟩
  | 16 => ⟨S4352x1, .f32⟩
  | 17 => ⟨S4352x1, .f32⟩
  | 18 => ⟨S4352x4096, .f32⟩
  | 19 => ⟨S4352x4096, .f32⟩
  | 20 => ⟨S4352x4096, .f32⟩
  | 21 => ⟨S_, .f32⟩
  | 22 => ⟨S4352x4096, .f32⟩
  | 23 => ⟨S4352x4096, .f32⟩
  | 24 => ⟨S_, .f32⟩
  | 25 => ⟨S4352, .f32⟩
  | 26 => ⟨S4352x1, .f32⟩
  | 27 => ⟨S_, .f32⟩
  | 28 => ⟨S4352x1, .f32⟩
  | 29 => ⟨S4352x1, .f32⟩
  | 30 => ⟨S4352x4096, .f32⟩
  | 31 => ⟨S4352x4096, .f32⟩
  | 32 => ⟨S_, .f32⟩
  | 33 => ⟨S4352x1, .f32⟩
  | 34 => ⟨S4352x1, .f32⟩
  | 35 => ⟨S4352x1, .f32⟩
  | 36 => ⟨S4352x1, .f32⟩
  | 37 => ⟨S_, .f32⟩
  | 38 => ⟨S4352x1, .f32⟩
  | 39 => ⟨S4352x1, .f32⟩
  | 40 => ⟨S4352x4096, .f32⟩
  | 41 => ⟨S4352x4096, .f32⟩
  | 42 => ⟨S1x4096, .f32⟩
  | 43 => ⟨S4352x4096, .f32⟩
  | 44 => ⟨S4352x4096, .f32⟩
  | 45 => ⟨S1x4096, .f32⟩
  | 46 => ⟨S4352x4096, .f32⟩
  | 47 => ⟨S4352x4096, .f32⟩
  | 48 => ⟨S34x128x16x256, .f32⟩
  | 49 => ⟨S16x34x256x128, .f32⟩
  | 50 => ⟨S34x128x16x256, .f32⟩
  | 51 => ⟨S128x16, .f32⟩
  | 52 => ⟨S128x16x1, .f32⟩
  | 53 => ⟨S1x128x16x1, .f32⟩
  | 54 => ⟨S34x128x16x256, .f32⟩
  | 55 => ⟨S34x128x16x256, .f32⟩
  | 56 => ⟨S4352x4096, .f32⟩
  | 57 => ⟨S4352x4096, .f32⟩
  | 58 => ⟨S4352x4096, .f32⟩
  | 59 => ⟨S4352x4096, .f32⟩
  | 60 => ⟨S_, .f32⟩
  | 61 => ⟨S4352x4096, .f32⟩
  | 62 => ⟨S4352x4096, .f32⟩
  | 63 => ⟨S_, .f32⟩
  | 64 => ⟨S4352x4096, .f32⟩
  | 65 => ⟨S4352x4096, .f32⟩
  | 66 => ⟨S_, .f32⟩
  | 67 => ⟨S4352x4096, .f32⟩
  | 68 => ⟨S4352x4096, .f32⟩
  | 69 => ⟨S4352x4096, .f32⟩
  | 70 => ⟨S4352x4096, .f32⟩
  | 71 => ⟨S4352x4096, .f32⟩
  | 72 => ⟨S4352x4096, .f32⟩
  | 73 => ⟨S4352x4096, .f32⟩
  | 74 => ⟨S4352x4096, .f32⟩
  | 75 => ⟨S4352x4096, .f32⟩
  | 76 => ⟨S4352x4096, .f32⟩
  | 77 => ⟨S4352x4096, .f32⟩
  | 78 => ⟨S4352x4096, .f32⟩
  | 79 => ⟨S4352x4096, .f32⟩
  | 80 => ⟨S34x128x16x256, .f32⟩
  | 81 => ⟨S_, .f32⟩
  | 82 => ⟨S128x16, .f32⟩
  | 83 => ⟨S1x128x16x1, .f32⟩
  | 84 => ⟨S_, .f32⟩
  | 85 => ⟨S128x16, .f32⟩
  | 86 => ⟨S128x16x1, .f32⟩
  | 87 => ⟨S_, .f32⟩
  | 88 => ⟨S128x16, .f32⟩
  | 89 => ⟨S16x128, .f32⟩
  | 90 => ⟨S16x34x256x128, .f32⟩
  | 91 => ⟨S16x128x128, .f32⟩
  | 92 => ⟨S16x34x256x128, .f32⟩
  | 93 => ⟨S34x128x16x256, .f32⟩
  | 94 => ⟨S4352x4096, .f32⟩
  | 95 => ⟨S_, .f32⟩
  | 96 => ⟨S4096, .f32⟩
  | 97 => ⟨S1x4096, .f32⟩
  | 98 => ⟨S_, .f32⟩
  | 99 => ⟨S4096, .f32⟩
  | 100 => ⟨S4352x4096, .f32⟩
  | 101 => ⟨S_, .f32⟩
  | 102 => ⟨S4096, .f32⟩
  | 103 => ⟨S1x4096, .f32⟩
  | 104 => ⟨S4352x4096, .f32⟩
  | 105 => ⟨S4352x4096, .f32⟩
  | 106 => ⟨S_, .f32⟩
  | 107 => ⟨S4096, .f32⟩
  | 108 => ⟨S4352x4096, .f32⟩
  | 109 => ⟨S_, .f32⟩
  | 110 => ⟨S4352, .f32⟩
  | 111 => ⟨S4352x1, .f32⟩
  | 112 => ⟨S4352x4096, .f32⟩
  | 113 => ⟨S4352x4096, .f32⟩
  | 114 => ⟨S4352x1, .f32⟩
  | 115 => ⟨S4352x4096, .f32⟩
  | 116 => ⟨S_, .f32⟩
  | 117 => ⟨S4352, .f32⟩
  | 118 => ⟨S4352x1, .f32⟩
  | 119 => ⟨S_, .f32⟩
  | 120 => ⟨S4352x1, .f32⟩
  | 121 => ⟨S4352x1, .f32⟩
  | 122 => ⟨S_, .f32⟩
  | 123 => ⟨S4352, .f32⟩
  | 124 => ⟨S4352x4096, .f32⟩
  | 125 => ⟨S4352x4096, .f32⟩
  | 126 => ⟨S4352x4096, .f32⟩
  | 127 => ⟨S_, .f32⟩
  | _ => ⟨S3x4352x4096, .f32⟩

abbrev hbmTy0_1 (i : Nat) : BufTy := match i % 128 with
  | 0 => ⟨S4352, .f32⟩
  | 1 => ⟨S4352x1, .f32⟩
  | 2 => ⟨S4352x4096, .f32⟩
  | 3 => ⟨S4352x1, .f32⟩
  | 4 => ⟨S_, .f32⟩
  | 5 => ⟨S4352x1, .f32⟩
  | 6 => ⟨S4352x1, .f32⟩
  | 7 => ⟨S_, .f32⟩
  | 8 => ⟨S4352, .f32⟩
  | 9 => ⟨S4352x4096, .f32⟩
  | 10 => ⟨S4352x4096, .f32⟩
  | 11 => ⟨S1x4352x4096, .f32⟩
  | 12 => ⟨S_, .f32⟩
  | 13 => ⟨S3x4352x4096, .f32⟩
  | 14 => ⟨S1x4352x4096, .f32⟩
  | 15 => ⟨S_, .f32⟩
  | 16 => ⟨S3x4352x4096, .f32⟩
  | 17 => ⟨S3x4352x4096, .f32⟩
  | 18 => ⟨S1x4352x4096, .f32⟩
  | 19 => ⟨S_, .f32⟩
  | 20 => ⟨S3x4352x4096, .f32⟩
  | 21 => ⟨S3x4352x4096, .f32⟩
  | 22 => ⟨S3x4352x4096, .bf16⟩
  | 23 => ⟨S1x4096, .f32⟩
  | 24 => ⟨S1x4096, .f32⟩
  | 25 => ⟨S128x16, .f32⟩
  | _ => ⟨S3x4352x4096, .f32⟩

abbrev hbmTy (i : Nat) : BufTy := match i / 128 with
  | 0 => hbmTy0_0 i
  | 1 => hbmTy0_1 i
  | _ => ⟨S3x4352x4096, .f32⟩

abbrev bufTy : (tb : Table) → Fin (tcTables nBuf tb) → BufTy
  | .hbm, ⟨i, _⟩ => hbmTy i
  | _, _ => ⟨S3x4352x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_call0_v0 : Ref sig .tc := ⟨.hbm, 58, rfl⟩
abbrev main_call0_v1 : Ref sig .tc := ⟨.hbm, 59, rfl⟩
abbrev main_call0_cst : Ref sig .tc := ⟨.hbm, 60, rfl⟩
abbrev main_call0_v2 : Ref sig .tc := ⟨.hbm, 61, rfl⟩
abbrev main_call0_v3 : Ref sig .tc := ⟨.hbm, 62, rfl⟩
abbrev main_call0_cst_0 : Ref sig .tc := ⟨.hbm, 63, rfl⟩
abbrev main_call0_v4 : Ref sig .tc := ⟨.hbm, 64, rfl⟩
abbrev main_v45_2 : Ref sig .tc := ⟨.hbm, 65, rfl⟩
abbrev main_call0_cst_1 : Ref sig .tc := ⟨.hbm, 66, rfl⟩
abbrev main_call0_v6 : Ref sig .tc := ⟨.hbm, 67, rfl⟩
abbrev main_call0_v7 : Ref sig .tc := ⟨.hbm, 68, rfl⟩
abbrev main_v45_1 : Ref sig .tc := ⟨.hbm, 69, rfl⟩
abbrev main_v45_0 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_call1_v0 : Ref sig .tc := ⟨.hbm, 74, rfl⟩
abbrev main_call1_v1 : Ref sig .tc := ⟨.hbm, 75, rfl⟩
abbrev main_call1_v2 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_cst_6 : Ref sig .tc := ⟨.hbm, 81, rfl⟩
abbrev main_v53 : Ref sig .tc := ⟨.hbm, 82, rfl⟩
abbrev main_v54 : Ref sig .tc := ⟨.hbm, 83, rfl⟩
abbrev main_cst_7 : Ref sig .tc := ⟨.hbm, 84, rfl⟩
abbrev main_v55 : Ref sig .tc := ⟨.hbm, 85, rfl⟩
abbrev main_v56 : Ref sig .tc := ⟨.hbm, 86, rfl⟩
abbrev main_cst_8 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_cst_9 : Ref sig .tc := ⟨.hbm, 95, rfl⟩
abbrev main_v64 : Ref sig .tc := ⟨.hbm, 96, rfl⟩
abbrev main_v65 : Ref sig .tc := ⟨.hbm, 97, rfl⟩
abbrev main_cst_10 : Ref sig .tc := ⟨.hbm, 98, rfl⟩
abbrev main_v66 : Ref sig .tc := ⟨.hbm, 99, rfl⟩
abbrev main_v67 : Ref sig .tc := ⟨.hbm, 100, rfl⟩
abbrev main_cst_11 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_cst_12 : Ref sig .tc := ⟨.hbm, 106, rfl⟩
abbrev main_v72 : Ref sig .tc := ⟨.hbm, 107, rfl⟩
abbrev main_v73 : Ref sig .tc := ⟨.hbm, 108, rfl⟩
abbrev main_cst_13 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_cst_14 : Ref sig .tc := ⟨.hbm, 116, rfl⟩
abbrev main_v80 : Ref sig .tc := ⟨.hbm, 117, rfl⟩
abbrev main_v81 : Ref sig .tc := ⟨.hbm, 118, rfl⟩
abbrev main_cst_15 : Ref sig .tc := ⟨.hbm, 119, rfl⟩
abbrev main_v82 : Ref sig .tc := ⟨.hbm, 120, rfl⟩
abbrev main_v83 : Ref sig .tc := ⟨.hbm, 121, rfl⟩
abbrev main_cst_16 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_cst_17 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_cst_18 : Ref sig .tc := ⟨.hbm, 132, rfl⟩
abbrev main_v92 : Ref sig .tc := ⟨.hbm, 133, rfl⟩
abbrev main_v93 : Ref sig .tc := ⟨.hbm, 134, rfl⟩
abbrev main_cst_19 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_cst_20 : Ref sig .tc := ⟨.hbm, 140, rfl⟩
abbrev main_v98 : Ref sig .tc := ⟨.hbm, 141, rfl⟩
abbrev main_v99 : Ref sig .tc := ⟨.hbm, 142, rfl⟩
abbrev main_cst_21 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_cst_22 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩

abbrev nD : Nat := 1
abbrev τ : Topo := Topo.v7x

variable {F : FTy → Type} [FloatOps F]
-- ==== Proof.Gate.lean ====
module

public import Idealize.ShloMosaic.PureOps.Ideal
public import Idealize.ShloMosaic.PureOps.Ideal.Laws
public import Idealize.ShloMosaic.Lib.IdealHost
public import Idealize.ShloMosaic.Lib.ValueIdx
public import Idealize.ShloMosaic.Lib.Claim
public import Idealize.ShloMosaic.Lib.Pointwise

@[expose] public section

set_option maxRecDepth 16384

noncomputable section

namespace Cert.Gate

open Idealize.ShloMosaic

/-!
The mathematics of the gating unit's gradient, over whole arrays of extended reals: `X` holds the planes `u`, `v`, `g`, `D`
the cotangent, `G` and `B` the norm's gain and offset, `W` and `C` the spatial weights and biases of sixteen groups of 256
lanes; the rows are any whole number of chunks of 128.
-/

/-- The rows are whole chunks. -/
class Chunked (N : Nat) : Prop where
  whole : N % 128 = 0

instance : Chunked 4096 := ⟨by decide⟩
instance : Chunked 4352 := ⟨by decide⟩

/-- Three planes of rows. -/
abbrev Planes (N : Nat) := (⟨3, ![3, N, 4096]⟩ : Shape).Idx → EReal
/-- One plane of rows. -/
abbrev Plane (N : Nat) := (⟨2, ![N, 4096]⟩ : Shape).Idx → EReal
/-- One value a lane. -/
abbrev Lanes := (⟨1, ![4096]⟩ : Shape).Idx → EReal
/-- The spatial weights. -/
abbrev Weights := (⟨3, ![16, 128, 128]⟩ : Shape).Idx → EReal
/-- The spatial biases. -/
abbrev Biases := (⟨2, ![16, 128]⟩ : Shape).Idx → EReal

/-- The number of lanes as the programs write it. -/
abbrev kN : EReal := Ideal.ofBits .f32 0x45800000#32
/-- The norm's small constant. -/
abbrev kEps : EReal := Ideal.ofBits .f32 0x358637BD#32
/-- Minus one half. -/
abbrev kHalf : EReal := Ideal.ofBits .f32 0xBF000000#32
/-- Two. -/
abbrev kTwo : EReal := Ideal.ofBits .f32 0x40000000#32

/-- The group of a lane. -/
def grp (l : Fin 4096) : Fin 16 := ⟨l.val / 256, by omega⟩
/-- Lane `e` of group `h`. -/
def lane (h : Fin 16) (e : Fin 256) : Fin 4096 := ⟨h.val * 256 + e.val, by omega⟩

variable {N : Nat} [hN : Chunked N]

/-- A row's place in its chunk. -/
def pos (n : Fin N) : Fin 128 := ⟨n.val % 128, by omega⟩
/-- Row `r` of chunk `t`. -/
def row (t : Fin (N / 128)) (r : Fin 128) : Fin N := ⟨t.val * 128 + r.val, by omega⟩
/-- Row `q` of the chunk of row `n`. -/
def mate (n : Fin N) (q : Fin 128) : Fin N := ⟨n.val / 128 * 128 + q.val, by have := hN.whole; omega⟩

variable (X : Planes N) (D : Plane N) (G B : Lanes) (W : Weights) (C : Biases)

/-- The mean of a row of `v`. -/
def mean (n : Fin N) : EReal := Ideal.div (∑ l, X (ix3 1 n l)) kN
/-- A row of `v` about its mean. -/
def xc (n : Fin N) (l : Fin 4096) : EReal := X (ix3 1 n l) - mean X n
/-- A row's variance and the small constant. -/
def vr (n : Fin N) : EReal := Ideal.div (∑ l, xc X n l * xc X n l) kN + kEps
/-- The reciprocal of a row's deviation. -/
def rs (n : Fin N) : EReal := Ideal.rsqrt (vr X n)
/-- The derivative of `rs` in the variance. -/
def hs (n : Fin N) : EReal := kHalf * Ideal.div (rs X n) (vr X n)
/-- The normalised row. -/
def xh (n : Fin N) (l : Fin 4096) : EReal := xc X n l * rs X n
/-- The normalised row, scaled and offset. -/
def vn (n : Fin N) (l : Fin 4096) : EReal := xh X n l * G (ix1 l) + B (ix1 l)
/-- The logistic function of `g`. -/
def lg (n : Fin N) (l : Fin 4096) : EReal := Ideal.logistic (X (ix3 2 n l))
/-- `silu g`. -/
def sg (n : Fin N) (l : Fin 4096) : EReal := X (ix3 2 n l) * lg X n l
/-- The spatial product. -/
def sv (n : Fin N) (l : Fin 4096) : EReal :=
  (∑ q, vn X G B (mate n q) l * W (ix3 (grp l) (pos n) q)) + C (ix2 (grp l) (pos n))
/-- The spatial product's cotangent. -/
def ds (n : Fin N) (l : Fin 4096) : EReal := X (ix3 0 n l) * (D (ix2 n l) * sg X n l)
/-- The cotangent of `vn`. -/
def dvn (n : Fin N) (l : Fin 4096) : EReal := ∑ q, ds X D (mate n q) l * W (ix3 (grp l) q (pos n))
/-- The cotangent of `xh`. -/
def dxh (n : Fin N) (l : Fin 4096) : EReal := dvn X D W n l * G (ix1 l)
/-- The cotangent of the variance, over the number of lanes. -/
def dvr (n : Fin N) : EReal := Ideal.div ((∑ l, xc X n l * dxh X D G W n l) * hs X n) kN

/-- The gradient of `u`. -/
def du (n : Fin N) (l : Fin 4096) : EReal := D (ix2 n l) * sg X n l * sv X G B W C n l
/-- The gradient of `g`, as a sum of two products. -/
def dg (n : Fin N) (l : Fin 4096) : EReal :=
  X (ix3 0 n l) * sv X G B W C n l * D (ix2 n l) * lg X n l
    + X (ix3 2 n l) * (X (ix3 0 n l) * sv X G B W C n l * D (ix2 n l)) * (lg X n l * (1 - lg X n l))
/-- The gradient of `v`, the two ways to `xc` kept apart. -/
def dv (n : Fin N) (l : Fin 4096) : EReal :=
  dxh X D G W n l * rs X n + dvr X D G W n * (kTwo * xc X n l)
    + Ideal.div ((∑ k, -(dxh X D G W n k * rs X n)) + ∑ k, -(dvr X D G W n * (kTwo * xc X n k))) kN

/-- The part of the gradient of `v` that does not go through the mean, as the kernel sums it. -/
def dvK0 (n : Fin N) (l : Fin 4096) : EReal :=
  dxh X D G W n l * rs X n + xc X n l * dvr X D G W n + dvr X D G W n * xc X n l
/-- The gradient of `v` as the kernel sums it. -/
def dvK (n : Fin N) (l : Fin 4096) : EReal :=
  dvK0 X D G W n l + Ideal.div (∑ k, (0 - dvK0 X D G W n k)) kN
/-- The gradient of `g` as the kernel factors it. -/
def dgK (n : Fin N) (l : Fin 4096) : EReal :=
  D (ix2 n l) * X (ix3 0 n l) * sv X G B W C n l * (lg X n l * (1 + X (ix3 2 n l) * (1 - lg X n l)))

end Cert.Gate
end
-- ==== Proof.Real.lean ====
module

public import proofs.«01_k».proof.Proof.Gate
public import Mathlib.Tactic.Ring
public import Mathlib.Tactic.Positivity
public import Mathlib.Tactic.NormNum

@[expose] public section

set_option maxRecDepth 16384

noncomputable section

namespace Cert.Gate

open Idealize.ShloMosaic

/-!
At finite arguments every value of the gradient is a real number, and over the reals the kernel's arrangement of the gradients
of `v` and `g` agrees with the reference's.
-/

/-- A real number among the extended reals. -/
def Real' (x : EReal) : Prop := ∃ r : ℝ, x = (r : EReal)

theorem Real'.mul {x y : EReal} : Real' x → Real' y → Real' (x * y) := by
  rintro ⟨a, rfl⟩ ⟨b, rfl⟩; exact ⟨a * b, (EReal.coe_mul a b).symm⟩
theorem Real'.add {x y : EReal} : Real' x → Real' y → Real' (x + y) := by
  rintro ⟨a, rfl⟩ ⟨b, rfl⟩; exact ⟨a + b, (EReal.coe_add a b).symm⟩
theorem Real'.sub {x y : EReal} : Real' x → Real' y → Real' (x - y) := by
  rintro ⟨a, rfl⟩ ⟨b, rfl⟩; exact ⟨a - b, (EReal.coe_sub a b).symm⟩
theorem coe_sum {ι : Type} (s : Finset ι) (f : ι → ℝ) : ∑ i ∈ s, (f i : EReal) = ((∑ i ∈ s, f i : ℝ) : EReal) := by
  induction s using Finset.cons_induction with
  | empty => rfl
  | cons a s h ih => rw [Finset.sum_cons, Finset.sum_cons, ih, EReal.coe_add]
theorem Real'.sum {n : Nat} {f : Fin n → EReal} (h : ∀ i, Real' (f i)) : Real' (∑ i, f i) := by
  choose g hg using h
  exact ⟨∑ i, g i, by simp only [hg, coe_sum]⟩

theorem kN_eq : kN = ((4096 : ℝ) : EReal) := by
  simp [kN, Ideal.ofBits, Ideal.ieee]; rw [← EReal.coe_mul]; norm_num
theorem kTwo_eq : kTwo = ((2 : ℝ) : EReal) := by
  simp [kTwo, Ideal.ofBits, Ideal.ieee]; rw [← EReal.coe_mul]; norm_num
theorem kHalf_real : Real' kHalf := by
  simp [kHalf, Ideal.ofBits, Ideal.ieee]
  exact ⟨_, rfl⟩
theorem kEps_pos : ∃ r : ℝ, 0 < r ∧ kEps = (r : EReal) := by
  simp [kEps, Ideal.ofBits, Ideal.ieee]
  exact ⟨8796093 * (2 ^ 43)⁻¹, by positivity, (EReal.coe_mul _ _).symm⟩

theorem div_kN (r : ℝ) : Ideal.div (r : EReal) kN = ((r * (1 / 4096) : ℝ) : EReal) := by
  rw [kN_eq, Ideal.div_coe (by norm_num), EReal.coe_mul]

theorem Real'.divN {x : EReal} : Real' x → Real' (Ideal.div x kN) := by
  rintro ⟨a, rfl⟩; exact ⟨_, div_kN a⟩

theorem Real'.logistic {x : EReal} : Real' x → Real' (Ideal.logistic x) := by
  rintro ⟨a, rfl⟩; exact ⟨_, Ideal.logistic_coe a⟩

/-- The arguments are finite. -/
structure Finite {N : Nat} (X : Planes N) (D : Plane N) (G B : Lanes) (W : Weights) (C : Biases) : Prop where
  X : ∀ i, Real' (X i)
  D : ∀ i, Real' (D i)
  G : ∀ i, Real' (G i)
  B : ∀ i, Real' (B i)
  W : ∀ i, Real' (W i)
  C : ∀ i, Real' (C i)

variable {N : Nat} [hN : Chunked N] {X : Planes N} {D : Plane N} {G B : Lanes} {W : Weights} {C : Biases} (h : Finite X D G B W C)
include h

theorem xc_real (n : Fin N) (l : Fin 4096) : Real' (xc X n l) := (h.X _).sub (Real'.sum fun _ => h.X _).divN

theorem vr_pos (n : Fin N) : ∃ r : ℝ, 0 < r ∧ vr X n = (r : EReal) := by
  choose g hg using xc_real h n
  obtain ⟨e, he, hE⟩ := kEps_pos
  refine ⟨(∑ l, g l * g l) * (1 / 4096) + e, ?_, ?_⟩
  · have : 0 ≤ ∑ l, g l * g l := Finset.sum_nonneg fun l _ => mul_self_nonneg _
    positivity
  · unfold vr
    simp only [hg, ← EReal.coe_mul, coe_sum, div_kN, hE, ← EReal.coe_add]

theorem rs_real (n : Fin N) : Real' (rs X n) := by
  obtain ⟨r, hr, e⟩ := vr_pos h n
  exact ⟨(Real.sqrt r)⁻¹, by rw [rs, e, Ideal.rsqrt_coe, if_neg (not_lt.mpr hr.le), if_neg hr.ne']⟩

theorem hs_real (n : Fin N) : Real' (hs X n) := by
  obtain ⟨r, hr, e⟩ := vr_pos h n
  obtain ⟨a, ha⟩ := rs_real h n
  exact kHalf_real.mul ⟨a * (1 / r), by rw [ha, e, Ideal.div_coe hr.ne', EReal.coe_mul]⟩

theorem vn_real (n : Fin N) (l : Fin 4096) : Real' (vn X G B n l) :=
  (((xc_real h n l).mul (rs_real h n)).mul (h.G _)).add (h.B _)

theorem lg_real (n : Fin N) (l : Fin 4096) : Real' (lg X n l) := (h.X _).logistic

theorem sv_real (n : Fin N) (l : Fin 4096) : Real' (sv X G B W C n l) :=
  (Real'.sum fun _ => (vn_real h _ l).mul (h.W _)).add (h.C _)

theorem ds_real (n : Fin N) (l : Fin 4096) : Real' (ds X D n l) := (h.X _).mul ((h.D _).mul ((h.X _).mul (lg_real h n l)))

theorem dxh_real (n : Fin N) (l : Fin 4096) : Real' (dxh X D G W n l) :=
  (Real'.sum fun _ => (ds_real h _ l).mul (h.W _)).mul (h.G _)

theorem dvr_real (n : Fin N) : Real' (dvr X D G W n) :=
  ((Real'.sum fun l => (xc_real h n l).mul (dxh_real h n l)).mul (hs_real h n)).divN

/-- The two arrangements of the gradient of `g`. -/
theorem dgK_eq (n : Fin N) (l : Fin 4096) : dgK X D G B W C n l = dg X D G B W C n l := by
  unfold dgK dg
  obtain ⟨u, hu⟩ := h.X (ix3 0 n l)
  obtain ⟨g, hg⟩ := h.X (ix3 2 n l)
  obtain ⟨d, hd⟩ := h.D (ix2 n l)
  obtain ⟨s, hs⟩ := sv_real h n l
  obtain ⟨p, hp⟩ := lg_real h n l
  rw [hu, hg, hd, hs, hp, ← EReal.coe_one]
  simp only [← EReal.coe_mul, ← EReal.coe_add, ← EReal.coe_sub]
  congr 1
  ring

/-- The two arrangements of the gradient of `v`. -/
theorem dvK_eq (n : Fin N) (l : Fin 4096) : dvK X D G W n l = dv X D G W n l := by
  unfold dvK dv dvK0
  choose x hx using xc_real h n
  choose y hy using dxh_real h n
  obtain ⟨r, hr⟩ := rs_real h n
  obtain ⟨q, hq⟩ := dvr_real h n
  simp only [hx, hy, hr, hq, kTwo_eq, ← EReal.coe_zero]
  simp only [← EReal.coe_mul, ← EReal.coe_add, ← EReal.coe_sub, ← EReal.coe_neg, coe_sum, div_kN]
  congr 1
  rw [← Finset.sum_add_distrib]
  refine congrArg₂ _ (by ring) (congrArg (· * (1 / 4096 : ℝ)) (Finset.sum_congr rfl fun k _ => by ring))

end Cert.Gate
end
-- ==== Proof.Pre.lean ====
module

public import proofs.«01_k».proof.Pre_finite
public import proofs.«01_k».proof.Proof.Real
public import proofs.«01_k».proof.Pre_finite3
public import Idealize.ShloMosaic.Lib.Pointwise

@[expose] public section

set_option maxRecDepth 16384

noncomputable section

namespace Cert.Pre_finite.Body

open Idealize.ShloMosaic Cert.Pre_finite Cert.Gate

/-!
What the precondition says: every component of every argument is a real number.
-/

theorem facts : Cert.Pre_finite.Facts where
  bcast_S_S3x4096x4096 := by decide
  bcast_S_S4096x4096 := by decide
  bcast_S_S4096 := by decide
  bcast_S_S16x128x128 := by decide
  bcast_S_S16x128 := by decide

/-- The word of the comparison is the word of plus infinity. -/
theorem kInf_eq : Ideal.ofBits .f32 0x7F800000#32 = ⊤ := by
  simp [Ideal.ofBits, Ideal.ieee]

/-- An extended real of absolute value below plus infinity is a real number. -/
theorem real_of_abs_lt {x : EReal} (h : Ideal.cmp .olt (max x (-x)) ⊤ = 1#1) : Real' x := by
  induction x with
  | coe r => exact ⟨r, rfl⟩
  | bot => simp [Ideal.cmp] at h
  | top => simp [Ideal.cmp] at h

/-- One argument of the precondition, read at an index. -/
theorem real_of_cmp {s : Shape} (x : FVec Ideal s .f32) (hb : S_.BroadcastsInDim s (![] : Fin 0 → Fin s.rank))
    (h : cmpf .olt (Host.absf x) (broadcastInDim s ![] hb (constant (F := Ideal) S_ .f32 0x7F800000#32)) = fun _ => 1#1)
    (i : s.Idx) : Real' (x i) := by
  have e := congrFun h i
  refine real_of_abs_lt ?_
  rw [← kInf_eq]
  exact e

end Cert.Pre_finite.Body

namespace Cert.Pre_finite3.Body

open Idealize.ShloMosaic Cert.Pre_finite3

theorem facts : Cert.Pre_finite3.Facts where
  bcast_S_S3x4352x4096 := by decide
  bcast_S_S4352x4096 := by decide
  bcast_S_S4096 := by decide
  bcast_S_S16x128x128 := by decide
  bcast_S_S16x128 := by decide

end Cert.Pre_finite3.Body

end
-- ==== Proof.Spec.lean ====
module

public import proofs.«01_k».proof.Proof.Gen.KernelIdeal.Frame
public import Idealize.ShloMosaic.Lib.Pipeline.ValueKit
public import Idealize.ShloMosaic.Lib.Pipeline.ReadBack
public import Idealize.ShloMosaic.Lib.Pointwise

@[expose] public section

set_option maxRecDepth 16384

noncomputable section

namespace Cert.KernelIdeal.Body

open Idealize.ShloMosaic Cert.KernelIdeal Cert.KernelIdeal.Gen

/-!
What one grid point of the gating unit's backward kernel computes, written over the blocks the point reads: `X` holds the
planes `u`, `v`, `g` of 128 rows, `DT` the cotangent of those rows, `VN` the normalised and scaled `v`, `WS` and `BS` the
spatial weights and biases of the sixteen groups of 256 lanes.
-/

/-- The group a lane belongs to. -/
def grp (l : Fin 4096) : Fin 16 := ⟨l.val / 256, by omega⟩

/-- Lane `e` of group `h`. -/
def lane (h : Fin 16) (e : Fin 256) : Fin 4096 := ⟨256 * h.val + e.val, by omega⟩

/-- The plane `v` of a point's rows. -/
def planeV (X : FVec Ideal S3x128x4096 .f32) : FVec Ideal S1x128x4096 .f32 :=
  View.ld (Val := Elt Ideal) (e' := .f32) X
    (Rect.unit (s := S3x128x4096) ![1, 0, 0] ![1, 128, 4096] inb_S3x128x4096_S1x128x4096_1_0_0)

/-- The cotangent of the spatial product: `dt * u * silu g`. -/
def dsE (X : FVec Ideal S3x128x4096 .f32) (DT : FVec Ideal S128x4096 .f32) (r : Fin 128) (l : Fin 4096) : EReal :=
  DT (ix2 r l) * X (ix3 0 r l) * (X (ix3 2 r l) * Ideal.logistic (X (ix3 2 r l)))

/-- The spatial product with its bias: row `r` of a group's weights against lane `l` of the normalised rows. -/
def svE (VN : FVec Ideal S128x4096 .f32) (WS : FVec Ideal S16x128x128 .bf16) (BS : FVec Ideal S128x16 .f32)
    (r : Fin 128) (l : Fin 4096) : EReal :=
  (∑ q : Fin 128, WS (ix3 (grp l) r q) * VN (ix2 q l)) + BS (ix2 r (grp l))

/-- The cotangent of the normalised rows: the transposed weights against `dsE`. -/
def dvnE (X : FVec Ideal S3x128x4096 .f32) (DT : FVec Ideal S128x4096 .f32) (WS : FVec Ideal S16x128x128 .bf16) :
    FVec Ideal S128x4096 .f32 :=
  fun y => ∑ q : Fin 128, WS (ix3 (grp (y 1)) q (y 0)) * dsE X DT q (y 1)

/-- A point's part of the gradient of the spatial weights. -/
def t9 (X : FVec Ideal S3x128x4096 .f32) (DT VN : FVec Ideal S128x4096 .f32) (y : S16x128x128.Idx) : EReal :=
  ∑ e : Fin 256, dsE X DT (y 1) (lane (y 0) e) * VN (ix2 (y 2) (lane (y 0) e))

/-- A point's part of the gradient of the spatial biases. -/
def t10 (X : FVec Ideal S3x128x4096 .f32) (DT : FVec Ideal S128x4096 .f32) (y : S128x16.Idx) : EReal :=
  ∑ e : Fin 256, dsE X DT (y 0) (lane (y 1) e)

/-- A point's part of the gradient of the norm's gain. -/
def t7 (X : FVec Ideal S3x128x4096 .f32) (DT : FVec Ideal S128x4096 .f32) (WS : FVec Ideal S16x128x128 .bf16)
    (y : S1x4096.Idx) : EReal :=
  ∑ r : Fin 128, k0_pay7 (F := Ideal) (planeV X) (ix2 r (y 1)) * dvnE X DT WS (ix2 r (y 1))

/-- A point's part of the gradient of the norm's offset. -/
def t8 (X : FVec Ideal S3x128x4096 .f32) (DT : FVec Ideal S128x4096 .f32) (WS : FVec Ideal S16x128x128 .bf16)
    (y : S1x4096.Idx) : EReal :=
  ∑ r : Fin 128, dvnE X DT WS (ix2 r (y 1))

/-- Plane 0 of the block written: the gradient of `u`. -/
def z0 (X : FVec Ideal S3x128x4096 .f32) (DT VN : FVec Ideal S128x4096 .f32) (WS : FVec Ideal S16x128x128 .bf16)
    (BS : FVec Ideal S128x16 .f32) (r : Fin 128) (l : Fin 4096) : EReal :=
  DT (ix2 r l) * svE VN WS BS r l * (X (ix3 2 r l) * Ideal.logistic (X (ix3 2 r l)))

/-- Plane 2 of the block written: the gradient of `g`. -/
def z2 (X : FVec Ideal S3x128x4096 .f32) (DT VN : FVec Ideal S128x4096 .f32) (WS : FVec Ideal S16x128x128 .bf16)
    (BS : FVec Ideal S128x16 .f32) (r : Fin 128) (l : Fin 4096) : EReal :=
  DT (ix2 r l) * X (ix3 0 r l) * svE VN WS BS r l *
    (Ideal.logistic (X (ix3 2 r l)) * (1 + X (ix3 2 r l) * (1 - Ideal.logistic (X (ix3 2 r l)))))

/-- Plane 1 of the block written: the gradient of `v`, through the norm. -/
def z1 (X : FVec Ideal S3x128x4096 .f32) (DT : FVec Ideal S128x4096 .f32) (LG : FVec Ideal S1x4096 .f32)
    (WS : FVec Ideal S16x128x128 .bf16) (r : Fin 128) (l : Fin 4096) : EReal :=
  k0_pay210 (F := Ideal) (k0_pay2 LG) (k0_pay3 (planeV X)) (k0_pay5 (planeV X)) (k0_pay6 (planeV X)) (k0_pay207 (dvnE X DT WS)) (ix3 0 r l)

/-- The block a point writes. -/
def zE (X : FVec Ideal S3x128x4096 .f32) (DT : FVec Ideal S128x4096 .f32) (LG LB : FVec Ideal S1x4096 .f32)
    (WS : FVec Ideal S16x128x128 .bf16) (BS : FVec Ideal S128x16 .f32) (y : S3x128x4096.Idx) : EReal :=
  if (y 0).val = 0 then z0 X DT (k0_pay8 (planeV X) LG LB) WS BS (y 1) (y 2)
  else if (y 0).val = 1 then z1 X DT LG WS (y 1) (y 2)
  else z2 X DT (k0_pay8 (planeV X) LG LB) WS BS (y 1) (y 2)

theorem zE_zero (X : FVec Ideal S3x128x4096 .f32) (DT : FVec Ideal S128x4096 .f32) (LG LB : FVec Ideal S1x4096 .f32)
    (WS : FVec Ideal S16x128x128 .bf16) (BS : FVec Ideal S128x16 .f32) (y : S3x128x4096.Idx) (h : (y 0).val = 0) :
    zE X DT LG LB WS BS y = z0 X DT (k0_pay8 (planeV X) LG LB) WS BS (y 1) (y 2) := if_pos h

theorem zE_one (X : FVec Ideal S3x128x4096 .f32) (DT : FVec Ideal S128x4096 .f32) (LG LB : FVec Ideal S1x4096 .f32)
    (WS : FVec Ideal S16x128x128 .bf16) (BS : FVec Ideal S128x16 .f32) (y : S3x128x4096.Idx) (h : (y 0).val = 1) :
    zE X DT LG LB WS BS y = z1 X DT LG WS (y 1) (y 2) := by
  unfold zE; rw [if_neg (by omega), if_pos h]

theorem zE_two (X : FVec Ideal S3x128x4096 .f32) (DT : FVec Ideal S128x4096 .f32) (LG LB : FVec Ideal S1x4096 .f32)
    (WS : FVec Ideal S16x128x128 .bf16) (BS : FVec Ideal S128x16 .f32) (y : S3x128x4096.Idx) (h : (y 0).val = 2) :
    zE X DT LG LB WS BS y = z2 X DT (k0_pay8 (planeV X) LG LB) WS BS (y 1) (y 2) := by
  unfold zE; rw [if_neg (by omega), if_neg (by omega)]

/-- Earlier stores do not show at an index that a later one covers. -/
theorem canon_append_of_cover {S : Shape} {e : EltTy} (L' : List (View.Piece (Elt Ideal) S e)) :
    ∀ (L : List (View.Piece (Elt Ideal) S e)) (y : S.Idx), (∃ p ∈ L, y ∈ p.1.set) →
      View.canon (L ++ L') y = View.canon L y
  | [], _, hc => by obtain ⟨p, hp, _⟩ := hc; exact absurd hp List.not_mem_nil
  | p :: L, y, hc => by
    by_cases hm : y ∈ p.1.set
    · obtain ⟨x, rfl⟩ := p.1.exists_idx_of_mem hm
      rw [List.cons_append, show p.1.idx x = p.1.emb x from rfl, View.canon_cons_emb, View.canon_cons_emb]
    · rw [List.cons_append, View.canon_cons_of_not_mem _ _ hm, View.canon_cons_of_not_mem _ _ hm]
      refine canon_append_of_cover L' L y ?_
      obtain ⟨q, hq, hy⟩ := hc
      rcases List.mem_cons.mp hq with rfl | hq
      · exact absurd hy hm
      · exact ⟨q, hq, hy⟩

end Cert.KernelIdeal.Body
end
-- ==== Proof.Ker.lean ====
module

public import proofs.«01_k».proof.Proof.Gate
public import proofs.«01_k».proof.Proof.Spec

@[expose] public section

set_option maxRecDepth 16384

noncomputable section

namespace Cert.KernelIdeal.Body

open Idealize.ShloMosaic Cert.KernelIdeal Cert.KernelIdeal.Gen
open Cert.Gate (Chunked Planes Plane Lanes Weights Biases)

/-!
A point's blocks and the five output arrays as functions of the kernel's arguments, for any whole number of chunks of 128 rows,
and both in terms of the gradient's mathematics: point `t` reads chunk `t`, the rows `128 t … 128 t + 127`.
-/

variable {N : Nat} [hN : Chunked N]

/-- The planes' rows of point `t`. -/
def xBlk (A : Planes N) (t : Fin (N / 128)) : FVec Ideal S3x128x4096 .f32 :=
  fun y => A (ix3 (y 0) (Gate.row t (y 1)) (y 2))

/-- The cotangent's rows of point `t`. -/
def dBlk (A : Plane N) (t : Fin (N / 128)) : FVec Ideal S128x4096 .f32 :=
  fun y => A (ix2 (Gate.row t (y 0)) (y 1))

/-- A vector as a row. -/
def vBlk (A : FVec Ideal S4096 .f32) : FVec Ideal S1x4096 .f32 := fun y => A (ix1 (y 1))

/-- The biases with the position first. -/
def bBlk (A : FVec Ideal S16x128 .f32) : FVec Ideal S128x16 .f32 := fun y => A (ix2 (y 1) (y 0))

/-- The point that computes a row. -/
def tp (n : Fin N) : Fin (N / 128) := ⟨n.val / 128, by have := hN.whole; omega⟩

/-- The row's place among its point's rows. -/
def rp (n : Fin N) : Fin 128 := ⟨n.val % 128, Nat.mod_lt _ (by decide)⟩

theorem row_tp (n : Fin N) : Gate.row (tp n) (rp n) = n := by
  apply Fin.ext; show n.val / 128 * 128 + n.val % 128 = n.val; omega

theorem tp_row (t : Fin (N / 128)) (r : Fin 128) : tp (Gate.row t r) = t := by
  apply Fin.ext; show (t.val * 128 + r.val) / 128 = t.val; omega

theorem rp_row (t : Fin (N / 128)) (r : Fin 128) : rp (Gate.row t r) = r := by
  apply Fin.ext; show (t.val * 128 + r.val) % 128 = r.val; omega

/-- The normalised and scaled rows of a point. -/
def vnE (X : Planes N) (G B : FVec Ideal S4096 .f32) (t : Fin (N / 128)) : FVec Ideal S128x4096 .f32 :=
  k0_pay8 (planeV (xBlk X t)) (vBlk G) (vBlk B)

/-- The gradient of the planes. -/
def g6 (X : Planes N) (D : Plane N) (G B : FVec Ideal S4096 .f32)
    (W : FVec Ideal S16x128x128 .f32) (C : FVec Ideal S16x128 .f32) : Planes N := fun y =>
  zE (xBlk X (tp (y 1))) (dBlk D (tp (y 1))) (vBlk G) (vBlk B) W (bBlk C) (ix3 (y 0) (rp (y 1)) (y 2))

/-- The gradient of the norm's gain. -/
def g7 (X : Planes N) (D : Plane N) (W : FVec Ideal S16x128x128 .f32) :
    FVec Ideal S1x4096 .f32 := fun y => (0 : EReal) + ∑ p : Fin (N / 128), t7 (xBlk X p) (dBlk D p) W y

/-- The gradient of the norm's offset. -/
def g8 (X : Planes N) (D : Plane N) (W : FVec Ideal S16x128x128 .f32) :
    FVec Ideal S1x4096 .f32 := fun y => (0 : EReal) + ∑ p : Fin (N / 128), t8 (xBlk X p) (dBlk D p) W y

/-- The gradient of the spatial weights. -/
def g9 (X : Planes N) (D : Plane N) (G B : FVec Ideal S4096 .f32) :
    FVec Ideal S16x128x128 .f32 := fun y => (0 : EReal) + ∑ p : Fin (N / 128), t9 (xBlk X p) (dBlk D p) (vnE X G B p) y

/-- The gradient of the spatial biases. -/
def g10 (X : Planes N) (D : Plane N) :
    FVec Ideal S128x16 .f32 := fun y => (0 : EReal) + ∑ p : Fin (N / 128), t10 (xBlk X p) (dBlk D p) y

theorem g6_row (X : Planes N) (D : Plane N) (G B : FVec Ideal S4096 .f32)
    (W : FVec Ideal S16x128x128 .f32) (C : FVec Ideal S16x128 .f32) (a : Fin 3) (t : Fin (N / 128)) (r : Fin 128) (l : Fin 4096) :
    g6 X D G B W C (ix3 a (Gate.row t r) l) = zE (xBlk X t) (dBlk D t) (vBlk G) (vBlk B) W (bBlk C) (ix3 a r l) := by
  show zE (xBlk X (tp (Gate.row t r))) (dBlk D (tp (Gate.row t r))) (vBlk G) (vBlk B) W (bBlk C) (ix3 a (rp (Gate.row t r)) l) = _
  rw [tp_row, rp_row]

variable (X : Planes N) (D : Plane N) (G B : Lanes) (W : Weights) (C : Biases)

theorem k3 (t : Fin (N / 128)) (r : Fin 128) (l : Fin 4096) :
    k0_pay3 (F := Ideal) (planeV (xBlk X t)) (ix2 r l) = Gate.xc X (Gate.row t r) l := by
  pointwise [k0_pay3, planeV, xBlk]
  rfl

theorem k4 (t : Fin (N / 128)) (r : Fin 128) (i : Fin 1) :
    k0_pay4 (F := Ideal) (planeV (xBlk X t)) (ix2 r i) = Gate.vr X (Gate.row t r) := by
  pointwise [k0_pay4, k3]
  rfl

theorem k5 (t : Fin (N / 128)) (r : Fin 128) (i : Fin 1) :
    k0_pay5 (F := Ideal) (planeV (xBlk X t)) (ix2 r i) = Gate.rs X (Gate.row t r) := by
  pointwise [k0_pay5, k4]
  rfl

theorem k6 (t : Fin (N / 128)) (r : Fin 128) (i : Fin 1) :
    k0_pay6 (F := Ideal) (planeV (xBlk X t)) (ix2 r i) = Gate.hs X (Gate.row t r) := by
  pointwise [k0_pay6, k4, k5]
  rfl

theorem k7 (t : Fin (N / 128)) (r : Fin 128) (l : Fin 4096) :
    k0_pay7 (F := Ideal) (planeV (xBlk X t)) (ix2 r l) = Gate.xh X (Gate.row t r) l := by
  pointwise [k0_pay7, k3, k5]
  rfl

theorem k8 (t : Fin (N / 128)) (r : Fin 128) (l : Fin 4096) :
    k0_pay8 (F := Ideal) (planeV (xBlk X t)) (vBlk G) (vBlk B) (ix2 r l) = Gate.vn X G B (Gate.row t r) l := by
  pointwise [k0_pay8, k0_pay2, k7, vBlk]
  rfl

theorem mate_row (t : Fin (N / 128)) (r q : Fin 128) : Gate.mate (Gate.row t r) q = Gate.row t q := by
  apply Fin.ext
  show (t.val * 128 + r.val) / 128 * 128 + q.val = t.val * 128 + q.val
  omega

theorem pos_row (t : Fin (N / 128)) (r : Fin 128) : Gate.pos (Gate.row t r) = r := by
  apply Fin.ext
  show (t.val * 128 + r.val) % 128 = r.val
  omega

theorem lane_eq (h : Fin 16) (e : Fin 256) : lane h e = Gate.lane h e := by
  apply Fin.ext
  show 256 * h.val + e.val = h.val * 256 + e.val
  omega

theorem dsE_eq (t : Fin (N / 128)) (r : Fin 128) (l : Fin 4096) :
    dsE (xBlk X t) (dBlk D t) r l = Gate.ds X D (Gate.row t r) l := by
  show D (ix2 (Gate.row t r) l) * X (ix3 0 (Gate.row t r) l) * _ = X (ix3 0 (Gate.row t r) l) * (D (ix2 (Gate.row t r) l) * _)
  rw [mul_comm (D (ix2 (Gate.row t r) l)), mul_assoc]
  rfl

theorem svE_eq (t : Fin (N / 128)) (r : Fin 128) (l : Fin 4096) :
    svE (k0_pay8 (planeV (xBlk X t)) (vBlk G) (vBlk B)) W (bBlk C) r l = Gate.sv X G B W C (Gate.row t r) l := by
  unfold svE Gate.sv
  refine congrArg₂ _ (Finset.sum_congr rfl fun q _ => ?_) ?_
  · rw [k8, mate_row, pos_row, mul_comm]
    rfl
  · rw [pos_row]
    rfl

theorem dvnE_eq (t : Fin (N / 128)) (r : Fin 128) (l : Fin 4096) :
    dvnE (xBlk X t) (dBlk D t) W (ix2 r l) = Gate.dvn X D W (Gate.row t r) l := by
  refine Finset.sum_congr rfl fun q _ => ?_
  show W (ix3 (grp l) q r) * dsE (xBlk X t) (dBlk D t) q l = _
  rw [dsE_eq, mate_row, pos_row, mul_comm]
  rfl

theorem z0_eq (t : Fin (N / 128)) (r : Fin 128) (l : Fin 4096) :
    z0 (xBlk X t) (dBlk D t) (k0_pay8 (planeV (xBlk X t)) (vBlk G) (vBlk B)) W (bBlk C) r l
      = Gate.du X D G B W C (Gate.row t r) l := by
  unfold z0 Gate.du
  rw [svE_eq, mul_right_comm]
  rfl

theorem z2_eq (t : Fin (N / 128)) (r : Fin 128) (l : Fin 4096) :
    z2 (xBlk X t) (dBlk D t) (k0_pay8 (planeV (xBlk X t)) (vBlk G) (vBlk B)) W (bBlk C) r l
      = Gate.dgK X D G B W C (Gate.row t r) l := by
  unfold z2 Gate.dgK
  rw [svE_eq]
  rfl

theorem z1_eq (t : Fin (N / 128)) (r : Fin 128) (l : Fin 4096) :
    z1 (xBlk X t) (dBlk D t) (vBlk G) W r l = Gate.dvK X D G W (Gate.row t r) l := by
  unfold z1
  pointwise [k0_pay210, k0_pay207, k0_pay2, k3, k5, k6, dvnE_eq, vBlk]
  simp only [Fin.sum_univ_one]
  rfl

theorem g6_zero (n : Fin N) (l : Fin 4096) : g6 X D G B W C (ix3 0 n l) = Gate.du X D G B W C n l := by
  rw [← row_tp n, g6_row, zE_zero _ _ _ _ _ _ _ rfl]
  exact z0_eq X D G B W C _ _ _

theorem g6_one (n : Fin N) (l : Fin 4096) : g6 X D G B W C (ix3 1 n l) = Gate.dvK X D G W n l := by
  rw [← row_tp n, g6_row, zE_one _ _ _ _ _ _ _ rfl]
  exact z1_eq X D G W _ _ _

theorem g6_two (n : Fin N) (l : Fin 4096) : g6 X D G B W C (ix3 2 n l) = Gate.dgK X D G B W C n l := by
  rw [← row_tp n, g6_row, zE_two _ _ _ _ _ _ _ rfl]
  exact z2_eq X D G B W C _ _ _

/-- A sum over the points is a sum over the chunks. -/
theorem sum_points {M K : Nat} (h : M = K) (f : Fin K → EReal) :
    ∑ p : Fin M, f ⟨p.val, p.isLt.trans_eq h⟩ = ∑ p, f p := Fintype.sum_equiv (finCongr h) _ _ fun _ => rfl

/-- A sum over the chunks and their rows is a sum over all rows. -/
theorem sum_rows (f : Fin N → EReal) : ∑ p : Fin (N / 128), ∑ r : Fin 128, f (Gate.row p r) = ∑ n, f n := by
  have e : N / 128 * 128 = N := by have := hN.whole; omega
  have key : ∑ p : Fin (N / 128), ∑ r : Fin 128, f ((⟨p.val * 128 + r.val, by omega⟩ : Fin (N / 128 * 128)).cast e)
      = ∑ n : Fin (N / 128 * 128), f (n.cast e) := Fin.sum_mul_add_fin (N / 128) 128 fun n => f (n.cast e)
  exact key.trans (Fintype.sum_equiv (finCongr e) _ _ fun _ => rfl)

theorem g7_eq (i : Fin 1) (l : Fin 4096) : g7 X D W (ix2 i l) = ∑ n, Gate.xh X n l * Gate.dvn X D W n l := by
  refine (zero_add _).trans (Eq.trans (Finset.sum_congr rfl fun p _ => ?_) (sum_rows fun n => Gate.xh X n l * Gate.dvn X D W n l))
  refine Finset.sum_congr rfl fun r _ => ?_
  exact congrArg₂ _ (k7 X p r l) (dvnE_eq X D W p r l)

theorem g8_eq (i : Fin 1) (l : Fin 4096) : g8 X D W (ix2 i l) = ∑ n, Gate.dvn X D W n l := by
  refine (zero_add _).trans (Eq.trans (Finset.sum_congr rfl fun p _ => ?_) (sum_rows fun n => Gate.dvn X D W n l))
  exact Finset.sum_congr rfl fun r _ => dvnE_eq X D W p r l

theorem g9_eq (h : Fin 16) (i j : Fin 128) : g9 X D G B (ix3 h i j)
    = ∑ t, ∑ e, Gate.ds X D (Gate.row t i) (Gate.lane h e) * Gate.vn X G B (Gate.row t j) (Gate.lane h e) := by
  refine (zero_add _).trans (Finset.sum_congr rfl fun p _ => Finset.sum_congr rfl fun e _ => ?_)
  rw [← lane_eq, ← dsE_eq, ← k8]
  rfl

theorem g10_eq (i : Fin 128) (h : Fin 16) : g10 X D (ix2 i h) = ∑ t, ∑ e, Gate.ds X D (Gate.row t i) (Gate.lane h e) := by
  refine (zero_add _).trans (Finset.sum_congr rfl fun p _ => Finset.sum_congr rfl fun e _ => ?_)
  rw [← lane_eq, ← dsE_eq]
  rfl

end Cert.KernelIdeal.Body
end
-- ==== Proof.Values.lean ====
module

public import proofs.«01_k».proof.Proof.Ker
public import proofs.«01_k».proof.Proof.Real

@[expose] public section

set_option maxRecDepth 16384

noncomputable section

namespace Cert.Values

open Idealize.ShloMosaic Cert.Gate Cert.KernelIdeal.Body

/-!
Results that read as the gradient's mathematics are the kernel's five arrays, as functions of the arguments.
-/

variable {N : Nat} [hN : Chunked N] {X : Planes N} {D : Plane N} {G B : Lanes} {W : Weights} {C : Biases}

/-- The gradient of the three planes; the argument's finiteness is used here alone. -/
theorem dz_eq {V : Planes N} (h : Finite X D G B W C) (h0 : ∀ n l, V (ix3 0 n l) = du X D G B W C n l)
    (h1 : ∀ n l, V (ix3 1 n l) = dv X D G W n l) (h2 : ∀ n l, V (ix3 2 n l) = dg X D G B W C n l) :
    V = g6 X D G B W C := by
  have key : ∀ (a : Fin 3) (n : Fin N) (l : Fin 4096), V (ix3 a n l) = g6 X D G B W C (ix3 a n l)
    | 0, n, l => (h0 n l).trans (g6_zero X D G B W C n l).symm
    | 1, n, l => (h1 n l).trans ((dvK_eq h n l).symm.trans (g6_one X D G B W C n l).symm)
    | 2, n, l => (h2 n l).trans ((dgK_eq h n l).symm.trans (g6_two X D G B W C n l).symm)
  funext y
  rw [eq_ix3 y]
  exact key _ _ _

/-- The gradient of the norm's scale. -/
theorem dgam_eq {V : FVec Ideal Cert.KernelIdeal.S1x4096 .f32} (h : ∀ i l, V (ix2 i l) = ∑ n, xh X n l * dvn X D W n l) : V = g7 X D W := by
  funext y
  rw [eq_ix2 y]
  exact (h _ _).trans (g7_eq X D W _ _).symm

/-- The gradient of the norm's bias. -/
theorem dbeta_eq {V : FVec Ideal Cert.KernelIdeal.S1x4096 .f32} (h : ∀ i l, V (ix2 i l) = ∑ n, dvn X D W n l) : V = g8 X D W := by
  funext y
  rw [eq_ix2 y]
  exact (h _ _).trans (g8_eq X D W _ _).symm

/-- The gradient of the chunk weights. -/
theorem dw_eq {V : FVec Ideal Cert.KernelIdeal.S16x128x128 .f32}
    (h : ∀ a i j, V (ix3 a i j) = ∑ t, ∑ e, ds X D (Gate.row t i) (Gate.lane a e) * vn X G B (Gate.row t j) (Gate.lane a e)) :
    V = g9 X D G B := by
  funext y
  rw [eq_ix3 y]
  exact (h _ _ _).trans (g9_eq X D G B _ _ _).symm

/-- The gradient of the chunk biases. -/
theorem db_eq {V : FVec Ideal Cert.KernelIdeal.S128x16 .f32} (h : ∀ i a, V (ix2 i a) = ∑ t, ∑ e, ds X D (Gate.row t i) (Gate.lane a e)) :
    V = g10 X D := by
  funext y
  rw [eq_ix2 y]
  exact (h _ _).trans (g10_eq X D _ _).symm

end Cert.Values

end
-- ==== Proof.Ref.lean ====
module

public import proofs.«01_k».proof.Proof.Gate
public import proofs.«01_k».proof.Proof.Gen.ReferenceIdeal.Read
public import Idealize.ShloMosaic.Lib.Claim
public import Idealize.ShloMosaic.Lib.Pointwise

@[expose] public section

set_option maxRecDepth 16384

noncomputable section

namespace Cert.ReferenceIdeal.Body

open Idealize.ShloMosaic Cert.ReferenceIdeal Cert.ReferenceIdeal.Gen Cert.ReferenceIdeal.Read Cert.Gate

/-!
The reference's operations read at an index, in terms of the gradient's mathematics.
-/

variable (X : Planes 4096) (D : Plane 4096) (G B : Lanes) (W : Weights) (C : Biases)

theorem r11 (n l : Fin 4096) : val_main_v11 (F := Ideal) X (ix2 n l) = xc X n l := by
  pointwise [val_main_v11, val_main_v10, val_main_v9, val_main_v8, val_main_v7, val_main_v6, val_main_v3, val_main_v2,
    val_main_cst, val_main_cst_0]
  rfl

theorem r20 (n l : Fin 4096) : val_main_v20 (F := Ideal) X (ix2 n l) = xc X n l := by
  pointwise [val_main_v20, val_main_v19, val_main_v9, val_main_v8, val_main_v7, val_main_v6, val_main_v3, val_main_v2,
    val_main_cst, val_main_cst_0]
  rfl

theorem r22 (n : Fin 4096) (i : Fin 1) : val_main_v22 (F := Ideal) X (ix2 n i) = vr X n := by
  pointwise [val_main_v22, val_main_v21, val_main_v18, val_main_v17, val_main_v16, val_main_v15, val_main_v12, r11,
    val_main_cst_2, val_main_cst_3, val_main_cst_4]
  rfl

theorem r23 (n : Fin 4096) (i : Fin 1) : val_main_v23 (F := Ideal) X (ix2 n i) = rs X n := by
  pointwise [val_main_v23, r22]
  rfl

theorem r26 (n : Fin 4096) (i : Fin 1) : val_main_v26 (F := Ideal) X (ix2 n i) = hs X n := by
  pointwise [val_main_v26, val_main_v25, val_main_v24, r23, r22, val_main_cst_5]
  rfl

theorem r28 (n l : Fin 4096) : val_main_v28 (F := Ideal) X (ix2 n l) = xh X n l := by
  pointwise [val_main_v28, val_main_v27, r23, r20]
  rfl

theorem r34 (n l : Fin 4096) : val_main_v34 (F := Ideal) X G B (ix2 n l) = vn X G B n l := by
  pointwise [val_main_v34, val_main_v33, val_main_v32, val_main_v31, val_main_v30, val_main_v29, r28]
  rfl

theorem r43 (n l : Fin 4096) : val_main_v43 (F := Ideal) X G B W C (ix2 n l) = sv X G B W C n l := by
  pointwise [val_main_v43, val_main_v42, val_main_v41, val_main_v40, val_main_v39, val_main_v38, val_main_v37, val_main_v36,
    val_main_v35, r34]
  rfl

theorem r45_2 (n l : Fin 4096) : val_main_v45_2 (F := Ideal) X (ix2 n l) = lg X n l := by
  pointwise [val_main_v45_2, val_main_call0_v4, val_main_call0_v3, val_main_call0_v2, val_main_call0_v1, val_main_call0_v0,
    val_main_call0_cst, val_main_call0_cst_0, val_main_v5, val_main_v4]
  rfl

theorem r45_1 (n l : Fin 4096) : val_main_v45_1 (F := Ideal) X (ix2 n l) = lg X n l * (1 - lg X n l) := by
  pointwise [val_main_v45_1, val_main_call0_v7, val_main_call0_v6, val_main_call0_cst_1, r45_2]

theorem r45_0 (n l : Fin 4096) : val_main_v45_0 (F := Ideal) X (ix2 n l) = sg X n l := by
  pointwise [val_main_v45_0, r45_2, val_main_v5, val_main_v4]
  rfl

theorem r50 (n l : Fin 4096) : val_main_v50 (F := Ideal) X D (ix2 n l) = ds X D n l := by
  pointwise [val_main_v50, val_main_v48, r45_0, val_main_v1, val_main_v0]
  rfl

theorem r51 (n l : Fin 4096) : val_main_v51 (F := Ideal) X D G B W C (ix2 n l) = du X D G B W C n l := by
  pointwise [val_main_v51, val_main_v48, r45_0, r43]
  rfl

theorem r49 (n l : Fin 4096) : val_main_v49 (F := Ideal) X D G B W C (ix2 n l) = dg X D G B W C n l := by
  pointwise [val_main_v49, val_main_call1_v1, val_main_call1_v2, val_main_call1_v0, val_main_v47, val_main_v44, r43, r45_1,
    r45_2, val_main_v5, val_main_v4, val_main_v1, val_main_v0]
  rfl

theorem r63 (n l : Fin 4096) : val_main_v63 (F := Ideal) X D W (ix2 n l) = dvn X D W n l := by
  pointwise [val_main_v63, val_main_v62, val_main_v61, val_main_v59, val_main_v52, r50]
  rfl

theorem r71 (n l : Fin 4096) : val_main_v71 (F := Ideal) X D G W (ix2 n l) = dxh X D G W n l := by
  pointwise [val_main_v71, val_main_v70, val_main_v29, r63]
  rfl

theorem r77 (n l : Fin 4096) : val_main_v77 (F := Ideal) X D G W (ix2 n l) = dxh X D G W n l * rs X n := by
  pointwise [val_main_v77, val_main_v76, r71, r23]

theorem r85 (n l : Fin 4096) : val_main_v85 (F := Ideal) X D G W (ix2 n l) = dvr X D G W n := by
  pointwise [val_main_v85, val_main_v84, val_main_v83, val_main_v82, val_main_v78, val_main_v75, val_main_v74, val_main_v73,
    r20, r71, r26, val_main_cst_13, val_main_cst_15, val_main_cst_16]
  refine (Fin.sum_univ_one _).trans ?_
  rfl

theorem r86 (n l : Fin 4096) : val_main_v86 (F := Ideal) X D G W (ix2 n l) = dvr X D G W n * (kTwo * xc X n l) := by
  pointwise [val_main_v86, r85, val_main_v14, val_main_v13, val_main_cst_1, r11]

theorem r96 (n l : Fin 4096) : val_main_v96 (F := Ideal) X D G W (ix2 n l) = dv X D G W n l := by
  pointwise [val_main_v96, val_main_v95, val_main_v94, val_main_v93, val_main_v92, val_main_v91, val_main_v90, val_main_v89,
    val_main_v88, val_main_v87, val_main_v81, val_main_v80, val_main_v79, r77, r86, val_main_cst_14, val_main_cst_17,
    val_main_cst_18, val_main_cst_19]
  refine (congrArg _ (Fin.sum_univ_one _)).trans ?_
  rfl

theorem r105_0 (n l : Fin 4096) : val_main_v105 (F := Ideal) X D G B W C (ix3 0 n l) = du X D G B W C n l := by
  pointwise [val_main_v105, val_main_v104, val_main_v103, val_main_v102, val_main_v101, val_main_v100, val_main_v99,
    val_main_v98, val_main_v97, val_main_cst_20, val_main_cst_21, val_main_cst_22, r51]

theorem r105_1 (n l : Fin 4096) : val_main_v105 (F := Ideal) X D G B W C (ix3 1 n l) = dv X D G W n l := by
  pointwise [val_main_v105, val_main_v104, val_main_v103, val_main_v102, val_main_v101, val_main_v100, val_main_v99,
    val_main_v98, val_main_v97, val_main_cst_20, val_main_cst_21, val_main_cst_22, r96]

theorem r105_2 (n l : Fin 4096) : val_main_v105 (F := Ideal) X D G B W C (ix3 2 n l) = dg X D G B W C n l := by
  pointwise [val_main_v105, val_main_v104, val_main_v103, val_main_v102, val_main_v101, val_main_v100, val_main_v99,
    val_main_v98, val_main_v97, val_main_cst_20, val_main_cst_21, val_main_cst_22, r49]

theorem r60 (h : Fin 16) (i j : Fin 128) : val_main_v60 (F := Ideal) X D G B (ix3 h i j)
    = ∑ t, ∑ e, ds X D (Gate.row t i) (lane h e) * vn X G B (Gate.row t j) (lane h e) := by
  pointwise [val_main_v60, val_main_v59, val_main_v35, val_main_v52, r50, r34]
  rfl

theorem r106 (i : Fin 1) (l : Fin 4096) : val_main_v106 (F := Ideal) X D W (ix2 i l) = ∑ n, xh X n l * dvn X D W n l := by
  pointwise [val_main_v106, val_main_v72, val_main_v69, val_main_v68, val_main_v67, r28, r63, val_main_cst_11, val_main_cst_12]
  exact Fin.sum_univ_one _

theorem r107 (i : Fin 1) (l : Fin 4096) : val_main_v107 (F := Ideal) X D W (ix2 i l) = ∑ n, dvn X D W n l := by
  pointwise [val_main_v107, val_main_v66, val_main_v65, val_main_v64, r63, val_main_cst_9, val_main_cst_10]
  exact Fin.sum_univ_one _

/-- A sum over the first and the last axis of four. -/
theorem sum_first_last {a b c d : Nat} (h : (⟨4, ![a, b, c, d]⟩ : Shape).ReducesTo [0, 3] ⟨2, ![b, c]⟩)
    (v : (⟨4, ![a, b, c, d]⟩ : Shape).Idx → EReal) (init : EReal) (i : Fin b) (j : Fin c) :
    Ideal.hostReduceAdd h v init (ix2 i j) = init + ∑ x : Fin a, ∑ y : Fin d, v (ix4 x i j y) := by
  unfold Ideal.hostReduceAdd
  congr 1
  refine (Finset.sum_filter_eq_sum_of_fiber _ (fun k : Fin a × Fin d => ix4 k.1 i j k.2)
    (fun _ _ e => Prod.ext (congrFun e 0) (congrFun e 3)) (fun q => ?_) v).trans (by simp only [Fintype.sum_prod_type])
  constructor
  · intro e
    refine ⟨(q 0, q 3), ?_⟩
    funext k; apply Fin.ext
    match k with
    | ⟨0, _⟩ => rfl
    | ⟨1, _⟩ => exact (congrArg Fin.val (congrFun e (0 : Fin 2))).symm
    | ⟨2, _⟩ => exact (congrArg Fin.val (congrFun e (1 : Fin 2))).symm
    | ⟨3, _⟩ => rfl
  · rintro ⟨k, rfl⟩
    funext k'; apply Fin.ext
    match k' with
    | ⟨0, _⟩ => rfl
    | ⟨1, _⟩ => rfl

theorem r53 (i : Fin 128) (h : Fin 16) : val_main_v53 (F := Ideal) X D (ix2 i h) = ∑ t, ∑ e, ds X D (Gate.row t i) (lane h e) := by
  unfold val_main_v53
  refine (sum_first_last _ _ _ _ _).trans ?_
  pointwise [val_main_v52, val_main_cst_6, r50]
  rfl

theorem r55 (i : Fin 128) (h : Fin 16) : val_main_v55 (F := Ideal) X D (ix2 i h) = ∑ t, ∑ e, ds X D (Gate.row t i) (lane h e) := by
  unfold val_main_v55
  refine (sum_first_last _ _ _ _ _).trans ?_
  pointwise [val_main_v54, val_main_cst_7, r53]
  refine (Fin.sum_univ_one _).trans ?_
  exact Fin.sum_univ_one _

theorem r108 (i : Fin 128) (h : Fin 16) : val_main_v108 (F := Ideal) X D (ix2 i h) = ∑ t, ∑ e, ds X D (Gate.row t i) (lane h e) := by
  pointwise [val_main_v108, val_main_v58, val_main_v57, val_main_v56, val_main_cst_8, r55]
  exact Fin.sum_univ_one _

end Cert.ReferenceIdeal.Body
end
-- ==== Proof.Runs.lean ====
module

public import proofs.«01_k».proof.Proof.Spec

@[expose] public section

set_option maxRecDepth 16384

noncomputable section

namespace Cert.KernelIdeal.Body

open Idealize.ShloMosaic Cert.KernelIdeal Cert.KernelIdeal.Gen
open Idealize.ShloMosaic.TcCoe Idealize.SL.Sem

/-!
What a grid point leaves in the five outputs' blocks, as a function of the blocks it reads.
-/

/-- The first point. -/
def runA (c : Dev nD) (t : Fin cfg0.N) (h : t.val % 32 = 0)
    (X : Vec Ideal S3x128x4096 .f32) (DT : Vec Ideal S128x4096 .f32) (LG LB : Vec Ideal S1x4096 .f32)
    (WS : Vec Ideal S16x128x128 .bf16) (BS : Vec Ideal S128x16 .f32) :
    Vec Ideal S3x128x4096 .bf16 × Vec Ideal S1x4096 .f32 × Vec Ideal S1x4096 .f32 × Vec Ideal S16x128x128 .f32 ×
      Vec Ideal S128x16 .f32 :=
  (out0_A_6 (F := Ideal) c (grid0.coords t) (ms0_0 t) (hs0_0 t) (ms0_1 t) (hs0_1 t) (ms0_2 t) (hs0_2 t) (ms0_3 t) (hs0_3 t)
      (ms0_4 t)
      (hs0_4 t) (ms0_5 t) (hs0_5 t) (ms0_6 t) (hs0_6 t) (ms0_7 t) (hs0_7 t) (ms0_8 t) (hs0_8 t) (ms0_9 t) (hs0_9 t) (ms0_10
      t) (hs0_10 t) scM0_0 (Memref.isWhole_whole _) ((hcond0_0 t).mpr h) ((hcond0_1 t).mpr h) ((hcond0_2 t).mpr h) X DT LG
      LB WS BS,
    out0_A_7 (F := Ideal) c (grid0.coords t) (ms0_0 t) (hs0_0 t) (ms0_1 t) (hs0_1 t) (ms0_2 t) (hs0_2 t) (ms0_3 t) (hs0_3 t)
      (ms0_4 t)
      (hs0_4 t) (ms0_5 t) (hs0_5 t) (ms0_6 t) (hs0_6 t) (ms0_7 t) (hs0_7 t) (ms0_8 t) (hs0_8 t) (ms0_9 t) (hs0_9 t) (ms0_10
      t) (hs0_10 t) scM0_0 (Memref.isWhole_whole _) ((hcond0_0 t).mpr h) ((hcond0_1 t).mpr h) ((hcond0_2 t).mpr h) X DT LG
      LB WS BS,
    out0_A_8 (F := Ideal) c (grid0.coords t) (ms0_0 t) (hs0_0 t) (ms0_1 t) (hs0_1 t) (ms0_2 t) (hs0_2 t) (ms0_3 t) (hs0_3 t)
      (ms0_4 t)
      (hs0_4 t) (ms0_5 t) (hs0_5 t) (ms0_6 t) (hs0_6 t) (ms0_7 t) (hs0_7 t) (ms0_8 t) (hs0_8 t) (ms0_9 t) (hs0_9 t) (ms0_10
      t) (hs0_10 t) scM0_0 (Memref.isWhole_whole _) ((hcond0_0 t).mpr h) ((hcond0_1 t).mpr h) ((hcond0_2 t).mpr h) X DT LG
      LB WS BS,
    out0_A_9 (F := Ideal) c (grid0.coords t) (ms0_0 t) (hs0_0 t) (ms0_1 t) (hs0_1 t) (ms0_2 t) (hs0_2 t) (ms0_3 t) (hs0_3 t)
      (ms0_4 t)
      (hs0_4 t) (ms0_5 t) (hs0_5 t) (ms0_6 t) (hs0_6 t) (ms0_7 t) (hs0_7 t) (ms0_8 t) (hs0_8 t) (ms0_9 t) (hs0_9 t) (ms0_10
      t) (hs0_10 t) scM0_0 (Memref.isWhole_whole _) ((hcond0_0 t).mpr h) ((hcond0_1 t).mpr h) ((hcond0_2 t).mpr h) X DT LG
      LB WS BS,
    out0_A_10 (F := Ideal) c (grid0.coords t) (ms0_0 t) (hs0_0 t) (ms0_1 t) (hs0_1 t) (ms0_2 t) (hs0_2 t) (ms0_3 t) (hs0_3
      t) (ms0_4 t)
      (hs0_4 t) (ms0_5 t) (hs0_5 t) (ms0_6 t) (hs0_6 t) (ms0_7 t) (hs0_7 t) (ms0_8 t) (hs0_8 t) (ms0_9 t) (hs0_9 t) (ms0_10
      t) (hs0_10 t) scM0_0 (Memref.isWhole_whole _) ((hcond0_0 t).mpr h) ((hcond0_1 t).mpr h) ((hcond0_2 t).mpr h) X DT LG
      LB WS BS)

/-- A later point, over what the one before it left in the four accumulated blocks. -/
def runB (c : Dev nD) (t : Fin cfg0.N) (h : ¬t.val % 32 = 0)
    (X : Vec Ideal S3x128x4096 .f32) (DT : Vec Ideal S128x4096 .f32) (LG LB : Vec Ideal S1x4096 .f32)
    (WS : Vec Ideal S16x128x128 .bf16) (BS : Vec Ideal S128x16 .f32)
    (Q7 Q8 : Vec Ideal S1x4096 .f32) (Q9 : Vec Ideal S16x128x128 .f32) (Q10 : Vec Ideal S128x16 .f32) :
    Vec Ideal S3x128x4096 .bf16 × Vec Ideal S1x4096 .f32 × Vec Ideal S1x4096 .f32 × Vec Ideal S16x128x128 .f32 ×
      Vec Ideal S128x16 .f32 :=
  (out0_B_6 (F := Ideal) c (grid0.coords t) (ms0_0 t) (hs0_0 t) (ms0_1 t) (hs0_1 t) (ms0_2 t) (hs0_2 t) (ms0_3 t) (hs0_3 t)
      (ms0_4 t)
      (hs0_4 t) (ms0_5 t) (hs0_5 t) (ms0_6 t) (hs0_6 t) (ms0_7 t) (hs0_7 t) (ms0_8 t) (hs0_8 t) (ms0_9 t) (hs0_9 t) (ms0_10
      t) (hs0_10 t) scM0_0 (Memref.isWhole_whole _) (fun k => h ((hcond0_0 t).mp k)) (fun k => h ((hcond0_1 t).mp k)) (fun k
      => h ((hcond0_2 t).mp k)) X DT LG LB WS BS Q7 Q8 Q9 Q10,
    out0_B_7 (F := Ideal) c (grid0.coords t) (ms0_0 t) (hs0_0 t) (ms0_1 t) (hs0_1 t) (ms0_2 t) (hs0_2 t) (ms0_3 t) (hs0_3 t)
      (ms0_4 t)
      (hs0_4 t) (ms0_5 t) (hs0_5 t) (ms0_6 t) (hs0_6 t) (ms0_7 t) (hs0_7 t) (ms0_8 t) (hs0_8 t) (ms0_9 t) (hs0_9 t) (ms0_10
      t) (hs0_10 t) scM0_0 (Memref.isWhole_whole _) (fun k => h ((hcond0_0 t).mp k)) (fun k => h ((hcond0_1 t).mp k)) (fun k
      => h ((hcond0_2 t).mp k)) X DT LG LB WS BS Q7 Q8 Q9 Q10,
    out0_B_8 (F := Ideal) c (grid0.coords t) (ms0_0 t) (hs0_0 t) (ms0_1 t) (hs0_1 t) (ms0_2 t) (hs0_2 t) (ms0_3 t) (hs0_3 t)
      (ms0_4 t)
      (hs0_4 t) (ms0_5 t) (hs0_5 t) (ms0_6 t) (hs0_6 t) (ms0_7 t) (hs0_7 t) (ms0_8 t) (hs0_8 t) (ms0_9 t) (hs0_9 t) (ms0_10
      t) (hs0_10 t) scM0_0 (Memref.isWhole_whole _) (fun k => h ((hcond0_0 t).mp k)) (fun k => h ((hcond0_1 t).mp k)) (fun k
      => h ((hcond0_2 t).mp k)) X DT LG LB WS BS Q7 Q8 Q9 Q10,
    out0_B_9 (F := Ideal) c (grid0.coords t) (ms0_0 t) (hs0_0 t) (ms0_1 t) (hs0_1 t) (ms0_2 t) (hs0_2 t) (ms0_3 t) (hs0_3 t)
      (ms0_4 t)
      (hs0_4 t) (ms0_5 t) (hs0_5 t) (ms0_6 t) (hs0_6 t) (ms0_7 t) (hs0_7 t) (ms0_8 t) (hs0_8 t) (ms0_9 t) (hs0_9 t) (ms0_10
      t) (hs0_10 t) scM0_0 (Memref.isWhole_whole _) (fun k => h ((hcond0_0 t).mp k)) (fun k => h ((hcond0_1 t).mp k)) (fun k
      => h ((hcond0_2 t).mp k)) X DT LG LB WS BS Q7 Q8 Q9 Q10,
    out0_B_10 (F := Ideal) c (grid0.coords t) (ms0_0 t) (hs0_0 t) (ms0_1 t) (hs0_1 t) (ms0_2 t) (hs0_2 t) (ms0_3 t) (hs0_3
      t) (ms0_4 t)
      (hs0_4 t) (ms0_5 t) (hs0_5 t) (ms0_6 t) (hs0_6 t) (ms0_7 t) (hs0_7 t) (ms0_8 t) (hs0_8 t) (ms0_9 t) (hs0_9 t) (ms0_10
      t) (hs0_10 t) scM0_0 (Memref.isWhole_whole _) (fun k => h ((hcond0_0 t).mp k)) (fun k => h ((hcond0_1 t).mp k)) (fun k
      => h ((hcond0_2 t).mp k)) X DT LG LB WS BS Q7 Q8 Q9 Q10)

variable (m : (ℓ : Loc nD τ sig) → Buf (Elt Ideal) ℓ)

theorem outs_A (c : Dev nD) (t : Fin cfg0.N) (h : t.val % 32 = 0) : outsAt0 m c t.val t.isLt
    = runA c t h (iblk m c 0 t) (iblk m c 1 t) (iblk m c 2 t) (iblk m c 3 t) (iblk m c 4 t) (iblk m c 5 t) := by
  unfold runA; exact outsAt0_A m c t h h h

theorem outs_B (c : Dev nD) (t : Fin cfg0.N) (h : ¬t.val % 32 = 0) : outsAt0 m c t.val t.isLt
    = runB c t h (iblk m c 0 t) (iblk m c 1 t) (iblk m c 2 t) (iblk m c 3 t) (iblk m c 4 t) (iblk m c 5 t)
        (outsAt0 m c (t.val - 1) (by omega)).2.1 (outsAt0 m c (t.val - 1) (by omega)).2.2.1
        (outsAt0 m c (t.val - 1) (by omega)).2.2.2.1 (outsAt0 m c (t.val - 1) (by omega)).2.2.2.2 := by
  unfold runB; exact outsAt0_B m c t h h h

end Cert.KernelIdeal.Body
end
-- ==== Proof.Scratch.lean ====
module

public import proofs.«01_k».proof.Proof.Spec

@[expose] public section

set_option maxRecDepth 16384

noncomputable section

namespace Cert.KernelIdeal.Body

open Idealize.ShloMosaic Cert.KernelIdeal Cert.KernelIdeal.Gen

/-!
The sixteen stores of a point into the scratch array of the normalised rows' cotangent, and what the whole array then holds.
-/

variable (X : FVec Ideal S3x128x4096 .f32) (DT : FVec Ideal S128x4096 .f32) (WS : FVec Ideal S16x128x128 .bf16)

/-- The stores, one per group of lanes, the last first. -/
def dvnStores : List (View.Piece (Elt Ideal) S128x4096 .f32) :=
  [⟨Rect.unit (s := S128x4096) ![0, 3840] ![128, 256] inb_S128x4096_S128x256_0_3840,
      k0_pay204
      (k0_pay197
      (View.ld (Val := Elt Ideal) (e' := .f32) X (Rect.unit (s := S3x128x4096) ![0, 0, 3840] ![1, 128, 256] inb_S3x128x4096_S1x128x256_0_0_3840)))
      (View.ld (Val := Elt Ideal) (e' := .f32) DT (Rect.unit (s := S128x4096) ![0, 3840] ![128, 256] inb_S128x4096_S128x256_0_3840))
      (k0_pay199
      (View.ld (Val := Elt Ideal) (e' := .f32) X (Rect.unit (s := S3x128x4096) ![2, 0, 3840] ![1, 128, 256] inb_S3x128x4096_S1x128x256_2_0_3840)))
      (View.ld (Val := Elt Ideal) (e' := .bf16) WS (Rect.unit (s := S16x128x128) ![15, 0, 0] ![1, 128, 128] inb_S16x128x128_S1x128x128_15_0_0))⟩,
    ⟨Rect.unit (s := S128x4096) ![0, 3584] ![128, 256] inb_S128x4096_S128x256_0_3584,
      k0_pay192
      (k0_pay185
      (View.ld (Val := Elt Ideal) (e' := .f32) X (Rect.unit (s := S3x128x4096) ![0, 0, 3584] ![1, 128, 256] inb_S3x128x4096_S1x128x256_0_0_3584)))
      (View.ld (Val := Elt Ideal) (e' := .f32) DT (Rect.unit (s := S128x4096) ![0, 3584] ![128, 256] inb_S128x4096_S128x256_0_3584))
      (k0_pay187
      (View.ld (Val := Elt Ideal) (e' := .f32) X (Rect.unit (s := S3x128x4096) ![2, 0, 3584] ![1, 128, 256] inb_S3x128x4096_S1x128x256_2_0_3584)))
      (View.ld (Val := Elt Ideal) (e' := .bf16) WS (Rect.unit (s := S16x128x128) ![14, 0, 0] ![1, 128, 128] inb_S16x128x128_S1x128x128_14_0_0))⟩,
    ⟨Rect.unit (s := S128x4096) ![0, 3328] ![128, 256] inb_S128x4096_S128x256_0_3328,
      k0_pay179
      (k0_pay173
      (View.ld (Val := Elt Ideal) (e' := .f32) X (Rect.unit (s := S3x128x4096) ![0, 0, 3328] ![1, 128, 256] inb_S3x128x4096_S1x128x256_0_0_3328)))
      (k0_pay174
      (View.ld (Val := Elt Ideal) (e' := .f32) X (Rect.unit (s := S3x128x4096) ![2, 0, 3328] ![1, 128, 256] inb_S3x128x4096_S1x128x256_2_0_3328)))
      (View.ld (Val := Elt Ideal) (e' := .f32) DT (Rect.unit (s := S128x4096) ![0, 3328] ![128, 256] inb_S128x4096_S128x256_0_3328))
      (View.ld (Val := Elt Ideal) (e' := .bf16) WS (Rect.unit (s := S16x128x128) ![13, 0, 0] ![1, 128, 128] inb_S16x128x128_S1x128x128_13_0_0))⟩,
    ⟨Rect.unit (s := S128x4096) ![0, 3072] ![128, 256] inb_S128x4096_S128x256_0_3072,
      k0_pay168
      (k0_pay167
      (View.ld (Val := Elt Ideal) (e' := .f32) X (Rect.unit (s := S3x128x4096) ![0, 0, 3072] ![1, 128, 256] inb_S3x128x4096_S1x128x256_0_0_3072))
      (View.ld (Val := Elt Ideal) (e' := .f32) X (Rect.unit (s := S3x128x4096) ![2, 0, 3072] ![1, 128, 256] inb_S3x128x4096_S1x128x256_2_0_3072))
      (View.ld (Val := Elt Ideal) (e' := .f32) DT (Rect.unit (s := S128x4096) ![0, 3072] ![128, 256] inb_S128x4096_S128x256_0_3072))
      (View.ld (Val := Elt Ideal) (e' := .bf16) WS (Rect.unit (s := S16x128x128) ![12, 0, 0] ![1, 128, 128] inb_S16x128x128_S1x128x128_12_0_0)))⟩,
    ⟨Rect.unit (s := S128x4096) ![0, 2816] ![128, 256] inb_S128x4096_S128x256_0_2816,
      k0_pay155
      (k0_pay148
      (View.ld (Val := Elt Ideal) (e' := .f32) X (Rect.unit (s := S3x128x4096) ![0, 0, 2816] ![1, 128, 256] inb_S3x128x4096_S1x128x256_0_0_2816)))
      (View.ld (Val := Elt Ideal) (e' := .f32) DT (Rect.unit (s := S128x4096) ![0, 2816] ![128, 256] inb_S128x4096_S128x256_0_2816))
      (k0_pay150
      (View.ld (Val := Elt Ideal) (e' := .f32) X (Rect.unit (s := S3x128x4096) ![2, 0, 2816] ![1, 128, 256] inb_S3x128x4096_S1x128x256_2_0_2816)))
      (View.ld (Val := Elt Ideal) (e' := .bf16) WS (Rect.unit (s := S16x128x128) ![11, 0, 0] ![1, 128, 128] inb_S16x128x128_S1x128x128_11_0_0))⟩,
    ⟨Rect.unit (s := S128x4096) ![0, 2560] ![128, 256] inb_S128x4096_S128x256_0_2560,
      k0_pay143
      (k0_pay136
      (View.ld (Val := Elt Ideal) (e' := .f32) X (Rect.unit (s := S3x128x4096) ![0, 0, 2560] ![1, 128, 256] inb_S3x128x4096_S1x128x256_0_0_2560)))
      (View.ld (Val := Elt Ideal) (e' := .f32) DT (Rect.unit (s := S128x4096) ![0, 2560] ![128, 256] inb_S128x4096_S128x256_0_2560))
      (k0_pay138
      (View.ld (Val := Elt Ideal) (e' := .f32) X (Rect.unit (s := S3x128x4096) ![2, 0, 2560] ![1, 128, 256] inb_S3x128x4096_S1x128x256_2_0_2560)))
      (View.ld (Val := Elt Ideal) (e' := .bf16) WS (Rect.unit (s := S16x128x128) ![10, 0, 0] ![1, 128, 128] inb_S16x128x128_S1x128x128_10_0_0))⟩,
    ⟨Rect.unit (s := S128x4096) ![0, 2304] ![128, 256] inb_S128x4096_S128x256_0_2304,
      k0_pay130
      (k0_pay124
      (View.ld (Val := Elt Ideal) (e' := .f32) X (Rect.unit (s := S3x128x4096) ![0, 0, 2304] ![1, 128, 256] inb_S3x128x4096_S1x128x256_0_0_2304)))
      (k0_pay125
      (View.ld (Val := Elt Ideal) (e' := .f32) X (Rect.unit (s := S3x128x4096) ![2, 0, 2304] ![1, 128, 256] inb_S3x128x4096_S1x128x256_2_0_2304)))
      (View.ld (Val := Elt Ideal) (e' := .f32) DT (Rect.unit (s := S128x4096) ![0, 2304] ![128, 256] inb_S128x4096_S128x256_0_2304))
      (View.ld (Val := Elt Ideal) (e' := .bf16) WS (Rect.unit (s := S16x128x128) ![9, 0, 0] ![1, 128, 128] inb_S16x128x128_S1x128x128_9_0_0))⟩,
    ⟨Rect.unit (s := S128x4096) ![0, 2048] ![128, 256] inb_S128x4096_S128x256_0_2048,
      k0_pay119
      (k0_pay118
      (View.ld (Val := Elt Ideal) (e' := .f32) X (Rect.unit (s := S3x128x4096) ![0, 0, 2048] ![1, 128, 256] inb_S3x128x4096_S1x128x256_0_0_2048))
      (View.ld (Val := Elt Ideal) (e' := .f32) X (Rect.unit (s := S3x128x4096) ![2, 0, 2048] ![1, 128, 256] inb_S3x128x4096_S1x128x256_2_0_2048))
      (View.ld (Val := Elt Ideal) (e' := .f32) DT (Rect.unit (s := S128x4096) ![0, 2048] ![128, 256] inb_S128x4096_S128x256_0_2048))
      (View.ld (Val := Elt Ideal) (e' := .bf16) WS (Rect.unit (s := S16x128x128) ![8, 0, 0] ![1, 128, 128] inb_S16x128x128_S1x128x128_8_0_0)))⟩,
    ⟨Rect.unit (s := S128x4096) ![0, 1792] ![128, 256] inb_S128x4096_S128x256_0_1792,
      k0_pay106
      (k0_pay99
      (View.ld (Val := Elt Ideal) (e' := .f32) X (Rect.unit (s := S3x128x4096) ![0, 0, 1792] ![1, 128, 256] inb_S3x128x4096_S1x128x256_0_0_1792)))
      (View.ld (Val := Elt Ideal) (e' := .f32) DT (Rect.unit (s := S128x4096) ![0, 1792] ![128, 256] inb_S128x4096_S128x256_0_1792))
      (k0_pay101
      (View.ld (Val := Elt Ideal) (e' := .f32) X (Rect.unit (s := S3x128x4096) ![2, 0, 1792] ![1, 128, 256] inb_S3x128x4096_S1x128x256_2_0_1792)))
      (View.ld (Val := Elt Ideal) (e' := .bf16) WS (Rect.unit (s := S16x128x128) ![7, 0, 0] ![1, 128, 128] inb_S16x128x128_S1x128x128_7_0_0))⟩,
    ⟨Rect.unit (s := S128x4096) ![0, 1536] ![128, 256] inb_S128x4096_S128x256_0_1536,
      k0_pay94
      (k0_pay87
      (View.ld (Val := Elt Ideal) (e' := .f32) X (Rect.unit (s := S3x128x4096) ![0, 0, 1536] ![1, 128, 256] inb_S3x128x4096_S1x128x256_0_0_1536)))
      (View.ld (Val := Elt Ideal) (e' := .f32) DT (Rect.unit (s := S128x4096) ![0, 1536] ![128, 256] inb_S128x4096_S128x256_0_1536))
      (k0_pay89
      (View.ld (Val := Elt Ideal) (e' := .f32) X (Rect.unit (s := S3x128x4096) ![2, 0, 1536] ![1, 128, 256] inb_S3x128x4096_S1x128x256_2_0_1536)))
      (View.ld (Val := Elt Ideal) (e' := .bf16) WS (Rect.unit (s := S16x128x128) ![6, 0, 0] ![1, 128, 128] inb_S16x128x128_S1x128x128_6_0_0))⟩,
    ⟨Rect.unit (s := S128x4096) ![0, 1280] ![128, 256] inb_S128x4096_S128x256_0_1280,
      k0_pay81
      (k0_pay75
      (View.ld (Val := Elt Ideal) (e' := .f32) X (Rect.unit (s := S3x128x4096) ![0, 0, 1280] ![1, 128, 256] inb_S3x128x4096_S1x128x256_0_0_1280)))
      (k0_pay76
      (View.ld (Val := Elt Ideal) (e' := .f32) X (Rect.unit (s := S3x128x4096) ![2, 0, 1280] ![1, 128, 256] inb_S3x128x4096_S1x128x256_2_0_1280)))
      (View.ld (Val := Elt Ideal) (e' := .f32) DT (Rect.unit (s := S128x4096) ![0, 1280] ![128, 256] inb_S128x4096_S128x256_0_1280))
      (View.ld (Val := Elt Ideal) (e' := .bf16) WS (Rect.unit (s := S16x128x128) ![5, 0, 0] ![1, 128, 128] inb_S16x128x128_S1x128x128_5_0_0))⟩,
    ⟨Rect.unit (s := S128x4096) ![0, 1024] ![128, 256] inb_S128x4096_S128x256_0_1024,
      k0_pay70
      (k0_pay69
      (View.ld (Val := Elt Ideal) (e' := .f32) X (Rect.unit (s := S3x128x4096) ![0, 0, 1024] ![1, 128, 256] inb_S3x128x4096_S1x128x256_0_0_1024))
      (View.ld (Val := Elt Ideal) (e' := .f32) X (Rect.unit (s := S3x128x4096) ![2, 0, 1024] ![1, 128, 256] inb_S3x128x4096_S1x128x256_2_0_1024))
      (View.ld (Val := Elt Ideal) (e' := .f32) DT (Rect.unit (s := S128x4096) ![0, 1024] ![128, 256] inb_S128x4096_S128x256_0_1024))
      (View.ld (Val := Elt Ideal) (e' := .bf16) WS (Rect.unit (s := S16x128x128) ![4, 0, 0] ![1, 128, 128] inb_S16x128x128_S1x128x128_4_0_0)))⟩,
    ⟨Rect.unit (s := S128x4096) ![0, 768] ![128, 256] inb_S128x4096_S128x256_0_768,
      k0_pay57
      (k0_pay50
      (View.ld (Val := Elt Ideal) (e' := .f32) X (Rect.unit (s := S3x128x4096) ![0, 0, 768] ![1, 128, 256] inb_S3x128x4096_S1x128x256_0_0_768)))
      (View.ld (Val := Elt Ideal) (e' := .f32) DT (Rect.unit (s := S128x4096) ![0, 768] ![128, 256] inb_S128x4096_S128x256_0_768))
      (k0_pay52
      (View.ld (Val := Elt Ideal) (e' := .f32) X (Rect.unit (s := S3x128x4096) ![2, 0, 768] ![1, 128, 256] inb_S3x128x4096_S1x128x256_2_0_768)))
      (View.ld (Val := Elt Ideal) (e' := .bf16) WS (Rect.unit (s := S16x128x128) ![3, 0, 0] ![1, 128, 128] inb_S16x128x128_S1x128x128_3_0_0))⟩,
    ⟨Rect.unit (s := S128x4096) ![0, 512] ![128, 256] inb_S128x4096_S128x256_0_512,
      k0_pay45
      (k0_pay38
      (View.ld (Val := Elt Ideal) (e' := .f32) X (Rect.unit (s := S3x128x4096) ![0, 0, 512] ![1, 128, 256] inb_S3x128x4096_S1x128x256_0_0_512)))
      (View.ld (Val := Elt Ideal) (e' := .f32) DT (Rect.unit (s := S128x4096) ![0, 512] ![128, 256] inb_S128x4096_S128x256_0_512))
      (k0_pay40
      (View.ld (Val := Elt Ideal) (e' := .f32) X (Rect.unit (s := S3x128x4096) ![2, 0, 512] ![1, 128, 256] inb_S3x128x4096_S1x128x256_2_0_512)))
      (View.ld (Val := Elt Ideal) (e' := .bf16) WS (Rect.unit (s := S16x128x128) ![2, 0, 0] ![1, 128, 128] inb_S16x128x128_S1x128x128_2_0_0))⟩,
    ⟨Rect.unit (s := S128x4096) ![0, 256] ![128, 256] inb_S128x4096_S128x256_0_256,
      k0_pay32
      (k0_pay26
      (View.ld (Val := Elt Ideal) (e' := .f32) X (Rect.unit (s := S3x128x4096) ![0, 0, 256] ![1, 128, 256] inb_S3x128x4096_S1x128x256_0_0_256)))
      (k0_pay27
      (View.ld (Val := Elt Ideal) (e' := .f32) X (Rect.unit (s := S3x128x4096) ![2, 0, 256] ![1, 128, 256] inb_S3x128x4096_S1x128x256_2_0_256)))
      (View.ld (Val := Elt Ideal) (e' := .f32) DT (Rect.unit (s := S128x4096) ![0, 256] ![128, 256] inb_S128x4096_S128x256_0_256))
      (View.ld (Val := Elt Ideal) (e' := .bf16) WS (Rect.unit (s := S16x128x128) ![1, 0, 0] ![1, 128, 128] inb_S16x128x128_S1x128x128_1_0_0))⟩,
    ⟨Rect.unit (s := S128x4096) ![0, 0] ![128, 256] inb_S128x4096_S128x256_0_0,
      k0_pay21
      (k0_pay20
      (View.ld (Val := Elt Ideal) (e' := .f32) X (Rect.unit (s := S3x128x4096) ![0, 0, 0] ![1, 128, 256] inb_S3x128x4096_S1x128x256_0_0_0))
      (View.ld (Val := Elt Ideal) (e' := .f32) X (Rect.unit (s := S3x128x4096) ![2, 0, 0] ![1, 128, 256] inb_S3x128x4096_S1x128x256_2_0_0))
      (View.ld (Val := Elt Ideal) (e' := .f32) DT (Rect.unit (s := S128x4096) ![0, 0] ![128, 256] inb_S128x4096_S128x256_0_0))
      (View.ld (Val := Elt Ideal) (e' := .bf16) WS (Rect.unit (s := S16x128x128) ![0, 0, 0] ![1, 128, 128] inb_S16x128x128_S1x128x128_0_0_0)))⟩]

set_option maxHeartbeats 2000000 in
theorem canon_dvnStores (y : S128x4096.Idx) : View.canon (dvnStores X DT WS) y = dvnE X DT WS y := by
  unfold dvnStores
  canon_tiles x h
  all_goals (open_payloads; pointwise [dvnE, dsE, grp]; blk_point [])

/-- The scratch array read back whole is the normalised rows' cotangent. -/
theorem readCov_dvnStores : (View.whole cc0_scratch0).readCov (dvnStores X DT WS)
    (Rect.unit (s := S128x4096) ![0, 0] ![128, 4096] inb_S128x4096_S128x4096_0_0).toLoadRect = dvnE X DT WS := by
  rw [View.readCov_eq_canon']
  funext y
  refine (canon_dvnStores X DT WS _).trans (congrArg (dvnE X DT WS) (funext fun a => Fin.ext ?_))
  refine (Rect.idx_unit_val _ _ _ y a).trans ?_
  fin_cases a <;> exact Nat.zero_add _

end Cert.KernelIdeal.Body
end
-- ==== Proof.Out6A.lean ====
module

public import proofs.«01_k».proof.Proof.Runs
public import proofs.«01_k».proof.Proof.Scratch

@[expose] public section

set_option maxRecDepth 16384

noncomputable section

namespace Cert.KernelIdeal.Body

open Idealize.ShloMosaic Cert.KernelIdeal Cert.KernelIdeal.Gen

/-!
The gradient of the projected planes: the block the first grid point writes.
-/

variable (c : Dev nD) (t : Fin cfg0.N) (X : FVec Ideal S3x128x4096 .f32) (DT : FVec Ideal S128x4096 .f32)
  (LG LB : FVec Ideal S1x4096 .f32) (WS : FVec Ideal S16x128x128 .bf16) (BS : FVec Ideal S128x16 .f32)

set_option maxHeartbeats 2000000 in
theorem run6A (h : t.val % 32 = 0) (y : S3x128x4096.Idx) :
    (runA c t h X DT LG LB WS BS).1 y = zE X DT LG LB WS BS y := by
  unfold runA
  frame_open
  simp (disch := decide) only [↓ View.readCov_skip, ↓ View.readCov_cons_toLoadRect, ↓ View.readCov_fill]
  frame_out
  clear h
  canon_tiles x h using (View.cover_of_tiledBy _ ![1, 128, 256] (by sl_kernel_rfl) y)
  case piece0 =>
    rw [zE_one X DT LG LB WS BS y (by omega)]
    refine (congrArg (fun D => k0_pay210 (F := Ideal) (k0_pay2 LG) (k0_pay3 (planeV X)) (k0_pay5 (planeV X)) (k0_pay6 (planeV X)) (k0_pay207 D) x)
      (readCov_dvnStores X DT WS)).trans ?_
    unfold z1
    generalize k0_pay210 (F := Ideal) (k0_pay2 LG) (k0_pay3 (planeV X)) (k0_pay5 (planeV X)) (k0_pay6 (planeV X)) (k0_pay207 (dvnE X DT WS)) = D
    blk_ext
  all_goals first
    | (rw [zE_zero X DT LG LB WS BS y (by omega)]; unfold planeV; open_payloads; pointwise [z0, svE, grp]; blk_point [])
    | (rw [zE_two X DT LG LB WS BS y (by omega)]; unfold planeV; open_payloads; pointwise [z2, svE, grp]; blk_point [])

end Cert.KernelIdeal.Body
end
-- ==== Proof.Out6B.lean ====
module

public import proofs.«01_k».proof.Proof.Runs
public import proofs.«01_k».proof.Proof.Scratch

@[expose] public section

set_option maxRecDepth 16384

noncomputable section

namespace Cert.KernelIdeal.Body

open Idealize.ShloMosaic Cert.KernelIdeal Cert.KernelIdeal.Gen

/-!
The gradient of the projected planes: the block a later grid point writes.
-/

variable (c : Dev nD) (t : Fin cfg0.N) (X : FVec Ideal S3x128x4096 .f32) (DT : FVec Ideal S128x4096 .f32)
  (LG LB : FVec Ideal S1x4096 .f32) (WS : FVec Ideal S16x128x128 .bf16) (BS : FVec Ideal S128x16 .f32)
  (Q7 Q8 : FVec Ideal S1x4096 .f32) (Q9 : FVec Ideal S16x128x128 .f32) (Q10 : FVec Ideal S128x16 .f32)

set_option maxHeartbeats 2000000 in
theorem run6B (h : ¬t.val % 32 = 0) (y : S3x128x4096.Idx) :
    (runB c t h X DT LG LB WS BS Q7 Q8 Q9 Q10).1 y = zE X DT LG LB WS BS y := by
  unfold runB
  frame_open
  simp (disch := decide) only [↓ View.readCov_skip, ↓ View.readCov_cons_toLoadRect, ↓ View.readCov_fill]
  frame_out
  clear h
  canon_tiles x h using (View.cover_of_tiledBy _ ![1, 128, 256] (by sl_kernel_rfl) y)
  case piece0 =>
    rw [zE_one X DT LG LB WS BS y (by omega)]
    refine (congrArg (fun D => k0_pay210 (F := Ideal) (k0_pay2 LG) (k0_pay3 (planeV X)) (k0_pay5 (planeV X)) (k0_pay6 (planeV X)) (k0_pay207 D) x)
      (readCov_dvnStores X DT WS)).trans ?_
    unfold z1
    generalize k0_pay210 (F := Ideal) (k0_pay2 LG) (k0_pay3 (planeV X)) (k0_pay5 (planeV X)) (k0_pay6 (planeV X)) (k0_pay207 (dvnE X DT WS)) = D
    blk_ext
  all_goals first
    | (rw [zE_zero X DT LG LB WS BS y (by omega)]; unfold planeV; open_payloads; pointwise [z0, svE, grp]; blk_point [])
    | (rw [zE_two X DT LG LB WS BS y (by omega)]; unfold planeV; open_payloads; pointwise [z2, svE, grp]; blk_point [])

end Cert.KernelIdeal.Body
end
-- ==== Proof.Out78.lean ====
module

public import proofs.«01_k».proof.Proof.Runs
public import proofs.«01_k».proof.Proof.Scratch

@[expose] public section

set_option maxRecDepth 16384

noncomputable section

namespace Cert.KernelIdeal.Body

open Idealize.ShloMosaic Cert.KernelIdeal Cert.KernelIdeal.Gen

/-!
The gradients of the norm's gain and offset: what a grid point leaves in their accumulated blocks.
-/

theorem add7 (X : FVec Ideal S3x128x4096 .f32) (DT : FVec Ideal S128x4096 .f32) (WS : FVec Ideal S16x128x128 .bf16)
    (Q : FVec Ideal S1x4096 .f32) (y : S1x4096.Idx) :
    k0_pay212 (F := Ideal) (k0_pay209 (k0_pay7 (F := Ideal) (planeV X)) (dvnE X DT WS)) Q y = Q y + t7 X DT WS y := by
  unfold t7
  generalize k0_pay7 (F := Ideal) (planeV X) = H
  generalize dvnE X DT WS = D
  pointwise [k0_pay212, k0_pay209, k0_pay207]

theorem add8 (X : FVec Ideal S3x128x4096 .f32) (DT : FVec Ideal S128x4096 .f32) (WS : FVec Ideal S16x128x128 .bf16)
    (Q : FVec Ideal S1x4096 .f32) (y : S1x4096.Idx) :
    k0_pay1 (F := Ideal) (k0_pay208 (dvnE X DT WS)) Q y = Q y + t8 X DT WS y := by
  unfold t8
  generalize dvnE X DT WS = D
  pointwise [k0_pay1, k0_pay208]

theorem add7Z (X : FVec Ideal S3x128x4096 .f32) (DT : FVec Ideal S128x4096 .f32) (WS : FVec Ideal S16x128x128 .bf16)
    (y : S1x4096.Idx) :
    k0_pay212 (F := Ideal) (k0_pay209 (k0_pay7 (F := Ideal) (planeV X)) (dvnE X DT WS)) (k0_pay211 (F := Ideal)) y = 0 + t7 X DT WS y := by
  rw [add7]; congr 1; pointwise [k0_pay211]

theorem add8Z (X : FVec Ideal S3x128x4096 .f32) (DT : FVec Ideal S128x4096 .f32) (WS : FVec Ideal S16x128x128 .bf16)
    (y : S1x4096.Idx) :
    k0_pay1 (F := Ideal) (k0_pay208 (dvnE X DT WS)) (k0_pay213 (F := Ideal)) y = 0 + t8 X DT WS y := by
  rw [add8]; congr 1; pointwise [k0_pay213]

variable (c : Dev nD) (t : Fin cfg0.N) (X : FVec Ideal S3x128x4096 .f32) (DT : FVec Ideal S128x4096 .f32)
  (LG LB : FVec Ideal S1x4096 .f32) (WS : FVec Ideal S16x128x128 .bf16) (BS : FVec Ideal S128x16 .f32)
  (Q7 Q8 : FVec Ideal S1x4096 .f32) (Q9 : FVec Ideal S16x128x128 .f32) (Q10 : FVec Ideal S128x16 .f32)

set_option maxHeartbeats 2000000 in
theorem run7A (h : t.val % 32 = 0) (y : S1x4096.Idx) :
    (runA c t h X DT LG LB WS BS).2.1 y = 0 + t7 X DT WS y := by
  unfold runA
  frame_open
  simp (disch := decide) only [↓ View.readCov_skip, ↓ View.readCov_cons_toLoadRect, ↓ View.readCov_fill]
  frame_out
  refine (congrArg (fun D => k0_pay212 (F := Ideal) (k0_pay209 (k0_pay7 (F := Ideal) (planeV X)) D) (k0_pay211 (F := Ideal)) y) (readCov_dvnStores X DT WS)).trans ?_
  exact add7Z X DT WS y

set_option maxHeartbeats 2000000 in
theorem run7B (h : ¬t.val % 32 = 0) (y : S1x4096.Idx) :
    (runB c t h X DT LG LB WS BS Q7 Q8 Q9 Q10).2.1 y = Q7 y + t7 X DT WS y := by
  unfold runB
  frame_open
  simp (disch := decide) only [↓ View.readCov_skip, ↓ View.readCov_cons_toLoadRect, ↓ View.readCov_fill]
  frame_out
  refine (congrArg (fun D => k0_pay212 (F := Ideal) (k0_pay209 (k0_pay7 (F := Ideal) (planeV X)) D) Q7 y) (readCov_dvnStores X DT WS)).trans ?_
  exact add7 X DT WS Q7 y

set_option maxHeartbeats 2000000 in
theorem run8A (h : t.val % 32 = 0) (y : S1x4096.Idx) :
    (runA c t h X DT LG LB WS BS).2.2.1 y = 0 + t8 X DT WS y := by
  unfold runA
  frame_open
  simp (disch := decide) only [↓ View.readCov_skip, ↓ View.readCov_cons_toLoadRect, ↓ View.readCov_fill]
  frame_out
  refine (congrArg (fun D => k0_pay1 (F := Ideal) (k0_pay208 D) (k0_pay213 (F := Ideal)) y) (readCov_dvnStores X DT WS)).trans ?_
  exact add8Z X DT WS y

set_option maxHeartbeats 2000000 in
theorem run8B (h : ¬t.val % 32 = 0) (y : S1x4096.Idx) :
    (runB c t h X DT LG LB WS BS Q7 Q8 Q9 Q10).2.2.1 y = Q8 y + t8 X DT WS y := by
  unfold runB
  frame_open
  simp (disch := decide) only [↓ View.readCov_skip, ↓ View.readCov_cons_toLoadRect, ↓ View.readCov_fill]
  frame_out
  refine (congrArg (fun D => k0_pay1 (F := Ideal) (k0_pay208 D) Q8 y) (readCov_dvnStores X DT WS)).trans ?_
  exact add8 X DT WS Q8 y

end Cert.KernelIdeal.Body
end
-- ==== Proof.Out9A.lean ====
module

public import proofs.«01_k».proof.Proof.Runs

@[expose] public section

set_option maxRecDepth 16384

noncomputable section

namespace Cert.KernelIdeal.Body

open Idealize.ShloMosaic Cert.KernelIdeal Cert.KernelIdeal.Gen

/-!
The gradient of the spatial weights: what the first grid point leaves in its accumulated block.
-/

variable (c : Dev nD) (t : Fin cfg0.N) (X : FVec Ideal S3x128x4096 .f32) (DT : FVec Ideal S128x4096 .f32)
  (LG LB : FVec Ideal S1x4096 .f32) (WS : FVec Ideal S16x128x128 .bf16) (BS : FVec Ideal S128x16 .f32)

set_option maxHeartbeats 2000000 in
/-- The first point leaves its part over a zero fill. -/
theorem run9A (h : t.val % 32 = 0) (y : S16x128x128.Idx) :
    (runA c t h X DT LG LB WS BS).2.2.2.1 y = 0 + t9 X DT (k0_pay8 (planeV X) LG LB) y := by
  unfold runA
  frame_open
  simp (disch := decide) only [↓ View.readCov_skip, ↓ View.readCov_cons_toLoadRect, ↓ View.readCov_fill]
  frame_out
  unfold planeV
  refine (canon_append_of_cover [_] [_, _, _, _, _, _, _, _, _, _, _, _, _, _, _, _] y (View.cover_of_tiledL _ ![1, 128, 128] (by rfl) y)).trans ?_
  clear h
  canon_tiles x h
  all_goals (open_payloads; pointwise [t9, dsE, lane, k0_pay9]; blk_point [])

end Cert.KernelIdeal.Body
end
-- ==== Proof.Out9B.lean ====
module

public import proofs.«01_k».proof.Proof.Runs

@[expose] public section

set_option maxRecDepth 16384

noncomputable section

namespace Cert.KernelIdeal.Body

open Idealize.ShloMosaic Cert.KernelIdeal Cert.KernelIdeal.Gen

/-!
The gradient of the spatial weights: what a later grid point leaves in its accumulated block.
-/

variable (c : Dev nD) (t : Fin cfg0.N) (X : FVec Ideal S3x128x4096 .f32) (DT : FVec Ideal S128x4096 .f32)
  (LG LB : FVec Ideal S1x4096 .f32) (WS : FVec Ideal S16x128x128 .bf16) (BS : FVec Ideal S128x16 .f32)
  (Q7 Q8 : FVec Ideal S1x4096 .f32) (Q9 : FVec Ideal S16x128x128 .f32) (Q10 : FVec Ideal S128x16 .f32)

set_option maxHeartbeats 2000000 in
/-- A later point adds its part to what the point before it left. -/
theorem run9B (h : ¬t.val % 32 = 0) (y : S16x128x128.Idx) :
    (runB c t h X DT LG LB WS BS Q7 Q8 Q9 Q10).2.2.2.1 y = Q9 y + t9 X DT (k0_pay8 (planeV X) LG LB) y := by
  unfold runB
  frame_open
  simp (disch := decide) only [↓ View.readCov_skip, ↓ View.readCov_cons_toLoadRect, ↓ View.readCov_fill]
  frame_out
  unfold planeV
  clear h
  canon_tiles x h
  all_goals (open_payloads; pointwise [t9, dsE, lane]; blk_point [])

end Cert.KernelIdeal.Body
end
-- ==== Proof.Out10A.lean ====
module

public import proofs.«01_k».proof.Proof.Runs

@[expose] public section

set_option maxRecDepth 16384

noncomputable section

namespace Cert.KernelIdeal.Body

open Idealize.ShloMosaic Cert.KernelIdeal Cert.KernelIdeal.Gen

/-!
The gradient of the spatial biases: what the first grid point leaves in its accumulated block.
-/

variable (c : Dev nD) (t : Fin cfg0.N) (X : FVec Ideal S3x128x4096 .f32) (DT : FVec Ideal S128x4096 .f32)
  (LG LB : FVec Ideal S1x4096 .f32) (WS : FVec Ideal S16x128x128 .bf16) (BS : FVec Ideal S128x16 .f32)

set_option maxHeartbeats 2000000 in
/-- The first point leaves its part over a zero fill. -/
theorem run10A (h : t.val % 32 = 0) (y : S128x16.Idx) :
    (runA c t h X DT LG LB WS BS).2.2.2.2 y = 0 + t10 X DT y := by
  unfold runA
  frame_open
  simp (disch := decide) only [↓ View.readCov_skip, ↓ View.readCov_cons_toLoadRect, ↓ View.readCov_fill]
  frame_out
  refine (canon_append_of_cover [_] [_, _, _, _, _, _, _, _, _, _, _, _, _, _, _, _] y (View.cover_of_tiledL _ ![128, 1] (by rfl) y)).trans ?_
  clear h
  canon_tiles x h
  all_goals (open_payloads; pointwise [t10, dsE, lane, k0_pay10]; blk_point [])

end Cert.KernelIdeal.Body
end
-- ==== Proof.Out10B.lean ====
module

public import proofs.«01_k».proof.Proof.Runs

@[expose] public section

set_option maxRecDepth 16384

noncomputable section

namespace Cert.KernelIdeal.Body

open Idealize.ShloMosaic Cert.KernelIdeal Cert.KernelIdeal.Gen

/-!
The gradient of the spatial biases: what a later grid point leaves in its accumulated block.
-/

variable (c : Dev nD) (t : Fin cfg0.N) (X : FVec Ideal S3x128x4096 .f32) (DT : FVec Ideal S128x4096 .f32)
  (LG LB : FVec Ideal S1x4096 .f32) (WS : FVec Ideal S16x128x128 .bf16) (BS : FVec Ideal S128x16 .f32)
  (Q7 Q8 : FVec Ideal S1x4096 .f32) (Q9 : FVec Ideal S16x128x128 .f32) (Q10 : FVec Ideal S128x16 .f32)

set_option maxHeartbeats 2000000 in
/-- A later point adds its part to what the point before it left. -/
theorem run10B (h : ¬t.val % 32 = 0) (y : S128x16.Idx) :
    (runB c t h X DT LG LB WS BS Q7 Q8 Q9 Q10).2.2.2.2 y = Q10 y + t10 X DT y := by
  unfold runB
  frame_open
  simp (disch := decide) only [↓ View.readCov_skip, ↓ View.readCov_cons_toLoadRect, ↓ View.readCov_fill]
  frame_out
  clear h
  canon_tiles x h
  all_goals (open_payloads; pointwise [t10, dsE, lane]; blk_point [])

end Cert.KernelIdeal.Body
end
-- ==== Proof.Points.lean ====
module

public import proofs.«01_k».proof.Proof.Ker
public import proofs.«01_k».proof.Proof.Out6A
public import proofs.«01_k».proof.Proof.Out6B
public import proofs.«01_k».proof.Proof.Out78
public import proofs.«01_k».proof.Proof.Out9A
public import proofs.«01_k».proof.Proof.Out9B
public import proofs.«01_k».proof.Proof.Out10A
public import proofs.«01_k».proof.Proof.Out10B

@[expose] public section

set_option maxRecDepth 16384

noncomputable section

namespace Cert.KernelIdeal.Body

open Idealize.ShloMosaic Cert.KernelIdeal Cert.KernelIdeal.Gen
open Cert.Gate (Chunked Planes Plane Lanes Weights Biases)

/-!
A run of the body over any whole number of chunks: what its points leave, as functions of the arguments.
-/

/-- What a point leaves in the five outputs' blocks. -/
abbrev Left := Vec Ideal S3x128x4096 .bf16 × Vec Ideal S1x4096 .f32 × Vec Ideal S1x4096 .f32 × Vec Ideal S16x128x128 .f32 ×
  Vec Ideal S128x16 .f32

variable {N : Nat} [hN : Chunked N] {M : Nat}

/-- The chunk of a point. -/
abbrev ch (hM : M = N / 128) (t : Fin M) : Fin (N / 128) := ⟨t.val, t.isLt.trans_eq hM⟩

/-- The points run the body over the arguments' chunks: the first one resets the accumulated blocks, each later one adds to what
the one before it left. -/
structure Points (hM : M = N / 128) (J : Nat) (o : (n : Nat) → n < M → Left) (X : Planes N) (D : Plane N) (G B : Lanes)
    (W : Weights) (C : Biases) : Prop where
  le : M ≤ J
  first : ∀ t : Fin M, t.val % J = 0 → ∃ c t' h, o t.val t.isLt
    = runA c t' h (xBlk X (ch hM t)) (dBlk D (ch hM t)) (vBlk G) (vBlk B) W (bBlk C)
  later : ∀ t : Fin M, ¬t.val % J = 0 → ∃ c t' h, o t.val t.isLt
    = runB c t' h (xBlk X (ch hM t)) (dBlk D (ch hM t)) (vBlk G) (vBlk B) W (bBlk C)
        (o (t.val - 1) (by omega)).2.1 (o (t.val - 1) (by omega)).2.2.1 (o (t.val - 1) (by omega)).2.2.2.1
        (o (t.val - 1) (by omega)).2.2.2.2

variable {hM : M = N / 128} {J : Nat} {o : (n : Nat) → n < M → Left} {X : Planes N} {D : Plane N} {G B : Lanes}
  {W : Weights} {C : Biases}

namespace Points

theorem left6 (p : Points hM J o X D G B W C) (t : Fin M) (y : S3x128x4096.Idx) :
    (o t.val t.isLt).1 y = g6 X D G B W C (ix3 (y 0) (Gate.row (ch hM t) (y 1)) (y 2)) := by
  refine Eq.trans ?_ (g6_row X D G B W C (y 0) (ch hM t) (y 1) (y 2)).symm
  refine Eq.trans ?_ (congrArg _ (eq_ix3 y))
  by_cases k : t.val % J = 0
  · obtain ⟨c, t', h, e⟩ := p.first t k
    rw [e, run6A]
  · obtain ⟨c, t', h, e⟩ := p.later t k
    rw [e, run6B]

theorem left7 (p : Points hM J o X D G B W C) (t : Fin M) (ht : t.val + 1 = M) :
    (o t.val t.isLt).2.1 = g7 X D W := funext fun y =>
  (Pipeline.eq_sum_fin_of_reset_step_apply_last (fun n h => (o n h).2.1) J (fun _ => (0 : EReal))
    (fun p => t7 (xBlk X (ch hM p)) (dBlk D (ch hM p)) W)
    (fun t k i => by obtain ⟨c, t', h, e⟩ := p.first t k; rw [e, run7A])
    (fun t k i => by obtain ⟨c, t', h, e⟩ := p.later t k; rw [e, run7B]) p.le t ht y).trans
    (congrArg (fun s : EReal => 0 + s) (sum_points hM fun p => t7 (xBlk X p) (dBlk D p) W y))

theorem left8 (p : Points hM J o X D G B W C) (t : Fin M) (ht : t.val + 1 = M) :
    (o t.val t.isLt).2.2.1 = g8 X D W := funext fun y =>
  (Pipeline.eq_sum_fin_of_reset_step_apply_last (fun n h => (o n h).2.2.1) J (fun _ => (0 : EReal))
    (fun p => t8 (xBlk X (ch hM p)) (dBlk D (ch hM p)) W)
    (fun t k i => by obtain ⟨c, t', h, e⟩ := p.first t k; rw [e, run8A])
    (fun t k i => by obtain ⟨c, t', h, e⟩ := p.later t k; rw [e, run8B]) p.le t ht y).trans
    (congrArg (fun s : EReal => 0 + s) (sum_points hM fun p => t8 (xBlk X p) (dBlk D p) W y))

theorem left9 (p : Points hM J o X D G B W C) (t : Fin M) (ht : t.val + 1 = M) :
    (o t.val t.isLt).2.2.2.1 = g9 X D G B := funext fun y =>
  (Pipeline.eq_sum_fin_of_reset_step_apply_last (fun n h => (o n h).2.2.2.1) J (fun _ => (0 : EReal))
    (fun p => t9 (xBlk X (ch hM p)) (dBlk D (ch hM p)) (vnE X G B (ch hM p)))
    (fun t k i => by obtain ⟨c, t', h, e⟩ := p.first t k; rw [e, run9A]; rfl)
    (fun t k i => by obtain ⟨c, t', h, e⟩ := p.later t k; rw [e, run9B]; rfl) p.le t ht y).trans
    (congrArg (fun s : EReal => 0 + s) (sum_points hM fun p => t9 (xBlk X p) (dBlk D p) (vnE X G B p) y))

theorem left10 (p : Points hM J o X D G B W C) (t : Fin M) (ht : t.val + 1 = M) :
    (o t.val t.isLt).2.2.2.2 = g10 X D := funext fun y =>
  (Pipeline.eq_sum_fin_of_reset_step_apply_last (fun n h => (o n h).2.2.2.2) J (fun _ => (0 : EReal))
    (fun p => t10 (xBlk X (ch hM p)) (dBlk D (ch hM p)))
    (fun t k i => by obtain ⟨c, t', h, e⟩ := p.first t k; rw [e, run10A])
    (fun t k i => by obtain ⟨c, t', h, e⟩ := p.later t k; rw [e, run10B]) p.le t ht y).trans
    (congrArg (fun s : EReal => 0 + s) (sum_points hM fun p => t10 (xBlk X p) (dBlk D p) y))

end Points

end Cert.KernelIdeal.Body
end
-- ==== Proof.Blocks.lean ====
module

public import proofs.«01_k».proof.Proof.Points
public import Idealize.ShloMosaic.Lib.Claim

@[expose] public section

set_option maxRecDepth 16384

noncomputable section

namespace Cert.KernelIdeal.Body

open Idealize.ShloMosaic Cert.KernelIdeal Cert.KernelIdeal.Gen
open Idealize.ShloMosaic.TcCoe Idealize.SL.Sem

/-!
The blocks of a grid point as functions of the kernel's arguments.
-/

variable (m : (ℓ : Loc nD τ sig) → Buf (Elt Ideal) ℓ)

/-- The argument `z3`. -/
abbrev A0 (c : Dev nD) : FVec Ideal S3x4096x4096 .f32 := m ((c : Thread nD τ).loc main_arg0)
/-- The argument `dt`. -/
abbrev A1 (c : Dev nD) : FVec Ideal S4096x4096 .f32 := m ((c : Thread nD τ).loc main_arg1)
/-- The argument `ln_g`. -/
abbrev A2 (c : Dev nD) : FVec Ideal S4096 .f32 := m ((c : Thread nD τ).loc main_arg2)
/-- The argument `ln_b`. -/
abbrev A3 (c : Dev nD) : FVec Ideal S4096 .f32 := m ((c : Thread nD τ).loc main_arg3)
/-- The argument `w_s`. -/
abbrev A4 (c : Dev nD) : FVec Ideal S16x128x128 .f32 := m ((c : Thread nD τ).loc main_arg4)
/-- The argument `b_s`. -/
abbrev A5 (c : Dev nD) : FVec Ideal S16x128 .f32 := m ((c : Thread nD τ).loc main_arg5)

/-- One point per chunk. -/
theorem points_eq : cfg0.N = 4096 / 128 := N_0

theorem idx : ∀ t : Fin cfg0.N, win0_0.index t = ![0, t.val, 0] ∧ win0_1.index t = ![t.val, 0] ∧ win0_2.index t = ![0, 0] ∧
    win0_3.index t = ![0, 0] ∧ win0_4.index t = ![0, 0, 0] ∧ win0_5.index t = ![0, 0] ∧ win0_6.index t = ![0, t.val, 0] :=
  (by decide +kernel : ∀ t : Fin grid0.N, _)

theorem iblk0 (c : Dev nD) (t : Fin cfg0.N) : iblk m c 0 t = xBlk (A0 m c) (ch points_eq t) := by
  funext y
  idx_vars y
  unfold xBlk
  blk_ext [iblk, V, idx t, Gate.row, ch]

theorem iblk1 (c : Dev nD) (t : Fin cfg0.N) : iblk m c 1 t = dBlk (A1 m c) (ch points_eq t) := by
  funext y
  unfold dBlk
  blk_ext [iblk, V, idx t, Gate.row, ch]

theorem iblk2 (c : Dev nD) (t : Fin cfg0.N) : iblk m c 2 t = vBlk (A2 m c) := by
  funext y
  unfold iblk
  entry_read
  unfold A2 vBlk
  show View.read _ _ _ _ = (m (c, Proc.tc.devRef main_arg2)) _
  generalize m (c, Proc.tc.devRef main_arg2) = A
  blk_simp [idx t]
  pointwise
  blk_ext [idx t]

theorem iblk3 (c : Dev nD) (t : Fin cfg0.N) : iblk m c 3 t = vBlk (A3 m c) := by
  funext y
  unfold iblk
  entry_read
  unfold A3 vBlk
  show View.read _ _ _ _ = (m (c, Proc.tc.devRef main_arg3)) _
  generalize m (c, Proc.tc.devRef main_arg3) = A
  blk_simp [idx t]
  pointwise
  blk_ext [idx t]

theorem iblk4 (c : Dev nD) (t : Fin cfg0.N) : iblk m c 4 t = (A4 m c) := by
  funext y
  unfold iblk
  entry_read
  blk_simp [idx t]
  pointwise
  blk_ext [idx t]

theorem iblk5 (c : Dev nD) (t : Fin cfg0.N) : iblk m c 5 t = bBlk (A5 m c) := by
  funext y
  unfold iblk
  entry_read
  unfold A5 bBlk
  show View.read _ _ _ _ = (m (c, Proc.tc.devRef main_arg5)) _
  generalize m (c, Proc.tc.devRef main_arg5) = A
  blk_simp [idx t]
  pointwise
  blk_ext [idx t]

end Cert.KernelIdeal.Body
end
-- ==== Proof.Arrays.lean ====
module

public import proofs.«01_k».proof.Proof.Blocks

@[expose] public section

set_option maxRecDepth 16384

noncomputable section

namespace Cert.KernelIdeal.Body

open Idealize.ShloMosaic Cert.KernelIdeal Cert.KernelIdeal.Gen
open Idealize.ShloMosaic.TcCoe Idealize.SL.Sem

/-!
The five output arrays after the run, as functions of the kernel's arguments: the planes' gradient row block by row block,
the four other gradients as sums over the grid points.
-/

variable (m : (ℓ : Loc nD τ sig) → Buf (Elt Ideal) ℓ)

theorem points (c : Dev nD) : Points points_eq 32 (outsAt0 m c) (A0 m c) (A1 m c) (A2 m c) (A3 m c) (A4 m c) (A5 m c) where
  le := le_of_eq N_0
  first t h := ⟨c, t, h, by rw [outs_A m c t h, iblk0, iblk1, iblk2, iblk3, iblk4, iblk5]⟩
  later t h := ⟨c, t, h, by rw [outs_B m c t h, iblk0, iblk1, iblk2, iblk3, iblk4, iblk5]⟩

theorem arr6 (c : Dev nD) :
    (dats m 0 c).arrAt 6 cfg0.N = g6 (A0 m c) (A1 m c) (A2 m c) (A3 m c) (A4 m c) (A5 m c) := by
  refine (dats m 0 c).arrAt_eq_of_covers 6 _ (by decide +kernel) fun t hf y => ?_
  have key := (points m c).left6 t
  rw [after0_6]
  generalize (outsAt0 m c t.val t.isLt).1 = Q at key
  refine (key ((cfg0.win 6).xinj (cfg0.grid.coords t) y)).trans (congrArg (g6 (A0 m c) (A1 m c) (A2 m c) (A3 m c) (A4 m c) (A5 m c)) ?_)
  symm
  blk_ext [idx t, Gate.row]

theorem arr7 (c : Dev nD) : (dats m 0 c).arrAt 7 cfg0.N = g7 (A0 m c) (A1 m c) (A4 m c) := by
  refine (dats m 0 c).arrAt_eq_of_after_last 7 ⟨31, by decide⟩ (by decide +kernel) _ fun j => ?_
  rw [after0_7, (points m c).left7 ⟨31, by decide⟩ rfl]
  exact congrArg (g7 (A0 m c) (A1 m c) (A4 m c) : S1x4096.Idx → EReal) (funext fun a => by fin_cases a <;> rfl)

theorem arr8 (c : Dev nD) : (dats m 0 c).arrAt 8 cfg0.N = g8 (A0 m c) (A1 m c) (A4 m c) := by
  refine (dats m 0 c).arrAt_eq_of_after_last 8 ⟨31, by decide⟩ (by decide +kernel) _ fun j => ?_
  rw [after0_8, (points m c).left8 ⟨31, by decide⟩ rfl]
  exact congrArg (g8 (A0 m c) (A1 m c) (A4 m c) : S1x4096.Idx → EReal) (funext fun a => by fin_cases a <;> rfl)

theorem arr9 (c : Dev nD) : (dats m 0 c).arrAt 9 cfg0.N = g9 (A0 m c) (A1 m c) (A2 m c) (A3 m c) := by
  refine (dats m 0 c).arrAt_eq_of_after_last 9 ⟨31, by decide⟩ (by decide +kernel) _ fun j => ?_
  rw [after0_9, (points m c).left9 ⟨31, by decide⟩ rfl]
  exact congrArg (g9 (A0 m c) (A1 m c) (A2 m c) (A3 m c) : S16x128x128.Idx → EReal) (funext fun a => by fin_cases a <;> rfl)

theorem arr10 (c : Dev nD) : (dats m 0 c).arrAt 10 cfg0.N = g10 (A0 m c) (A1 m c) := by
  refine (dats m 0 c).arrAt_eq_of_after_last 10 ⟨31, by decide⟩ (by decide +kernel) _ fun j => ?_
  rw [after0_10, (points m c).left10 ⟨31, by decide⟩ rfl]
  exact congrArg (g10 (A0 m c) (A1 m c) : S128x16.Idx → EReal) (funext fun a => by fin_cases a <;> rfl)

end Cert.KernelIdeal.Body
end
-- ==== Proof.Claims.lean ====
module

public import proofs.«01_k».proof.Defs
public import proofs.«01_k».proof.Proof.Pre
public import proofs.«01_k».proof.Proof.Values
public import proofs.«01_k».proof.Proof.Ref
public import proofs.«01_k».proof.Proof.Arrays
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import Idealize.ShloMosaic.Adequacy
public import Idealize.ShloMosaic.Init

@[expose] public section

set_option maxRecDepth 16384

noncomputable section

namespace Cert.Proof.GateClaims

open Idealize.ShloMosaic Idealize.SL.Sem Cert.Gate Cert.KernelIdeal.Body Cert.ReferenceIdeal.Body

/-!
The claims of the gating unit's backward call.
-/

instance : Cert.Pre_finite.Facts := Cert.Pre_finite.Body.facts

theorem frame_p : Cert.quiescent_Kernel := fun m ρ _ => Cert.Kernel.Gen.frame m ρ
theorem frame_pi : Cert.quiescent_KernelIdeal := fun m ρ _ => Cert.KernelIdeal.Gen.frame m ρ
theorem frame_pi_pre : Cert.quiescent_KernelIdeal_pre_finite := fun m ρ _ => Cert.KernelIdeal.Gen.frame m ρ
theorem frame_ri : Cert.quiescent_ReferenceIdeal := fun m ρ _ =>
  (θ_run Cert.ReferenceIdeal.defs _ _).mono (fun r h => ⟨fun c => (h c).2.2.2.2.2, sem_eq_zero_of_no_sems (by decide) r.2⟩)
    (Cert.ReferenceIdeal.Value.run (F := Ideal) m ρ)
theorem frame_ri_pre : Cert.quiescent_ReferenceIdeal_pre_finite := fun m ρ _ => frame_ri m ρ trivial

/-- The precondition, as the values' lemma reads it. -/
theorem finite {m : (ℓ : Loc Cert.KernelIdeal.nD Cert.KernelIdeal.τ Cert.KernelIdeal.sig) → Buf (Elt Ideal) ℓ}
    (h : Cert.Pre_KernelIdeal_finite m) (c : Dev Cert.KernelIdeal.nD) :
    Finite (A0 m c) (A1 m c) (A2 m c) (A3 m c) (A4 m c) (A5 m c) where
  X := Cert.Pre_finite.Body.real_of_cmp _ _ (h c).1
  D := Cert.Pre_finite.Body.real_of_cmp _ _ (h c).2.1
  G := Cert.Pre_finite.Body.real_of_cmp _ _ (h c).2.2.1
  B := Cert.Pre_finite.Body.real_of_cmp _ _ (h c).2.2.2.1
  W := Cert.Pre_finite.Body.real_of_cmp _ _ (h c).2.2.2.2.1
  C := Cert.Pre_finite.Body.real_of_cmp _ _ (h c).2.2.2.2.2

theorem algebraic : Cert.algebraic_KernelIdeal_ReferenceIdeal_pre_finite := by
  intro m ρ m' ρ' hp ha
  refine ⟨fun c => g6 (A0 m c) (A1 m c) (A2 m c) (A3 m c) (A4 m c) (A5 m c), fun c => g7 (A0 m c) (A1 m c) (A4 m c),
    fun c => g8 (A0 m c) (A1 m c) (A4 m c), fun c => g9 (A0 m c) (A1 m c) (A2 m c) (A3 m c), fun c => g10 (A0 m c) (A1 m c), ?_, ?_⟩
  · exact (θ_run Cert.KernelIdeal.defs _ _).mono (fun r h c =>
      ⟨(h c).1.trans (arr6 m c), (h c).2.1.trans (arr7 m c), (h c).2.2.1.trans (arr8 m c),
        (h c).2.2.2.1.trans (arr9 m c), (h c).2.2.2.2.1.trans (arr10 m c), (h c).2.2.2.2.2⟩)
      (Cert.KernelIdeal.Value.run_blocks m ρ)
  · refine (θ_run Cert.ReferenceIdeal.defs _ _).mono (fun r h c => ?_) (Cert.ReferenceIdeal.Value.run (F := Ideal) m' ρ')
    obtain ⟨h1, h2, h3, h4, h5, h6⟩ := h c
    obtain ⟨e0, e1, e2, e3, e4, e5⟩ := ha c
    refine ⟨h1.trans ((Cert.ReferenceIdeal.Read.val_main_v105_eq m' c).trans ?_),
      h2.trans ((Cert.ReferenceIdeal.Read.val_main_v106_eq _ _ _).trans ?_),
      h3.trans ((Cert.ReferenceIdeal.Read.val_main_v107_eq _ _ _).trans ?_),
      h4.trans ((Cert.ReferenceIdeal.Read.val_main_v60_eq _ _ _ _).trans ?_),
      h5.trans ((Cert.ReferenceIdeal.Read.val_main_v108_eq _ _).trans ?_), h6⟩
    · rw [e0, e1, e2, e3, e4, e5]
      exact Cert.Values.dz_eq (finite hp c) (r105_0 _ _ _ _ _ _) (r105_1 _ _ _ _ _ _) (r105_2 _ _ _ _ _ _)
    · rw [e0, e1, e4]
      exact Cert.Values.dgam_eq (r106 _ _ _)
    · rw [e0, e1, e4]
      exact Cert.Values.dbeta_eq (r107 _ _ _)
    · rw [e0, e1, e2, e3]
      exact Cert.Values.dw_eq (r60 _ _ _ _)
    · rw [e0, e1]
      exact Cert.Values.db_eq (r108 _ _)

end Cert.Proof.GateClaims

end
-- ==== Proof.Attn.lean ====
module

public import proofs.«01_k».proof.Proof.Real
public import Mathlib.Analysis.SpecialFunctions.Pow.Real
public import Mathlib.Tactic.FieldSimp

@[expose] public section

set_option maxRecDepth 16384

noncomputable section

namespace Cert.Attn

open Idealize.ShloMosaic Cert.Gate

/-!
The mathematics of one row of attention and of its gradient. `f` is the row of scores before scaling, `v` a lane of the
values, `h` the row of the cotangent's products with the values. First as the two programs write them over the extended
reals, then the real numbers they are at real arguments.
-/

/-- One over the root of the head's width. -/
def kS : ℝ := (Real.sqrt 128)⁻¹
/-- The logarithm of `e` to base two. -/
def kL : ℝ := (Real.log 2)⁻¹
/-- Minus infinity as the programs write it. -/
abbrev kBot : EReal := Ideal.ofBits .f32 0xFF800000#32
/-- The width of a head as the reference writes it. -/
abbrev kD : EReal := Ideal.ofBits .f32 0x43000000#32

section Row

variable {n : Nat} (f h v : Fin n → EReal) (e : EReal)

/-- The greatest score. -/
def mx : EReal := Finset.univ.fold max kBot f
/-- The forward kernel's weights before normalisation. -/
def fp (j : Fin n) : EReal := Ideal.exp2 ((f j - mx f) * ((kS * kL : ℝ) : EReal))
/-- Their sum. -/
def fl : EReal := ∑ j, fp f j
/-- The forward kernel's output. -/
def fo : EReal := ∑ j, Ideal.div (fp f j) (fl f) * v j
/-- The row's saved logarithm. -/
def fe : EReal := mx f * (kS : EReal) + Ideal.log (fl f)
/-- The backward kernel's weights, from a saved logarithm `e`. -/
def bp (j : Fin n) : EReal := Ideal.exp2 (f j * ((kS * kL : ℝ) : EReal) - e * (kL : EReal))
/-- The backward kernel's gradient of the scores. -/
def bd (j : Fin n) : EReal := bp f e j * (h j - ∑ x, h x * bp f e x) * (kS : EReal)

/-- The reference's scaled scores. -/
def rz (j : Fin n) : EReal := Ideal.div (f j) (Ideal.sqrt kD)
/-- The reference's weights before normalisation. -/
def re (j : Fin n) : EReal := Ideal.exp (rz f j - max kBot (mx (rz f)))
/-- Their sum. -/
def rl : EReal := ∑ j, re f j
/-- The reference's weights. -/
def rp (j : Fin n) : EReal := Ideal.div (re f j) (rl f)
/-- The reference's gradient of the scores. -/
def rd (j : Fin n) : EReal :=
  Ideal.div ((Ideal.div (h j) (rl f) + -∑ x, h x * Ideal.div 1 (rl f * rl f) * re f x) * re f j) (Ideal.sqrt kD)

end Row

/-- The softmax of the scaled scores. -/
def P {n : Nat} (f : Fin n → ℝ) (j : Fin n) : ℝ := Real.exp (f j * kS) / ∑ x, Real.exp (f x * kS)
/-- The gradient of the scores. -/
def dS {n : Nat} (f h : Fin n → ℝ) (j : Fin n) : ℝ := P f j * (h j - ∑ x, h x * P f x) * kS

theorem kBot_eq : kBot = ⊥ := by
  show Ideal.ofBits .f32 0xFF800000#32 = ⊥
  simp [Ideal.ofBits, Ideal.ieee]

theorem sqrt_kD : Ideal.sqrt kD = ((Real.sqrt 128 : ℝ) : EReal) := by
  have h : kD = ((128 : ℝ) : EReal) := by
    show Ideal.ofBits .f32 0x43000000#32 = _
    simp [Ideal.ofBits, Ideal.ieee, -EReal.coe_mul]; norm_num
  rw [h, Ideal.sqrt_coe, if_neg (by norm_num)]

theorem div_sqrt (x : ℝ) : Ideal.div (x : EReal) (Ideal.sqrt kD) = ((x * kS : ℝ) : EReal) := by
  rw [sqrt_kD, Ideal.div_coe (Real.sqrt_pos.mpr (by norm_num)).ne', ← EReal.coe_mul, one_div]; rfl

theorem mx_real {n : Nat} (f : Fin (n + 1) → ℝ) : ∃ M : ℝ, mx (fun j => (f j : EReal)) = (M : EReal) := by
  have hb : ∀ s : Finset (Fin (n + 1)), s.Nonempty → ∃ M : ℝ, s.fold max kBot (fun j => (f j : EReal)) = (M : EReal) := by
    intro s hs
    induction hs using Finset.Nonempty.cons_induction with
    | singleton a => exact ⟨f a, by rw [Finset.fold_singleton, kBot_eq]; exact max_eq_left bot_le⟩
    | cons a s h _ ih =>
      obtain ⟨M, hM⟩ := ih
      exact ⟨max (f a) M, by rw [Finset.fold_cons, hM]; exact (EReal.coe_strictMono.monotone.map_max).symm⟩
  exact hb _ ⟨0, Finset.mem_univ _⟩

theorem exp2_real (x : ℝ) : Ideal.exp2 ((x * kL : ℝ) : EReal) = ((Real.exp x : ℝ) : EReal) := by
  rw [Ideal.exp2_coe]
  congr 1
  show (2 : ℝ) ^ (x * kL) = _
  rw [Real.rpow_def_of_pos (by norm_num)]
  congr 1
  have : Real.log 2 ≠ 0 := (Real.log_pos (by norm_num)).ne'
  unfold kL
  field_simp

theorem sum_exp_pos {n : Nat} (f : Fin (n + 1) → ℝ) : 0 < ∑ x, Real.exp (f x) :=
  Finset.sum_pos (fun _ _ => Real.exp_pos _) ⟨0, Finset.mem_univ _⟩

/-- The softmax does not see a shift of its row. -/
theorem P_shift {n : Nat} (f : Fin (n + 1) → ℝ) (a : ℝ) (j : Fin (n + 1)) :
    Real.exp (f j * kS - a) / ∑ x, Real.exp (f x * kS - a) = P f j := by
  unfold P
  simp only [Real.exp_sub, ← Finset.sum_div]
  exact div_div_div_cancel_right₀ (Real.exp_ne_zero a) _ _

section At

variable {n : Nat} (f h v : Fin (n + 1) → ℝ)

theorem fp_real {M : ℝ} (hM : mx (fun j => (f j : EReal)) = (M : EReal)) (j : Fin (n + 1)) :
    fp (fun j => (f j : EReal)) j = ((Real.exp (f j * kS - M * kS) : ℝ) : EReal) := by
  unfold fp
  rw [hM, ← EReal.coe_sub, ← EReal.coe_mul, show (f j - M) * (kS * kL) = (f j * kS - M * kS) * kL by ring, exp2_real]

theorem fl_real {M : ℝ} (hM : mx (fun j => (f j : EReal)) = (M : EReal)) :
    fl (fun j => (f j : EReal)) = ((∑ j, Real.exp (f j * kS - M * kS) : ℝ) : EReal) := by
  unfold fl
  rw [← coe_sum]
  exact Finset.sum_congr rfl fun j _ => fp_real f hM j

theorem div_real {x y : ℝ} (hy : y ≠ 0) : Ideal.div (x : EReal) (y : EReal) = ((x / y : ℝ) : EReal) := by
  rw [Ideal.div_coe hy, ← EReal.coe_mul, mul_one_div]

theorem fo_real : fo (fun j => (f j : EReal)) (fun j => (v j : EReal)) = ((∑ j, P f j * v j : ℝ) : EReal) := by
  obtain ⟨M, hM⟩ := mx_real f
  unfold fo
  rw [← coe_sum, fl_real f hM]
  refine Finset.sum_congr rfl fun j _ => ?_
  rw [fp_real f hM, div_real (sum_exp_pos fun x => f x * kS - M * kS).ne', P_shift f (M * kS) j, EReal.coe_mul]

theorem bp_real (j : Fin (n + 1)) : bp (fun j => (f j : EReal)) (fe fun j => (f j : EReal)) j = ((P f j : ℝ) : EReal) := by
  obtain ⟨M, hM⟩ := mx_real f
  have hp := sum_exp_pos fun x => f x * kS - M * kS
  unfold bp fe
  rw [fl_real f hM, hM, Ideal.log_coe, if_neg (not_le.mpr hp), ← EReal.coe_mul, ← EReal.coe_mul, ← EReal.coe_add,
    ← EReal.coe_mul, ← EReal.coe_sub,
    show f j * (kS * kL) - (M * kS + Real.log (∑ x, Real.exp (f x * kS - M * kS))) * kL
      = (f j * kS - M * kS - Real.log (∑ x, Real.exp (f x * kS - M * kS))) * kL by ring,
    exp2_real, Real.exp_sub _ (Real.log _), Real.exp_log hp, P_shift f (M * kS) j]

theorem bd_real (j : Fin (n + 1)) :
    bd (fun j => (f j : EReal)) (fun j => (h j : EReal)) (fe fun j => (f j : EReal)) j = ((dS f h j : ℝ) : EReal) := by
  unfold bd dS
  rw [Finset.sum_congr rfl fun x _ => by rw [bp_real f x, ← EReal.coe_mul], coe_sum, bp_real, ← EReal.coe_sub, ← EReal.coe_mul,
    ← EReal.coe_mul]

theorem rz_real : (rz fun j => (f j : EReal)) = fun j => ((f j * kS : ℝ) : EReal) := funext fun j => div_sqrt (f j)

theorem re_real {M : ℝ} (hM : mx (fun j => ((f j * kS : ℝ) : EReal)) = (M : EReal)) (j : Fin (n + 1)) :
    re (fun j => (f j : EReal)) j = ((Real.exp (f j * kS - M) : ℝ) : EReal) := by
  unfold re
  rw [rz_real, hM, kBot_eq, max_eq_right bot_le, ← EReal.coe_sub, Ideal.exp_coe]

theorem rl_real {M : ℝ} (hM : mx (fun j => ((f j * kS : ℝ) : EReal)) = (M : EReal)) :
    rl (fun j => (f j : EReal)) = ((∑ j, Real.exp (f j * kS - M) : ℝ) : EReal) := by
  unfold rl
  rw [← coe_sum]
  exact Finset.sum_congr rfl fun j _ => re_real f hM j

theorem rp_real (j : Fin (n + 1)) : rp (fun j => (f j : EReal)) j = ((P f j : ℝ) : EReal) := by
  obtain ⟨M, hM⟩ := mx_real fun j => f j * kS
  unfold rp
  rw [re_real f hM, rl_real f hM, div_real (sum_exp_pos fun x => f x * kS - M).ne', P_shift f M j]

theorem rd_real (j : Fin (n + 1)) :
    rd (fun j => (f j : EReal)) (fun j => (h j : EReal)) j = ((dS f h j : ℝ) : EReal) := by
  obtain ⟨M, hM⟩ := mx_real fun j => f j * kS
  have hl := (sum_exp_pos fun x => f x * kS - M).ne'
  unfold rd
  rw [rl_real f hM]
  generalize hL : ∑ x, Real.exp (f x * kS - M) = L at hl
  have hP : ∀ x, P f x = Real.exp (f x * kS - M) / L := fun x => by rw [← hL, P_shift]
  rw [← EReal.coe_mul, ← EReal.coe_one, div_real hl, div_real (mul_ne_zero hl hl)]
  rw [Finset.sum_congr rfl fun x _ => by rw [re_real f hM x, ← EReal.coe_mul, ← EReal.coe_mul], coe_sum, ← EReal.coe_neg,
    ← EReal.coe_add, re_real f hM, ← EReal.coe_mul, div_sqrt]
  congr 1
  unfold dS
  rw [show (∑ x, h x * (1 / (L * L)) * Real.exp (f x * kS - M)) = (∑ x, h x * P f x) / L by
    rw [Finset.sum_div]; exact Finset.sum_congr rfl fun x _ => by rw [hP]; field_simp]
  rw [hP j]
  field_simp
  ring

end At

end Cert.Attn
end
-- ==== Proof.AttnPay.lean ====
module

public import proofs.«01_k».proof.Proof.Attn
public import proofs.«01_k».proof.Proof.Gen.Kernel2Ideal.Frame

@[expose] public section

set_option maxRecDepth 16384

noncomputable section

namespace Cert.Kernel2Ideal.Body

open Idealize.ShloMosaic Cert.Kernel2Ideal Cert.Kernel2Ideal.Gen Cert.Attn

/-!
The values that the two attention kernels store for one head, read at an index. The four heads of a grid point repeat one
text, so the lemmas about the first head found serve the others.
-/

/-- The scores of row `r` of a head's queries against every key. -/
def sb (q : FVec Ideal S256x128 .bf16) (k : FVec Ideal S4352x128 .bf16) (r : Fin 256) : Fin 4352 → EReal :=
  fun j => ∑ d, q (ix2 r d) * k (ix2 j d)

theorem named_scale_log2e (b : BitVec 32) : Named.named (F := Ideal) κ "scale_log2e" (φ := .f32) b = ((kS * kL : ℝ) : EReal) :=
  IdealRules.named_const.ideal_named_scalar _ _ _ _ rfl
theorem named_scale (b : BitVec 32) : Named.named (F := Ideal) κ "scale" (φ := .f32) b = ((kS : ℝ) : EReal) :=
  IdealRules.named_const.ideal_named_scalar _ _ _ _ rfl
theorem named_log2e (b : BitVec 32) : Named.named (F := Ideal) κ "log2e" (φ := .f32) b = ((kL : ℝ) : EReal) :=
  IdealRules.named_const.ideal_named_scalar _ _ _ _ rfl

section Fwd

variable (k v : FVec Ideal S4352x128 .bf16) (q : FVec Ideal S256x128 .bf16) (r : Fin 256)

theorem f2 (j : Fin 4352) : k0_pay2 (F := Ideal) k q (ix2 r j) = sb q k r j := by
  pointwise [k0_pay2, sb]

theorem f3 (j : Fin 1) : k0_pay3 (F := Ideal) k q (ix2 r j) = mx (sb q k r) := by
  pointwise [k0_pay3, f2]
  rfl

theorem f4 (j : Fin 4352) : k0_pay4 (F := Ideal) k q (ix2 r j) = fp (sb q k r) j := by
  pointwise [k0_pay4, f2, f3, named_scale_log2e]
  rfl

theorem f5 (j : Fin 1) : k0_pay5 (F := Ideal) k q (ix2 r j) = fl (sb q k r) := by
  pointwise [k0_pay5, f4]
  rfl

theorem f6 (d : Fin 128) : k0_pay6 (F := Ideal) k v q (ix2 r d) = fo (sb q k r) fun j => v (ix2 j d) := by
  pointwise [k0_pay6, f4, f5]
  rfl

theorem f7 (a b : Fin 1) : k0_pay7 (F := Ideal) k q (ix3 a r b) = fe (sb q k r) := by
  pointwise [k0_pay7, f3, f5, named_scale]
  rfl

theorem f6_0 : k0_pay12 (F := Ideal) k v q = k0_pay6 k v q := rfl
theorem f6_1 : k0_pay18 (F := Ideal) v (k0_pay16 k q) = k0_pay6 k v q := rfl
theorem f6_2 : k0_pay24 (F := Ideal) k v q = k0_pay6 k v q := rfl
theorem f7_0 : k0_pay13 (F := Ideal) k q = k0_pay7 k q := rfl
theorem f7_1 : k0_pay19 (F := Ideal) (k0_pay15 k q) (k0_pay16 k q) = k0_pay7 k q := rfl
theorem f7_2 : k0_pay1 (F := Ideal) (k0_pay25 k q) = k0_pay7 k q := rfl

end Fwd

section Bwd

variable (k v : FVec Ideal S4352x128 .bf16) (q o : FVec Ideal S256x128 .bf16) (e : FVec Ideal S1x256x1 .f32) (r : Fin 256)

theorem b7 (j : Fin 4352) : k1_pay7 (F := Ideal) k q e (ix2 r j) = bp (sb q k r) (e (ix3 0 r 0)) j := by
  pointwise [k1_pay7, named_scale_log2e, named_log2e]
  rfl

theorem b8 (j : Fin 4352) : k1_pay8 (F := Ideal) k v q o e (ix2 r j) = bd (sb q k r) (sb o v r) (e (ix3 0 r 0)) j := by
  pointwise [k1_pay8, b7, named_scale]
  rfl

theorem b9 (d : Fin 128) : k1_pay9 (F := Ideal) k v q o e (ix2 r d)
    = ∑ j, bd (sb q k r) (sb o v r) (e (ix3 0 r 0)) j * k (ix2 j d) := by
  pointwise [k1_pay9, b8]

variable (w : FVec Ideal S4352x128 .f32) (s : FVec Ideal S256x4352 .bf16) (p : FVec Ideal S256x4352 .f32)

theorem b16 (j : Fin 4352) (d : Fin 128) : k1_pay16 (F := Ideal) q s w (ix2 j d) = w (ix2 j d) + ∑ r, s (ix2 r j) * q (ix2 r d) := by
  pointwise [k1_pay16]

theorem b12 (j : Fin 4352) (d : Fin 128) : k1_pay12 (F := Ideal) o p w (ix2 j d) = w (ix2 j d) + ∑ r, p (ix2 r j) * o (ix2 r d) := by
  pointwise [k1_pay12]

theorem b7_1 : k1_pay13 (F := Ideal) k q e = k1_pay7 k q e := rfl
theorem b7_2 : k1_pay18 (F := Ideal) k q e = k1_pay7 k q e := rfl
theorem b7_3 : k1_pay23 (F := Ideal) k q e = k1_pay7 k q e := rfl
theorem b8_1 : k1_pay14 (F := Ideal) k v q o e = k1_pay8 k v q o e := rfl
theorem b8_2 : k1_pay19 (F := Ideal) k v q o e = k1_pay8 k v q o e := rfl
theorem b9_1 : k1_pay15 (F := Ideal) k v q o e = k1_pay9 k v q o e := rfl
theorem b9_2 : k1_pay20 (F := Ideal) k v q o e = k1_pay9 k v q o e := rfl
theorem b9_3 : k1_pay2 (F := Ideal) k (k1_pay24 k v q o e) = k1_pay9 k v q o e := rfl
theorem b16_0 : k1_pay11 (F := Ideal) q s (k1_pay10 w) (constant S4352x128 .f32 0x00000000#32) = k1_pay16 q s w := rfl
theorem b16_2 : k1_pay21 (F := Ideal) q s w = k1_pay16 q s w := rfl
theorem b16_3 : k1_pay3 (F := Ideal) q (k1_pay24 k v q o e) w = k1_pay16 q (k1_pay8 k v q o e) w := rfl
theorem b12_1 : k1_pay17 (F := Ideal) o p w = k1_pay12 o p w := rfl
theorem b12_2 : k1_pay22 (F := Ideal) o p w = k1_pay12 o p w := rfl
theorem b12_3 : k1_pay4 (F := Ideal) o p w = k1_pay12 o p w := rfl

end Bwd

end Cert.Kernel2Ideal.Body
end
-- ==== Proof.AttnBlk.lean ====
module

public import proofs.«01_k».proof.Proof.AttnPay
public import Idealize.ShloMosaic.Lib.Pipeline.ValueKit
public import Idealize.ShloMosaic.Lib.Pipeline.ReadBack

@[expose] public section

set_option maxRecDepth 16384

noncomputable section

namespace Cert.Kernel2Ideal.Body

open Idealize.ShloMosaic Cert.Kernel2Ideal Cert.Kernel2Ideal.Gen Cert.Attn

/-!
A grid point's blocks hold four heads side by side: the heads of a block, and a block given head by head.
-/

/-- Lane `d` of head `g` in a block of four heads. -/
def lane (g : Fin 4) (d : Fin 128) : Fin 512 := ⟨128 * g.val + d.val, by omega⟩
/-- The head of a lane. -/
def hd (l : Fin 512) : Fin 4 := ⟨l.val / 128, by omega⟩
/-- A lane's place in its head. -/
def hl (l : Fin 512) : Fin 128 := ⟨l.val % 128, by omega⟩

/-- Head `g` of a block of queries or of cotangents. -/
def qh (g : Fin 4) (X : FVec Ideal S256x512 .bf16) : FVec Ideal S256x128 .bf16 := fun y => X (ix2 (y 0) (lane g (y 1)))
/-- The saved logarithms of head `g`. -/
def eh (g : Fin 4) (X : FVec Ideal S1x256x4 .f32) : FVec Ideal S1x256x1 .f32 := fun y => X (ix3 0 (y 1) g)

/-- A block of four heads from its entries at a row, a head and a lane of the head. -/
def blkf (R : Fin 256 → Fin 4 → Fin 128 → EReal) : S256x512.Idx → EReal := fun y => R (y 0) (hd (y 1)) (hl (y 1))

theorem blkf_at (R : Fin 256 → Fin 4 → Fin 128 → EReal) (y : S256x512.Idx) (r : Fin 256) (g : Fin 4) (d : Fin 128)
    (h0 : (y 0).val = r.val) (h1 : (y 1).val = 128 * g.val + d.val) : blkf R y = R r g d := by
  have e0 : (y 0 : Fin 256) = r := Fin.ext h0
  have eg : hd (y 1) = g := Fin.ext (by show (y 1).val / 128 = g.val; omega)
  have el : hl (y 1) = d := Fin.ext (by show (y 1).val % 128 = d.val; omega)
  show R (y 0) (hd (y 1)) (hl (y 1)) = _
  rw [eg, el]
  exact congrArg (fun a => R a g d) e0

theorem ld_q0 (X : FVec Ideal S256x512 .bf16) : View.ld (e' := .bf16) (Val := Elt Ideal) X
    (Rect.unit (s := S256x512) ![0, 0] ![256, 128] inb_S256x512_S256x128_0_0) = qh 0 X := by
  refine funext fun (y : Shape.Idx _) => congrArg X (funext fun a => Fin.ext ?_)
  fin_cases a <;> simp [Rect.idx_unit_val, lane]
theorem ld_q1 (X : FVec Ideal S256x512 .bf16) : View.ld (e' := .bf16) (Val := Elt Ideal) X
    (Rect.unit (s := S256x512) ![0, 128] ![256, 128] inb_S256x512_S256x128_0_128) = qh 1 X := by
  refine funext fun (y : Shape.Idx _) => congrArg X (funext fun a => Fin.ext ?_)
  fin_cases a <;> simp [Rect.idx_unit_val, lane]
theorem ld_q2 (X : FVec Ideal S256x512 .bf16) : View.ld (e' := .bf16) (Val := Elt Ideal) X
    (Rect.unit (s := S256x512) ![0, 256] ![256, 128] inb_S256x512_S256x128_0_256) = qh 2 X := by
  refine funext fun (y : Shape.Idx _) => congrArg X (funext fun a => Fin.ext ?_)
  fin_cases a <;> simp [Rect.idx_unit_val, lane]
theorem ld_q3 (X : FVec Ideal S256x512 .bf16) : View.ld (e' := .bf16) (Val := Elt Ideal) X
    (Rect.unit (s := S256x512) ![0, 384] ![256, 128] inb_S256x512_S256x128_0_384) = qh 3 X := by
  refine funext fun (y : Shape.Idx _) => congrArg X (funext fun a => Fin.ext ?_)
  fin_cases a <;> simp [Rect.idx_unit_val, lane]

theorem ld_e0 (X : FVec Ideal S1x256x4 .f32) : View.ld (e' := .f32) (Val := Elt Ideal) X
    (Rect.unit (s := S1x256x4) ![0, 0, 0] ![1, 256, 1] inb_S1x256x4_S1x256x1_0_0_0) = eh 0 X := by
  refine funext fun (y : Shape.Idx _) => congrArg X (funext fun a => Fin.ext ?_)
  fin_cases a <;> simp [Rect.idx_unit_val, lane]
theorem ld_e1 (X : FVec Ideal S1x256x4 .f32) : View.ld (e' := .f32) (Val := Elt Ideal) X
    (Rect.unit (s := S1x256x4) ![0, 0, 1] ![1, 256, 1] inb_S1x256x4_S1x256x1_0_0_1) = eh 1 X := by
  refine funext fun (y : Shape.Idx _) => congrArg X (funext fun a => Fin.ext ?_)
  fin_cases a <;> simp [Rect.idx_unit_val, lane]
theorem ld_e2 (X : FVec Ideal S1x256x4 .f32) : View.ld (e' := .f32) (Val := Elt Ideal) X
    (Rect.unit (s := S1x256x4) ![0, 0, 2] ![1, 256, 1] inb_S1x256x4_S1x256x1_0_0_2) = eh 2 X := by
  refine funext fun (y : Shape.Idx _) => congrArg X (funext fun a => Fin.ext ?_)
  fin_cases a <;> simp [Rect.idx_unit_val, lane]
theorem ld_e3 (X : FVec Ideal S1x256x4 .f32) : View.ld (e' := .f32) (Val := Elt Ideal) X
    (Rect.unit (s := S1x256x4) ![0, 0, 3] ![1, 256, 1] inb_S1x256x4_S1x256x1_0_0_3) = eh 3 X := by
  refine funext fun (y : Shape.Idx _) => congrArg X (funext fun a => Fin.ext ?_)
  fin_cases a <;> simp [Rect.idx_unit_val, lane]

/-- What the forward kernel leaves in the output's block. -/
theorem o3 (x0 : FVec Ideal S256x512 .bf16) (x1 x2 : FVec Ideal S4352x128 .bf16) (y : S256x512.Idx) :
    out0_3 (F := Ideal) x0 x1 x2 y = blkf (fun r g d => fo (sb (qh g x0) x1 r) fun j => x2 (ix2 j d)) y := by
  unfold_out out0_3
  frame_out
  rw [ld_q0, ld_q1, ld_q2, ld_q3, f6_0, f6_1, f6_2]
  canon_tiles x h
  · rw [blkf_at _ y (x 0) 3 (x 1) h0 h1]; exact (congrArg _ (eq_ix2 x)).trans (f6 _ _ _ _ _)
  · rw [blkf_at _ y (x 0) 2 (x 1) h0 h1]; exact (congrArg _ (eq_ix2 x)).trans (f6 _ _ _ _ _)
  · rw [blkf_at _ y (x 0) 1 (x 1) h0 h1]; exact (congrArg _ (eq_ix2 x)).trans (f6 _ _ _ _ _)
  · rw [blkf_at _ y (x 0) 0 (x 1) h0 (by show _ = 0 + _; omega)]; exact (congrArg _ (eq_ix2 x)).trans (f6 _ _ _ _ _)

/-- A block of saved logarithms from its entries at a row and a head. -/
def blke (R : Fin 256 → Fin 4 → EReal) : S1x256x4.Idx → EReal := fun y => R (y 1) (y 2)

theorem blke_at (R : Fin 256 → Fin 4 → EReal) (y : S1x256x4.Idx) (r : Fin 256) (g : Fin 4)
    (h1 : (y 1).val = r.val) (h2 : (y 2).val = g.val) : blke R y = R r g := by
  have e1 : (y 1 : Fin 256) = r := Fin.ext h1
  have e2 : (y 2 : Fin 4) = g := Fin.ext h2
  exact (congrArg (fun a => R a (y 2)) e1).trans (congrArg (fun a => R r a) e2)

/-- What the forward kernel leaves in the logarithms' block. -/
theorem o4 (x0 : FVec Ideal S256x512 .bf16) (x1 x2 : FVec Ideal S4352x128 .bf16) (y : S1x256x4.Idx) :
    out0_4 (F := Ideal) x0 x1 x2 y = blke (fun r g => fe (sb (qh g x0) x1 r)) y := by
  unfold_out out0_4
  frame_out
  rw [ld_q0, ld_q1, ld_q2, ld_q3, f7_0, f7_1, f7_2]
  canon_tiles x h
  · rw [blke_at _ y (x 1) 3 h1 (by show _ = 3; omega)]; exact (congrArg _ (eq_ix3 x)).trans (f7 _ _ _ _ _)
  · rw [blke_at _ y (x 1) 2 h1 (by show _ = 2; omega)]; exact (congrArg _ (eq_ix3 x)).trans (f7 _ _ _ _ _)
  · rw [blke_at _ y (x 1) 1 h1 (by show _ = 1; omega)]; exact (congrArg _ (eq_ix3 x)).trans (f7 _ _ _ _ _)
  · rw [blke_at _ y (x 1) 0 h1 (by show _ = 0; omega)]; exact (congrArg _ (eq_ix3 x)).trans (f7 _ _ _ _ _)

end Cert.Kernel2Ideal.Body
end
-- ==== Proof.AttnOut.lean ====
module

public import proofs.«01_k».proof.Proof.AttnBlk

@[expose] public section

set_option maxRecDepth 16384

noncomputable section

namespace Cert.Kernel2Ideal.Body

open Idealize.ShloMosaic Cert.Kernel2Ideal Cert.Kernel2Ideal.Gen Cert.Attn
open Idealize.ShloMosaic.TcCoe Idealize.SL.Sem

/-!
What the backward kernel leaves in its three output blocks at a grid point: the queries' gradient whole, the keys' and the
values' gradients added up over a key head's sixteen points.
-/

/-- The gradient of the scores in one head of a point's blocks. -/
def dsb (X0 X3 : FVec Ideal S256x512 .bf16) (X1 X2 : FVec Ideal S4352x128 .bf16) (X4 : FVec Ideal S1x256x4 .f32)
    (g : Fin 4) (r : Fin 256) : Fin 4352 → EReal := bd (sb (qh g X0) X1 r) (sb (qh g X3) X2 r) (eh g X4 (ix3 0 r 0))

/-- The weights of one head of a point's blocks. -/
def pb (X0 : FVec Ideal S256x512 .bf16) (X1 : FVec Ideal S4352x128 .bf16) (X4 : FVec Ideal S1x256x4 .f32)
    (g : Fin 4) (r : Fin 256) : Fin 4352 → EReal := bp (sb (qh g X0) X1 r) (eh g X4 (ix3 0 r 0))

/-- A point's part of the keys' gradient. -/
def t6 (X0 X3 : FVec Ideal S256x512 .bf16) (X1 X2 : FVec Ideal S4352x128 .bf16) (X4 : FVec Ideal S1x256x4 .f32)
    (y : S4352x128.Idx) : EReal := ∑ g, ∑ r, dsb X0 X3 X1 X2 X4 g r (y 0) * qh g X0 (ix2 r (y 1))

/-- A point's part of the values' gradient. -/
def t7 (X0 X3 : FVec Ideal S256x512 .bf16) (X1 : FVec Ideal S4352x128 .bf16) (X4 : FVec Ideal S1x256x4 .f32)
    (y : S4352x128.Idx) : EReal := ∑ g, ∑ r, pb X0 X1 X4 g r (y 0) * qh g X3 (ix2 r (y 1))

/-- A point's block of the queries' gradient. -/
def z5 (X0 X3 : FVec Ideal S256x512 .bf16) (X1 X2 : FVec Ideal S4352x128 .bf16) (X4 : FVec Ideal S1x256x4 .f32) :
    S256x512.Idx → EReal := blkf fun r g d => ∑ j, dsb X0 X3 X1 X2 X4 g r j * X1 (ix2 j d)

variable (X0 X3 : FVec Ideal S256x512 .bf16) (X1 X2 : FVec Ideal S4352x128 .bf16) (X4 : FVec Ideal S1x256x4 .f32)

/-- The keys' gradient after the four heads of a point, from what it was before. -/
theorem step6 (Q : FVec Ideal S4352x128 .f32) (y : S4352x128.Idx) :
    k1_pay16 (F := Ideal) (qh 3 X0) (k1_pay8 (F := Ideal) X1 X2 (qh 3 X0) (qh 3 X3) (eh 3 X4))
      (k1_pay16 (F := Ideal) (qh 2 X0) (k1_pay8 (F := Ideal) X1 X2 (qh 2 X0) (qh 2 X3) (eh 2 X4))
        (k1_pay16 (F := Ideal) (qh 1 X0) (k1_pay8 (F := Ideal) X1 X2 (qh 1 X0) (qh 1 X3) (eh 1 X4))
          (k1_pay16 (F := Ideal) (qh 0 X0) (k1_pay8 (F := Ideal) X1 X2 (qh 0 X0) (qh 0 X3) (eh 0 X4)) Q))) y
      = Q y + t6 X0 X3 X1 X2 X4 y := by
  unfold t6
  rw [Fin.sum_univ_four, eq_ix2 y]
  show _ = _ + (_ + _ + _ + _)
  rw [← add_assoc, ← add_assoc, ← add_assoc]
  refine (b16 _ _ _ _ _).trans (congrArg₂ (· + ·) ((b16 _ _ _ _ _).trans (congrArg₂ (· + ·) ((b16 _ _ _ _ _).trans
    (congrArg₂ (· + ·) ((b16 _ _ _ _ _).trans (congrArg₂ (· + ·) rfl ?_)) ?_)) ?_)) ?_)
  all_goals exact Finset.sum_congr rfl fun r _ => congrArg (· * _) (b8 _ _ _ _ _ r _)

/-- The values' gradient after the four heads of a point, from what it was before. -/
theorem step7 (Q : FVec Ideal S4352x128 .f32) (y : S4352x128.Idx) :
    k1_pay12 (F := Ideal) (qh 3 X3) (k1_pay7 (F := Ideal) X1 (qh 3 X0) (eh 3 X4))
      (k1_pay12 (F := Ideal) (qh 2 X3) (k1_pay7 (F := Ideal) X1 (qh 2 X0) (eh 2 X4))
        (k1_pay12 (F := Ideal) (qh 1 X3) (k1_pay7 (F := Ideal) X1 (qh 1 X0) (eh 1 X4))
          (k1_pay12 (F := Ideal) (qh 0 X3) (k1_pay7 (F := Ideal) X1 (qh 0 X0) (eh 0 X4)) Q))) y
      = Q y + t7 X0 X3 X1 X4 y := by
  unfold t7
  rw [Fin.sum_univ_four, eq_ix2 y]
  show _ = _ + (_ + _ + _ + _)
  rw [← add_assoc, ← add_assoc, ← add_assoc]
  refine (b12 _ _ _ _ _).trans (congrArg₂ (· + ·) ((b12 _ _ _ _ _).trans (congrArg₂ (· + ·) ((b12 _ _ _ _ _).trans
    (congrArg₂ (· + ·) ((b12 _ _ _ _ _).trans (congrArg₂ (· + ·) rfl ?_)) ?_)) ?_)) ?_)
  all_goals exact Finset.sum_congr rfl fun r _ => congrArg (· * _) (b7 _ _ _ r _)

/-- The gradient of one head's queries. -/
theorem one5 (g : Fin 4) (x : S256x128.Idx) :
    k1_pay9 (F := Ideal) X1 X2 (qh g X0) (qh g X3) (eh g X4) x = ∑ j, dsb X0 X3 X1 X2 X4 g (x 0) j * X1 (ix2 j (x 1)) :=
  (congrArg _ (eq_ix2 x)).trans (b9 _ _ _ _ _ _ _)

theorem zero6 (y : S4352x128.Idx) : k1_pay5 (F := Ideal) y = 0 := by rw [eq_ix2 y]; pointwise [k1_pay5]
theorem zero7 (y : S4352x128.Idx) : k1_pay6 (F := Ideal) y = 0 := zero6 y

/-- The four strips of the queries' gradient, one a head, make its block. -/
theorem at5 (y : S256x512.Idx) (g : Fin 4) (x : S256x128.Idx) (h0 : (y 0).val = (x 0).val)
    (h1 : (y 1).val = 128 * g.val + (x 1).val) :
    k1_pay9 (F := Ideal) X1 X2 (qh g X0) (qh g X3) (eh g X4) x = z5 X0 X3 X1 X2 X4 y :=
  (one5 X0 X3 X1 X2 X4 g x).trans (blkf_at (fun r g d => ∑ j, dsb X0 X3 X1 X2 X4 g r j * X1 (ix2 j d)) y (x 0) g (x 1) h0 h1).symm

variable (V : (c : Dev nD) → (b : Ref sig .tc) → Buf (Elt Ideal) ((c : Thread nD τ).loc b))

set_option maxHeartbeats 2000000 in
theorem o6B (c : Dev nD) (t : Fin cfg1.N) (h : ¬t.val % 16 = 0) (y : S4352x128.Idx) :
    (outsAt1 V c t.val t.isLt).2.1 y = (outsAt1 V c (t.val - 1) (by omega)).2.1 y
      + t6 (iblk1 V c 0 t) (iblk1 V c 3 t) (iblk1 V c 1 t) (iblk1 V c 2 t) (iblk1 V c 4 t) y := by
  rw [outsAt1_B V c t h]
  frame_open
  simp (disch := decide) only [↓ View.readCov_skip, ↓ View.readCov_cons_toLoadRect, ↓ View.readCov_fill]
  frame_out
  generalize iblk1 V c 0 t = X0
  generalize iblk1 V c 1 t = X1
  generalize iblk1 V c 2 t = X2
  generalize iblk1 V c 3 t = X3
  generalize iblk1 V c 4 t = X4
  generalize (outsAt1 V c (t.val - 1) _).2.1 = Q
  rw [ld_q0, ld_q0, ld_q1, ld_q1, ld_q2, ld_q2, ld_q3, ld_q3, ld_e0, ld_e1, ld_e2, ld_e3, b16_3, b16_2, b16_0, b8_2, b8_1]
  exact step6 X0 X3 X1 X2 X4 Q y

set_option maxHeartbeats 2000000 in
theorem o6A (c : Dev nD) (t : Fin cfg1.N) (h : t.val % 16 = 0) (y : S4352x128.Idx) :
    (outsAt1 V c t.val t.isLt).2.1 y = t6 (iblk1 V c 0 t) (iblk1 V c 3 t) (iblk1 V c 1 t) (iblk1 V c 2 t) (iblk1 V c 4 t) y := by
  rw [outsAt1_A V c t h]
  frame_open
  simp (disch := decide) only [↓ View.readCov_skip, ↓ View.readCov_cons_toLoadRect, ↓ View.readCov_fill]
  frame_out
  generalize iblk1 V c 0 t = X0
  generalize iblk1 V c 1 t = X1
  generalize iblk1 V c 2 t = X2
  generalize iblk1 V c 3 t = X3
  generalize iblk1 V c 4 t = X4
  rw [ld_q0, ld_q0, ld_q1, ld_q1, ld_q2, ld_q2, ld_q3, ld_q3, ld_e0, ld_e1, ld_e2, ld_e3, b16_3, b16_2, b16_0, b8_2, b8_1]
  exact (step6 X0 X3 X1 X2 X4 _ y).trans (by rw [zero6, zero_add])

set_option maxHeartbeats 2000000 in
theorem o7B (c : Dev nD) (t : Fin cfg1.N) (h : ¬t.val % 16 = 0) (y : S4352x128.Idx) :
    (outsAt1 V c t.val t.isLt).2.2 y = (outsAt1 V c (t.val - 1) (by omega)).2.2 y
      + t7 (iblk1 V c 0 t) (iblk1 V c 3 t) (iblk1 V c 1 t) (iblk1 V c 4 t) y := by
  rw [outsAt1_B V c t h]
  frame_open
  simp (disch := decide) only [↓ View.readCov_skip, ↓ View.readCov_cons_toLoadRect, ↓ View.readCov_fill]
  frame_out
  generalize iblk1 V c 0 t = X0
  generalize iblk1 V c 1 t = X1
  generalize iblk1 V c 2 t = X2
  generalize iblk1 V c 3 t = X3
  generalize iblk1 V c 4 t = X4
  generalize (outsAt1 V c (t.val - 1) _).2.2 = Q
  rw [ld_q0, ld_q0, ld_q1, ld_q1, ld_q2, ld_q2, ld_q3, ld_q3, ld_e0, ld_e1, ld_e2, ld_e3, b12_3, b12_2, b12_1, b7_3, b7_2, b7_1]
  exact step7 X0 X3 X1 X4 Q y

set_option maxHeartbeats 2000000 in
theorem o7A (c : Dev nD) (t : Fin cfg1.N) (h : t.val % 16 = 0) (y : S4352x128.Idx) :
    (outsAt1 V c t.val t.isLt).2.2 y = t7 (iblk1 V c 0 t) (iblk1 V c 3 t) (iblk1 V c 1 t) (iblk1 V c 4 t) y := by
  rw [outsAt1_A V c t h]
  frame_open
  simp (disch := decide) only [↓ View.readCov_skip, ↓ View.readCov_cons_toLoadRect, ↓ View.readCov_fill]
  frame_out
  generalize iblk1 V c 0 t = X0
  generalize iblk1 V c 1 t = X1
  generalize iblk1 V c 2 t = X2
  generalize iblk1 V c 3 t = X3
  generalize iblk1 V c 4 t = X4
  rw [ld_q0, ld_q0, ld_q1, ld_q1, ld_q2, ld_q2, ld_q3, ld_q3, ld_e0, ld_e1, ld_e2, ld_e3, b12_3, b12_2, b12_1, b7_3, b7_2, b7_1]
  exact (step7 X0 X3 X1 X4 _ y).trans (by rw [zero7, zero_add])

set_option maxHeartbeats 2000000 in
theorem o5B (c : Dev nD) (t : Fin cfg1.N) (h : ¬t.val % 16 = 0) (y : S256x512.Idx) :
    (outsAt1 V c t.val t.isLt).1 y = z5 (iblk1 V c 0 t) (iblk1 V c 3 t) (iblk1 V c 1 t) (iblk1 V c 2 t) (iblk1 V c 4 t) y := by
  rw [outsAt1_B V c t h]
  frame_open
  simp (disch := decide) only [↓ View.readCov_skip, ↓ View.readCov_cons_toLoadRect, ↓ View.readCov_fill]
  frame_out
  generalize iblk1 V c 0 t = X0
  generalize iblk1 V c 1 t = X1
  generalize iblk1 V c 2 t = X2
  generalize iblk1 V c 3 t = X3
  generalize iblk1 V c 4 t = X4
  clear h
  rw [ld_q0, ld_q0, ld_q1, ld_q1, ld_q2, ld_q2, ld_q3, ld_q3, ld_e0, ld_e1, ld_e2, ld_e3, b9_3, b9_2, b9_1]
  canon_tiles x h
  · exact at5 X0 X3 X1 X2 X4 y 3 x h0 h1
  · exact at5 X0 X3 X1 X2 X4 y 2 x h0 h1
  · exact at5 X0 X3 X1 X2 X4 y 1 x h0 h1
  · exact at5 X0 X3 X1 X2 X4 y 0 x h0 (by show _ = 0 + _; omega)

set_option maxHeartbeats 2000000 in
theorem o5A (c : Dev nD) (t : Fin cfg1.N) (h : t.val % 16 = 0) (y : S256x512.Idx) :
    (outsAt1 V c t.val t.isLt).1 y = z5 (iblk1 V c 0 t) (iblk1 V c 3 t) (iblk1 V c 1 t) (iblk1 V c 2 t) (iblk1 V c 4 t) y := by
  rw [outsAt1_A V c t h]
  frame_open
  simp (disch := decide) only [↓ View.readCov_skip, ↓ View.readCov_cons_toLoadRect, ↓ View.readCov_fill]
  frame_out
  generalize iblk1 V c 0 t = X0
  generalize iblk1 V c 1 t = X1
  generalize iblk1 V c 2 t = X2
  generalize iblk1 V c 3 t = X3
  generalize iblk1 V c 4 t = X4
  clear h
  rw [ld_q0, ld_q0, ld_q1, ld_q1, ld_q2, ld_q2, ld_q3, ld_q3, ld_e0, ld_e1, ld_e2, ld_e3, b9_3, b9_2, b9_1]
  canon_tiles x h
  · exact at5 X0 X3 X1 X2 X4 y 3 x h0 h1
  · exact at5 X0 X3 X1 X2 X4 y 2 x h0 h1
  · exact at5 X0 X3 X1 X2 X4 y 1 x h0 h1
  · exact at5 X0 X3 X1 X2 X4 y 0 x h0 (by show _ = 0 + _; omega)

end Cert.Kernel2Ideal.Body
end
-- ==== Proof.AttnIdx.lean ====
module

public import proofs.«01_k».proof.Proof.Attn
public import Idealize.ShloMosaic.Lib.Claim
public import Idealize.ShloMosaic.Lib.Pointwise

@[expose] public section

noncomputable section

namespace Cert.Attn

open Idealize.ShloMosaic

/-!
The attention's arrays and where their heads lie in them: four key heads, to each of which belong four query heads side by
side, and 128 lanes a head.
-/

/-- The queries. -/
abbrev Qs := FVec Ideal ⟨2, ![4352, 2048]⟩ .bf16
/-- The keys or the values. -/
abbrev Ks := FVec Ideal ⟨2, ![4352, 512]⟩ .bf16
/-- The output's cotangent. -/
abbrev Ds := FVec Ideal ⟨2, ![4096, 2048]⟩ .bf16

/-- Lane `d` of query head `g` of key head `a`. -/
def qd (a g : Fin 4) (d : Fin 128) : Fin 2048 := ⟨a.val * 512 + g.val * 128 + d.val, by omega⟩
/-- Lane `d` of key head `a`. -/
def kd (a : Fin 4) (d : Fin 128) : Fin 512 := ⟨a.val * 128 + d.val, by omega⟩
/-- A query that is attended from, as a row of the queries. -/
def up (n : Fin 4096) : Fin 4352 := ⟨n.val, by omega⟩

/-- A query's scores. -/
def sq (X0 : Qs) (X1 : Ks) (a g : Fin 4) (n : Fin 4096) : Fin 4352 → EReal :=
  fun j => ∑ d, X0 (ix2 (up n) (qd a g d)) * X1 (ix2 j (kd a d))
/-- The gradient of a query's weights. -/
def sd (X3 : Ds) (X2 : Ks) (a g : Fin 4) (n : Fin 4096) : Fin 4352 → EReal :=
  fun j => ∑ d, X3 (ix2 n (qd a g d)) * X2 (ix2 j (kd a d))

/-- Every lane of the queries lies in a head. -/
theorem qd_split (l : Fin 2048) : ∃ a g d, l = qd a g d :=
  ⟨⟨l.val / 512, by omega⟩, ⟨l.val % 512 / 128, by omega⟩, ⟨l.val % 128, by omega⟩, Fin.ext (by show _ = _ / _ * 512 + _ / _ * 128 + _ % _; omega)⟩

/-- Every lane of the keys lies in a head. -/
theorem kd_split (l : Fin 512) : ∃ a d, l = kd a d :=
  ⟨⟨l.val / 128, by omega⟩, ⟨l.val % 128, by omega⟩, Fin.ext (by show _ = _ / _ * 128 + _ % _; omega)⟩

end Cert.Attn
end
-- ==== Proof.AttnArr.lean ====
module

public import proofs.«01_k».proof.Proof.AttnOut
public import proofs.«01_k».proof.Proof.AttnIdx

@[expose] public section

set_option maxRecDepth 16384

noncomputable section

namespace Cert.Kernel2Ideal.Body

open Idealize.ShloMosaic Cert.Kernel2Ideal Cert.Kernel2Ideal.Gen Cert.Attn
open Idealize.ShloMosaic.TcCoe Idealize.SL.Sem

/-!
The arrays the two attention kernels leave, as functions of the arrays they read. Point `16 a + i` of either grid serves key
head `a` and the queries `256 i … 256 i + 255`.
-/

/-- A point's key head. -/
def ka (t : Fin 64) : Fin 4 := ⟨t.val / 16, by omega⟩
/-- Row `r` of a point's queries. -/
def row (t : Fin 64) (r : Fin 256) : Fin 4096 := ⟨256 * (t.val % 16) + r.val, by omega⟩
/-- Lane `l` of a point's four query heads. -/
def qc (t : Fin 64) (l : Fin 512) : Fin 2048 := ⟨512 * (t.val / 16) + l.val, by omega⟩
/-- Lane `d` of a point's key head. -/
def kc (t : Fin 64) (d : Fin 128) : Fin 512 := ⟨128 * (t.val / 16) + d.val, by omega⟩

/-- A point's queries. -/
def qB (A : Qs) (t : Fin 64) : FVec Ideal S256x512 .bf16 := fun y => A (ix2 (up (row t (y 0))) (qc t (y 1)))
/-- A point's keys or values. -/
def kB (A : Ks) (t : Fin 64) : FVec Ideal S4352x128 .bf16 := fun y => A (ix2 (y 0) (kc t (y 1)))
/-- A point's cotangents. -/
def dB (A : Ds) (t : Fin 64) : FVec Ideal S256x512 .bf16 := fun y => A (ix2 (row t (y 0)) (qc t (y 1)))
/-- A point's saved logarithms. -/
def eB (A : FVec Ideal S4x4096x4 .f32) (t : Fin 64) : FVec Ideal S1x256x4 .f32 := fun y => A (ix3 (ka t) (row t (y 1)) (y 2))

theorem qc_lane (t : Fin 64) (g : Fin 4) (d : Fin 128) : qc t (lane g d) = qd (ka t) g d :=
  Fin.ext (by show 512 * (t.val / 16) + (128 * g.val + d.val) = t.val / 16 * 512 + g.val * 128 + d.val; omega)

theorem kc_eq (t : Fin 64) (d : Fin 128) : kc t d = kd (ka t) d :=
  Fin.ext (by show 128 * (t.val / 16) + d.val = t.val / 16 * 128 + d.val; omega)

/-- A point's scores are its queries' scores. -/
theorem sb_q (X0 : Qs) (X1 : Ks) (t : Fin 64) (g : Fin 4) (r : Fin 256) :
    sb (qh g (qB X0 t)) (kB X1 t) r = sq X0 X1 (ka t) g (row t r) := by
  funext j
  show (∑ d, X0 (ix2 (up (row t r)) (qc t (lane g d))) * X1 (ix2 j (kc t d))) = _
  simp only [qc_lane, kc_eq]; rfl

theorem sb_d (X3 : Ds) (X2 : Ks) (t : Fin 64) (g : Fin 4) (r : Fin 256) :
    sb (qh g (dB X3 t)) (kB X2 t) r = sd X3 X2 (ka t) g (row t r) := by
  funext j
  show (∑ d, X3 (ix2 (row t r) (qc t (lane g d))) * X2 (ix2 j (kc t d))) = _
  simp only [qc_lane, kc_eq]; rfl

variable (V : (c : Dev nD) → (b : Ref sig .tc) → Buf (Elt Ideal) ((c : Thread nD τ).loc b)) (c : Dev nD)
variable (X0 : Qs) (X1 X2 : Ks) (X3 : Ds) (E : FVec Ideal S4x4096x4 .f32)

theorem idx0 : ∀ t : Fin cfg0.N, win0_0.index t = ![t.val % 16, t.val / 16] ∧ win0_1.index t = ![0, t.val / 16] ∧
    win0_2.index t = ![0, t.val / 16] ∧ win0_3.index t = ![t.val % 16, t.val / 16] ∧ win0_4.index t = ![t.val / 16, t.val % 16, 0] :=
  (by decide +kernel : ∀ t : Fin grid0.N, _)

theorem idx1 : ∀ t : Fin cfg1.N, win1_0.index t = ![t.val % 16, t.val / 16] ∧ win1_1.index t = ![0, t.val / 16] ∧
    win1_2.index t = ![0, t.val / 16] ∧ win1_3.index t = ![t.val % 16, t.val / 16] ∧
    win1_4.index t = ![t.val / 16, t.val % 16, 0] ∧ win1_5.index t = ![t.val % 16, t.val / 16] ∧
    win1_6.index t = ![0, t.val / 16] ∧ win1_7.index t = ![0, t.val / 16] :=
  (by decide +kernel : ∀ t : Fin grid1.N, _)

theorem i00 (h : V c main_arg0 = X0) (t : Fin cfg0.N) : iblk0 V c 0 t = qB X0 t := by
  subst h; funext y; unfold qB; blk_ext [iblk0, idx0 t, row, qc, up]
theorem i01 (h : V c main_arg1 = X1) (t : Fin cfg0.N) : iblk0 V c 1 t = kB X1 t := by
  subst h; funext y; unfold kB; blk_ext [iblk0, idx0 t, kc]
theorem i02 (h : V c main_arg2 = X2) (t : Fin cfg0.N) : iblk0 V c 2 t = kB X2 t := by
  subst h; funext y; unfold kB; blk_ext [iblk0, idx0 t, kc]
theorem i10 (h : V c main_arg0 = X0) (t : Fin cfg1.N) : iblk1 V c 0 t = qB X0 t := by
  subst h; funext y; unfold qB; blk_ext [iblk1, idx1 t, row, qc, up]
theorem i11 (h : V c main_arg1 = X1) (t : Fin cfg1.N) : iblk1 V c 1 t = kB X1 t := by
  subst h; funext y; unfold kB; blk_ext [iblk1, idx1 t, kc]
theorem i12 (h : V c main_arg2 = X2) (t : Fin cfg1.N) : iblk1 V c 2 t = kB X2 t := by
  subst h; funext y; unfold kB; blk_ext [iblk1, idx1 t, kc]
theorem i13 (h : V c main_arg3 = X3) (t : Fin cfg1.N) : iblk1 V c 3 t = dB X3 t := by
  subst h; funext y; unfold dB; blk_ext [iblk1, idx1 t, row, qc]
theorem i14 (h : V c main_v0_1 = E) (t : Fin cfg1.N) : iblk1 V c 4 t = eB E t := by
  subst h; funext y; unfold eB; blk_ext [iblk1, idx1 t, row, ka]

/-- The key head of a query lane. -/
def qa (l : Fin 2048) : Fin 4 := ⟨l.val / 512, by omega⟩
/-- The query head of a query lane, among its key head's. -/
def qg (l : Fin 2048) : Fin 4 := ⟨l.val % 512 / 128, by omega⟩
/-- A query lane's place in its head. -/
def ql (l : Fin 2048) : Fin 128 := ⟨l.val % 128, by omega⟩
/-- The key head of a key lane. -/
def kA (l : Fin 512) : Fin 4 := ⟨l.val / 128, by omega⟩

theorem qa_at (t : Fin 64) (l : Fin 512) : qa (qc t l) = ka t :=
  Fin.ext (by show (512 * (t.val / 16) + l.val) / 512 = t.val / 16; omega)
theorem qg_at (t : Fin 64) (l : Fin 512) : qg (qc t l) = hd l :=
  Fin.ext (by show (512 * (t.val / 16) + l.val) % 512 / 128 = l.val / 128; omega)
theorem ql_at (t : Fin 64) (l : Fin 512) : ql (qc t l) = hl l :=
  Fin.ext (by show (512 * (t.val / 16) + l.val) % 128 = l.val % 128; omega)

/-- The output. -/
def gO : FVec Ideal S4096x2048 .f32 := fun y =>
  fo (sq X0 X1 (qa (y 1)) (qg (y 1)) (y 0)) fun j => X2 (ix2 j (kd (qa (y 1)) (ql (y 1))))
/-- The saved logarithms. -/
def gE : FVec Ideal S4x4096x4 .f32 := fun y => fe (sq X0 X1 (y 0) (y 2) (y 1))
/-- The gradient of the scores. -/
def ds (a g : Fin 4) (n : Fin 4096) : Fin 4352 → EReal := bd (sq X0 X1 a g n) (sd X3 X2 a g n) (E (ix3 a n g))
/-- The queries' gradient. -/
def gQ : FVec Ideal S4096x2048 .f32 := fun y =>
  ∑ j, ds X0 X1 X2 X3 E (qa (y 1)) (qg (y 1)) (y 0) j * X1 (ix2 j (kd (qa (y 1)) (ql (y 1))))

/-- Row `r` of a key head's point `s`. -/
def rw16 (s : Fin 16) (r : Fin 256) : Fin 4096 := ⟨256 * s.val + r.val, by omega⟩
/-- A key lane's place in its head. -/
def kl (l : Fin 512) : Fin 128 := ⟨l.val % 128, by omega⟩

/-- The keys' gradient. -/
def gK : FVec Ideal S4352x512 .f32 := fun y => ∑ s, ∑ g, ∑ r,
  ds X0 X1 X2 X3 E (kA (y 1)) g (rw16 s r) (y 0) * X0 (ix2 (up (rw16 s r)) (qd (kA (y 1)) g (kl (y 1))))
/-- The weights. -/
def ps (a g : Fin 4) (n : Fin 4096) : Fin 4352 → EReal := bp (sq X0 X1 a g n) (E (ix3 a n g))
/-- The values' gradient. -/
def gV : FVec Ideal S4352x512 .f32 := fun y => ∑ s, ∑ g, ∑ r,
  ps X0 X1 E (kA (y 1)) g (rw16 s r) (y 0) * X3 (ix2 (rw16 s r) (qd (kA (y 1)) g (kl (y 1))))

theorem kA_at (t : Fin 64) (d : Fin 128) : kA (kc t d) = ka t :=
  Fin.ext (by show (128 * (t.val / 16) + d.val) / 128 = t.val / 16; omega)
theorem kl_at (t : Fin 64) (d : Fin 128) : kl (kc t d) = d :=
  Fin.ext (by show (128 * (t.val / 16) + d.val) % 128 = d.val; omega)

theorem pO (t : Fin 64) (r : Fin 256) (l : Fin 512) :
    fo (sb (qh (hd l) (qB X0 t)) (kB X1 t) r) (fun j => X2 (ix2 j (kc t (hl l))))
      = fo (sq X0 X1 (qa (qc t l)) (qg (qc t l)) (row t r)) fun j => X2 (ix2 j (kd (qa (qc t l)) (ql (qc t l)))) := by
  rw [sb_q, qa_at, qg_at, ql_at]; simp only [kc_eq]

theorem pS (t : Fin 64) (g : Fin 4) (r : Fin 256) :
    dsb (qB X0 t) (dB X3 t) (kB X1 t) (kB X2 t) (eB E t) g r = ds X0 X1 X2 X3 E (ka t) g (row t r) := by
  unfold dsb
  rw [sb_q, sb_d]
  rfl

theorem pP (t : Fin 64) (g : Fin 4) (r : Fin 256) :
    pb (qB X0 t) (kB X1 t) (eB E t) g r = ps X0 X1 E (ka t) g (row t r) := by
  unfold pb
  rw [sb_q]
  rfl

theorem pQ (t : Fin 64) (r : Fin 256) (l : Fin 512) :
    (∑ j, dsb (qB X0 t) (dB X3 t) (kB X1 t) (kB X2 t) (eB E t) (hd l) r j * X1 (ix2 j (kc t (hl l))))
      = ∑ j, ds X0 X1 X2 X3 E (qa (qc t l)) (qg (qc t l)) (row t r) j * X1 (ix2 j (kd (qa (qc t l)) (ql (qc t l)))) := by
  rw [pS, qa_at, qg_at, ql_at]; simp only [kc_eq]

/-- The points of a key head: point `s` of the head whose last point is `t`. -/
def pt (t : Fin 64) (h : t.val % 16 = 15) (s : Fin 16) : Fin 64 := ⟨16 * (t.val / 16) + s.val, by omega⟩

theorem ka_pt (t : Fin 64) (h : t.val % 16 = 15) (s : Fin 16) : ka (pt t h s) = ka t :=
  Fin.ext (by show (16 * (t.val / 16) + s.val) / 16 = t.val / 16; omega)
theorem row_pt (t : Fin 64) (h : t.val % 16 = 15) (s : Fin 16) (r : Fin 256) : row (pt t h s) r = rw16 s r :=
  Fin.ext (by show 256 * ((16 * (t.val / 16) + s.val) % 16) + r.val = 256 * s.val + r.val; omega)

theorem pK (t : Fin 64) (h : t.val % 16 = 15) (j : Fin 4352) (d : Fin 128) :
    (∑ s, t6 (qB X0 (pt t h s)) (dB X3 (pt t h s)) (kB X1 (pt t h s)) (kB X2 (pt t h s)) (eB E (pt t h s)) (ix2 j d))
      = gK X0 X1 X2 X3 E (ix2 j (kc t d)) := by
  show _ = ∑ s, ∑ g, ∑ r, ds X0 X1 X2 X3 E (kA (kc t d)) g (rw16 s r) j * X0 (ix2 (up (rw16 s r)) (qd (kA (kc t d)) g (kl (kc t d))))
  rw [kA_at, kl_at]
  refine Finset.sum_congr rfl fun s _ => Finset.sum_congr rfl fun g _ => Finset.sum_congr rfl fun r _ => ?_
  show dsb _ _ _ _ _ g r j * X0 (ix2 (up (row (pt t h s) r)) (qc (pt t h s) (lane g d))) = _
  rw [pS, qc_lane, ka_pt, row_pt]

theorem pV (t : Fin 64) (h : t.val % 16 = 15) (j : Fin 4352) (d : Fin 128) :
    (∑ s, t7 (qB X0 (pt t h s)) (dB X3 (pt t h s)) (kB X1 (pt t h s)) (eB E (pt t h s)) (ix2 j d))
      = gV X0 X1 X3 E (ix2 j (kc t d)) := by
  show _ = ∑ s, ∑ g, ∑ r, ps X0 X1 E (kA (kc t d)) g (rw16 s r) j * X3 (ix2 (rw16 s r) (qd (kA (kc t d)) g (kl (kc t d))))
  rw [kA_at, kl_at]
  refine Finset.sum_congr rfl fun s _ => Finset.sum_congr rfl fun g _ => Finset.sum_congr rfl fun r _ => ?_
  show pb _ _ _ g r j * X3 (ix2 (row (pt t h s) r) (qc (pt t h s) (lane g d))) = _
  rw [pP, qc_lane, ka_pt, row_pt]

theorem arrO (h0 : V c main_arg0 = X0) (h1 : V c main_arg1 = X1) (h2 : V c main_arg2 = X2) :
    (dat0 V c).arrAt 3 cfg0.N = gO X0 X1 X2 := by
  refine (dat0 V c).arrAt_eq_of_covers 3 _ (by decide +kernel) fun t hf y => ?_
  have key : ∀ z : S256x512.Idx, out0_3 (iblk0 V c 0 t) (iblk0 V c 1 t) (iblk0 V c 2 t) z
      = gO X0 X1 X2 (ix2 (row t (z 0)) (qc t (z 1))) := fun z => by
    rw [o3, i00 V c X0 h0, i01 V c X1 h1, i02 V c X2 h2]
    exact pO X0 X1 X2 t (z 0) (z 1)
  rw [after0_3]
  generalize out0_3 (iblk0 V c 0 t) (iblk0 V c 1 t) (iblk0 V c 2 t) = Q at key
  refine (key ((cfg0.win 3).xinj (cfg0.grid.coords t) y)).trans (congrArg (gO X0 X1 X2) ?_)
  symm
  blk_ext [idx0 t, row, qc]

theorem arrE (h0 : V c main_arg0 = X0) (h1 : V c main_arg1 = X1) : (dat0 V c).arrAt 4 cfg0.N = gE X0 X1 := by
  refine (dat0 V c).arrAt_eq_of_covers 4 _ (by decide +kernel) fun t hf y => ?_
  have key : ∀ z : S1x256x4.Idx, out0_4 (iblk0 V c 0 t) (iblk0 V c 1 t) (iblk0 V c 2 t) z
      = gE X0 X1 (ix3 (ka t) (row t (z 1)) (z 2)) := fun z => by
    rw [o4, i00 V c X0 h0, i01 V c X1 h1]
    exact congrArg fe (sb_q X0 X1 t (z 2) (z 1))
  rw [after0_4]
  generalize out0_4 (iblk0 V c 0 t) (iblk0 V c 1 t) (iblk0 V c 2 t) = Q at key
  refine (key ((cfg0.win 4).xinj (cfg0.grid.coords t) y)).trans (congrArg (gE X0 X1) ?_)
  symm
  blk_ext [idx0 t, row, ka]

variable (h0 : V c main_arg0 = X0) (h1 : V c main_arg1 = X1) (h2 : V c main_arg2 = X2) (h3 : V c main_arg3 = X3)
  (h4 : V c main_v0_1 = E)

include h0 h1 h2 h3 h4

theorem arrQ : (dat1 V c).arrAt 5 cfg1.N = gQ X0 X1 X2 X3 E := by
  refine (dat1 V c).arrAt_eq_of_covers 5 _ (by decide +kernel) fun t hf y => ?_
  have key : ∀ z : S256x512.Idx, (outsAt1 V c t.val t.isLt).1 z = gQ X0 X1 X2 X3 E (ix2 (row t (z 0)) (qc t (z 1))) := fun z => by
    refine Eq.trans ?_ (pQ X0 X1 X2 X3 E t (z 0) (z 1))
    by_cases h : t.val % 16 = 0
    · rw [o5A V c t h z, i10 V c X0 h0, i11 V c X1 h1, i12 V c X2 h2, i13 V c X3 h3, i14 V c E h4]; rfl
    · rw [o5B V c t h z, i10 V c X0 h0, i11 V c X1 h1, i12 V c X2 h2, i13 V c X3 h3, i14 V c E h4]; rfl
  rw [after1_5]
  generalize (outsAt1 V c t.val t.isLt).1 = Q at key
  refine (key ((cfg1.win 5).xinj (cfg1.grid.coords t) y)).trans (congrArg (gQ X0 X1 X2 X3 E) ?_)
  symm
  blk_ext [idx1 t, row, qc]

theorem arrK : (dat1 V c).arrAt 6 cfg1.N = gK X0 X1 X2 X3 E := by
  refine (dat1 V c).arrAt_eq_of_covers 6 _ (by decide +kernel) fun t hf y => ?_
  have ht : t.val % 16 = 15 := (flush1_6 t).mp hf
  have key : ∀ z : S4352x128.Idx, (outsAt1 V c t.val t.isLt).2.1 z = gK X0 X1 X2 X3 E (ix2 (z 0) (kc t (z 1))) := fun z => by
    refine (Pipeline.eq_sum_fin_of_reset_step_apply_of_flush (fun n h => (outsAt1 V c n h).2.1) 16 (fun _ => (0 : EReal))
      (fun p => t6 (qB X0 p) (dB X3 p) (kB X1 p) (kB X2 p) (eB E p))
      (fun t h i => by rw [o6A V c t h i, i10 V c X0 h0, i11 V c X1 h1, i12 V c X2 h2, i13 V c X3 h3, i14 V c E h4, zero_add])
      (fun t h i => by rw [o6B V c t h i, i10 V c X0 h0, i11 V c X1 h1, i12 V c X2 h2, i13 V c X3 h3, i14 V c E h4])
      t ht z).trans ?_
    rw [zero_add]
    exact (congrArg (fun w => ∑ s : Fin 16, t6 (qB X0 (pt t ht s)) (dB X3 (pt t ht s)) (kB X1 (pt t ht s)) (kB X2 (pt t ht s))
      (eB E (pt t ht s)) w) (eq_ix2 z)).trans (pK X0 X1 X2 X3 E t ht (z 0) (z 1))
  rw [after1_6]
  generalize (outsAt1 V c t.val t.isLt).2.1 = Q at key
  refine (key ((cfg1.win 6).xinj (cfg1.grid.coords t) y)).trans (congrArg (gK X0 X1 X2 X3 E) ?_)
  symm
  blk_ext [idx1 t, kc]

theorem arrV : (dat1 V c).arrAt 7 cfg1.N = gV X0 X1 X3 E := by
  refine (dat1 V c).arrAt_eq_of_covers 7 _ (by decide +kernel) fun t hf y => ?_
  have ht : t.val % 16 = 15 := (flush1_7 t).mp hf
  have key : ∀ z : S4352x128.Idx, (outsAt1 V c t.val t.isLt).2.2 z = gV X0 X1 X3 E (ix2 (z 0) (kc t (z 1))) := fun z => by
    refine (Pipeline.eq_sum_fin_of_reset_step_apply_of_flush (fun n h => (outsAt1 V c n h).2.2) 16 (fun _ => (0 : EReal))
      (fun p => t7 (qB X0 p) (dB X3 p) (kB X1 p) (eB E p))
      (fun t h i => by rw [o7A V c t h i, i10 V c X0 h0, i11 V c X1 h1, i13 V c X3 h3, i14 V c E h4, zero_add])
      (fun t h i => by rw [o7B V c t h i, i10 V c X0 h0, i11 V c X1 h1, i13 V c X3 h3, i14 V c E h4])
      t ht z).trans ?_
    rw [zero_add]
    exact (congrArg (fun w => ∑ s : Fin 16, t7 (qB X0 (pt t ht s)) (dB X3 (pt t ht s)) (kB X1 (pt t ht s))
      (eB E (pt t ht s)) w) (eq_ix2 z)).trans (pV X0 X1 X3 E t ht (z 0) (z 1))
  rw [after1_7]
  generalize (outsAt1 V c t.val t.isLt).2.2 = Q at key
  refine (key ((cfg1.win 7).xinj (cfg1.grid.coords t) y)).trans (congrArg (gV X0 X1 X3 E) ?_)
  symm
  blk_ext [idx1 t, kc]

end Cert.Kernel2Ideal.Body
end
-- ==== Proof.AttnRun.lean ====
module

public import proofs.«01_k».proof.Proof.AttnArr

@[expose] public section

set_option maxRecDepth 16384

noncomputable section

namespace Cert.Kernel2Ideal.Body

open Idealize.ShloMosaic Cert.Kernel2Ideal Cert.Kernel2Ideal.Gen Cert.Attn
open Idealize.ShloMosaic.TcCoe Idealize.SL.Sem Idealize.ShloMosaic.Tactic
open Idealize.SL Idealize.SL.RA Idealize.SL.BI
open scoped Idealize.SL.BI
open Idealize.SL.BI.BIBase Idealize.SL.BI.Laws Idealize.SL.ProofMode
open Idealize.ShloMosaic.Rounds

/-!
What every buffer of the attention's two calls holds after the run, and from it the four results.
-/

variable (m : (ℓ : Loc nD τ sig) → Buf (Elt Ideal) ℓ) (ρ : Dev nD → PrngReg)

/-- The model the launch is stated in. -/
abbrev MM := MT nD τ sig Unit (Elt Ideal) ℕ (UR sig nD τ) ℕ

set_option backward.isDefEq.respectTransparency.types false in
/-- Every buffer ends with what the last region's boundary says. -/
theorem run_all : θ_run defs (onTc (τ := τ) (main (F := Ideal))) ⟨m, fun _ => 0, ρ⟩
    (fun r => ∀ c : Dev nD, ∀ b ∈ Pipeline.ucRefs τ sig, r.2.mem (((c : Thread nD τ)).1, b) = W2 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp MM)
            ⊢ BI.own (emb₁ (initOf (Pipeline.cells cfgs cellOf_inj) (Pipeline.launchToks cfgs cellOf_inj))) from .rfl)
        iexact Hu
      iapply (show (BI.emp : sProp MM) ⊢ bigSep Finset.univ (fun _ : Dev nD => (BI.emp : sProp MM)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun _ h _ => h)

/-- The queries. -/
abbrev A0 (c : Dev nD) : Qs := m ((c : Thread nD τ).loc main_arg0)
/-- The keys. -/
abbrev A1 (c : Dev nD) : Ks := m ((c : Thread nD τ).loc main_arg1)
/-- The values. -/
abbrev A2 (c : Dev nD) : Ks := m ((c : Thread nD τ).loc main_arg2)
/-- The output's cotangent. -/
abbrev A3 (c : Dev nD) : Ds := m ((c : Thread nD τ).loc main_arg3)

/-- The logarithms the second call takes are the ones the first saves. -/
theorem v1_lse (c : Dev nD) : V1 m ρ c main_v0_1 = gE (A0 m c) (A1 m c) :=
  (W1_arr m ρ c 4).trans (arrE (V0 m ρ) c (A0 m c) (A1 m c) rfl rfl)

theorem w2_o (c : Dev nD) : W2 m ρ c (Proc.devRef .tc main_v0_0) = gO (A0 m c) (A1 m c) (A2 m c) :=
  (W2_of m ρ c main_v0_0 (by decide)).trans ((W1_arr m ρ c 3).trans (arrO (V0 m ρ) c (A0 m c) (A1 m c) (A2 m c) rfl rfl rfl))

theorem w2_q (c : Dev nD) : W2 m ρ c (Proc.devRef .tc main_v1_0)
    = gQ (A0 m c) (A1 m c) (A2 m c) (A3 m c) (gE (A0 m c) (A1 m c)) :=
  (W2_arr m ρ c 5).trans (arrQ (V1 m ρ) c _ _ _ _ _ (W1_args m ρ c main_arg0 (by decide)) (W1_args m ρ c main_arg1 (by decide))
    (W1_args m ρ c main_arg2 (by decide)) (W1_args m ρ c main_arg3 (by decide)) (v1_lse m ρ c))

theorem w2_k (c : Dev nD) : W2 m ρ c (Proc.devRef .tc main_v1_1)
    = gK (A0 m c) (A1 m c) (A2 m c) (A3 m c) (gE (A0 m c) (A1 m c)) :=
  (W2_arr m ρ c 6).trans (arrK (V1 m ρ) c _ _ _ _ _ (W1_args m ρ c main_arg0 (by decide)) (W1_args m ρ c main_arg1 (by decide))
    (W1_args m ρ c main_arg2 (by decide)) (W1_args m ρ c main_arg3 (by decide)) (v1_lse m ρ c))

theorem w2_v (c : Dev nD) : W2 m ρ c (Proc.devRef .tc main_v1_2)
    = gV (A0 m c) (A1 m c) (A3 m c) (gE (A0 m c) (A1 m c)) :=
  (W2_arr m ρ c 7).trans (arrV (V1 m ρ) c _ _ _ _ _ (W1_args m ρ c main_arg0 (by decide)) (W1_args m ρ c main_arg1 (by decide))
    (W1_args m ρ c main_arg2 (by decide)) (W1_args m ρ c main_arg3 (by decide)) (v1_lse m ρ c))

end Cert.Kernel2Ideal.Body
end
-- ==== Proof.AttnRef.lean ====
module

public import proofs.«01_k».proof.Proof.AttnIdx
public import proofs.«01_k».proof.Proof.Gen.Reference2Ideal.Read
public import Idealize.ShloMosaic.Lib.TwoAxisContraction

@[expose] public section

set_option maxRecDepth 16384

noncomputable section

namespace Cert.Reference2Ideal.Body

open Idealize.ShloMosaic Cert.Reference2Ideal Cert.Reference2Ideal.Gen Cert.Reference2Ideal.Read Cert.Attn

/-!
The attention's reference read at an index, in terms of the rows' mathematics.
-/

variable (X0 : Qs) (X1 X2 : Ks) (X3 : Ds)

theorem r4 (n : Fin 4096) (a g : Fin 4) (d : Fin 128) : val_main_v4 (F := Ideal) X0 (ix4 n a g d) = X0 (ix2 (up n) (qd a g d)) := by
  pointwise [val_main_v4, val_main_v1, val_main_v0, up, qd]

theorem r5 (j : Fin 4352) (a : Fin 4) (d : Fin 128) : val_main_v5 (F := Ideal) X1 (ix3 j a d) = X1 (ix2 j (kd a d)) := by
  pointwise [val_main_v5, val_main_v2, kd]

theorem r6 (j : Fin 4352) (a : Fin 4) (d : Fin 128) : val_main_v6 (F := Ideal) X2 (ix3 j a d) = X2 (ix2 j (kd a d)) := by
  pointwise [val_main_v6, val_main_v3, kd]

theorem r8 (a g : Fin 4) (n : Fin 4096) (j : Fin 4352) : val_main_v8 (F := Ideal) X0 X1 (ix4 a g n j) = sq X0 X1 a g n j := by
  pointwise [val_main_v8, val_main_v7, r4, r5]
  exact Finset.sum_congr rfl fun d _ => mul_comm _ _

theorem r11 (a g : Fin 4) (n : Fin 4096) (j : Fin 4352) : val_main_v11 (F := Ideal) X0 X1 (ix4 a g n j) = rz (sq X0 X1 a g n) j := by
  pointwise [val_main_v11, r8, val_main_v10, val_main_v9, val_main_cst]
  rfl

theorem r12 (a g : Fin 4) (n : Fin 4096) : val_main_v12 (F := Ideal) X0 X1 (ix3 a g n) = mx (rz (sq X0 X1 a g n)) := by
  pointwise [val_main_v12, r11, val_main_cst_0]
  rfl

theorem r19 (a g : Fin 4) (n : Fin 4096) : val_main_v19 (F := Ideal) X0 X1 (ix3 a g n) = max kBot (mx (rz (sq X0 X1 a g n))) := by
  rw [val_main_v19_apply, r12]
  generalize mx (rz (sq X0 X1 a g n)) = w
  pointwise [val_main_v18, val_main_cst_2]

theorem r30 (a g : Fin 4) (n : Fin 4096) (j : Fin 4352) :
    val_main_v30 (F := Ideal) X0 X1 (ix4 a g n j) = max kBot (mx (rz (sq X0 X1 a g n))) := by
  pointwise [val_main_v30, val_main_v29, r19]

theorem r32 (a g : Fin 4) (n : Fin 4096) (j : Fin 4352) : val_main_v32 (F := Ideal) X0 X1 (ix4 a g n j) = re (sq X0 X1 a g n) j := by
  unfold re
  pointwise [val_main_v32, val_main_v31, r30, r11]

theorem r34 (a g : Fin 4) (n : Fin 4096) (i : Fin 1) : val_main_v34 (F := Ideal) X0 X1 (ix4 a g n i) = rl (sq X0 X1 a g n) := by
  pointwise [val_main_v34, val_main_v33, r32, val_main_cst_8]
  rfl

theorem r36 (a g : Fin 4) (n : Fin 4096) (j : Fin 4352) : val_main_v36 (F := Ideal) X0 X1 (ix4 a g n j) = rp (sq X0 X1 a g n) j := by
  pointwise [val_main_v36, val_main_v35, r34, r32]
  rfl

/-- The reference's output. -/
theorem r42 (n : Fin 4096) (a g : Fin 4) (d : Fin 128) : val_main_v42 (F := Ideal) X0 X1 X2 (ix2 n (qd a g d))
    = ∑ j, X2 (ix2 j (kd a d)) * rp (sq X0 X1 a g n) j := by
  unfold qd
  pointwise [val_main_v42, val_main_v41, val_main_v40, r36, r6]

theorem r45 (n : Fin 4096) (a g : Fin 4) (d : Fin 128) : val_main_v45 (F := Ideal) X3 (ix4 a d g n) = X3 (ix2 n (qd a g d)) := by
  pointwise [val_main_v45, val_main_v44, val_main_v43, qd]

theorem r46 (a g : Fin 4) (n : Fin 4096) (j : Fin 4352) : val_main_v46 (F := Ideal) X2 X3 (ix4 a g n j) = sd X3 X2 a g n j := by
  pointwise [val_main_v46, r45, r6]
  rfl

theorem r54 (a g : Fin 4) (n : Fin 4096) (i : Fin 1) : val_main_v54 (F := Ideal) X0 X1 X2 X3 (ix4 a g n i)
    = -∑ x, sd X3 X2 a g n x * Ideal.div 1 (rl (sq X0 X1 a g n) * rl (sq X0 X1 a g n)) * re (sq X0 X1 a g n) x := by
  pointwise [val_main_v54, val_main_v53, val_main_v52, val_main_v51, val_main_v50, val_main_v49, val_main_v39, val_main_v38,
    val_main_v37, r46, r34, r32, val_main_cst_10, val_main_cst_9]

theorem r62 (a g : Fin 4) (n : Fin 4096) (j : Fin 4352) : val_main_v62 (F := Ideal) X0 X1 X2 X3 (ix4 a g n j)
    = rd (sq X0 X1 a g n) (sd X3 X2 a g n) j := by
  pointwise [val_main_v62, val_main_v61, val_main_v60, val_main_v59, val_main_v58, val_main_v57, val_main_v56, val_main_v55,
    val_main_v9, val_main_cst, r54, r46, r34, r32, val_main_cst_11]
  rw [Fin.sum_univ_one]
  rfl

/-- The reference's gradient of the queries. -/
theorem r70 (n : Fin 4096) (a g : Fin 4) (d : Fin 128) : val_main_v70 (F := Ideal) X0 X1 X2 X3 (ix2 n (qd a g d))
    = ∑ j, rd (sq X0 X1 a g n) (sd X3 X2 a g n) j * X1 (ix2 j (kd a d)) := by
  unfold qd
  pointwise [val_main_v70, val_main_v65, val_main_v64, val_main_v63, r62, r5]

theorem r66 (a : Fin 4) (j : Fin 4352) (d : Fin 128) : val_main_v66 (F := Ideal) X0 X1 X2 X3 (ix3 a j d)
    = ∑ n, ∑ g, rd (sq X0 X1 a g n) (sd X3 X2 a g n) j * X0 (ix2 (up n) (qd a g d)) := by
  unfold val_main_v66
  simp only [Host.dotGeneral]
  rw [Ideal.dotGeneral_apply]
  refine (ValueIdx.sum_contr2 _ 4096 4 rfl rfl rfl _).trans (Finset.sum_congr rfl fun n _ => Finset.sum_congr rfl fun g _ => ?_)
  have h0 := ValueIdx.contrEquiv2_symm_val0 dot_S4x4352x4096x4_S4096x4x4x128_S4x4352x128_23_02_1_3_0_1 4096 4 rfl rfl rfl (n, g)
  have h1 := ValueIdx.contrEquiv2_symm_val1 dot_S4x4352x4096x4_S4096x4x4x128_S4x4352x128_23_02_1_3_0_1 4096 4 rfl rfl rfl (n, g)
  generalize (ValueIdx.contrEquiv2 dot_S4x4352x4096x4_S4096x4x4x128_S4x4352x128_23_02_1_3_0_1 4096 4 rfl rfl rfl).symm (n, g) = q at h0 h1
  have el : dot_S4x4352x4096x4_S4096x4x4x128_S4x4352x128_23_02_1_3_0_1.lhsIdx (ix3 a j d) q = ix4 a j n g := by
    funext x; apply Fin.ext
    match x with
    | ⟨0, _⟩ => rfl
    | ⟨1, _⟩ => rfl
    | ⟨2, _⟩ => exact h0
    | ⟨3, _⟩ => exact h1
  have er : dot_S4x4352x4096x4_S4096x4x4x128_S4x4352x128_23_02_1_3_0_1.rhsIdx (ix3 a j d) q = ix4 n a g d := by
    funext x; apply Fin.ext
    match x with
    | ⟨0, _⟩ => exact h0
    | ⟨1, _⟩ => rfl
    | ⟨2, _⟩ => exact h1
    | ⟨3, _⟩ => rfl
  rw [el, er]
  pointwise [val_main_v63, r62, r4]

theorem r47 (a : Fin 4) (d : Fin 128) (j : Fin 4352) : val_main_v47 (F := Ideal) X0 X1 X3 (ix3 a d j)
    = ∑ g, ∑ n, X3 (ix2 n (qd a g d)) * rp (sq X0 X1 a g n) j := by
  unfold val_main_v47
  simp only [Host.dotGeneral]
  rw [Ideal.dotGeneral_apply]
  refine (ValueIdx.sum_contr2 _ 4 4096 rfl rfl rfl _).trans (Finset.sum_congr rfl fun g _ => Finset.sum_congr rfl fun n _ => ?_)
  have h0 := ValueIdx.contrEquiv2_symm_val0 dot_S4x128x4x4096_S4x4x4096x4352_S4x128x4352_23_12_1_3_0_0 4 4096 rfl rfl rfl (g, n)
  have h1 := ValueIdx.contrEquiv2_symm_val1 dot_S4x128x4x4096_S4x4x4096x4352_S4x128x4352_23_12_1_3_0_0 4 4096 rfl rfl rfl (g, n)
  generalize (ValueIdx.contrEquiv2 dot_S4x128x4x4096_S4x4x4096x4352_S4x128x4352_23_12_1_3_0_0 4 4096 rfl rfl rfl).symm (g, n) = q at h0 h1
  have el : dot_S4x128x4x4096_S4x4x4096x4352_S4x128x4352_23_12_1_3_0_0.lhsIdx (ix3 a d j) q = ix4 a d g n := by
    funext x; apply Fin.ext
    match x with
    | ⟨0, _⟩ => rfl
    | ⟨1, _⟩ => rfl
    | ⟨2, _⟩ => exact h0
    | ⟨3, _⟩ => exact h1
  have er : dot_S4x128x4x4096_S4x4x4096x4352_S4x128x4352_23_12_1_3_0_0.rhsIdx (ix3 a d j) q = ix4 a g n j := by
    funext x; apply Fin.ext
    match x with
    | ⟨0, _⟩ => rfl
    | ⟨1, _⟩ => exact h0
    | ⟨2, _⟩ => exact h1
    | ⟨3, _⟩ => rfl
  rw [el, er, r45, r36]

/-- The reference's gradient of the keys. -/
theorem r69 (j : Fin 4352) (a : Fin 4) (d : Fin 128) : val_main_v69 (F := Ideal) X0 X1 X2 X3 (ix2 j (kd a d))
    = ∑ n, ∑ g, rd (sq X0 X1 a g n) (sd X3 X2 a g n) j * X0 (ix2 (up n) (qd a g d)) := by
  rw [← r66]
  unfold kd
  pointwise [val_main_v69, val_main_v67]

/-- The reference's gradient of the values. -/
theorem r68 (j : Fin 4352) (a : Fin 4) (d : Fin 128) : val_main_v68 (F := Ideal) X0 X1 X3 (ix2 j (kd a d))
    = ∑ g, ∑ n, X3 (ix2 n (qd a g d)) * rp (sq X0 X1 a g n) j := by
  rw [← r47]
  unfold kd
  pointwise [val_main_v68, val_main_v48]

end Cert.Reference2Ideal.Body
end
-- ==== Proof.AttnVal.lean ====
module

public import proofs.«01_k».proof.Proof.AttnArr
public import proofs.«01_k».proof.Proof.AttnRef

@[expose] public section

set_option maxRecDepth 16384

noncomputable section

namespace Cert.AttnValues

open Idealize.ShloMosaic Cert.Attn Cert.Gate Cert.Kernel2Ideal.Body Cert.Reference2Ideal.Read Cert.Reference2Ideal.Body

/-!
At finite arguments the reference's four results are the kernels' four arrays.
-/

/-- Every component of every argument is a real number. -/
structure Finite2 (X0 : Qs) (X1 X2 : Ks) (X3 : Ds) : Prop where
  q : ∀ i, Real' (X0 i)
  k : ∀ i, Real' (X1 i)
  v : ∀ i, Real' (X2 i)
  d : ∀ i, Real' (X3 i)

variable {X0 : Qs} {X1 X2 : Ks} {X3 : Ds}

/-- The scores of finite arguments are real. -/
theorem sq_real (h : Finite2 X0 X1 X2 X3) (a g : Fin 4) (n : Fin 4096) :
    ∃ f : Fin 4352 → ℝ, sq X0 X1 a g n = fun j => (f j : EReal) := by
  choose x hx using h.q
  choose k hk using h.k
  refine ⟨fun j => ∑ d, x (ix2 (up n) (qd a g d)) * k (ix2 j (kd a d)), funext fun j => ?_⟩
  rw [← coe_sum]
  exact Finset.sum_congr rfl fun d _ => by rw [hx, hk, ← EReal.coe_mul]

theorem sd_real (h : Finite2 X0 X1 X2 X3) (a g : Fin 4) (n : Fin 4096) :
    ∃ f : Fin 4352 → ℝ, sd X3 X2 a g n = fun j => (f j : EReal) := by
  choose x hx using h.d
  choose k hk using h.v
  refine ⟨fun j => ∑ d, x (ix2 n (qd a g d)) * k (ix2 j (kd a d)), funext fun j => ?_⟩
  rw [← coe_sum]
  exact Finset.sum_congr rfl fun d _ => by rw [hx, hk, ← EReal.coe_mul]

/-- The kernel's gradient of the scores is the reference's. -/
theorem ds_eq (h : Finite2 X0 X1 X2 X3) (a g : Fin 4) (n : Fin 4096) (j : Fin 4352) :
    ds X0 X1 X2 X3 (gE X0 X1) a g n j = rd (sq X0 X1 a g n) (sd X3 X2 a g n) j := by
  obtain ⟨f, hf⟩ := sq_real h a g n
  obtain ⟨k, hk⟩ := sd_real h a g n
  show bd (sq X0 X1 a g n) (sd X3 X2 a g n) (fe (sq X0 X1 a g n)) j = _
  rw [hf, hk, bd_real, rd_real]

/-- The kernel's weights are the reference's. -/
theorem ps_eq (h : Finite2 X0 X1 X2 X3) (a g : Fin 4) (n : Fin 4096) (j : Fin 4352) :
    ps X0 X1 (gE X0 X1) a g n j = rp (sq X0 X1 a g n) j := by
  obtain ⟨f, hf⟩ := sq_real h a g n
  show bp (sq X0 X1 a g n) (fe (sq X0 X1 a g n)) j = _
  rw [hf, bp_real, rp_real]

theorem qa_qd (a g : Fin 4) (d : Fin 128) : qa (qd a g d) = a :=
  Fin.ext (by show (a.val * 512 + g.val * 128 + d.val) / 512 = a.val; omega)
theorem qg_qd (a g : Fin 4) (d : Fin 128) : qg (qd a g d) = g :=
  Fin.ext (by show (a.val * 512 + g.val * 128 + d.val) % 512 / 128 = g.val; omega)
theorem ql_qd (a g : Fin 4) (d : Fin 128) : ql (qd a g d) = d :=
  Fin.ext (by show (a.val * 512 + g.val * 128 + d.val) % 128 = d.val; omega)
theorem kA_kd (a : Fin 4) (d : Fin 128) : kA (kd a d) = a :=
  Fin.ext (by show (a.val * 128 + d.val) / 128 = a.val; omega)
theorem kl_kd (a : Fin 4) (d : Fin 128) : kl (kd a d) = d :=
  Fin.ext (by show (a.val * 128 + d.val) % 128 = d.val; omega)

/-- The rows, taken sixteen times 256. -/
theorem sum_rows (f : Fin 4096 → EReal) : (∑ s : Fin 16, ∑ r : Fin 256, f (rw16 s r)) = ∑ n, f n := by
  rw [← Fintype.sum_prod_type', ← Equiv.sum_comp (finProdFinEquiv (m := 16) (n := 256)) f]
  refine Finset.sum_congr rfl fun p _ => congrArg f (Fin.ext ?_)
  show 256 * p.1.val + p.2.val = p.2.val + 256 * p.1.val
  omega

/-- The output. -/
theorem o_eq (h : Finite2 X0 X1 X2 X3) : val_main_v42 (F := Ideal) X0 X1 X2 = gO X0 X1 X2 := by
  have key : ∀ (n : Fin 4096) (l : Fin 2048), val_main_v42 (F := Ideal) X0 X1 X2 (ix2 n l) = gO X0 X1 X2 (ix2 n l) := by
    intro n l
    obtain ⟨a, g, d, rfl⟩ := qd_split l
    refine (r42 X0 X1 X2 n a g d).trans ?_
    show _ = fo (sq X0 X1 (qa (qd a g d)) (qg (qd a g d)) n) fun j => X2 (ix2 j (kd (qa (qd a g d)) (ql (qd a g d))))
    rw [qa_qd, qg_qd, ql_qd]
    obtain ⟨f, hf⟩ := sq_real h a g n
    choose v hv using h.v
    rw [hf, show (fun j => X2 (ix2 j (kd a d))) = fun j => (v (ix2 j (kd a d)) : EReal) from funext fun j => hv _, fo_real, ← coe_sum]
    exact Finset.sum_congr rfl fun j _ => by rw [rp_real, hv, ← EReal.coe_mul, mul_comm]
  funext y
  rw [eq_ix2 y]
  exact key _ _

/-- The queries' gradient. -/
theorem q_eq (h : Finite2 X0 X1 X2 X3) :
    val_main_v70 (F := Ideal) X0 X1 X2 X3 = gQ X0 X1 X2 X3 (gE X0 X1) := by
  have key : ∀ (n : Fin 4096) (l : Fin 2048),
      val_main_v70 (F := Ideal) X0 X1 X2 X3 (ix2 n l) = gQ X0 X1 X2 X3 (gE X0 X1) (ix2 n l) := by
    intro n l
    obtain ⟨a, g, d, rfl⟩ := qd_split l
    refine (r70 X0 X1 X2 X3 n a g d).trans ?_
    show _ = ∑ j, ds X0 X1 X2 X3 (gE X0 X1) (qa (qd a g d)) (qg (qd a g d)) n j * X1 (ix2 j (kd (qa (qd a g d)) (ql (qd a g d))))
    rw [qa_qd, qg_qd, ql_qd]
    exact Finset.sum_congr rfl fun j _ => by rw [ds_eq h]
  funext y
  rw [eq_ix2 y]
  exact key _ _

/-- The keys' gradient. -/
theorem k_eq (h : Finite2 X0 X1 X2 X3) :
    val_main_v69 (F := Ideal) X0 X1 X2 X3 = gK X0 X1 X2 X3 (gE X0 X1) := by
  have key : ∀ (j : Fin 4352) (l : Fin 512),
      val_main_v69 (F := Ideal) X0 X1 X2 X3 (ix2 j l) = gK X0 X1 X2 X3 (gE X0 X1) (ix2 j l) := by
    intro j l
    obtain ⟨a, d, rfl⟩ := kd_split l
    refine (r69 X0 X1 X2 X3 j a d).trans ?_
    show _ = ∑ s, ∑ g, ∑ r, ds X0 X1 X2 X3 (gE X0 X1) (kA (kd a d)) g (rw16 s r) j
      * X0 (ix2 (up (rw16 s r)) (qd (kA (kd a d)) g (kl (kd a d))))
    rw [kA_kd, kl_kd, ← sum_rows]
    refine Finset.sum_congr rfl fun s _ => Finset.sum_comm.trans ?_
    exact Finset.sum_congr rfl fun g _ => Finset.sum_congr rfl fun r _ => by rw [ds_eq h]
  funext y
  rw [eq_ix2 y]
  exact key _ _

/-- The values' gradient. -/
theorem v_eq (h : Finite2 X0 X1 X2 X3) : val_main_v68 (F := Ideal) X0 X1 X3 = gV X0 X1 X3 (gE X0 X1) := by
  have key : ∀ (j : Fin 4352) (l : Fin 512),
      val_main_v68 (F := Ideal) X0 X1 X3 (ix2 j l) = gV X0 X1 X3 (gE X0 X1) (ix2 j l) := by
    intro j l
    obtain ⟨a, d, rfl⟩ := kd_split l
    refine (r68 X0 X1 X3 j a d).trans ?_
    show _ = ∑ s, ∑ g, ∑ r, ps X0 X1 (gE X0 X1) (kA (kd a d)) g (rw16 s r) j
      * X3 (ix2 (rw16 s r) (qd (kA (kd a d)) g (kl (kd a d))))
    rw [kA_kd, kl_kd]
    refine Eq.trans ?_ Finset.sum_comm
    refine Finset.sum_congr rfl fun g _ => (sum_rows fun n => X3 (ix2 n (qd a g d)) * rp (sq X0 X1 a g n) j).symm.trans ?_
    exact Finset.sum_congr rfl fun s _ => Finset.sum_congr rfl fun r _ => by rw [ps_eq h, mul_comm]
  funext y
  rw [eq_ix2 y]
  exact key _ _

end Cert.AttnValues
end
-- ==== Proof.AttnClaims.lean ====
module

public import proofs.«01_k».proof.Defs
public import proofs.«01_k».proof.Proof.Pre
public import proofs.«01_k».proof.Proof.AttnRun
public import proofs.«01_k».proof.Proof.AttnVal
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import Idealize.ShloMosaic.Adequacy
public import Idealize.ShloMosaic.Init

@[expose] public section

set_option maxRecDepth 16384

noncomputable section

namespace Cert.Pre_finite2.Body

theorem facts : Cert.Pre_finite2.Facts where
  bitsLt_bf16_f32 := by decide
  bcast_S_S4352x2048 := by decide
  bcast_S_S4352x512 := by decide
  bcast_S_S4096x2048 := by decide

end Cert.Pre_finite2.Body

namespace Cert.Proof.AttnClaims

open Idealize.ShloMosaic Idealize.ShloMosaic.TcCoe Idealize.SL.Sem Cert.Attn Cert.Kernel2Ideal.Body Cert.Kernel2Ideal.Gen

/-!
The claims of the attention's forward and backward calls.
-/

instance : Cert.Pre_finite2.Facts := Cert.Pre_finite2.Body.facts

theorem frame_p : Cert.quiescent_Kernel2 := fun m ρ _ => Cert.Kernel2.Gen.frame m ρ
theorem frame_pi : Cert.quiescent_Kernel2Ideal := fun m ρ _ => Cert.Kernel2Ideal.Gen.frame m ρ
theorem frame_pi_pre : Cert.quiescent_Kernel2Ideal_pre_finite2 := fun m ρ _ => Cert.Kernel2Ideal.Gen.frame m ρ
theorem frame_ri : Cert.quiescent_Reference2Ideal := fun m ρ _ =>
  (θ_run Cert.Reference2Ideal.defs _ _).mono (fun r h => ⟨fun c => (h c).2.2.2.2, sem_eq_zero_of_no_sems (by decide) r.2⟩)
    (Cert.Reference2Ideal.Value.run (F := Ideal) m ρ)
theorem frame_ri_pre : Cert.quiescent_Reference2Ideal_pre_finite2 := fun m ρ _ => frame_ri m ρ trivial

/-- The three named constants. -/
theorem preserves : Cert.preserves_Kernel2_Kernel2Ideal :=
  ⟨IdealRules.named_const.statement Cert.Kernel2Ideal.κ "scale_log2e" .f32 0x3E0293EE#32
      (((Real.sqrt 128)⁻¹ * (Real.log 2)⁻¹ : ℝ) : EReal) rfl,
    IdealRules.named_const.statement Cert.Kernel2Ideal.κ "scale" .f32 0x3DB504F3#32 (((Real.sqrt 128)⁻¹ : ℝ) : EReal) rfl,
    IdealRules.named_const.statement Cert.Kernel2Ideal.κ "log2e" .f32 0x3FB8AA3B#32 (((Real.log 2)⁻¹ : ℝ) : EReal) rfl⟩

/-- The precondition, as the values' lemma reads it. -/
theorem finite {m : (ℓ : Loc Cert.Kernel2Ideal.nD Cert.Kernel2Ideal.τ Cert.Kernel2Ideal.sig) → Buf (Elt Ideal) ℓ}
    (h : Cert.Pre_Kernel2Ideal_finite2 m) (c : Dev Cert.Kernel2Ideal.nD) :
    Cert.AttnValues.Finite2 (A0 m c) (A1 m c) (A2 m c) (A3 m c) where
  q := Cert.Pre_finite.Body.real_of_cmp (s := ⟨2, ![4352, 2048]⟩) (A0 m c) _ (h c).1
  k := Cert.Pre_finite.Body.real_of_cmp (s := ⟨2, ![4352, 512]⟩) (A1 m c) _ (h c).2.1
  v := Cert.Pre_finite.Body.real_of_cmp (s := ⟨2, ![4352, 512]⟩) (A2 m c) _ (h c).2.2.1
  d := Cert.Pre_finite.Body.real_of_cmp (s := ⟨2, ![4096, 2048]⟩) (A3 m c) _ (h c).2.2.2

theorem algebraic : Cert.algebraic_Kernel2Ideal_Reference2Ideal_pre_finite2 := by
  intro m ρ m' ρ' hp ha
  refine ⟨fun c => gO (A0 m c) (A1 m c) (A2 m c), fun c => gQ (A0 m c) (A1 m c) (A2 m c) (A3 m c) (gE (A0 m c) (A1 m c)),
    fun c => gK (A0 m c) (A1 m c) (A2 m c) (A3 m c) (gE (A0 m c) (A1 m c)),
    fun c => gV (A0 m c) (A1 m c) (A3 m c) (gE (A0 m c) (A1 m c)), ?_, ?_⟩
  · exact (θ_run Cert.Kernel2Ideal.defs _ _).mono (fun r h c =>
      ⟨(h c _ (mem_uc Cert.Kernel2Ideal.main_v0_0 (by decide))).trans (w2_o m ρ c),
        (h c _ (mem_uc Cert.Kernel2Ideal.main_v1_0 (by decide))).trans (w2_q m ρ c),
        (h c _ (mem_uc Cert.Kernel2Ideal.main_v1_1 (by decide))).trans (w2_k m ρ c),
        (h c _ (mem_uc Cert.Kernel2Ideal.main_v1_2 (by decide))).trans (w2_v m ρ c),
        (h c _ (mem_uc Cert.Kernel2Ideal.main_arg0 (by decide))).trans (W2_main_arg0 m ρ c),
        (h c _ (mem_uc Cert.Kernel2Ideal.main_arg1 (by decide))).trans (W2_main_arg1 m ρ c),
        (h c _ (mem_uc Cert.Kernel2Ideal.main_arg2 (by decide))).trans (W2_main_arg2 m ρ c),
        (h c _ (mem_uc Cert.Kernel2Ideal.main_arg3 (by decide))).trans (W2_main_arg3 m ρ c)⟩)
      (run_all m ρ)
  · refine (θ_run Cert.Reference2Ideal.defs _ _).mono (fun r h c => ?_) (Cert.Reference2Ideal.Value.run (F := Ideal) m' ρ')
    obtain ⟨h1, h2, h3, h4, h5⟩ := h c
    obtain ⟨e0, e1, e2, e3⟩ := ha c
    refine ⟨h1.trans ((Cert.Reference2Ideal.Read.val_main_v42_eq _ _ _).trans ?_),
      h2.trans ((Cert.Reference2Ideal.Read.val_main_v70_eq _ _).trans ?_),
      h3.trans ((Cert.Reference2Ideal.Read.val_main_v69_eq _ _).trans ?_),
      h4.trans ((Cert.Reference2Ideal.Read.val_main_v68_eq _ _ _).trans ?_), h5⟩
    · rw [e0, e1, e2]
      exact Cert.AttnValues.o_eq (finite hp c)
    · rw [e0, e1, e2, e3]
      exact Cert.AttnValues.q_eq (finite hp c)
    · rw [e0, e1, e2, e3]
      exact Cert.AttnValues.k_eq (finite hp c)
    · rw [e0, e1, e3]
      exact Cert.AttnValues.v_eq (finite hp c)

end Cert.Proof.AttnClaims

end
-- ==== Proof.Prod.lean ====
module

public import Idealize.ShloMosaic.PureOps.Ideal
public import Idealize.ShloMosaic.PureOps.Ideal.Laws
public import Idealize.ShloMosaic.Lib.IdealHost
public import Idealize.ShloMosaic.Lib.ValueIdx
public import Idealize.ShloMosaic.Lib.Pointwise
public import Idealize.ShloMosaic.Lib.Claim
public import Idealize.ShloMosaic.Lib.Pipeline.ValueKit

@[expose] public section

set_option maxRecDepth 16384

noncomputable section

namespace Cert.Prod

open Idealize.ShloMosaic

/-!
The mathematics of a layer's six products, over any number `R` of rows; the projection out has `E` columns on the way in. The
projection into a layer has 12288 columns. The layer keeps them in three planes of 4096; its weight is kept in eight parts of
1536, one for each device.
-/

/-- The plane of a column. -/
def pl (c : Fin 12288) : Fin 3 := ⟨c.val / 4096, by omega⟩
/-- A column's place in its plane. -/
def ln (c : Fin 12288) : Fin 4096 := ⟨c.val % 4096, by omega⟩
/-- The part of the weight that holds a column. -/
def dv (c : Fin 12288) : Fin 8 := ⟨c.val / 1536, by omega⟩
/-- A column's place in its part. -/
def wl (c : Fin 12288) : Fin 1536 := ⟨c.val % 1536, by omega⟩
/-- The column at a plane and a place in it. -/
def colP (p : Fin 3) (l : Fin 4096) : Fin 12288 := ⟨p.val * 4096 + l.val, by omega⟩
/-- The column at a part and a place in it. -/
def colV (v : Fin 8) (l : Fin 1536) : Fin 12288 := ⟨v.val * 1536 + l.val, by omega⟩

/-- The weight's entry at a row and a column. -/
def wc (w : FVec Ideal ⟨3, ![8, 2048, 1536]⟩ .bf16) (k : Fin 2048) (c : Fin 12288) : EReal := w (ix3 (dv c) k (wl c))
/-- The cotangent's entry at a row and a column. -/
def zc {R : ℕ} (dz : FVec Ideal ⟨3, ![3, R, 4096]⟩ .bf16) (n : Fin R) (c : Fin 12288) : EReal := dz (ix3 (pl c) n (ln c))

/-- The projection in. -/
def inP {R : ℕ} (h : FVec Ideal ⟨2, ![R, 2048]⟩ .bf16) (w : FVec Ideal ⟨3, ![8, 2048, 1536]⟩ .bf16) :
    Shape.Idx ⟨3, ![3, R, 4096]⟩ → EReal := fun y => ∑ k, h (ix2 (y 1) k) * wc w k (colP (y 0) (y 2))

/-- Its gradient at the weight. -/
def inW {R : ℕ} (h : FVec Ideal ⟨2, ![R, 2048]⟩ .bf16) (dz : FVec Ideal ⟨3, ![3, R, 4096]⟩ .bf16) :
    Shape.Idx ⟨3, ![8, 2048, 1536]⟩ → EReal := fun y => ∑ n, h (ix2 n (y 1)) * zc dz n (colV (y 0) (y 2))

/-- Its gradient at the rows. -/
def inH {R : ℕ} (dz : FVec Ideal ⟨3, ![3, R, 4096]⟩ .bf16) (w : FVec Ideal ⟨3, ![8, 2048, 1536]⟩ .bf16) :
    Shape.Idx ⟨2, ![R, 2048]⟩ → EReal := fun y => ∑ c, zc dz (y 0) c * wc w (y 1) c

/-- The projection out. -/
def outP {R E : ℕ} (t : FVec Ideal ⟨2, ![R, E]⟩ .bf16) (w : FVec Ideal ⟨2, ![E, 2048]⟩ .bf16) :
    Shape.Idx ⟨2, ![R, 2048]⟩ → EReal := fun y => ∑ e, t (ix2 (y 0) e) * w (ix2 e (y 1))

/-- Its gradient at the weight. -/
def outW {R E : ℕ} (t : FVec Ideal ⟨2, ![R, E]⟩ .bf16) (dy : FVec Ideal ⟨2, ![R, 2048]⟩ .bf16) :
    Shape.Idx ⟨2, ![E, 2048]⟩ → EReal := fun y => ∑ n, t (ix2 n (y 0)) * dy (ix2 n (y 1))

/-- Its gradient at the rows. -/
def outT {R E : ℕ} (dy : FVec Ideal ⟨2, ![R, 2048]⟩ .bf16) (w : FVec Ideal ⟨2, ![E, 2048]⟩ .bf16) :
    Shape.Idx ⟨2, ![R, E]⟩ → EReal := fun y => ∑ d, dy (ix2 (y 0) d) * w (ix2 (y 1) d)

/-! The columns in 24 tiles of 512: a tile lies in one plane and in one part of the weight. -/

/-- Column `l` of tile `j`. -/
def tc (j : Fin 24) (l : Fin 512) : Fin 12288 := ⟨512 * j.val + l.val, by omega⟩
/-- A tile's plane. -/
def tp (j : Fin 24) : Fin 3 := ⟨j.val / 8, by omega⟩
/-- A lane of a tile, in the tile's plane. -/
def tl (j : Fin 24) (l : Fin 512) : Fin 4096 := ⟨512 * (j.val % 8) + l.val, by omega⟩
/-- A tile's part of the weight. -/
def tv (j : Fin 24) : Fin 8 := ⟨j.val / 3, by omega⟩
/-- A lane of a tile, in the tile's part. -/
def tw (j : Fin 24) (l : Fin 512) : Fin 1536 := ⟨512 * (j.val % 3) + l.val, by omega⟩

theorem pl_tc (j : Fin 24) (l : Fin 512) : pl (tc j l) = tp j :=
  Fin.ext (by show (512 * j.val + l.val) / 4096 = j.val / 8; omega)
theorem ln_tc (j : Fin 24) (l : Fin 512) : ln (tc j l) = tl j l :=
  Fin.ext (by show (512 * j.val + l.val) % 4096 = 512 * (j.val % 8) + l.val; omega)
theorem dv_tc (j : Fin 24) (l : Fin 512) : dv (tc j l) = tv j :=
  Fin.ext (by show (512 * j.val + l.val) / 1536 = j.val / 3; omega)
theorem wl_tc (j : Fin 24) (l : Fin 512) : wl (tc j l) = tw j l :=
  Fin.ext (by show (512 * j.val + l.val) % 1536 = 512 * (j.val % 3) + l.val; omega)
theorem colP_tc (j : Fin 24) (l : Fin 512) : colP (tp j) (tl j l) = tc j l :=
  Fin.ext (by show j.val / 8 * 4096 + (512 * (j.val % 8) + l.val) = 512 * j.val + l.val; omega)
theorem colV_tc (j : Fin 24) (l : Fin 512) : colV (tv j) (tw j l) = tc j l :=
  Fin.ext (by show j.val / 3 * 1536 + (512 * (j.val % 3) + l.val) = 512 * j.val + l.val; omega)

/-- The weight at a tile. -/
theorem wc_tc (w : FVec Ideal ⟨3, ![8, 2048, 1536]⟩ .bf16) (k : Fin 2048) (j : Fin 24) (l : Fin 512) :
    w (ix3 (tv j) k (tw j l)) = wc w k (tc j l) := by rw [wc, dv_tc, wl_tc]
/-- The cotangent at a tile. -/
theorem zc_tc {R : ℕ} (dz : FVec Ideal ⟨3, ![3, R, 4096]⟩ .bf16) (n : Fin R) (j : Fin 24) (l : Fin 512) :
    dz (ix3 (tp j) n (tl j l)) = zc dz n (tc j l) := by rw [zc, pl_tc, ln_tc]

/-- A sum over the columns, tile by tile. -/
theorem sum_tc (f : Fin 12288 → EReal) : ∑ j, ∑ l, f (tc j l) = ∑ c, f c :=
  Fin.sum_mul_add_congr fun j l _ => congrArg f (Fin.ext (by show 512 * j.val + l.val = j.val * 512 + l.val; omega))

/-- Row `r` of the `i`-th half. -/
def hr (H : ℕ) {R : ℕ} (hR : R = 2 * H) (i : Fin 2) (r : Fin H) : Fin R := ⟨i.val * H + r.val, by
  have h1 := i.isLt; have h2 := r.isLt; have : i.val * H ≤ 1 * H := Nat.mul_le_mul_right _ (by omega); omega⟩

/-- A sum over the rows, in two halves. -/
theorem sum_hr (H : ℕ) {R : ℕ} (hR : R = 2 * H) (f : Fin R → EReal) : ∑ i, ∑ r, f (hr H hR i r) = ∑ n, f n :=
  Fin.sum_mul_add_congr (fun i r _ => rfl) hR

/-- Row `r` of the `i`-th quarter. -/
def qr (H : ℕ) {R : ℕ} (hR : R = 4 * H) (i : Fin 4) (r : Fin H) : Fin R := ⟨H * i.val + r.val, by
  have h1 := i.isLt; have h2 := r.isLt; have : H * i.val ≤ H * 3 := Nat.mul_le_mul_left _ (by omega); omega⟩

end Cert.Prod

end
-- ==== Proof.ProdTiles.lean ====
module

public import proofs.«01_k».proof.Proof.Prod

@[expose] public section

set_option maxRecDepth 16384

noncomputable section

/-!
How the grids of the products sum: each grid point holds a block of either argument and adds one part, the blocks' product, and
the points of a run together make the sum of `Cert.Prod`. `H` is the number of rows in a block.
-/

open Idealize.ShloMosaic Cert.Prod

variable {H R : ℕ}

namespace Cert.Prod.Dwin

/-!
The gradient of the projection in at its weight: 96 points, of which `48 i + 2 j` and `48 i + 2 j + 1` make rows `1024 i …` at the
columns of tile `j`, one half of the summed rows each.
-/

/-- A point's part of the sum. -/
def part (X : FVec Ideal ⟨2, ![H, 1024]⟩ .bf16) (W : FVec Ideal ⟨3, ![1, H, 512]⟩ .bf16) (y : Shape.Idx ⟨2, ![1024, 512]⟩) : EReal :=
  ∑ r, X (ix2 r (y 0)) * W (ix3 0 r (y 1))

/-- Row `l` of a point's rows of the gradient. -/
def col (t : Fin 96) (l : Fin 1024) : Fin 2048 := ⟨1024 * (t.val / 48) + l.val, by omega⟩
/-- A point's tile of columns. -/
def jt (t : Fin 96) : Fin 24 := ⟨t.val / 2 % 24, by omega⟩
/-- A point's half of the summed rows. -/
def kk (t : Fin 96) : Fin 2 := ⟨t.val % 2, by omega⟩
/-- The point of a block's run that sums half `s`, the run's last point being `t`. -/
def pt (t : Fin 96) (s : Fin 2) : Fin 96 := ⟨2 * (t.val / 2) + s.val, by omega⟩

theorem kk_pt (t : Fin 96) (s : Fin 2) : kk (pt t s) = s :=
  Fin.ext (by show (2 * (t.val / 2) + s.val) % 2 = s.val; omega)
theorem jt_pt (t : Fin 96) (s : Fin 2) : jt (pt t s) = jt t :=
  Fin.ext (by show (2 * (t.val / 2) + s.val) / 2 % 24 = t.val / 2 % 24; omega)
theorem col_pt (t : Fin 96) (s : Fin 2) (l : Fin 1024) : col (pt t s) l = col t l :=
  Fin.ext (by show 1024 * ((2 * (t.val / 2) + s.val) / 48) + l.val = 1024 * (t.val / 48) + l.val; omega)

/-- A point's block of the layer's input. -/
def blk0 (hR : R = 2 * H) (X : FVec Ideal ⟨2, ![R, 2048]⟩ .bf16) (t : Fin 96) : FVec Ideal ⟨2, ![H, 1024]⟩ .bf16 :=
  fun y => X (ix2 (hr H hR (kk t) (y 0)) (col t (y 1)))
/-- A point's block of the cotangent. -/
def blk1 (hR : R = 2 * H) (D : FVec Ideal ⟨3, ![3, R, 4096]⟩ .bf16) (t : Fin 96) : FVec Ideal ⟨3, ![1, H, 512]⟩ .bf16 :=
  fun y => D (ix3 (tp (jt t)) (hr H hR (kk t) (y 1)) (tl (jt t) (y 2)))

/-- A run makes the sum over the rows. -/
theorem sum_part (hR : R = 2 * H) (X : FVec Ideal ⟨2, ![R, 2048]⟩ .bf16) (D : FVec Ideal ⟨3, ![3, R, 4096]⟩ .bf16) (t : Fin 96)
    (k : Fin 1024) (l : Fin 512) : ∑ s, part (blk0 hR X (pt t s)) (blk1 hR D (pt t s)) (ix2 k l)
      = inW X D (ix3 (tv (jt t)) (col t k) (tw (jt t) l)) := by
  refine Eq.trans (Finset.sum_congr rfl fun s _ => ?_)
    ((sum_hr H hR fun n => X (ix2 n (col t k)) * D (ix3 (tp (jt t)) n (tl (jt t) l))).trans ?_)
  · show (∑ r, X (ix2 (hr H hR (kk (pt t s)) r) (col (pt t s) k))
      * D (ix3 (tp (jt (pt t s))) (hr H hR (kk (pt t s)) r) (tl (jt (pt t s)) l))) = _
    rw [kk_pt, jt_pt, col_pt]
  · show _ = ∑ n, X (ix2 n (col t k)) * zc D n (colV (tv (jt t)) (tw (jt t) l))
    simp only [colV_tc, zc_tc]

end Cert.Prod.Dwin

namespace Cert.Prod.Dh

/-!
The gradient of the projection in at its rows: 96 points, of which those from `24 i` on make rows `H i …`, one tile of the summed
columns each.
-/

/-- A point's part of the sum. -/
def part (X : FVec Ideal ⟨3, ![1, H, 512]⟩ .bf16) (W : FVec Ideal ⟨3, ![1, 2048, 512]⟩ .bf16) (y : Shape.Idx ⟨2, ![H, 2048]⟩) : EReal :=
  ∑ l, X (ix3 0 (y 0) l) * W (ix3 0 (y 1) l)

/-- A point's quarter of the rows. -/
def qt (t : Fin 96) : Fin 4 := ⟨t.val / 24, by omega⟩
/-- A point's tile of columns. -/
def jt (t : Fin 96) : Fin 24 := ⟨t.val % 24, by omega⟩
/-- The point of a block's run that sums tile `s`, the run's last point being `t`. -/
def pt (t : Fin 96) (s : Fin 24) : Fin 96 := ⟨24 * (t.val / 24) + s.val, by omega⟩

theorem jt_pt (t : Fin 96) (s : Fin 24) : jt (pt t s) = s :=
  Fin.ext (by show (24 * (t.val / 24) + s.val) % 24 = s.val; omega)
theorem qt_pt (t : Fin 96) (s : Fin 24) : qt (pt t s) = qt t :=
  Fin.ext (by show (24 * (t.val / 24) + s.val) / 24 = t.val / 24; omega)

/-- A point's block of the cotangent. -/
def blk0 (hR : R = 4 * H) (D : FVec Ideal ⟨3, ![3, R, 4096]⟩ .bf16) (t : Fin 96) : FVec Ideal ⟨3, ![1, H, 512]⟩ .bf16 :=
  fun y => D (ix3 (tp (jt t)) (qr H hR (qt t) (y 1)) (tl (jt t) (y 2)))
/-- A point's block of the weight. -/
def blk1 (W : FVec Ideal ⟨3, ![8, 2048, 1536]⟩ .bf16) (t : Fin 96) : FVec Ideal ⟨3, ![1, 2048, 512]⟩ .bf16 :=
  fun y => W (ix3 (tv (jt t)) (y 1) (tw (jt t) (y 2)))

/-- A run makes the sum over the columns. -/
theorem sum_part (hR : R = 4 * H) (D : FVec Ideal ⟨3, ![3, R, 4096]⟩ .bf16) (W : FVec Ideal ⟨3, ![8, 2048, 1536]⟩ .bf16) (t : Fin 96)
    (r : Fin H) (k : Fin 2048) : ∑ s, part (blk0 hR D (pt t s)) (blk1 W (pt t s)) (ix2 r k)
      = inH D W (ix2 (qr H hR (qt t) r) k) := by
  refine Eq.trans (Finset.sum_congr rfl fun s _ => ?_) (sum_tc fun c => zc D (qr H hR (qt t) r) c * wc W k c)
  show (∑ l, D (ix3 (tp (jt (pt t s))) (qr H hR (qt (pt t s)) r) (tl (jt (pt t s)) l))
    * W (ix3 (tv (jt (pt t s))) k (tw (jt (pt t s)) l))) = _
  rw [jt_pt, qt_pt]
  simp only [zc_tc, wc_tc]

end Cert.Prod.Dh

namespace Cert.Prod.Dwout

/-!
The gradient of the projection out at its weight: points `4 i + 2 j` and `4 i + 2 j + 1` make rows `1024 i …` at columns
`1024 j …`, one half of the summed rows each. There are four points for each 1024 rows of the weight.
-/

variable {N E : ℕ}

/-- A point's part of the sum. -/
def part (X W : FVec Ideal ⟨2, ![H, 1024]⟩ .bf16) (y : Shape.Idx ⟨2, ![1024, 1024]⟩) : EReal := ∑ r, X (ix2 r (y 0)) * W (ix2 r (y 1))

/-- Row `l` of a point's rows of the gradient. -/
def col0 (hN : N % 4 = 0 ∧ E = 256 * N) (t : Fin N) (l : Fin 1024) : Fin E := ⟨1024 * (t.val / 4) + l.val, by omega⟩
/-- Column `l` of a point's columns of the gradient. -/
def col1 (t : Fin N) (l : Fin 1024) : Fin 2048 := ⟨1024 * (t.val / 2 % 2) + l.val, by omega⟩
/-- A point's half of the summed rows. -/
def kk (t : Fin N) : Fin 2 := ⟨t.val % 2, by omega⟩
/-- The point of a block's run that sums half `s`, the run's last point being `t`. -/
def pt (hN : N % 4 = 0 ∧ E = 256 * N) (t : Fin N) (s : Fin 2) : Fin N := ⟨2 * (t.val / 2) + s.val, by omega⟩

theorem kk_pt (hN : N % 4 = 0 ∧ E = 256 * N) (t : Fin N) (s : Fin 2) : kk (pt hN t s) = s :=
  Fin.ext (by show (2 * (t.val / 2) + s.val) % 2 = s.val; omega)
theorem col0_pt (hN : N % 4 = 0 ∧ E = 256 * N) (t : Fin N) (s : Fin 2) (l : Fin 1024) : col0 hN (pt hN t s) l = col0 hN t l :=
  Fin.ext (by show 1024 * ((2 * (t.val / 2) + s.val) / 4) + l.val = 1024 * (t.val / 4) + l.val; omega)
theorem col1_pt (hN : N % 4 = 0 ∧ E = 256 * N) (t : Fin N) (s : Fin 2) (l : Fin 1024) : col1 (pt hN t s) l = col1 t l :=
  Fin.ext (by show 1024 * ((2 * (t.val / 2) + s.val) / 2 % 2) + l.val = 1024 * (t.val / 2 % 2) + l.val; omega)

/-- A point's block of the layer's value. -/
def blk0 (hN : N % 4 = 0 ∧ E = 256 * N) (hR : R = 2 * H) (X : FVec Ideal ⟨2, ![R, E]⟩ .bf16) (t : Fin N) :
    FVec Ideal ⟨2, ![H, 1024]⟩ .bf16 := fun y => X (ix2 (hr H hR (kk t) (y 0)) (col0 hN t (y 1)))
/-- A point's block of the cotangent. -/
def blk1 (hR : R = 2 * H) (D : FVec Ideal ⟨2, ![R, 2048]⟩ .bf16) (t : Fin N) : FVec Ideal ⟨2, ![H, 1024]⟩ .bf16 :=
  fun y => D (ix2 (hr H hR (kk t) (y 0)) (col1 t (y 1)))

/-- A run makes the sum over the rows. -/
theorem sum_part (hN : N % 4 = 0 ∧ E = 256 * N) (hR : R = 2 * H) (X : FVec Ideal ⟨2, ![R, E]⟩ .bf16)
    (D : FVec Ideal ⟨2, ![R, 2048]⟩ .bf16) (t : Fin N) (k l : Fin 1024) :
    ∑ s, part (blk0 hN hR X (pt hN t s)) (blk1 hR D (pt hN t s)) (ix2 k l) = outW X D (ix2 (col0 hN t k) (col1 t l)) := by
  refine Eq.trans (Finset.sum_congr rfl fun s _ => ?_) (sum_hr H hR fun n => X (ix2 n (col0 hN t k)) * D (ix2 n (col1 t l)))
  show (∑ r, X (ix2 (hr H hR (kk (pt hN t s)) r) (col0 hN (pt hN t s) k))
    * D (ix2 (hr H hR (kk (pt hN t s)) r) (col1 (pt hN t s) l))) = _
  rw [kk_pt, col0_pt, col1_pt]

end Cert.Prod.Dwout

namespace Cert.Prod.In

/-! The projection in: point `24 i + j` makes rows `H i …` at the columns of tile `j`. -/

/-- A point's product. -/
theorem at_tile (X : FVec Ideal ⟨2, ![R, 2048]⟩ .bf16) (W : FVec Ideal ⟨3, ![8, 2048, 1536]⟩ .bf16) (n : Fin R) (j : Fin 24)
    (l : Fin 512) : ∑ k, X (ix2 n k) * W (ix3 (tv j) k (tw j l)) = inP X W (ix3 (tp j) n (tl j l)) := by
  show _ = ∑ k, X (ix2 n k) * wc W k (colP (tp j) (tl j l))
  simp only [colP_tc, wc_tc]

end Cert.Prod.In

end
-- ==== Proof.ProdDwin.lean ====
module

public import proofs.«01_k».proof.Proof.ProdTiles
public import proofs.«01_k».proof.Proof.Gen.Kernel3Ideal.Frame
public import Idealize.ShloMosaic.Lib.Pipeline.ReadBack

@[expose] public section

set_option maxRecDepth 16384

noncomputable section

namespace Cert.Kernel3Ideal.Body

open Idealize.ShloMosaic Cert.Kernel3Ideal Cert.Kernel3Ideal.Gen Cert.Prod Cert.Prod.Dwin
open Idealize.ShloMosaic.TcCoe Idealize.SL.Sem

/-! The gradient of the projection in at its weight, over 4352 rows: the kernel's blocks and their sums. -/

theorem pay2_at (Q : FVec Ideal S1024x512 .f32) (X : FVec Ideal S2176x1024 .bf16) (W : FVec Ideal S1x2176x512 .bf16)
    (y : S1024x512.Idx) : k0_pay2 (F := Ideal) Q X W y = Q y + part X W y := by
  rw [eq_ix2 y]
  pointwise [k0_pay2, part]

theorem pay1_at (y : S1024x512.Idx) : k0_pay1 (F := Ideal) y = 0 := by
  rw [eq_ix2 y]
  pointwise [k0_pay1]

theorem pay3_at (Q : FVec Ideal S1024x512 .f32) (y : S1x1024x512.Idx) : k0_pay3 (F := Ideal) Q y = Q (ix2 (y 1) (y 2)) := by
  refine (congrArg _ (eq_ix3 y)).trans ?_
  pointwise [k0_pay3]

theorem idx : ∀ t : Fin cfg0.N, win0_0.index t = ![t.val % 2, t.val / 48] ∧
    win0_1.index t = ![t.val / 2 % 24 / 8, t.val % 2, t.val / 2 % 24 % 8] ∧
    win0_2.index t = ![t.val / 2 % 24 / 3, t.val / 48, t.val / 2 % 24 % 3] := (by decide +kernel : ∀ t : Fin grid0.N, _)

variable (m : (ℓ : Loc nD τ sig) → Buf (Elt Ideal) ℓ)

/-- The argument `h`. -/
abbrev A0 (c : Dev nD) : FVec Ideal S4352x2048 .bf16 := m ((c : Thread nD τ).loc main_arg0)
/-- The argument `dz`. -/
abbrev A1 (c : Dev nD) : FVec Ideal S3x4352x4096 .bf16 := m ((c : Thread nD τ).loc main_arg1)

theorem iblk0 (c : Dev nD) (t : Fin cfg0.N) : iblk m c 0 t = blk0 (H := 2176) rfl (A0 m c) t := by
  funext y; blk_ext [iblk, V, idx t, blk0, hr, kk, col]
theorem iblk1 (c : Dev nD) (t : Fin cfg0.N) : iblk m c 1 t = blk1 (H := 2176) rfl (A1 m c) t := by
  funext y; blk_ext [iblk, V, idx t, blk1, hr, kk, jt, tp, tl]

/-- A first point leaves its part over a zero fill. -/
theorem scA (c : Dev nD) (t : Fin cfg0.N) (h : t.val % 2 = 0) (y : S1024x512.Idx) :
    (outsAt0 m c t.val t.isLt).2 y = 0 + part (iblk m c 0 t) (iblk m c 1 t) y := by
  rw [outsAt0_A m c t h (by omega)]
  frame_open
  simp (disch := decide) only [↓ View.readCov_skip, ↓ View.readCov_cons_toLoadRect, ↓ View.readCov_fill]
  frame_out
  rw [pay2_at, pay1_at]

/-- A second point adds its part to what the point before it left. -/
theorem scB (c : Dev nD) (t : Fin cfg0.N) (h : ¬t.val % 2 = 0) (y : S1024x512.Idx) :
    (outsAt0 m c t.val t.isLt).2 y
      = (outsAt0 m c (t.val - 1) (Nat.lt_of_le_of_lt (Nat.sub_le _ _) t.isLt)).2 y + part (iblk m c 0 t) (iblk m c 1 t) y := by
  rw [outsAt0_B m c t h (by omega)]
  frame_open
  simp (disch := decide) only [↓ View.readCov_skip, ↓ View.readCov_cons_toLoadRect, ↓ View.readCov_fill]
  frame_out
  rw [pay2_at, read_unread_whole]

/-- A second point writes back the sum. -/
theorem outB (c : Dev nD) (t : Fin cfg0.N) (h : t.val % 2 = 1) (y : S1x1024x512.Idx) :
    (outsAt0 m c t.val t.isLt).1 y = (outsAt0 m c t.val t.isLt).2 (ix2 (y 1) (y 2)) := by
  rw [outsAt0_B m c t (by omega) h]
  frame_open
  simp (disch := decide) only [↓ View.readCov_skip, ↓ View.readCov_cons_toLoadRect, ↓ View.readCov_fill]
  frame_out
  rw [pay3_at]

theorem arr (c : Dev nD) : (dats m 0 c).arrAt 2 cfg0.N = inW (A0 m c) (A1 m c) := by
  refine (dats m 0 c).arrAt_eq_of_covers 2 _ (by decide +kernel) fun t hf y => ?_
  have ht := (flush0_2 t).mp hf
  have key : ∀ z : S1x1024x512.Idx, (outsAt0 m c t.val t.isLt).1 z
      = inW (A0 m c) (A1 m c) (ix3 (tv (jt t)) (col t (z 1)) (tw (jt t) (z 2))) := fun z => by
    rw [outB m c t ht]
    refine (Pipeline.eq_sum_fin_of_reset_step_apply_of_flush (fun n h => (outsAt0 m c n h).2) 2 (fun _ => (0 : EReal))
      (fun t => part (iblk m c 0 t) (iblk m c 1 t)) (scA m c) (scB m c) t ht (ix2 (z 1) (z 2))).trans ?_
    rw [zero_add]
    exact (Finset.sum_congr rfl fun s _ => congrArg₂ (fun X W => part X W (ix2 (z 1) (z 2))) (iblk0 m c (pt t s)) (iblk1 m c (pt t s))).trans
      (sum_part (H := 2176) rfl (A0 m c) (A1 m c) t (z 1) (z 2))
  rw [after0_2]
  generalize (outsAt0 m c t.val t.isLt).1 = Q at key
  refine (key ((cfg0.win 2).xinj (cfg0.grid.coords t) y)).trans (congrArg (inW (A0 m c) (A1 m c)) ?_)
  symm
  blk_ext [idx t, col, jt, tv, tw]

end Cert.Kernel3Ideal.Body

end
-- ==== Proof.ProdDh.lean ====
module

public import proofs.«01_k».proof.Proof.ProdTiles
public import proofs.«01_k».proof.Proof.Gen.Kernel4Ideal.Frame
public import Idealize.ShloMosaic.Lib.Pipeline.ReadBack

@[expose] public section

set_option maxRecDepth 16384

noncomputable section

namespace Cert.Kernel4Ideal.Body

open Idealize.ShloMosaic Cert.Kernel4Ideal Cert.Kernel4Ideal.Gen Cert.Prod Cert.Prod.Dh
open Idealize.ShloMosaic.TcCoe Idealize.SL.Sem

/-! The gradient of the projection in at its rows, over 4352 rows: the kernel's blocks and their sums. -/

theorem pay2_at (Q : FVec Ideal S1088x2048 .f32) (X : FVec Ideal S1x1088x512 .bf16) (W : FVec Ideal S1x2048x512 .bf16)
    (y : S1088x2048.Idx) : k0_pay2 (F := Ideal) Q X W y = Q y + part X W y := by
  rw [eq_ix2 y]
  pointwise [k0_pay2, part]

theorem pay1_at (y : S1088x2048.Idx) : k0_pay1 (F := Ideal) y = 0 := by
  rw [eq_ix2 y]
  pointwise [k0_pay1]

theorem idx : ∀ t : Fin cfg0.N, win0_0.index t = ![t.val % 24 / 8, t.val / 24, t.val % 24 % 8] ∧
    win0_1.index t = ![t.val % 24 / 3, 0, t.val % 24 % 3] ∧ win0_2.index t = ![t.val / 24, 0] :=
  (by decide +kernel : ∀ t : Fin grid0.N, _)

variable (m : (ℓ : Loc nD τ sig) → Buf (Elt Ideal) ℓ)

/-- The argument `dz`. -/
abbrev A0 (c : Dev nD) : FVec Ideal S3x4352x4096 .bf16 := m ((c : Thread nD τ).loc main_arg0)
/-- The argument `w_in`. -/
abbrev A1 (c : Dev nD) : FVec Ideal S8x2048x1536 .bf16 := m ((c : Thread nD τ).loc main_arg1)

theorem iblk0 (c : Dev nD) (t : Fin cfg0.N) : iblk m c 0 t = blk0 (H := 1088) rfl (A0 m c) t := by
  funext y; blk_ext [iblk, V, idx t, blk0, jt, qr, qt, tp, tl]
theorem iblk1 (c : Dev nD) (t : Fin cfg0.N) : iblk m c 1 t = blk1 (A1 m c) t := by
  funext y; blk_ext [iblk, V, idx t, blk1, jt, tv, tw]

/-- A first point leaves its part over a zero fill. -/
theorem scA (c : Dev nD) (t : Fin cfg0.N) (h : t.val % 24 = 0) (y : S1088x2048.Idx) :
    (outsAt0 m c t.val t.isLt).2 y = 0 + part (iblk m c 0 t) (iblk m c 1 t) y := by
  rw [outsAt0_A m c t h (by omega)]
  frame_open
  simp (disch := decide) only [↓ View.readCov_skip, ↓ View.readCov_cons_toLoadRect, ↓ View.readCov_fill]
  frame_out
  rw [pay2_at, pay1_at]

/-- A later point adds its part to what the point before it left. -/
theorem scB (c : Dev nD) (t : Fin cfg0.N) (h : ¬t.val % 24 = 0) (y : S1088x2048.Idx) :
    (outsAt0 m c t.val t.isLt).2 y
      = (outsAt0 m c (t.val - 1) (Nat.lt_of_le_of_lt (Nat.sub_le _ _) t.isLt)).2 y + part (iblk m c 0 t) (iblk m c 1 t) y := by
  by_cases h1 : t.val % 24 = 23
  · rw [outsAt0_C m c t h h1]
    frame_open
    simp (disch := decide) only [↓ View.readCov_skip, ↓ View.readCov_cons_toLoadRect, ↓ View.readCov_fill]
    frame_out
    rw [pay2_at, read_unread_whole]
  · rw [outsAt0_B m c t h h1]
    frame_open
    simp (disch := decide) only [↓ View.readCov_skip, ↓ View.readCov_cons_toLoadRect, ↓ View.readCov_fill]
    frame_out
    rw [pay2_at, read_unread_whole]

/-- A last point writes back the sum. -/
theorem outC (c : Dev nD) (t : Fin cfg0.N) (h : t.val % 24 = 23) (y : S1088x2048.Idx) :
    (outsAt0 m c t.val t.isLt).1 y = (outsAt0 m c t.val t.isLt).2 y := by
  rw [outsAt0_C m c t (by omega) h]
  frame_open
  simp (disch := decide) only [↓ View.readCov_skip, ↓ View.readCov_cons_toLoadRect, ↓ View.readCov_fill]
  frame_out

theorem arr (c : Dev nD) : (dats m 0 c).arrAt 2 cfg0.N = inH (A0 m c) (A1 m c) := by
  refine (dats m 0 c).arrAt_eq_of_covers 2 _ (by decide +kernel) fun t hf y => ?_
  have ht := (flush0_2 t).mp hf
  have key : ∀ z : S1088x2048.Idx, (outsAt0 m c t.val t.isLt).1 z
      = inH (A0 m c) (A1 m c) (ix2 (qr 1088 rfl (qt t) (z 0)) (z 1)) := fun z => by
    rw [outC m c t ht]
    refine (Pipeline.eq_sum_fin_of_reset_step_apply_of_flush (fun n h => (outsAt0 m c n h).2) 24 (fun _ => (0 : EReal))
      (fun t => part (iblk m c 0 t) (iblk m c 1 t)) (scA m c) (scB m c) t ht z).trans ?_
    rw [zero_add, eq_ix2 z]
    exact (Finset.sum_congr rfl fun s _ => congrArg₂ (fun X W => part X W (ix2 (z 0) (z 1))) (iblk0 m c (pt t s)) (iblk1 m c (pt t s))).trans
      (sum_part (H := 1088) rfl (A0 m c) (A1 m c) t (z 0) (z 1))
  rw [after0_2]
  generalize (outsAt0 m c t.val t.isLt).1 = Q at key
  refine (key ((cfg0.win 2).xinj (cfg0.grid.coords t) y)).trans (congrArg (inH (A0 m c) (A1 m c)) ?_)
  symm
  blk_ext [idx t, qr, qt]

end Cert.Kernel4Ideal.Body

end
-- ==== Proof.ProdDwout.lean ====
module

public import proofs.«01_k».proof.Proof.ProdTiles
public import proofs.«01_k».proof.Proof.Gen.Kernel5Ideal.Frame
public import Idealize.ShloMosaic.Lib.Pipeline.ReadBack

@[expose] public section

set_option maxRecDepth 16384

noncomputable section

namespace Cert.Kernel5Ideal.Body

open Idealize.ShloMosaic Cert.Kernel5Ideal Cert.Kernel5Ideal.Gen Cert.Prod Cert.Prod.Dwout
open Idealize.ShloMosaic.TcCoe Idealize.SL.Sem

/-! The gradient of the projection out at its weight, over 4352 rows: the kernel's blocks and their sums. -/

theorem pay2_at (Q : FVec Ideal S1024x1024 .f32) (X W : FVec Ideal S2176x1024 .bf16) (y : S1024x1024.Idx) :
    k0_pay2 (F := Ideal) Q X W y = Q y + part X W y := by
  rw [eq_ix2 y]
  pointwise [k0_pay2, part]

theorem pay1_at (y : S1024x1024.Idx) : k0_pay1 (F := Ideal) y = 0 := by
  rw [eq_ix2 y]
  pointwise [k0_pay1]

theorem pay3_at (Q : FVec Ideal S1024x1024 .f32) (y : S1024x1024.Idx) : k0_pay3 (F := Ideal) Q y = Q y := by
  rw [eq_ix2 y]
  pointwise [k0_pay3]

theorem idx : ∀ t : Fin cfg0.N, win0_0.index t = ![t.val % 2, t.val / 4] ∧ win0_1.index t = ![t.val % 2, t.val / 2 % 2] ∧
    win0_2.index t = ![t.val / 4, t.val / 2 % 2] := (by decide +kernel : ∀ t : Fin grid0.N, _)

/-- The grid has four points for each 1024 rows of the weight. -/
theorem hN : 16 % 4 = 0 ∧ 4096 = 256 * 16 := by decide

variable (m : (ℓ : Loc nD τ sig) → Buf (Elt Ideal) ℓ)

/-- The argument `t`. -/
abbrev A0 (c : Dev nD) : FVec Ideal S4352x4096 .bf16 := m ((c : Thread nD τ).loc main_arg0)
/-- The argument `dy`. -/
abbrev A1 (c : Dev nD) : FVec Ideal S4352x2048 .bf16 := m ((c : Thread nD τ).loc main_arg1)

theorem iblk0 (c : Dev nD) (t : Fin cfg0.N) : iblk m c 0 t = blk0 (H := 2176) hN rfl (A0 m c) t := by
  funext y; blk_ext [iblk, V, idx t, blk0, hr, kk, col0]
theorem iblk1 (c : Dev nD) (t : Fin cfg0.N) : iblk m c 1 t = blk1 (H := 2176) rfl (A1 m c) t := by
  funext y; blk_ext [iblk, V, idx t, blk1, hr, kk, col1]

/-- A first point leaves its part over a zero fill. -/
theorem scA (c : Dev nD) (t : Fin cfg0.N) (h : t.val % 2 = 0) (y : S1024x1024.Idx) :
    (outsAt0 m c t.val t.isLt).2 y = 0 + part (iblk m c 0 t) (iblk m c 1 t) y := by
  rw [outsAt0_A m c t h (by omega)]
  frame_open
  simp (disch := decide) only [↓ View.readCov_skip, ↓ View.readCov_cons_toLoadRect, ↓ View.readCov_fill]
  frame_out
  rw [pay2_at, pay1_at]

/-- A second point adds its part to what the point before it left. -/
theorem scB (c : Dev nD) (t : Fin cfg0.N) (h : ¬t.val % 2 = 0) (y : S1024x1024.Idx) :
    (outsAt0 m c t.val t.isLt).2 y
      = (outsAt0 m c (t.val - 1) (Nat.lt_of_le_of_lt (Nat.sub_le _ _) t.isLt)).2 y + part (iblk m c 0 t) (iblk m c 1 t) y := by
  rw [outsAt0_B m c t h (by omega)]
  frame_open
  simp (disch := decide) only [↓ View.readCov_skip, ↓ View.readCov_cons_toLoadRect, ↓ View.readCov_fill]
  frame_out
  rw [pay2_at, read_unread_whole]

/-- A second point writes back the sum. -/
theorem outB (c : Dev nD) (t : Fin cfg0.N) (h : t.val % 2 = 1) (y : S1024x1024.Idx) :
    (outsAt0 m c t.val t.isLt).1 y = (outsAt0 m c t.val t.isLt).2 y := by
  rw [outsAt0_B m c t (by omega) h]
  frame_open
  simp (disch := decide) only [↓ View.readCov_skip, ↓ View.readCov_cons_toLoadRect, ↓ View.readCov_fill]
  frame_out
  rw [pay3_at]

theorem arr (c : Dev nD) : (dats m 0 c).arrAt 2 cfg0.N = outW (A0 m c) (A1 m c) := by
  refine (dats m 0 c).arrAt_eq_of_covers 2 _ (by decide +kernel) fun t hf y => ?_
  have ht := (flush0_2 t).mp hf
  have key : ∀ z : S1024x1024.Idx, (outsAt0 m c t.val t.isLt).1 z
      = outW (A0 m c) (A1 m c) (ix2 (col0 hN t (z 0)) (col1 t (z 1))) := fun z => by
    rw [outB m c t ht]
    refine (Pipeline.eq_sum_fin_of_reset_step_apply_of_flush (fun n h => (outsAt0 m c n h).2) 2 (fun _ => (0 : EReal))
      (fun t => part (iblk m c 0 t) (iblk m c 1 t)) (scA m c) (scB m c) t ht z).trans ?_
    rw [zero_add, eq_ix2 z]
    exact (Finset.sum_congr rfl fun s _ => congrArg₂ (fun X W => part X W (ix2 (z 0) (z 1))) (iblk0 m c (pt hN t s)) (iblk1 m c (pt hN t s))).trans
      (sum_part (H := 2176) hN rfl (A0 m c) (A1 m c) t (z 0) (z 1))
  rw [after0_2]
  generalize (outsAt0 m c t.val t.isLt).1 = Q at key
  refine (key ((cfg0.win 2).xinj (cfg0.grid.coords t) y)).trans (congrArg (outW (A0 m c) (A1 m c)) ?_)
  symm
  blk_ext [idx t, col0, col1]

end Cert.Kernel5Ideal.Body

end
-- ==== Proof.ProdDt.lean ====
module

public import proofs.«01_k».proof.Proof.Prod
public import proofs.«01_k».proof.Proof.Gen.Kernel6Ideal.Frame
public import Idealize.ShloMosaic.Lib.Pipeline.ReadBack

@[expose] public section

set_option maxRecDepth 16384

noncomputable section

namespace Cert.Kernel6Ideal.Body

open Idealize.ShloMosaic Cert.Kernel6Ideal Cert.Kernel6Ideal.Gen Cert.Prod
open Idealize.ShloMosaic.TcCoe Idealize.SL.Sem

/-!
The gradient of the projection out at its rows. Point `4 i + j` of the grid makes rows `1088 i …` at columns `1024 j …`.
-/

/-- A point's product. -/
theorem out_at (X : FVec Ideal S1088x2048 .bf16) (W : FVec Ideal S1024x2048 .bf16) (y : S1088x1024.Idx) :
    out0_2 (F := Ideal) X W y = ∑ d, X (ix2 (y 0) d) * W (ix2 (y 1) d) := by
  unfold out0_2
  frame_out
  refine (congrArg _ (eq_ix2 y)).trans ?_
  pointwise [k0_pay1]

/-- Row `r` of a point's rows. -/
def row (t : Fin 16) (r : Fin 1088) : Fin 4352 := ⟨1088 * (t.val / 4) + r.val, by omega⟩
/-- Column `l` of a point's columns. -/
def col (t : Fin 16) (l : Fin 1024) : Fin 4096 := ⟨1024 * (t.val % 4) + l.val, by omega⟩

theorem idx : ∀ t : Fin cfg0.N, win0_0.index t = ![t.val / 4, 0] ∧ win0_1.index t = ![t.val % 4, 0] ∧
    win0_2.index t = ![t.val / 4, t.val % 4] := (by decide +kernel : ∀ t : Fin grid0.N, _)

variable (m : (ℓ : Loc nD τ sig) → Buf (Elt Ideal) ℓ)

/-- The argument `dy`. -/
abbrev A0 (c : Dev nD) : FVec Ideal S4352x2048 .bf16 := m ((c : Thread nD τ).loc main_arg0)
/-- The argument `w_out`. -/
abbrev A1 (c : Dev nD) : FVec Ideal S4096x2048 .bf16 := m ((c : Thread nD τ).loc main_arg1)

theorem iblk0 (c : Dev nD) (t : Fin cfg0.N) : iblk m c 0 t = fun y : S1088x2048.Idx => A0 m c (ix2 (row t (y 0)) (y 1)) := by
  funext y; blk_ext [iblk, V, idx t, row]
theorem iblk1 (c : Dev nD) (t : Fin cfg0.N) : iblk m c 1 t = fun y : S1024x2048.Idx => A1 m c (ix2 (col t (y 0)) (y 1)) := by
  funext y; blk_ext [iblk, V, idx t, col]

theorem arr (c : Dev nD) : (dats m 0 c).arrAt 2 cfg0.N = outT (A0 m c) (A1 m c) := by
  refine (dats m 0 c).arrAt_eq_of_covers 2 _ (by decide +kernel) fun t hf y => ?_
  have key : ∀ z : S1088x1024.Idx, out0_2 (iblk m c 0 t) (iblk m c 1 t) z
      = outT (A0 m c) (A1 m c) (ix2 (row t (z 0)) (col t (z 1))) := fun z => by
    rw [out_at, iblk0, iblk1]; rfl
  rw [after0_2]
  generalize out0_2 (iblk m c 0 t) (iblk m c 1 t) = Q at key
  refine (key ((cfg0.win 2).xinj (cfg0.grid.coords t) y)).trans (congrArg (outT (A0 m c) (A1 m c)) ?_)
  symm
  blk_ext [idx t, row, col]

end Cert.Kernel6Ideal.Body

end
-- ==== Proof.ProdIn.lean ====
module

public import proofs.«01_k».proof.Proof.ProdTiles
public import proofs.«01_k».proof.Proof.Gen.Kernel7Ideal.Frame
public import Idealize.ShloMosaic.Lib.Pipeline.ReadBack

@[expose] public section

set_option maxRecDepth 16384

noncomputable section

namespace Cert.Kernel7Ideal.Body

open Idealize.ShloMosaic Cert.Kernel7Ideal Cert.Kernel7Ideal.Gen Cert.Prod
open Idealize.ShloMosaic.TcCoe Idealize.SL.Sem

/-!
The projection in. Point `24 i + j` of the grid makes rows `1088 i …` at the columns of tile `j`.
-/

/-- A point's product. -/
theorem out_at (X : FVec Ideal S1088x2048 .bf16) (W : FVec Ideal S1x2048x512 .bf16) (y : S1x1088x512.Idx) :
    out0_2 (F := Ideal) X W y = ∑ k, X (ix2 (y 1) k) * W (ix3 0 k (y 2)) := by
  unfold out0_2
  frame_out
  refine (congrArg _ (eq_ix3 y)).trans ?_
  pointwise [k0_pay1]

/-- Row `r` of a point's rows. -/
def row (t : Fin 96) (r : Fin 1088) : Fin 4352 := ⟨1088 * (t.val / 24) + r.val, by omega⟩
/-- A point's tile of columns. -/
def jt (t : Fin 96) : Fin 24 := ⟨t.val % 24, by omega⟩

theorem idx : ∀ t : Fin cfg0.N, win0_0.index t = ![t.val / 24, 0] ∧ win0_1.index t = ![t.val % 24 / 3, 0, t.val % 24 % 3] ∧
    win0_2.index t = ![t.val % 24 / 8, t.val / 24, t.val % 24 % 8] := (by decide +kernel : ∀ t : Fin grid0.N, _)

variable (m : (ℓ : Loc nD τ sig) → Buf (Elt Ideal) ℓ)

/-- The argument `h`. -/
abbrev A0 (c : Dev nD) : FVec Ideal S4352x2048 .bf16 := m ((c : Thread nD τ).loc main_arg0)
/-- The argument `w_in`. -/
abbrev A1 (c : Dev nD) : FVec Ideal S8x2048x1536 .bf16 := m ((c : Thread nD τ).loc main_arg1)

theorem iblk0 (c : Dev nD) (t : Fin cfg0.N) : iblk m c 0 t = fun y : S1088x2048.Idx => A0 m c (ix2 (row t (y 0)) (y 1)) := by
  funext y; blk_ext [iblk, V, idx t, row]
theorem iblk1 (c : Dev nD) (t : Fin cfg0.N) :
    iblk m c 1 t = fun y : S1x2048x512.Idx => A1 m c (ix3 (tv (jt t)) (y 1) (tw (jt t) (y 2))) := by
  funext y; blk_ext [iblk, V, idx t, jt, tv, tw]

theorem arr (c : Dev nD) : (dats m 0 c).arrAt 2 cfg0.N = inP (A0 m c) (A1 m c) := by
  refine (dats m 0 c).arrAt_eq_of_covers 2 _ (by decide +kernel) fun t hf y => ?_
  have key : ∀ z : S1x1088x512.Idx, out0_2 (iblk m c 0 t) (iblk m c 1 t) z
      = inP (A0 m c) (A1 m c) (ix3 (tp (jt t)) (row t (z 1)) (tl (jt t) (z 2))) := fun z => by
    rw [out_at, iblk0, iblk1]
    exact In.at_tile (A0 m c) (A1 m c) (row t (z 1)) (jt t) (z 2)
  rw [after0_2]
  generalize out0_2 (iblk m c 0 t) (iblk m c 1 t) = Q at key
  refine (key ((cfg0.win 2).xinj (cfg0.grid.coords t) y)).trans (congrArg (inP (A0 m c) (A1 m c)) ?_)
  symm
  blk_ext [idx t, row, jt, tp, tl]

end Cert.Kernel7Ideal.Body

end
-- ==== Proof.ProdOut.lean ====
module

public import proofs.«01_k».proof.Proof.Prod
public import proofs.«01_k».proof.Proof.Gen.Kernel8Ideal.Frame
public import Idealize.ShloMosaic.Lib.Pipeline.ReadBack

@[expose] public section

set_option maxRecDepth 16384

noncomputable section

namespace Cert.Kernel8Ideal.Body

open Idealize.ShloMosaic Cert.Kernel8Ideal Cert.Kernel8Ideal.Gen Cert.Prod
open Idealize.ShloMosaic.TcCoe Idealize.SL.Sem

/-!
The projection out. Point `4 i + j` of the grid makes rows `1088 i …` at columns `512 j …`.
-/

/-- A point's product. -/
theorem out_at (X : FVec Ideal S1088x4096 .bf16) (W : FVec Ideal S4096x512 .bf16) (y : S1088x512.Idx) :
    out0_2 (F := Ideal) X W y = ∑ e, X (ix2 (y 0) e) * W (ix2 e (y 1)) := by
  unfold out0_2
  frame_out
  refine (congrArg _ (eq_ix2 y)).trans ?_
  pointwise [k0_pay1]

/-- Row `r` of a point's rows. -/
def row (t : Fin 16) (r : Fin 1088) : Fin 4352 := ⟨1088 * (t.val / 4) + r.val, by omega⟩
/-- Column `l` of a point's columns. -/
def col (t : Fin 16) (l : Fin 512) : Fin 2048 := ⟨512 * (t.val % 4) + l.val, by omega⟩

theorem idx : ∀ t : Fin cfg0.N, win0_0.index t = ![t.val / 4, 0] ∧ win0_1.index t = ![0, t.val % 4] ∧
    win0_2.index t = ![t.val / 4, t.val % 4] := (by decide +kernel : ∀ t : Fin grid0.N, _)

variable (m : (ℓ : Loc nD τ sig) → Buf (Elt Ideal) ℓ)

/-- The argument `t`. -/
abbrev A0 (c : Dev nD) : FVec Ideal S4352x4096 .bf16 := m ((c : Thread nD τ).loc main_arg0)
/-- The argument `w_out`. -/
abbrev A1 (c : Dev nD) : FVec Ideal S4096x2048 .bf16 := m ((c : Thread nD τ).loc main_arg1)

theorem iblk0 (c : Dev nD) (t : Fin cfg0.N) : iblk m c 0 t = fun y : S1088x4096.Idx => A0 m c (ix2 (row t (y 0)) (y 1)) := by
  funext y; blk_ext [iblk, V, idx t, row]
theorem iblk1 (c : Dev nD) (t : Fin cfg0.N) : iblk m c 1 t = fun y : S4096x512.Idx => A1 m c (ix2 (y 0) (col t (y 1))) := by
  funext y; blk_ext [iblk, V, idx t, col]

theorem arr (c : Dev nD) : (dats m 0 c).arrAt 2 cfg0.N = outP (A0 m c) (A1 m c) := by
  refine (dats m 0 c).arrAt_eq_of_covers 2 _ (by decide +kernel) fun t hf y => ?_
  have key : ∀ z : S1088x512.Idx, out0_2 (iblk m c 0 t) (iblk m c 1 t) z
      = outP (A0 m c) (A1 m c) (ix2 (row t (z 0)) (col t (z 1))) := fun z => by
    rw [out_at, iblk0, iblk1]; rfl
  rw [after0_2]
  generalize out0_2 (iblk m c 0 t) (iblk m c 1 t) = Q at key
  refine (key ((cfg0.win 2).xinj (cfg0.grid.coords t) y)).trans (congrArg (outP (A0 m c) (A1 m c)) ?_)
  symm
  blk_ext [idx t, row, col]

end Cert.Kernel8Ideal.Body

end
-- ==== Proof.ProdRef.lean ====
module

public import proofs.«01_k».proof.Proof.Prod
public import proofs.«01_k».proof.Proof.Gen.Reference3Ideal.Read
public import proofs.«01_k».proof.Proof.Gen.Reference4Ideal.Read
public import proofs.«01_k».proof.Proof.Gen.Reference5Ideal.Read
public import proofs.«01_k».proof.Proof.Gen.Reference6Ideal.Read
public import proofs.«01_k».proof.Proof.Gen.Reference7Ideal.Read
public import proofs.«01_k».proof.Proof.Gen.Reference8Ideal.Read

@[expose] public section

set_option maxRecDepth 16384

noncomputable section

/-!
The references of the six products of layers 0 and 1, read at an index.
-/

namespace Cert.Reference3Ideal.Body

open Idealize.ShloMosaic Cert.Reference3Ideal Cert.Reference3Ideal.Gen Cert.Reference3Ideal.Read Cert.Prod

variable (X0 : FVec Ideal S4352x2048 .bf16) (X1 : FVec Ideal S3x4352x4096 .bf16)

theorem r9 (n : Fin 4352) (c : Fin 12288) : val_main_v9 (F := Ideal) X1 (ix2 n c) = zc X1 n c := by
  unfold zc pl ln
  pointwise [val_main_v9, val_main_v8, val_main_v1]

theorem r10 (c : Fin 12288) (k : Fin 2048) : val_main_v10 (F := Ideal) X0 X1 (ix2 c k) = ∑ n, X0 (ix2 n k) * zc X1 n c := by
  pointwise [val_main_v10, r9, val_main_v0]
  exact Finset.sum_congr rfl fun n _ => mul_comm _ _

theorem r_at (v : Fin 8) (k : Fin 2048) (l : Fin 1536) : val_main_v14 (F := Ideal) X0 X1 (ix3 v k l)
    = ∑ n, X0 (ix2 n k) * zc X1 n (colV v l) := by
  refine Eq.trans ?_ (r10 X0 X1 (colV v l) k)
  unfold colV
  pointwise [val_main_v14, val_main_v13, val_main_v12, val_main_v11]

theorem r_eq : val_main_v14 (F := Ideal) X0 X1 = inW X0 X1 :=
  funext fun y => (congrArg _ (eq_ix3 y)).trans (r_at X0 X1 (y 0) (y 1) (y 2))

end Cert.Reference3Ideal.Body

namespace Cert.Reference4Ideal.Body

open Idealize.ShloMosaic Cert.Reference4Ideal Cert.Reference4Ideal.Gen Cert.Reference4Ideal.Read Cert.Prod

variable (X0 : FVec Ideal S3x4352x4096 .bf16) (X1 : FVec Ideal S8x2048x1536 .bf16)

theorem r9 (n : Fin 4352) (c : Fin 12288) : val_main_v9 (F := Ideal) X0 (ix2 n c) = zc X0 n c := by
  unfold zc pl ln
  pointwise [val_main_v9, val_main_v8, val_main_v0]

theorem r4 (k : Fin 2048) (c : Fin 12288) : val_main_v4 (F := Ideal) X1 (ix2 k c) = wc X1 k c := by
  unfold wc dv wl
  pointwise [val_main_v4, val_main_v3, val_main_v1]

theorem r_at (n : Fin 4352) (k : Fin 2048) : val_main_v10 (F := Ideal) X0 X1 (ix2 n k) = ∑ c, zc X0 n c * wc X1 k c := by
  pointwise [val_main_v10, r9, r4]

theorem r_eq : val_main_v10 (F := Ideal) X0 X1 = inH X0 X1 :=
  funext fun y => (congrArg _ (eq_ix2 y)).trans (r_at X0 X1 (y 0) (y 1))

end Cert.Reference4Ideal.Body

namespace Cert.Reference5Ideal.Body

open Idealize.ShloMosaic Cert.Reference5Ideal Cert.Reference5Ideal.Gen Cert.Reference5Ideal.Read Cert.Prod

variable (X0 : FVec Ideal S4352x4096 .bf16) (X1 : FVec Ideal S4352x2048 .bf16)

theorem r_at (e : Fin 4096) (d : Fin 2048) : val_main_v6 (F := Ideal) X0 X1 (ix2 e d) = ∑ n, X0 (ix2 n e) * X1 (ix2 n d) := by
  pointwise [val_main_v6, val_main_v5, val_main_v4, val_main_v1, val_main_v0]
  exact Finset.sum_congr rfl fun n _ => mul_comm _ _

theorem r_eq : val_main_v6 (F := Ideal) X0 X1 = outW X0 X1 :=
  funext fun y => (congrArg _ (eq_ix2 y)).trans (r_at X0 X1 (y 0) (y 1))

end Cert.Reference5Ideal.Body

namespace Cert.Reference6Ideal.Body

open Idealize.ShloMosaic Cert.Reference6Ideal Cert.Reference6Ideal.Gen Cert.Reference6Ideal.Read Cert.Prod

variable (X0 : FVec Ideal S4352x2048 .bf16) (X1 : FVec Ideal S4096x2048 .bf16)

theorem r_at (n : Fin 4352) (e : Fin 4096) : val_main_v4 (F := Ideal) X0 X1 (ix2 n e) = ∑ d, X0 (ix2 n d) * X1 (ix2 e d) := by
  pointwise [val_main_v4, val_main_v1, val_main_v0]

theorem r_eq : val_main_v4 (F := Ideal) X0 X1 = outT X0 X1 :=
  funext fun y => (congrArg _ (eq_ix2 y)).trans (r_at X0 X1 (y 0) (y 1))

end Cert.Reference6Ideal.Body

namespace Cert.Reference7Ideal.Body

open Idealize.ShloMosaic Cert.Reference7Ideal Cert.Reference7Ideal.Gen Cert.Reference7Ideal.Read Cert.Prod

variable (X0 : FVec Ideal S4352x2048 .bf16) (X1 : FVec Ideal S8x2048x1536 .bf16)

theorem r3 (k : Fin 2048) (c : Fin 12288) : val_main_v3 (F := Ideal) X1 (ix2 k c) = wc X1 k c := by
  unfold wc dv wl
  pointwise [val_main_v3, val_main_v2, val_main_v1]

theorem r4 (n : Fin 4352) (c : Fin 12288) : val_main_v4 (F := Ideal) X0 X1 (ix2 n c) = ∑ k, X0 (ix2 n k) * wc X1 k c := by
  pointwise [val_main_v4, r3, val_main_v0]

theorem r_at (p : Fin 3) (n : Fin 4352) (l : Fin 4096) : val_main_v6 (F := Ideal) X0 X1 (ix3 p n l)
    = ∑ k, X0 (ix2 n k) * wc X1 k (colP p l) := by
  refine Eq.trans ?_ (r4 X0 X1 n (colP p l))
  unfold colP
  pointwise [val_main_v6, val_main_v5]

theorem r_eq : val_main_v6 (F := Ideal) X0 X1 = inP X0 X1 :=
  funext fun y => (congrArg _ (eq_ix3 y)).trans (r_at X0 X1 (y 0) (y 1) (y 2))

end Cert.Reference7Ideal.Body

namespace Cert.Reference8Ideal.Body

open Idealize.ShloMosaic Cert.Reference8Ideal Cert.Reference8Ideal.Gen Cert.Reference8Ideal.Read Cert.Prod

variable (X0 : FVec Ideal S4352x4096 .bf16) (X1 : FVec Ideal S4096x2048 .bf16)

theorem r_at (n : Fin 4352) (d : Fin 2048) : val_main_v2 (F := Ideal) X0 X1 (ix2 n d) = ∑ e, X0 (ix2 n e) * X1 (ix2 e d) := by
  pointwise [val_main_v2, val_main_v1, val_main_v0]

theorem r_eq : val_main_v2 (F := Ideal) X0 X1 = outP X0 X1 :=
  funext fun y => (congrArg _ (eq_ix2 y)).trans (r_at X0 X1 (y 0) (y 1))

end Cert.Reference8Ideal.Body

end
-- ==== Proof.ProdClaims.lean ====
module

public import proofs.«01_k».proof.Defs
public import proofs.«01_k».proof.Proof.ProdDwin
public import proofs.«01_k».proof.Proof.ProdDh
public import proofs.«01_k».proof.Proof.ProdDwout
public import proofs.«01_k».proof.Proof.ProdDt
public import proofs.«01_k».proof.Proof.ProdIn
public import proofs.«01_k».proof.Proof.ProdOut
public import proofs.«01_k».proof.Proof.ProdRef
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import Idealize.ShloMosaic.Adequacy
public import Idealize.ShloMosaic.Init

@[expose] public section

set_option maxRecDepth 16384

noncomputable section

/-!
The claims of the six products of layers 0 and 1.
-/

namespace Cert.Proof.ProdClaims

open Idealize.ShloMosaic Idealize.SL.Sem Cert.Prod

/-! The gradient of the projection in at its weight. -/

theorem frame_p3 : Cert.quiescent_Kernel3 := fun m ρ _ => Cert.Kernel3.Gen.frame m ρ
theorem frame_pi3 : Cert.quiescent_Kernel3Ideal := fun m ρ _ => Cert.Kernel3Ideal.Gen.frame m ρ
theorem frame_ri3 : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

theorem algebraic3 : Cert.algebraic_Kernel3Ideal_Reference3Ideal := by
  intro m ρ m' ρ' _ ha
  refine ⟨fun c => inW (Cert.Kernel3Ideal.Body.A0 m c) (Cert.Kernel3Ideal.Body.A1 m c), ?_, ?_⟩
  · exact (θ_run Cert.Kernel3Ideal.defs _ _).mono (fun r h c => ⟨(h c).1.trans (Cert.Kernel3Ideal.Body.arr m c), (h c).2⟩)
      (Cert.Kernel3Ideal.Value.run_blocks m ρ)
  · refine (θ_run Cert.Reference3Ideal.defs _ _).mono (fun r h c => ⟨?_, (h c).2⟩)
      (Cert.Reference3Ideal.Value.run (F := Ideal) m' ρ')
    refine (h c).1.trans ((Cert.Reference3Ideal.Read.val_main_v14_eq _ _).trans ?_)
    rw [(ha c).1, (ha c).2]
    exact Cert.Reference3Ideal.Body.r_eq _ _

/-! The gradient of the projection in at its rows. -/

theorem frame_p4 : Cert.quiescent_Kernel4 := fun m ρ _ => Cert.Kernel4.Gen.frame m ρ
theorem frame_pi4 : Cert.quiescent_Kernel4Ideal := fun m ρ _ => Cert.Kernel4Ideal.Gen.frame m ρ
theorem frame_ri4 : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

theorem algebraic4 : Cert.algebraic_Kernel4Ideal_Reference4Ideal := by
  intro m ρ m' ρ' _ ha
  refine ⟨fun c => inH (Cert.Kernel4Ideal.Body.A0 m c) (Cert.Kernel4Ideal.Body.A1 m c), ?_, ?_⟩
  · exact (θ_run Cert.Kernel4Ideal.defs _ _).mono (fun r h c => ⟨(h c).1.trans (Cert.Kernel4Ideal.Body.arr m c), (h c).2⟩)
      (Cert.Kernel4Ideal.Value.run_blocks m ρ)
  · refine (θ_run Cert.Reference4Ideal.defs _ _).mono (fun r h c => ⟨?_, (h c).2⟩)
      (Cert.Reference4Ideal.Value.run (F := Ideal) m' ρ')
    refine (h c).1.trans ((Cert.Reference4Ideal.Read.val_main_v10_eq _ _).trans ?_)
    rw [(ha c).1, (ha c).2]
    exact Cert.Reference4Ideal.Body.r_eq _ _

/-! The gradient of the projection out at its weight. -/

theorem frame_p5 : Cert.quiescent_Kernel5 := fun m ρ _ => Cert.Kernel5.Gen.frame m ρ
theorem frame_pi5 : Cert.quiescent_Kernel5Ideal := fun m ρ _ => Cert.Kernel5Ideal.Gen.frame m ρ
theorem frame_ri5 : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

theorem algebraic5 : Cert.algebraic_Kernel5Ideal_Reference5Ideal := by
  intro m ρ m' ρ' _ ha
  refine ⟨fun c => outW (Cert.Kernel5Ideal.Body.A0 m c) (Cert.Kernel5Ideal.Body.A1 m c), ?_, ?_⟩
  · exact (θ_run Cert.Kernel5Ideal.defs _ _).mono (fun r h c => ⟨(h c).1.trans (Cert.Kernel5Ideal.Body.arr m c), (h c).2⟩)
      (Cert.Kernel5Ideal.Value.run_blocks m ρ)
  · refine (θ_run Cert.Reference5Ideal.defs _ _).mono (fun r h c => ⟨?_, (h c).2⟩)
      (Cert.Reference5Ideal.Value.run (F := Ideal) m' ρ')
    refine (h c).1.trans ((Cert.Reference5Ideal.Read.val_main_v6_eq _ _).trans ?_)
    rw [(ha c).1, (ha c).2]
    exact Cert.Reference5Ideal.Body.r_eq _ _

/-! The gradient of the projection out at its rows. -/

theorem frame_p6 : Cert.quiescent_Kernel6 := fun m ρ _ => Cert.Kernel6.Gen.frame m ρ
theorem frame_pi6 : Cert.quiescent_Kernel6Ideal := fun m ρ _ => Cert.Kernel6Ideal.Gen.frame m ρ
theorem frame_ri6 : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

theorem algebraic6 : Cert.algebraic_Kernel6Ideal_Reference6Ideal := by
  intro m ρ m' ρ' _ ha
  refine ⟨fun c => outT (Cert.Kernel6Ideal.Body.A0 m c) (Cert.Kernel6Ideal.Body.A1 m c), ?_, ?_⟩
  · exact (θ_run Cert.Kernel6Ideal.defs _ _).mono (fun r h c => ⟨(h c).1.trans (Cert.Kernel6Ideal.Body.arr m c), (h c).2⟩)
      (Cert.Kernel6Ideal.Value.run_blocks m ρ)
  · refine (θ_run Cert.Reference6Ideal.defs _ _).mono (fun r h c => ⟨?_, (h c).2⟩)
      (Cert.Reference6Ideal.Value.run (F := Ideal) m' ρ')
    refine (h c).1.trans ((Cert.Reference6Ideal.Read.val_main_v4_eq _ _).trans ?_)
    rw [(ha c).1, (ha c).2]
    exact Cert.Reference6Ideal.Body.r_eq _ _

/-! The projection in. -/

theorem frame_p7 : Cert.quiescent_Kernel7 := fun m ρ _ => Cert.Kernel7.Gen.frame m ρ
theorem frame_pi7 : Cert.quiescent_Kernel7Ideal := fun m ρ _ => Cert.Kernel7Ideal.Gen.frame m ρ
theorem frame_ri7 : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

theorem algebraic7 : Cert.algebraic_Kernel7Ideal_Reference7Ideal := by
  intro m ρ m' ρ' _ ha
  refine ⟨fun c => inP (Cert.Kernel7Ideal.Body.A0 m c) (Cert.Kernel7Ideal.Body.A1 m c), ?_, ?_⟩
  · exact (θ_run Cert.Kernel7Ideal.defs _ _).mono (fun r h c => ⟨(h c).1.trans (Cert.Kernel7Ideal.Body.arr m c), (h c).2⟩)
      (Cert.Kernel7Ideal.Value.run_blocks m ρ)
  · refine (θ_run Cert.Reference7Ideal.defs _ _).mono (fun r h c => ⟨?_, (h c).2⟩)
      (Cert.Reference7Ideal.Value.run (F := Ideal) m' ρ')
    refine (h c).1.trans ((Cert.Reference7Ideal.Read.val_main_v6_eq _ _).trans ?_)
    rw [(ha c).1, (ha c).2]
    exact Cert.Reference7Ideal.Body.r_eq _ _

/-! The projection out. -/

theorem frame_p8 : Cert.quiescent_Kernel8 := fun m ρ _ => Cert.Kernel8.Gen.frame m ρ
theorem frame_pi8 : Cert.quiescent_Kernel8Ideal := fun m ρ _ => Cert.Kernel8Ideal.Gen.frame m ρ
theorem frame_ri8 : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

theorem algebraic8 : Cert.algebraic_Kernel8Ideal_Reference8Ideal := by
  intro m ρ m' ρ' _ ha
  refine ⟨fun c => outP (Cert.Kernel8Ideal.Body.A0 m c) (Cert.Kernel8Ideal.Body.A1 m c), ?_, ?_⟩
  · exact (θ_run Cert.Kernel8Ideal.defs _ _).mono (fun r h c => ⟨(h c).1.trans (Cert.Kernel8Ideal.Body.arr m c), (h c).2⟩)
      (Cert.Kernel8Ideal.Value.run_blocks m ρ)
  · refine (θ_run Cert.Reference8Ideal.defs _ _).mono (fun r h c => ⟨?_, (h c).2⟩)
      (Cert.Reference8Ideal.Value.run (F := Ideal) m' ρ')
    refine (h c).1.trans ((Cert.Reference8Ideal.Read.val_main_v2_eq _ _).trans ?_)
    rw [(ha c).1, (ha c).2]
    exact Cert.Reference8Ideal.Body.r_eq _ _

end Cert.Proof.ProdClaims

end
-- ==== Proof.ProdDwin3.lean ====
module

public import proofs.«01_k».proof.Proof.ProdTiles
public import proofs.«01_k».proof.Proof.Gen.Kernel9Ideal.Frame
public import Idealize.ShloMosaic.Lib.Pipeline.ReadBack

@[expose] public section

set_option maxRecDepth 16384

noncomputable section

namespace Cert.Kernel9Ideal.Body

open Idealize.ShloMosaic Cert.Kernel9Ideal Cert.Kernel9Ideal.Gen Cert.Prod Cert.Prod.Dwin
open Idealize.ShloMosaic.TcCoe Idealize.SL.Sem

/-! The gradient of the projection in at its weight, over 4096 rows: the kernel's blocks and their sums. -/

theorem pay2_at (Q : FVec Ideal S1024x512 .f32) (X : FVec Ideal S2048x1024 .bf16) (W : FVec Ideal S1x2048x512 .bf16)
    (y : S1024x512.Idx) : k0_pay2 (F := Ideal) Q X W y = Q y + part X W y := by
  rw [eq_ix2 y]
  pointwise [k0_pay2, part]

theorem pay1_at (y : S1024x512.Idx) : k0_pay1 (F := Ideal) y = 0 := by
  rw [eq_ix2 y]
  pointwise [k0_pay1]

theorem pay3_at (Q : FVec Ideal S1024x512 .f32) (y : S1x1024x512.Idx) : k0_pay3 (F := Ideal) Q y = Q (ix2 (y 1) (y 2)) := by
  refine (congrArg _ (eq_ix3 y)).trans ?_
  pointwise [k0_pay3]

theorem idx : ∀ t : Fin cfg0.N, win0_0.index t = ![t.val % 2, t.val / 48] ∧
    win0_1.index t = ![t.val / 2 % 24 / 8, t.val % 2, t.val / 2 % 24 % 8] ∧
    win0_2.index t = ![t.val / 2 % 24 / 3, t.val / 48, t.val / 2 % 24 % 3] := (by decide +kernel : ∀ t : Fin grid0.N, _)

variable (m : (ℓ : Loc nD τ sig) → Buf (Elt Ideal) ℓ)

/-- The argument `h`. -/
abbrev A0 (c : Dev nD) : FVec Ideal S4096x2048 .bf16 := m ((c : Thread nD τ).loc main_arg0)
/-- The argument `dz`. -/
abbrev A1 (c : Dev nD) : FVec Ideal S3x4096x4096 .bf16 := m ((c : Thread nD τ).loc main_arg1)

theorem iblk0 (c : Dev nD) (t : Fin cfg0.N) : iblk m c 0 t = blk0 (H := 2048) rfl (A0 m c) t := by
  funext y; blk_ext [iblk, V, idx t, blk0, hr, kk, col]
theorem iblk1 (c : Dev nD) (t : Fin cfg0.N) : iblk m c 1 t = blk1 (H := 2048) rfl (A1 m c) t := by
  funext y; blk_ext [iblk, V, idx t, blk1, hr, kk, jt, tp, tl]

/-- A first point leaves its part over a zero fill. -/
theorem scA (c : Dev nD) (t : Fin cfg0.N) (h : t.val % 2 = 0) (y : S1024x512.Idx) :
    (outsAt0 m c t.val t.isLt).2 y = 0 + part (iblk m c 0 t) (iblk m c 1 t) y := by
  rw [outsAt0_A m c t h (by omega)]
  frame_open
  simp (disch := decide) only [↓ View.readCov_skip, ↓ View.readCov_cons_toLoadRect, ↓ View.readCov_fill]
  frame_out
  rw [pay2_at, pay1_at]

/-- A second point adds its part to what the point before it left. -/
theorem scB (c : Dev nD) (t : Fin cfg0.N) (h : ¬t.val % 2 = 0) (y : S1024x512.Idx) :
    (outsAt0 m c t.val t.isLt).2 y
      = (outsAt0 m c (t.val - 1) (Nat.lt_of_le_of_lt (Nat.sub_le _ _) t.isLt)).2 y + part (iblk m c 0 t) (iblk m c 1 t) y := by
  rw [outsAt0_B m c t h (by omega)]
  frame_open
  simp (disch := decide) only [↓ View.readCov_skip, ↓ View.readCov_cons_toLoadRect, ↓ View.readCov_fill]
  frame_out
  rw [pay2_at, read_unread_whole]

/-- A second point writes back the sum. -/
theorem outB (c : Dev nD) (t : Fin cfg0.N) (h : t.val % 2 = 1) (y : S1x1024x512.Idx) :
    (outsAt0 m c t.val t.isLt).1 y = (outsAt0 m c t.val t.isLt).2 (ix2 (y 1) (y 2)) := by
  rw [outsAt0_B m c t (by omega) h]
  frame_open
  simp (disch := decide) only [↓ View.readCov_skip, ↓ View.readCov_cons_toLoadRect, ↓ View.readCov_fill]
  frame_out
  rw [pay3_at]

theorem arr (c : Dev nD) : (dats m 0 c).arrAt 2 cfg0.N = inW (A0 m c) (A1 m c) := by
  refine (dats m 0 c).arrAt_eq_of_covers 2 _ (by decide +kernel) fun t hf y => ?_
  have ht := (flush0_2 t).mp hf
  have key : ∀ z : S1x1024x512.Idx, (outsAt0 m c t.val t.isLt).1 z
      = inW (A0 m c) (A1 m c) (ix3 (tv (jt t)) (col t (z 1)) (tw (jt t) (z 2))) := fun z => by
    rw [outB m c t ht]
    refine (Pipeline.eq_sum_fin_of_reset_step_apply_of_flush (fun n h => (outsAt0 m c n h).2) 2 (fun _ => (0 : EReal))
      (fun t => part (iblk m c 0 t) (iblk m c 1 t)) (scA m c) (scB m c) t ht (ix2 (z 1) (z 2))).trans ?_
    rw [zero_add]
    exact (Finset.sum_congr rfl fun s _ => congrArg₂ (fun X W => part X W (ix2 (z 1) (z 2))) (iblk0 m c (pt t s)) (iblk1 m c (pt t s))).trans
      (sum_part (H := 2048) rfl (A0 m c) (A1 m c) t (z 1) (z 2))
  rw [after0_2]
  generalize (outsAt0 m c t.val t.isLt).1 = Q at key
  refine (key ((cfg0.win 2).xinj (cfg0.grid.coords t) y)).trans (congrArg (inW (A0 m c) (A1 m c)) ?_)
  symm
  blk_ext [idx t, col, jt, tv, tw]

end Cert.Kernel9Ideal.Body

end
-- ==== Proof.ProdDh3.lean ====
module

public import proofs.«01_k».proof.Proof.ProdTiles
public import proofs.«01_k».proof.Proof.Gen.Kernel10Ideal.Frame
public import Idealize.ShloMosaic.Lib.Pipeline.ReadBack

@[expose] public section

set_option maxRecDepth 16384

noncomputable section

namespace Cert.Kernel10Ideal.Body

open Idealize.ShloMosaic Cert.Kernel10Ideal Cert.Kernel10Ideal.Gen Cert.Prod Cert.Prod.Dh
open Idealize.ShloMosaic.TcCoe Idealize.SL.Sem

/-! The gradient of the projection in at its rows, over 4096 rows: the kernel's blocks and their sums. -/

theorem pay2_at (Q : FVec Ideal S1024x2048 .f32) (X : FVec Ideal S1x1024x512 .bf16) (W : FVec Ideal S1x2048x512 .bf16)
    (y : S1024x2048.Idx) : k0_pay2 (F := Ideal) Q X W y = Q y + part X W y := by
  rw [eq_ix2 y]
  pointwise [k0_pay2, part]

theorem pay1_at (y : S1024x2048.Idx) : k0_pay1 (F := Ideal) y = 0 := by
  rw [eq_ix2 y]
  pointwise [k0_pay1]

theorem idx : ∀ t : Fin cfg0.N, win0_0.index t = ![t.val % 24 / 8, t.val / 24, t.val % 24 % 8] ∧
    win0_1.index t = ![t.val % 24 / 3, 0, t.val % 24 % 3] ∧ win0_2.index t = ![t.val / 24, 0] :=
  (by decide +kernel : ∀ t : Fin grid0.N, _)

variable (m : (ℓ : Loc nD τ sig) → Buf (Elt Ideal) ℓ)

/-- The argument `dz`. -/
abbrev A0 (c : Dev nD) : FVec Ideal S3x4096x4096 .bf16 := m ((c : Thread nD τ).loc main_arg0)
/-- The argument `w_in`. -/
abbrev A1 (c : Dev nD) : FVec Ideal S8x2048x1536 .bf16 := m ((c : Thread nD τ).loc main_arg1)

theorem iblk0 (c : Dev nD) (t : Fin cfg0.N) : iblk m c 0 t = blk0 (H := 1024) rfl (A0 m c) t := by
  funext y; blk_ext [iblk, V, idx t, blk0, jt, qr, qt, tp, tl]
theorem iblk1 (c : Dev nD) (t : Fin cfg0.N) : iblk m c 1 t = blk1 (A1 m c) t := by
  funext y; blk_ext [iblk, V, idx t, blk1, jt, tv, tw]

/-- A first point leaves its part over a zero fill. -/
theorem scA (c : Dev nD) (t : Fin cfg0.N) (h : t.val % 24 = 0) (y : S1024x2048.Idx) :
    (outsAt0 m c t.val t.isLt).2 y = 0 + part (iblk m c 0 t) (iblk m c 1 t) y := by
  rw [outsAt0_A m c t h (by omega)]
  frame_open
  simp (disch := decide) only [↓ View.readCov_skip, ↓ View.readCov_cons_toLoadRect, ↓ View.readCov_fill]
  frame_out
  rw [pay2_at, pay1_at]

/-- A later point adds its part to what the point before it left. -/
theorem scB (c : Dev nD) (t : Fin cfg0.N) (h : ¬t.val % 24 = 0) (y : S1024x2048.Idx) :
    (outsAt0 m c t.val t.isLt).2 y
      = (outsAt0 m c (t.val - 1) (Nat.lt_of_le_of_lt (Nat.sub_le _ _) t.isLt)).2 y + part (iblk m c 0 t) (iblk m c 1 t) y := by
  by_cases h1 : t.val % 24 = 23
  · rw [outsAt0_C m c t h h1]
    frame_open
    simp (disch := decide) only [↓ View.readCov_skip, ↓ View.readCov_cons_toLoadRect, ↓ View.readCov_fill]
    frame_out
    rw [pay2_at, read_unread_whole]
  · rw [outsAt0_B m c t h h1]
    frame_open
    simp (disch := decide) only [↓ View.readCov_skip, ↓ View.readCov_cons_toLoadRect, ↓ View.readCov_fill]
    frame_out
    rw [pay2_at, read_unread_whole]

/-- A last point writes back the sum. -/
theorem outC (c : Dev nD) (t : Fin cfg0.N) (h : t.val % 24 = 23) (y : S1024x2048.Idx) :
    (outsAt0 m c t.val t.isLt).1 y = (outsAt0 m c t.val t.isLt).2 y := by
  rw [outsAt0_C m c t (by omega) h]
  frame_open
  simp (disch := decide) only [↓ View.readCov_skip, ↓ View.readCov_cons_toLoadRect, ↓ View.readCov_fill]
  frame_out

theorem arr (c : Dev nD) : (dats m 0 c).arrAt 2 cfg0.N = inH (A0 m c) (A1 m c) := by
  refine (dats m 0 c).arrAt_eq_of_covers 2 _ (by decide +kernel) fun t hf y => ?_
  have ht := (flush0_2 t).mp hf
  have key : ∀ z : S1024x2048.Idx, (outsAt0 m c t.val t.isLt).1 z
      = inH (A0 m c) (A1 m c) (ix2 (qr 1024 rfl (qt t) (z 0)) (z 1)) := fun z => by
    rw [outC m c t ht]
    refine (Pipeline.eq_sum_fin_of_reset_step_apply_of_flush (fun n h => (outsAt0 m c n h).2) 24 (fun _ => (0 : EReal))
      (fun t => part (iblk m c 0 t) (iblk m c 1 t)) (scA m c) (scB m c) t ht z).trans ?_
    rw [zero_add, eq_ix2 z]
    exact (Finset.sum_congr rfl fun s _ => congrArg₂ (fun X W => part X W (ix2 (z 0) (z 1))) (iblk0 m c (pt t s)) (iblk1 m c (pt t s))).trans
      (sum_part (H := 1024) rfl (A0 m c) (A1 m c) t (z 0) (z 1))
  rw [after0_2]
  generalize (outsAt0 m c t.val t.isLt).1 = Q at key
  refine (key ((cfg0.win 2).xinj (cfg0.grid.coords t) y)).trans (congrArg (inH (A0 m c) (A1 m c)) ?_)
  symm
  blk_ext [idx t, qr, qt]

end Cert.Kernel10Ideal.Body

end
-- ==== Proof.ProdDwout3.lean ====
module

public import proofs.«01_k».proof.Proof.ProdTiles
public import proofs.«01_k».proof.Proof.Gen.Kernel11Ideal.Frame
public import Idealize.ShloMosaic.Lib.Pipeline.ReadBack

@[expose] public section

set_option maxRecDepth 16384

noncomputable section

namespace Cert.Kernel11Ideal.Body

open Idealize.ShloMosaic Cert.Kernel11Ideal Cert.Kernel11Ideal.Gen Cert.Prod Cert.Prod.Dwout
open Idealize.ShloMosaic.TcCoe Idealize.SL.Sem

/-! The gradient of the projection out at its weight, over 4096 rows: the kernel's blocks and their sums. -/

theorem pay2_at (Q : FVec Ideal S1024x1024 .f32) (X W : FVec Ideal S2048x1024 .bf16) (y : S1024x1024.Idx) :
    k0_pay2 (F := Ideal) Q X W y = Q y + part X W y := by
  rw [eq_ix2 y]
  pointwise [k0_pay2, part]

theorem pay1_at (y : S1024x1024.Idx) : k0_pay1 (F := Ideal) y = 0 := by
  rw [eq_ix2 y]
  pointwise [k0_pay1]

theorem pay3_at (Q : FVec Ideal S1024x1024 .f32) (y : S1024x1024.Idx) : k0_pay3 (F := Ideal) Q y = Q y := by
  rw [eq_ix2 y]
  pointwise [k0_pay3]

theorem idx : ∀ t : Fin cfg0.N, win0_0.index t = ![t.val % 2, t.val / 4] ∧ win0_1.index t = ![t.val % 2, t.val / 2 % 2] ∧
    win0_2.index t = ![t.val / 4, t.val / 2 % 2] := (by decide +kernel : ∀ t : Fin grid0.N, _)

/-- The grid has four points for each 1024 rows of the weight. -/
theorem hN : 16 % 4 = 0 ∧ 4096 = 256 * 16 := by decide

variable (m : (ℓ : Loc nD τ sig) → Buf (Elt Ideal) ℓ)

/-- The argument `t`. -/
abbrev A0 (c : Dev nD) : FVec Ideal S4096x4096 .bf16 := m ((c : Thread nD τ).loc main_arg0)
/-- The argument `dy`. -/
abbrev A1 (c : Dev nD) : FVec Ideal S4096x2048 .bf16 := m ((c : Thread nD τ).loc main_arg1)

theorem iblk0 (c : Dev nD) (t : Fin cfg0.N) : iblk m c 0 t = blk0 (H := 2048) hN rfl (A0 m c) t := by
  funext y; blk_ext [iblk, V, idx t, blk0, hr, kk, col0]
theorem iblk1 (c : Dev nD) (t : Fin cfg0.N) : iblk m c 1 t = blk1 (H := 2048) rfl (A1 m c) t := by
  funext y; blk_ext [iblk, V, idx t, blk1, hr, kk, col1]

/-- A first point leaves its part over a zero fill. -/
theorem scA (c : Dev nD) (t : Fin cfg0.N) (h : t.val % 2 = 0) (y : S1024x1024.Idx) :
    (outsAt0 m c t.val t.isLt).2 y = 0 + part (iblk m c 0 t) (iblk m c 1 t) y := by
  rw [outsAt0_A m c t h (by omega)]
  frame_open
  simp (disch := decide) only [↓ View.readCov_skip, ↓ View.readCov_cons_toLoadRect, ↓ View.readCov_fill]
  frame_out
  rw [pay2_at, pay1_at]

/-- A second point adds its part to what the point before it left. -/
theorem scB (c : Dev nD) (t : Fin cfg0.N) (h : ¬t.val % 2 = 0) (y : S1024x1024.Idx) :
    (outsAt0 m c t.val t.isLt).2 y
      = (outsAt0 m c (t.val - 1) (Nat.lt_of_le_of_lt (Nat.sub_le _ _) t.isLt)).2 y + part (iblk m c 0 t) (iblk m c 1 t) y := by
  rw [outsAt0_B m c t h (by omega)]
  frame_open
  simp (disch := decide) only [↓ View.readCov_skip, ↓ View.readCov_cons_toLoadRect, ↓ View.readCov_fill]
  frame_out
  rw [pay2_at, read_unread_whole]

/-- A second point writes back the sum. -/
theorem outB (c : Dev nD) (t : Fin cfg0.N) (h : t.val % 2 = 1) (y : S1024x1024.Idx) :
    (outsAt0 m c t.val t.isLt).1 y = (outsAt0 m c t.val t.isLt).2 y := by
  rw [outsAt0_B m c t (by omega) h]
  frame_open
  simp (disch := decide) only [↓ View.readCov_skip, ↓ View.readCov_cons_toLoadRect, ↓ View.readCov_fill]
  frame_out
  rw [pay3_at]

theorem arr (c : Dev nD) : (dats m 0 c).arrAt 2 cfg0.N = outW (A0 m c) (A1 m c) := by
  refine (dats m 0 c).arrAt_eq_of_covers 2 _ (by decide +kernel) fun t hf y => ?_
  have ht := (flush0_2 t).mp hf
  have key : ∀ z : S1024x1024.Idx, (outsAt0 m c t.val t.isLt).1 z
      = outW (A0 m c) (A1 m c) (ix2 (col0 hN t (z 0)) (col1 t (z 1))) := fun z => by
    rw [outB m c t ht]
    refine (Pipeline.eq_sum_fin_of_reset_step_apply_of_flush (fun n h => (outsAt0 m c n h).2) 2 (fun _ => (0 : EReal))
      (fun t => part (iblk m c 0 t) (iblk m c 1 t)) (scA m c) (scB m c) t ht z).trans ?_
    rw [zero_add, eq_ix2 z]
    exact (Finset.sum_congr rfl fun s _ => congrArg₂ (fun X W => part X W (ix2 (z 0) (z 1))) (iblk0 m c (pt hN t s)) (iblk1 m c (pt hN t s))).trans
      (sum_part (H := 2048) hN rfl (A0 m c) (A1 m c) t (z 0) (z 1))
  rw [after0_2]
  generalize (outsAt0 m c t.val t.isLt).1 = Q at key
  refine (key ((cfg0.win 2).xinj (cfg0.grid.coords t) y)).trans (congrArg (outW (A0 m c) (A1 m c)) ?_)
  symm
  blk_ext [idx t, col0, col1]

end Cert.Kernel11Ideal.Body

end
-- ==== Proof.ProdDt3.lean ====
module

public import proofs.«01_k».proof.Proof.Prod
public import proofs.«01_k».proof.Proof.Gen.Kernel12Ideal.Frame
public import Idealize.ShloMosaic.Lib.Pipeline.ReadBack

@[expose] public section

set_option maxRecDepth 16384

noncomputable section

namespace Cert.Kernel12Ideal.Body

open Idealize.ShloMosaic Cert.Kernel12Ideal Cert.Kernel12Ideal.Gen Cert.Prod
open Idealize.ShloMosaic.TcCoe Idealize.SL.Sem

/-!
The gradient of the projection out at its rows. Point `4 i + j` of the grid makes rows `1024 i …` at columns `1024 j …`.
-/

/-- A point's product. -/
theorem out_at (X : FVec Ideal S1024x2048 .bf16) (W : FVec Ideal S1024x2048 .bf16) (y : S1024x1024.Idx) :
    out0_2 (F := Ideal) X W y = ∑ d, X (ix2 (y 0) d) * W (ix2 (y 1) d) := by
  unfold out0_2
  frame_out
  refine (congrArg _ (eq_ix2 y)).trans ?_
  pointwise [k0_pay1]

/-- Row `r` of a point's rows. -/
def row (t : Fin 16) (r : Fin 1024) : Fin 4096 := ⟨1024 * (t.val / 4) + r.val, by omega⟩
/-- Column `l` of a point's columns. -/
def col (t : Fin 16) (l : Fin 1024) : Fin 4096 := ⟨1024 * (t.val % 4) + l.val, by omega⟩

theorem idx : ∀ t : Fin cfg0.N, win0_0.index t = ![t.val / 4, 0] ∧ win0_1.index t = ![t.val % 4, 0] ∧
    win0_2.index t = ![t.val / 4, t.val % 4] := (by decide +kernel : ∀ t : Fin grid0.N, _)

variable (m : (ℓ : Loc nD τ sig) → Buf (Elt Ideal) ℓ)

/-- The argument `dy`. -/
abbrev A0 (c : Dev nD) : FVec Ideal S4096x2048 .bf16 := m ((c : Thread nD τ).loc main_arg0)
/-- The argument `w_out`. -/
abbrev A1 (c : Dev nD) : FVec Ideal S4096x2048 .bf16 := m ((c : Thread nD τ).loc main_arg1)

theorem iblk0 (c : Dev nD) (t : Fin cfg0.N) : iblk m c 0 t = fun y : S1024x2048.Idx => A0 m c (ix2 (row t (y 0)) (y 1)) := by
  funext y; blk_ext [iblk, V, idx t, row]
theorem iblk1 (c : Dev nD) (t : Fin cfg0.N) : iblk m c 1 t = fun y : S1024x2048.Idx => A1 m c (ix2 (col t (y 0)) (y 1)) := by
  funext y; blk_ext [iblk, V, idx t, col]

theorem arr (c : Dev nD) : (dats m 0 c).arrAt 2 cfg0.N = outT (A0 m c) (A1 m c) := by
  refine (dats m 0 c).arrAt_eq_of_covers 2 _ (by decide +kernel) fun t hf y => ?_
  have key : ∀ z : S1024x1024.Idx, out0_2 (iblk m c 0 t) (iblk m c 1 t) z
      = outT (A0 m c) (A1 m c) (ix2 (row t (z 0)) (col t (z 1))) := fun z => by
    rw [out_at, iblk0, iblk1]; rfl
  rw [after0_2]
  generalize out0_2 (iblk m c 0 t) (iblk m c 1 t) = Q at key
  refine (key ((cfg0.win 2).xinj (cfg0.grid.coords t) y)).trans (congrArg (outT (A0 m c) (A1 m c)) ?_)
  symm
  blk_ext [idx t, row, col]

end Cert.Kernel12Ideal.Body

end
-- ==== Proof.ProdIn3.lean ====
module

public import proofs.«01_k».proof.Proof.ProdTiles
public import proofs.«01_k».proof.Proof.Gen.Kernel13Ideal.Frame
public import Idealize.ShloMosaic.Lib.Pipeline.ReadBack

@[expose] public section

set_option maxRecDepth 16384

noncomputable section

namespace Cert.Kernel13Ideal.Body

open Idealize.ShloMosaic Cert.Kernel13Ideal Cert.Kernel13Ideal.Gen Cert.Prod
open Idealize.ShloMosaic.TcCoe Idealize.SL.Sem

/-!
The projection in. Point `24 i + j` of the grid makes rows `1024 i …` at the columns of tile `j`.
-/

/-- A point's product. -/
theorem out_at (X : FVec Ideal S1024x2048 .bf16) (W : FVec Ideal S1x2048x512 .bf16) (y : S1x1024x512.Idx) :
    out0_2 (F := Ideal) X W y = ∑ k, X (ix2 (y 1) k) * W (ix3 0 k (y 2)) := by
  unfold out0_2
  frame_out
  refine (congrArg _ (eq_ix3 y)).trans ?_
  pointwise [k0_pay1]

/-- Row `r` of a point's rows. -/
def row (t : Fin 96) (r : Fin 1024) : Fin 4096 := ⟨1024 * (t.val / 24) + r.val, by omega⟩
/-- A point's tile of columns. -/
def jt (t : Fin 96) : Fin 24 := ⟨t.val % 24, by omega⟩

theorem idx : ∀ t : Fin cfg0.N, win0_0.index t = ![t.val / 24, 0] ∧ win0_1.index t = ![t.val % 24 / 3, 0, t.val % 24 % 3] ∧
    win0_2.index t = ![t.val % 24 / 8, t.val / 24, t.val % 24 % 8] := (by decide +kernel : ∀ t : Fin grid0.N, _)

variable (m : (ℓ : Loc nD τ sig) → Buf (Elt Ideal) ℓ)

/-- The argument `h`. -/
abbrev A0 (c : Dev nD) : FVec Ideal S4096x2048 .bf16 := m ((c : Thread nD τ).loc main_arg0)
/-- The argument `w_in`. -/
abbrev A1 (c : Dev nD) : FVec Ideal S8x2048x1536 .bf16 := m ((c : Thread nD τ).loc main_arg1)

theorem iblk0 (c : Dev nD) (t : Fin cfg0.N) : iblk m c 0 t = fun y : S1024x2048.Idx => A0 m c (ix2 (row t (y 0)) (y 1)) := by
  funext y; blk_ext [iblk, V, idx t, row]
theorem iblk1 (c : Dev nD) (t : Fin cfg0.N) :
    iblk m c 1 t = fun y : S1x2048x512.Idx => A1 m c (ix3 (tv (jt t)) (y 1) (tw (jt t) (y 2))) := by
  funext y; blk_ext [iblk, V, idx t, jt, tv, tw]

theorem arr (c : Dev nD) : (dats m 0 c).arrAt 2 cfg0.N = inP (A0 m c) (A1 m c) := by
  refine (dats m 0 c).arrAt_eq_of_covers 2 _ (by decide +kernel) fun t hf y => ?_
  have key : ∀ z : S1x1024x512.Idx, out0_2 (iblk m c 0 t) (iblk m c 1 t) z
      = inP (A0 m c) (A1 m c) (ix3 (tp (jt t)) (row t (z 1)) (tl (jt t) (z 2))) := fun z => by
    rw [out_at, iblk0, iblk1]
    exact In.at_tile (A0 m c) (A1 m c) (row t (z 1)) (jt t) (z 2)
  rw [after0_2]
  generalize out0_2 (iblk m c 0 t) (iblk m c 1 t) = Q at key
  refine (key ((cfg0.win 2).xinj (cfg0.grid.coords t) y)).trans (congrArg (inP (A0 m c) (A1 m c)) ?_)
  symm
  blk_ext [idx t, row, jt, tp, tl]

end Cert.Kernel13Ideal.Body

end
-- ==== Proof.ProdOut3.lean ====
module

public import proofs.«01_k».proof.Proof.Prod
public import proofs.«01_k».proof.Proof.Gen.Kernel14Ideal.Frame
public import Idealize.ShloMosaic.Lib.Pipeline.ReadBack

@[expose] public section

set_option maxRecDepth 16384

noncomputable section

namespace Cert.Kernel14Ideal.Body

open Idealize.ShloMosaic Cert.Kernel14Ideal Cert.Kernel14Ideal.Gen Cert.Prod
open Idealize.ShloMosaic.TcCoe Idealize.SL.Sem

/-!
The projection out. Point `4 i + j` of the grid makes rows `1024 i …` at columns `512 j …`.
-/

/-- A point's product. -/
theorem out_at (X : FVec Ideal S1024x4096 .bf16) (W : FVec Ideal S4096x512 .bf16) (y : S1024x512.Idx) :
    out0_2 (F := Ideal) X W y = ∑ e, X (ix2 (y 0) e) * W (ix2 e (y 1)) := by
  unfold out0_2
  frame_out
  refine (congrArg _ (eq_ix2 y)).trans ?_
  pointwise [k0_pay1]

/-- Row `r` of a point's rows. -/
def row (t : Fin 16) (r : Fin 1024) : Fin 4096 := ⟨1024 * (t.val / 4) + r.val, by omega⟩
/-- Column `l` of a point's columns. -/
def col (t : Fin 16) (l : Fin 512) : Fin 2048 := ⟨512 * (t.val % 4) + l.val, by omega⟩

theorem idx : ∀ t : Fin cfg0.N, win0_0.index t = ![t.val / 4, 0] ∧ win0_1.index t = ![0, t.val % 4] ∧
    win0_2.index t = ![t.val / 4, t.val % 4] := (by decide +kernel : ∀ t : Fin grid0.N, _)

variable (m : (ℓ : Loc nD τ sig) → Buf (Elt Ideal) ℓ)

/-- The argument `t`. -/
abbrev A0 (c : Dev nD) : FVec Ideal S4096x4096 .bf16 := m ((c : Thread nD τ).loc main_arg0)
/-- The argument `w_out`. -/
abbrev A1 (c : Dev nD) : FVec Ideal S4096x2048 .bf16 := m ((c : Thread nD τ).loc main_arg1)

theorem iblk0 (c : Dev nD) (t : Fin cfg0.N) : iblk m c 0 t = fun y : S1024x4096.Idx => A0 m c (ix2 (row t (y 0)) (y 1)) := by
  funext y; blk_ext [iblk, V, idx t, row]
theorem iblk1 (c : Dev nD) (t : Fin cfg0.N) : iblk m c 1 t = fun y : S4096x512.Idx => A1 m c (ix2 (y 0) (col t (y 1))) := by
  funext y; blk_ext [iblk, V, idx t, col]

theorem arr (c : Dev nD) : (dats m 0 c).arrAt 2 cfg0.N = outP (A0 m c) (A1 m c) := by
  refine (dats m 0 c).arrAt_eq_of_covers 2 _ (by decide +kernel) fun t hf y => ?_
  have key : ∀ z : S1024x512.Idx, out0_2 (iblk m c 0 t) (iblk m c 1 t) z
      = outP (A0 m c) (A1 m c) (ix2 (row t (z 0)) (col t (z 1))) := fun z => by
    rw [out_at, iblk0, iblk1]; rfl
  rw [after0_2]
  generalize out0_2 (iblk m c 0 t) (iblk m c 1 t) = Q at key
  refine (key ((cfg0.win 2).xinj (cfg0.grid.coords t) y)).trans (congrArg (outP (A0 m c) (A1 m c)) ?_)
  symm
  blk_ext [idx t, row, col]

end Cert.Kernel14Ideal.Body

end
-- ==== Proof.ProdRef3.lean ====
module

public import proofs.«01_k».proof.Proof.Prod
public import proofs.«01_k».proof.Proof.Gen.Reference9Ideal.Read
public import proofs.«01_k».proof.Proof.Gen.Reference10Ideal.Read
public import proofs.«01_k».proof.Proof.Gen.Reference11Ideal.Read
public import proofs.«01_k».proof.Proof.Gen.Reference12Ideal.Read
public import proofs.«01_k».proof.Proof.Gen.Reference13Ideal.Read
public import proofs.«01_k».proof.Proof.Gen.Reference14Ideal.Read

@[expose] public section

set_option maxRecDepth 16384

noncomputable section

/-!
The references of layer 3's six products, over 4096 rows, read at an index.
-/

namespace Cert.Reference9Ideal.Body

open Idealize.ShloMosaic Cert.Reference9Ideal Cert.Reference9Ideal.Gen Cert.Reference9Ideal.Read Cert.Prod

variable (X0 : FVec Ideal S4096x2048 .bf16) (X1 : FVec Ideal S3x4096x4096 .bf16)

theorem r9 (n : Fin 4096) (c : Fin 12288) : val_main_v9 (F := Ideal) X1 (ix2 n c) = zc X1 n c := by
  unfold zc pl ln
  pointwise [val_main_v9, val_main_v8, val_main_v1]

theorem r10 (c : Fin 12288) (k : Fin 2048) : val_main_v10 (F := Ideal) X0 X1 (ix2 c k) = ∑ n, X0 (ix2 n k) * zc X1 n c := by
  pointwise [val_main_v10, r9, val_main_v0]
  exact Finset.sum_congr rfl fun n _ => mul_comm _ _

theorem r_at (v : Fin 8) (k : Fin 2048) (l : Fin 1536) : val_main_v14 (F := Ideal) X0 X1 (ix3 v k l)
    = ∑ n, X0 (ix2 n k) * zc X1 n (colV v l) := by
  refine Eq.trans ?_ (r10 X0 X1 (colV v l) k)
  unfold colV
  pointwise [val_main_v14, val_main_v13, val_main_v12, val_main_v11]

theorem r_eq : val_main_v14 (F := Ideal) X0 X1 = inW X0 X1 :=
  funext fun y => (congrArg _ (eq_ix3 y)).trans (r_at X0 X1 (y 0) (y 1) (y 2))

end Cert.Reference9Ideal.Body

namespace Cert.Reference10Ideal.Body

open Idealize.ShloMosaic Cert.Reference10Ideal Cert.Reference10Ideal.Gen Cert.Reference10Ideal.Read Cert.Prod

variable (X0 : FVec Ideal S3x4096x4096 .bf16) (X1 : FVec Ideal S8x2048x1536 .bf16)

theorem r9 (n : Fin 4096) (c : Fin 12288) : val_main_v9 (F := Ideal) X0 (ix2 n c) = zc X0 n c := by
  unfold zc pl ln
  pointwise [val_main_v9, val_main_v8, val_main_v0]

theorem r4 (k : Fin 2048) (c : Fin 12288) : val_main_v4 (F := Ideal) X1 (ix2 k c) = wc X1 k c := by
  unfold wc dv wl
  pointwise [val_main_v4, val_main_v3, val_main_v1]

theorem r_at (n : Fin 4096) (k : Fin 2048) : val_main_v10 (F := Ideal) X0 X1 (ix2 n k) = ∑ c, zc X0 n c * wc X1 k c := by
  pointwise [val_main_v10, r9, r4]

theorem r_eq : val_main_v10 (F := Ideal) X0 X1 = inH X0 X1 :=
  funext fun y => (congrArg _ (eq_ix2 y)).trans (r_at X0 X1 (y 0) (y 1))

end Cert.Reference10Ideal.Body

namespace Cert.Reference11Ideal.Body

open Idealize.ShloMosaic Cert.Reference11Ideal Cert.Reference11Ideal.Gen Cert.Reference11Ideal.Read Cert.Prod

variable (X0 : FVec Ideal S4096x4096 .bf16) (X1 : FVec Ideal S4096x2048 .bf16)

theorem r_at (e : Fin 4096) (d : Fin 2048) : val_main_v6 (F := Ideal) X0 X1 (ix2 e d) = ∑ n, X0 (ix2 n e) * X1 (ix2 n d) := by
  pointwise [val_main_v6, val_main_v5, val_main_v4, val_main_v1, val_main_v0]
  exact Finset.sum_congr rfl fun n _ => mul_comm _ _

theorem r_eq : val_main_v6 (F := Ideal) X0 X1 = outW X0 X1 :=
  funext fun y => (congrArg _ (eq_ix2 y)).trans (r_at X0 X1 (y 0) (y 1))

end Cert.Reference11Ideal.Body

namespace Cert.Reference12Ideal.Body

open Idealize.ShloMosaic Cert.Reference12Ideal Cert.Reference12Ideal.Gen Cert.Reference12Ideal.Read Cert.Prod

variable (X0 : FVec Ideal S4096x2048 .bf16) (X1 : FVec Ideal S4096x2048 .bf16)

theorem r_at (n : Fin 4096) (e : Fin 4096) : val_main_v4 (F := Ideal) X0 X1 (ix2 n e) = ∑ d, X0 (ix2 n d) * X1 (ix2 e d) := by
  pointwise [val_main_v4, val_main_v1, val_main_v0]

theorem r_eq : val_main_v4 (F := Ideal) X0 X1 = outT X0 X1 :=
  funext fun y => (congrArg _ (eq_ix2 y)).trans (r_at X0 X1 (y 0) (y 1))

end Cert.Reference12Ideal.Body

namespace Cert.Reference13Ideal.Body

open Idealize.ShloMosaic Cert.Reference13Ideal Cert.Reference13Ideal.Gen Cert.Reference13Ideal.Read Cert.Prod

variable (X0 : FVec Ideal S4096x2048 .bf16) (X1 : FVec Ideal S8x2048x1536 .bf16)

theorem r3 (k : Fin 2048) (c : Fin 12288) : val_main_v3 (F := Ideal) X1 (ix2 k c) = wc X1 k c := by
  unfold wc dv wl
  pointwise [val_main_v3, val_main_v2, val_main_v1]

theorem r4 (n : Fin 4096) (c : Fin 12288) : val_main_v4 (F := Ideal) X0 X1 (ix2 n c) = ∑ k, X0 (ix2 n k) * wc X1 k c := by
  pointwise [val_main_v4, r3, val_main_v0]

theorem r_at (p : Fin 3) (n : Fin 4096) (l : Fin 4096) : val_main_v6 (F := Ideal) X0 X1 (ix3 p n l)
    = ∑ k, X0 (ix2 n k) * wc X1 k (colP p l) := by
  refine Eq.trans ?_ (r4 X0 X1 n (colP p l))
  unfold colP
  pointwise [val_main_v6, val_main_v5]

theorem r_eq : val_main_v6 (F := Ideal) X0 X1 = inP X0 X1 :=
  funext fun y => (congrArg _ (eq_ix3 y)).trans (r_at X0 X1 (y 0) (y 1) (y 2))

end Cert.Reference13Ideal.Body

namespace Cert.Reference14Ideal.Body

open Idealize.ShloMosaic Cert.Reference14Ideal Cert.Reference14Ideal.Gen Cert.Reference14Ideal.Read Cert.Prod

variable (X0 : FVec Ideal S4096x4096 .bf16) (X1 : FVec Ideal S4096x2048 .bf16)

theorem r_at (n : Fin 4096) (d : Fin 2048) : val_main_v2 (F := Ideal) X0 X1 (ix2 n d) = ∑ e, X0 (ix2 n e) * X1 (ix2 e d) := by
  pointwise [val_main_v2, val_main_v1, val_main_v0]

theorem r_eq : val_main_v2 (F := Ideal) X0 X1 = outP X0 X1 :=
  funext fun y => (congrArg _ (eq_ix2 y)).trans (r_at X0 X1 (y 0) (y 1))

end Cert.Reference14Ideal.Body

end
-- ==== Proof.ProdClaims3.lean ====
module

public import proofs.«01_k».proof.Defs
public import proofs.«01_k».proof.Proof.ProdDwin3
public import proofs.«01_k».proof.Proof.ProdDh3
public import proofs.«01_k».proof.Proof.ProdDwout3
public import proofs.«01_k».proof.Proof.ProdDt3
public import proofs.«01_k».proof.Proof.ProdIn3
public import proofs.«01_k».proof.Proof.ProdOut3
public import proofs.«01_k».proof.Proof.ProdRef3
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import Idealize.ShloMosaic.Adequacy
public import Idealize.ShloMosaic.Init

@[expose] public section

set_option maxRecDepth 16384

noncomputable section

/-!
The claims of layer 3's six products.
-/

namespace Cert.Proof.ProdClaims

open Idealize.ShloMosaic Idealize.SL.Sem Cert.Prod

/-! The gradient of the projection in at its weight. -/

theorem frame_p9 : Cert.quiescent_Kernel9 := fun m ρ _ => Cert.Kernel9.Gen.frame m ρ
theorem frame_pi9 : Cert.quiescent_Kernel9Ideal := fun m ρ _ => Cert.Kernel9Ideal.Gen.frame m ρ
theorem frame_ri9 : Cert.quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

theorem algebraic9 : Cert.algebraic_Kernel9Ideal_Reference9Ideal := by
  intro m ρ m' ρ' _ ha
  refine ⟨fun c => inW (Cert.Kernel9Ideal.Body.A0 m c) (Cert.Kernel9Ideal.Body.A1 m c), ?_, ?_⟩
  · exact (θ_run Cert.Kernel9Ideal.defs _ _).mono (fun r h c => ⟨(h c).1.trans (Cert.Kernel9Ideal.Body.arr m c), (h c).2⟩)
      (Cert.Kernel9Ideal.Value.run_blocks m ρ)
  · refine (θ_run Cert.Reference9Ideal.defs _ _).mono (fun r h c => ⟨?_, (h c).2⟩)
      (Cert.Reference9Ideal.Value.run (F := Ideal) m' ρ')
    refine (h c).1.trans ((Cert.Reference9Ideal.Read.val_main_v14_eq _ _).trans ?_)
    rw [(ha c).1, (ha c).2]
    exact Cert.Reference9Ideal.Body.r_eq _ _

/-! The gradient of the projection in at its rows. -/

theorem frame_p10 : Cert.quiescent_Kernel10 := fun m ρ _ => Cert.Kernel10.Gen.frame m ρ
theorem frame_pi10 : Cert.quiescent_Kernel10Ideal := fun m ρ _ => Cert.Kernel10Ideal.Gen.frame m ρ
theorem frame_ri10 : Cert.quiescent_Reference10Ideal := fun m ρ _ =>
  (θ_run Cert.Reference10Ideal.defs _ _).mono (fun r h => ⟨fun c => (h c).2, sem_eq_zero_of_no_sems (by decide) r.2⟩)
    (Cert.Reference10Ideal.Value.run (F := Ideal) m ρ)

theorem algebraic10 : Cert.algebraic_Kernel10Ideal_Reference10Ideal := by
  intro m ρ m' ρ' _ ha
  refine ⟨fun c => inH (Cert.Kernel10Ideal.Body.A0 m c) (Cert.Kernel10Ideal.Body.A1 m c), ?_, ?_⟩
  · exact (θ_run Cert.Kernel10Ideal.defs _ _).mono (fun r h c => ⟨(h c).1.trans (Cert.Kernel10Ideal.Body.arr m c), (h c).2⟩)
      (Cert.Kernel10Ideal.Value.run_blocks m ρ)
  · refine (θ_run Cert.Reference10Ideal.defs _ _).mono (fun r h c => ⟨?_, (h c).2⟩)
      (Cert.Reference10Ideal.Value.run (F := Ideal) m' ρ')
    refine (h c).1.trans ((Cert.Reference10Ideal.Read.val_main_v10_eq _ _).trans ?_)
    rw [(ha c).1, (ha c).2]
    exact Cert.Reference10Ideal.Body.r_eq _ _

/-! The gradient of the projection out at its weight. -/

theorem frame_p11 : Cert.quiescent_Kernel11 := fun m ρ _ => Cert.Kernel11.Gen.frame m ρ
theorem frame_pi11 : Cert.quiescent_Kernel11Ideal := fun m ρ _ => Cert.Kernel11Ideal.Gen.frame m ρ
theorem frame_ri11 : Cert.quiescent_Reference11Ideal := fun m ρ _ =>
  (θ_run Cert.Reference11Ideal.defs _ _).mono (fun r h => ⟨fun c => (h c).2, sem_eq_zero_of_no_sems (by decide) r.2⟩)
    (Cert.Reference11Ideal.Value.run (F := Ideal) m ρ)

theorem algebraic11 : Cert.algebraic_Kernel11Ideal_Reference11Ideal := by
  intro m ρ m' ρ' _ ha
  refine ⟨fun c => outW (Cert.Kernel11Ideal.Body.A0 m c) (Cert.Kernel11Ideal.Body.A1 m c), ?_, ?_⟩
  · exact (θ_run Cert.Kernel11Ideal.defs _ _).mono (fun r h c => ⟨(h c).1.trans (Cert.Kernel11Ideal.Body.arr m c), (h c).2⟩)
      (Cert.Kernel11Ideal.Value.run_blocks m ρ)
  · refine (θ_run Cert.Reference11Ideal.defs _ _).mono (fun r h c => ⟨?_, (h c).2⟩)
      (Cert.Reference11Ideal.Value.run (F := Ideal) m' ρ')
    refine (h c).1.trans ((Cert.Reference11Ideal.Read.val_main_v6_eq _ _).trans ?_)
    rw [(ha c).1, (ha c).2]
    exact Cert.Reference11Ideal.Body.r_eq _ _

/-! The gradient of the projection out at its rows. -/

theorem frame_p12 : Cert.quiescent_Kernel12 := fun m ρ _ => Cert.Kernel12.Gen.frame m ρ
theorem frame_pi12 : Cert.quiescent_Kernel12Ideal := fun m ρ _ => Cert.Kernel12Ideal.Gen.frame m ρ
theorem frame_ri12 : Cert.quiescent_Reference12Ideal := fun m ρ _ =>
  (θ_run Cert.Reference12Ideal.defs _ _).mono (fun r h => ⟨fun c => (h c).2, sem_eq_zero_of_no_sems (by decide) r.2⟩)
    (Cert.Reference12Ideal.Value.run (F := Ideal) m ρ)

theorem algebraic12 : Cert.algebraic_Kernel12Ideal_Reference12Ideal := by
  intro m ρ m' ρ' _ ha
  refine ⟨fun c => outT (Cert.Kernel12Ideal.Body.A0 m c) (Cert.Kernel12Ideal.Body.A1 m c), ?_, ?_⟩
  · exact (θ_run Cert.Kernel12Ideal.defs _ _).mono (fun r h c => ⟨(h c).1.trans (Cert.Kernel12Ideal.Body.arr m c), (h c).2⟩)
      (Cert.Kernel12Ideal.Value.run_blocks m ρ)
  · refine (θ_run Cert.Reference12Ideal.defs _ _).mono (fun r h c => ⟨?_, (h c).2⟩)
      (Cert.Reference12Ideal.Value.run (F := Ideal) m' ρ')
    refine (h c).1.trans ((Cert.Reference12Ideal.Read.val_main_v4_eq _ _).trans ?_)
    rw [(ha c).1, (ha c).2]
    exact Cert.Reference12Ideal.Body.r_eq _ _

/-! The projection in. -/

theorem frame_p13 : Cert.quiescent_Kernel13 := fun m ρ _ => Cert.Kernel13.Gen.frame m ρ
theorem frame_pi13 : Cert.quiescent_Kernel13Ideal := fun m ρ _ => Cert.Kernel13Ideal.Gen.frame m ρ
theorem frame_ri13 : Cert.quiescent_Reference13Ideal := fun m ρ _ =>
  (θ_run Cert.Reference13Ideal.defs _ _).mono (fun r h => ⟨fun c => (h c).2, sem_eq_zero_of_no_sems (by decide) r.2⟩)
    (Cert.Reference13Ideal.Value.run (F := Ideal) m ρ)

theorem algebraic13 : Cert.algebraic_Kernel13Ideal_Reference13Ideal := by
  intro m ρ m' ρ' _ ha
  refine ⟨fun c => inP (Cert.Kernel13Ideal.Body.A0 m c) (Cert.Kernel13Ideal.Body.A1 m c), ?_, ?_⟩
  · exact (θ_run Cert.Kernel13Ideal.defs _ _).mono (fun r h c => ⟨(h c).1.trans (Cert.Kernel13Ideal.Body.arr m c), (h c).2⟩)
      (Cert.Kernel13Ideal.Value.run_blocks m ρ)
  · refine (θ_run Cert.Reference13Ideal.defs _ _).mono (fun r h c => ⟨?_, (h c).2⟩)
      (Cert.Reference13Ideal.Value.run (F := Ideal) m' ρ')
    refine (h c).1.trans ((Cert.Reference13Ideal.Read.val_main_v6_eq _ _).trans ?_)
    rw [(ha c).1, (ha c).2]
    exact Cert.Reference13Ideal.Body.r_eq _ _

/-! The projection out. -/

theorem frame_p14 : Cert.quiescent_Kernel14 := fun m ρ _ => Cert.Kernel14.Gen.frame m ρ
theorem frame_pi14 : Cert.quiescent_Kernel14Ideal := fun m ρ _ => Cert.Kernel14Ideal.Gen.frame m ρ
theorem frame_ri14 : Cert.quiescent_Reference14Ideal := fun m ρ _ =>
  (θ_run Cert.Reference14Ideal.defs _ _).mono (fun r h => ⟨fun c => (h c).2, sem_eq_zero_of_no_sems (by decide) r.2⟩)
    (Cert.Reference14Ideal.Value.run (F := Ideal) m ρ)

theorem algebraic14 : Cert.algebraic_Kernel14Ideal_Reference14Ideal := by
  intro m ρ m' ρ' _ ha
  refine ⟨fun c => outP (Cert.Kernel14Ideal.Body.A0 m c) (Cert.Kernel14Ideal.Body.A1 m c), ?_, ?_⟩
  · exact (θ_run Cert.Kernel14Ideal.defs _ _).mono (fun r h c => ⟨(h c).1.trans (Cert.Kernel14Ideal.Body.arr m c), (h c).2⟩)
      (Cert.Kernel14Ideal.Value.run_blocks m ρ)
  · refine (θ_run Cert.Reference14Ideal.defs _ _).mono (fun r h c => ⟨?_, (h c).2⟩)
      (Cert.Reference14Ideal.Value.run (F := Ideal) m' ρ')
    refine (h c).1.trans ((Cert.Reference14Ideal.Read.val_main_v2_eq _ _).trans ?_)
    rw [(ha c).1, (ha c).2]
    exact Cert.Reference14Ideal.Body.r_eq _ _

end Cert.Proof.ProdClaims

end
-- ==== Proof.ProdQkvg.lean ====
module

public import proofs.«01_k».proof.Proof.Prod

@[expose] public section

set_option maxRecDepth 16384

noncomputable section

namespace Cert.Prod.Qkvg

open Idealize.ShloMosaic Cert.Prod

/-!
The products of the attention's projection in, over any number `R` of rows. It has 5120 columns, kept side by side by the layer;
its weight is kept in eight parts of 640, one for each device, and a tile of the grids' columns is a part.
-/

variable {R : ℕ}

/-- The part of the weight that holds a column. -/
def dv (c : Fin 5120) : Fin 8 := ⟨c.val / 640, by omega⟩
/-- A column's place in its part. -/
def wl (c : Fin 5120) : Fin 640 := ⟨c.val % 640, by omega⟩
/-- The column at a part and a place in it. -/
def col (v : Fin 8) (l : Fin 640) : Fin 5120 := ⟨v.val * 640 + l.val, by omega⟩

theorem dv_col (v : Fin 8) (l : Fin 640) : dv (col v l) = v :=
  Fin.ext (by show (v.val * 640 + l.val) / 640 = v.val; omega)
theorem wl_col (v : Fin 8) (l : Fin 640) : wl (col v l) = l :=
  Fin.ext (by show (v.val * 640 + l.val) % 640 = l.val; omega)

/-- The weight's entry at a row and a column. -/
def wc (w : FVec Ideal ⟨3, ![8, 2048, 640]⟩ .bf16) (k : Fin 2048) (c : Fin 5120) : EReal := w (ix3 (dv c) k (wl c))

/-- The weight at a part. -/
theorem wc_col (w : FVec Ideal ⟨3, ![8, 2048, 640]⟩ .bf16) (k : Fin 2048) (v : Fin 8) (l : Fin 640) :
    wc w k (col v l) = w (ix3 v k l) := by rw [wc, dv_col, wl_col]

/-- A sum over the columns, part by part. -/
theorem sum_col (f : Fin 5120 → EReal) : ∑ v, ∑ l, f (col v l) = ∑ c, f c := Fin.sum_mul_add_congr fun _ _ _ => rfl

/-- The projection in. -/
def inP (h : FVec Ideal ⟨2, ![R, 2048]⟩ .bf16) (w : FVec Ideal ⟨3, ![8, 2048, 640]⟩ .bf16) :
    Shape.Idx ⟨2, ![R, 5120]⟩ → EReal := fun y => ∑ k, h (ix2 (y 0) k) * wc w k (y 1)

/-- Its gradient at the weight. -/
def inW (h : FVec Ideal ⟨2, ![R, 2048]⟩ .bf16) (dz : FVec Ideal ⟨2, ![R, 5120]⟩ .bf16) :
    Shape.Idx ⟨3, ![8, 2048, 640]⟩ → EReal := fun y => ∑ n, h (ix2 n (y 1)) * dz (ix2 n (col (y 0) (y 2)))

/-- Its gradient at the rows. -/
def inH (dz : FVec Ideal ⟨2, ![R, 5120]⟩ .bf16) (w : FVec Ideal ⟨3, ![8, 2048, 640]⟩ .bf16) :
    Shape.Idx ⟨2, ![R, 2048]⟩ → EReal := fun y => ∑ c, dz (ix2 (y 0) c) * wc w (y 1) c

/-- A tile of the projection in. -/
theorem inP_col (X : FVec Ideal ⟨2, ![R, 2048]⟩ .bf16) (W : FVec Ideal ⟨3, ![8, 2048, 640]⟩ .bf16) (n : Fin R) (v : Fin 8)
    (l : Fin 640) : ∑ k, X (ix2 n k) * W (ix3 v k l) = inP X W (ix2 n (col v l)) := by
  show _ = ∑ k, X (ix2 n k) * wc W k (col v l)
  simp only [wc_col]

variable {H : ℕ}

/-!
The gradient at the weight: 32 points, of which `16 i + 2 j` and `16 i + 2 j + 1` make rows `1024 i …` of part `j`, one half of the
summed rows each.
-/

/-- A point's part of the sum. -/
def partW (X : FVec Ideal ⟨2, ![H, 1024]⟩ .bf16) (W : FVec Ideal ⟨2, ![H, 640]⟩ .bf16) (y : Shape.Idx ⟨2, ![1024, 640]⟩) : EReal :=
  ∑ r, X (ix2 r (y 0)) * W (ix2 r (y 1))

/-- Row `l` of a point's rows of the gradient. -/
def rowW (t : Fin 32) (l : Fin 1024) : Fin 2048 := ⟨1024 * (t.val / 16) + l.val, by omega⟩
/-- A point's part of the weight. -/
def dvW (t : Fin 32) : Fin 8 := ⟨t.val / 2 % 8, by omega⟩
/-- A point's half of the summed rows. -/
def kkW (t : Fin 32) : Fin 2 := ⟨t.val % 2, by omega⟩
/-- The point of a block's run that sums half `s`, the run's last point being `t`. -/
def ptW (t : Fin 32) (s : Fin 2) : Fin 32 := ⟨2 * (t.val / 2) + s.val, by omega⟩

theorem kkW_pt (t : Fin 32) (s : Fin 2) : kkW (ptW t s) = s :=
  Fin.ext (by show (2 * (t.val / 2) + s.val) % 2 = s.val; omega)
theorem dvW_pt (t : Fin 32) (s : Fin 2) : dvW (ptW t s) = dvW t :=
  Fin.ext (by show (2 * (t.val / 2) + s.val) / 2 % 8 = t.val / 2 % 8; omega)
theorem rowW_pt (t : Fin 32) (s : Fin 2) (l : Fin 1024) : rowW (ptW t s) l = rowW t l :=
  Fin.ext (by show 1024 * ((2 * (t.val / 2) + s.val) / 16) + l.val = 1024 * (t.val / 16) + l.val; omega)

/-- A point's block of the layer's input. -/
def blkW0 (hR : R = 2 * H) (X : FVec Ideal ⟨2, ![R, 2048]⟩ .bf16) (t : Fin 32) : FVec Ideal ⟨2, ![H, 1024]⟩ .bf16 :=
  fun y => X (ix2 (hr H hR (kkW t) (y 0)) (rowW t (y 1)))
/-- A point's block of the cotangent. -/
def blkW1 (hR : R = 2 * H) (D : FVec Ideal ⟨2, ![R, 5120]⟩ .bf16) (t : Fin 32) : FVec Ideal ⟨2, ![H, 640]⟩ .bf16 :=
  fun y => D (ix2 (hr H hR (kkW t) (y 0)) (col (dvW t) (y 1)))

/-- A run makes the sum over the rows. -/
theorem sum_partW (hR : R = 2 * H) (X : FVec Ideal ⟨2, ![R, 2048]⟩ .bf16) (D : FVec Ideal ⟨2, ![R, 5120]⟩ .bf16) (t : Fin 32)
    (k : Fin 1024) (l : Fin 640) : ∑ s, partW (blkW0 hR X (ptW t s)) (blkW1 hR D (ptW t s)) (ix2 k l)
      = inW X D (ix3 (dvW t) (rowW t k) l) := by
  refine Eq.trans (Finset.sum_congr rfl fun s _ => ?_) (sum_hr H hR fun n => X (ix2 n (rowW t k)) * D (ix2 n (col (dvW t) l)))
  show (∑ r, X (ix2 (hr H hR (kkW (ptW t s)) r) (rowW (ptW t s) k))
    * D (ix2 (hr H hR (kkW (ptW t s)) r) (col (dvW (ptW t s)) l))) = _
  rw [kkW_pt, dvW_pt, rowW_pt]

/-!
The gradient at the rows: 32 points, of which those from `8 i` on make rows `H i …`, one part of the summed columns each.
-/

/-- A point's part of the sum. -/
def partH (X : FVec Ideal ⟨2, ![H, 640]⟩ .bf16) (W : FVec Ideal ⟨3, ![1, 2048, 640]⟩ .bf16) (y : Shape.Idx ⟨2, ![H, 2048]⟩) : EReal :=
  ∑ l, X (ix2 (y 0) l) * W (ix3 0 (y 1) l)

/-- A point's quarter of the rows. -/
def qtH (t : Fin 32) : Fin 4 := ⟨t.val / 8, by omega⟩
/-- A point's part of the columns. -/
def dvH (t : Fin 32) : Fin 8 := ⟨t.val % 8, by omega⟩
/-- The point of a block's run that sums part `s`, the run's last point being `t`. -/
def ptH (t : Fin 32) (s : Fin 8) : Fin 32 := ⟨8 * (t.val / 8) + s.val, by omega⟩

theorem dvH_pt (t : Fin 32) (s : Fin 8) : dvH (ptH t s) = s :=
  Fin.ext (by show (8 * (t.val / 8) + s.val) % 8 = s.val; omega)
theorem qtH_pt (t : Fin 32) (s : Fin 8) : qtH (ptH t s) = qtH t :=
  Fin.ext (by show (8 * (t.val / 8) + s.val) / 8 = t.val / 8; omega)

/-- A point's block of the cotangent. -/
def blkH0 (hR : R = 4 * H) (D : FVec Ideal ⟨2, ![R, 5120]⟩ .bf16) (t : Fin 32) : FVec Ideal ⟨2, ![H, 640]⟩ .bf16 :=
  fun y => D (ix2 (qr H hR (qtH t) (y 0)) (col (dvH t) (y 1)))
/-- A point's block of the weight. -/
def blkH1 (W : FVec Ideal ⟨3, ![8, 2048, 640]⟩ .bf16) (t : Fin 32) : FVec Ideal ⟨3, ![1, 2048, 640]⟩ .bf16 :=
  fun y => W (ix3 (dvH t) (y 1) (y 2))

/-- A run makes the sum over the columns. -/
theorem sum_partH (hR : R = 4 * H) (D : FVec Ideal ⟨2, ![R, 5120]⟩ .bf16) (W : FVec Ideal ⟨3, ![8, 2048, 640]⟩ .bf16) (t : Fin 32)
    (r : Fin H) (k : Fin 2048) : ∑ s, partH (blkH0 hR D (ptH t s)) (blkH1 W (ptH t s)) (ix2 r k)
      = inH D W (ix2 (qr H hR (qtH t) r) k) := by
  refine Eq.trans (Finset.sum_congr rfl fun s _ => ?_) (sum_col fun c => D (ix2 (qr H hR (qtH t) r) c) * wc W k c)
  show (∑ l, D (ix2 (qr H hR (qtH (ptH t s)) r) (col (dvH (ptH t s)) l)) * W (ix3 (dvH (ptH t s)) k l)) = _
  rw [dvH_pt, qtH_pt]
  simp only [wc_col]

end Cert.Prod.Qkvg

end
-- ==== Proof.ProdDwin2.lean ====
module

public import proofs.«01_k».proof.Proof.ProdQkvg
public import proofs.«01_k».proof.Proof.Gen.Kernel15Ideal.Frame
public import Idealize.ShloMosaic.Lib.Pipeline.ReadBack

@[expose] public section

set_option maxRecDepth 16384

noncomputable section

namespace Cert.Kernel15Ideal.Body

open Idealize.ShloMosaic Cert.Kernel15Ideal Cert.Kernel15Ideal.Gen Cert.Prod.Qkvg
open Cert.Prod (hr)
open Idealize.ShloMosaic.TcCoe Idealize.SL.Sem

/-! The gradient of the projection in at its weight, over 4352 rows: the kernel's blocks and their sums. -/

theorem pay2_at (Q : FVec Ideal S1024x640 .f32) (X : FVec Ideal S2176x1024 .bf16) (W : FVec Ideal S2176x640 .bf16)
    (y : S1024x640.Idx) : k0_pay2 (F := Ideal) Q X W y = Q y + partW X W y := by
  rw [eq_ix2 y]
  pointwise [k0_pay2, partW]

theorem pay1_at (y : S1024x640.Idx) : k0_pay1 (F := Ideal) y = 0 := by
  rw [eq_ix2 y]
  pointwise [k0_pay1]

theorem pay3_at (Q : FVec Ideal S1024x640 .f32) (y : S1x1024x640.Idx) : k0_pay3 (F := Ideal) Q y = Q (ix2 (y 1) (y 2)) := by
  refine (congrArg _ (eq_ix3 y)).trans ?_
  pointwise [k0_pay3]

theorem idx : ∀ t : Fin cfg0.N, win0_0.index t = ![t.val % 2, t.val / 16] ∧ win0_1.index t = ![t.val % 2, t.val / 2 % 8] ∧
    win0_2.index t = ![t.val / 2 % 8, t.val / 16, 0] := (by decide +kernel : ∀ t : Fin grid0.N, _)

variable (m : (ℓ : Loc nD τ sig) → Buf (Elt Ideal) ℓ)

/-- The argument `h`. -/
abbrev A0 (c : Dev nD) : FVec Ideal S4352x2048 .bf16 := m ((c : Thread nD τ).loc main_arg0)
/-- The argument `dz`. -/
abbrev A1 (c : Dev nD) : FVec Ideal S4352x5120 .bf16 := m ((c : Thread nD τ).loc main_arg1)

theorem iblk0 (c : Dev nD) (t : Fin cfg0.N) : iblk m c 0 t = blkW0 (H := 2176) rfl (A0 m c) t := by
  funext y; blk_ext [iblk, V, idx t, blkW0, hr, kkW, rowW]
theorem iblk1 (c : Dev nD) (t : Fin cfg0.N) : iblk m c 1 t = blkW1 (H := 2176) rfl (A1 m c) t := by
  funext y; blk_ext [iblk, V, idx t, blkW1, hr, kkW, dvW, col]

/-- A first point leaves its part over a zero fill. -/
theorem scA (c : Dev nD) (t : Fin cfg0.N) (h : t.val % 2 = 0) (y : S1024x640.Idx) :
    (outsAt0 m c t.val t.isLt).2 y = 0 + partW (iblk m c 0 t) (iblk m c 1 t) y := by
  rw [outsAt0_A m c t h (by omega)]
  frame_open
  simp (disch := decide) only [↓ View.readCov_skip, ↓ View.readCov_cons_toLoadRect, ↓ View.readCov_fill]
  frame_out
  rw [pay2_at, pay1_at]

/-- A second point adds its part to what the point before it left. -/
theorem scB (c : Dev nD) (t : Fin cfg0.N) (h : ¬t.val % 2 = 0) (y : S1024x640.Idx) :
    (outsAt0 m c t.val t.isLt).2 y
      = (outsAt0 m c (t.val - 1) (Nat.lt_of_le_of_lt (Nat.sub_le _ _) t.isLt)).2 y + partW (iblk m c 0 t) (iblk m c 1 t) y := by
  rw [outsAt0_B m c t h (by omega)]
  frame_open
  simp (disch := decide) only [↓ View.readCov_skip, ↓ View.readCov_cons_toLoadRect, ↓ View.readCov_fill]
  frame_out
  rw [pay2_at, read_unread_whole]

/-- A second point writes back the sum. -/
theorem outB (c : Dev nD) (t : Fin cfg0.N) (h : t.val % 2 = 1) (y : S1x1024x640.Idx) :
    (outsAt0 m c t.val t.isLt).1 y = (outsAt0 m c t.val t.isLt).2 (ix2 (y 1) (y 2)) := by
  rw [outsAt0_B m c t (by omega) h]
  frame_open
  simp (disch := decide) only [↓ View.readCov_skip, ↓ View.readCov_cons_toLoadRect, ↓ View.readCov_fill]
  frame_out
  rw [pay3_at]

theorem arr (c : Dev nD) : (dats m 0 c).arrAt 2 cfg0.N = inW (A0 m c) (A1 m c) := by
  refine (dats m 0 c).arrAt_eq_of_covers 2 _ (by decide +kernel) fun t hf y => ?_
  have ht := (flush0_2 t).mp hf
  have key : ∀ z : S1x1024x640.Idx, (outsAt0 m c t.val t.isLt).1 z
      = inW (A0 m c) (A1 m c) (ix3 (dvW t) (rowW t (z 1)) (z 2)) := fun z => by
    rw [outB m c t ht]
    refine (Pipeline.eq_sum_fin_of_reset_step_apply_of_flush (fun n h => (outsAt0 m c n h).2) 2 (fun _ => (0 : EReal))
      (fun t => partW (iblk m c 0 t) (iblk m c 1 t)) (scA m c) (scB m c) t ht (ix2 (z 1) (z 2))).trans ?_
    rw [zero_add]
    exact (Finset.sum_congr rfl fun s _ => congrArg₂ (fun X W => partW X W (ix2 (z 1) (z 2))) (iblk0 m c (ptW t s)) (iblk1 m c (ptW t s))).trans
      (sum_partW (H := 2176) rfl (A0 m c) (A1 m c) t (z 1) (z 2))
  rw [after0_2]
  generalize (outsAt0 m c t.val t.isLt).1 = Q at key
  refine (key ((cfg0.win 2).xinj (cfg0.grid.coords t) y)).trans (congrArg (inW (A0 m c) (A1 m c)) ?_)
  symm
  blk_ext [idx t, rowW, dvW]

end Cert.Kernel15Ideal.Body

end
-- ==== Proof.ProdDh2.lean ====
module

public import proofs.«01_k».proof.Proof.ProdQkvg
public import proofs.«01_k».proof.Proof.Gen.Kernel16Ideal.Frame
public import Idealize.ShloMosaic.Lib.Pipeline.ReadBack

@[expose] public section

set_option maxRecDepth 16384

noncomputable section

namespace Cert.Kernel16Ideal.Body

open Idealize.ShloMosaic Cert.Kernel16Ideal Cert.Kernel16Ideal.Gen Cert.Prod.Qkvg
open Cert.Prod (qr)
open Idealize.ShloMosaic.TcCoe Idealize.SL.Sem

/-! The gradient of the projection in at its rows, over 4352 rows: the kernel's blocks and their sums. -/

theorem pay2_at (Q : FVec Ideal S1088x2048 .f32) (X : FVec Ideal S1088x640 .bf16) (W : FVec Ideal S1x2048x640 .bf16)
    (y : S1088x2048.Idx) : k0_pay2 (F := Ideal) Q X W y = Q y + partH X W y := by
  rw [eq_ix2 y]
  pointwise [k0_pay2, partH]

theorem pay1_at (y : S1088x2048.Idx) : k0_pay1 (F := Ideal) y = 0 := by
  rw [eq_ix2 y]
  pointwise [k0_pay1]

theorem idx : ∀ t : Fin cfg0.N, win0_0.index t = ![t.val / 8, t.val % 8] ∧ win0_1.index t = ![t.val % 8, 0, 0] ∧
    win0_2.index t = ![t.val / 8, 0] := (by decide +kernel : ∀ t : Fin grid0.N, _)

variable (m : (ℓ : Loc nD τ sig) → Buf (Elt Ideal) ℓ)

/-- The argument `dz`. -/
abbrev A0 (c : Dev nD) : FVec Ideal S4352x5120 .bf16 := m ((c : Thread nD τ).loc main_arg0)
/-- The argument `w_in`. -/
abbrev A1 (c : Dev nD) : FVec Ideal S8x2048x640 .bf16 := m ((c : Thread nD τ).loc main_arg1)

theorem iblk0 (c : Dev nD) (t : Fin cfg0.N) : iblk m c 0 t = blkH0 (H := 1088) rfl (A0 m c) t := by
  funext y; blk_ext [iblk, V, idx t, blkH0, qr, qtH, dvH, col]
theorem iblk1 (c : Dev nD) (t : Fin cfg0.N) : iblk m c 1 t = blkH1 (A1 m c) t := by
  funext y; blk_ext [iblk, V, idx t, blkH1, dvH]

/-- A first point leaves its part over a zero fill. -/
theorem scA (c : Dev nD) (t : Fin cfg0.N) (h : t.val % 8 = 0) (y : S1088x2048.Idx) :
    (outsAt0 m c t.val t.isLt).2 y = 0 + partH (iblk m c 0 t) (iblk m c 1 t) y := by
  rw [outsAt0_A m c t h (by omega)]
  frame_open
  simp (disch := decide) only [↓ View.readCov_skip, ↓ View.readCov_cons_toLoadRect, ↓ View.readCov_fill]
  frame_out
  rw [pay2_at, pay1_at]

/-- A later point adds its part to what the point before it left. -/
theorem scB (c : Dev nD) (t : Fin cfg0.N) (h : ¬t.val % 8 = 0) (y : S1088x2048.Idx) :
    (outsAt0 m c t.val t.isLt).2 y
      = (outsAt0 m c (t.val - 1) (Nat.lt_of_le_of_lt (Nat.sub_le _ _) t.isLt)).2 y + partH (iblk m c 0 t) (iblk m c 1 t) y := by
  by_cases h1 : t.val % 8 = 7
  · rw [outsAt0_C m c t h h1]
    frame_open
    simp (disch := decide) only [↓ View.readCov_skip, ↓ View.readCov_cons_toLoadRect, ↓ View.readCov_fill]
    frame_out
    rw [pay2_at, read_unread_whole]
  · rw [outsAt0_B m c t h h1]
    frame_open
    simp (disch := decide) only [↓ View.readCov_skip, ↓ View.readCov_cons_toLoadRect, ↓ View.readCov_fill]
    frame_out
    rw [pay2_at, read_unread_whole]

/-- A last point writes back the sum. -/
theorem outC (c : Dev nD) (t : Fin cfg0.N) (h : t.val % 8 = 7) (y : S1088x2048.Idx) :
    (outsAt0 m c t.val t.isLt).1 y = (outsAt0 m c t.val t.isLt).2 y := by
  rw [outsAt0_C m c t (by omega) h]
  frame_open
  simp (disch := decide) only [↓ View.readCov_skip, ↓ View.readCov_cons_toLoadRect, ↓ View.readCov_fill]
  frame_out

theorem arr (c : Dev nD) : (dats m 0 c).arrAt 2 cfg0.N = inH (A0 m c) (A1 m c) := by
  refine (dats m 0 c).arrAt_eq_of_covers 2 _ (by decide +kernel) fun t hf y => ?_
  have ht := (flush0_2 t).mp hf
  have key : ∀ z : S1088x2048.Idx, (outsAt0 m c t.val t.isLt).1 z
      = inH (A0 m c) (A1 m c) (ix2 (qr 1088 rfl (qtH t) (z 0)) (z 1)) := fun z => by
    rw [outC m c t ht]
    refine (Pipeline.eq_sum_fin_of_reset_step_apply_of_flush (fun n h => (outsAt0 m c n h).2) 8 (fun _ => (0 : EReal))
      (fun t => partH (iblk m c 0 t) (iblk m c 1 t)) (scA m c) (scB m c) t ht z).trans ?_
    rw [zero_add, eq_ix2 z]
    exact (Finset.sum_congr rfl fun s _ => congrArg₂ (fun X W => partH X W (ix2 (z 0) (z 1))) (iblk0 m c (ptH t s)) (iblk1 m c (ptH t s))).trans
      (sum_partH (H := 1088) rfl (A0 m c) (A1 m c) t (z 0) (z 1))
  rw [after0_2]
  generalize (outsAt0 m c t.val t.isLt).1 = Q at key
  refine (key ((cfg0.win 2).xinj (cfg0.grid.coords t) y)).trans (congrArg (inH (A0 m c) (A1 m c)) ?_)
  symm
  blk_ext [idx t, qr, qtH]

end Cert.Kernel16Ideal.Body

end
-- ==== Proof.ProdDwout2.lean ====
module

public import proofs.«01_k».proof.Proof.ProdTiles
public import proofs.«01_k».proof.Proof.Gen.Kernel17Ideal.Frame
public import Idealize.ShloMosaic.Lib.Pipeline.ReadBack

@[expose] public section

set_option maxRecDepth 16384

noncomputable section

namespace Cert.Kernel17Ideal.Body

open Idealize.ShloMosaic Cert.Kernel17Ideal Cert.Kernel17Ideal.Gen Cert.Prod Cert.Prod.Dwout
open Idealize.ShloMosaic.TcCoe Idealize.SL.Sem

/-! The gradient of the projection out at its weight, over 4096 rows: the kernel's blocks and their sums. -/

theorem pay2_at (Q : FVec Ideal S1024x1024 .f32) (X W : FVec Ideal S2048x1024 .bf16) (y : S1024x1024.Idx) :
    k0_pay2 (F := Ideal) Q X W y = Q y + part X W y := by
  rw [eq_ix2 y]
  pointwise [k0_pay2, part]

theorem pay1_at (y : S1024x1024.Idx) : k0_pay1 (F := Ideal) y = 0 := by
  rw [eq_ix2 y]
  pointwise [k0_pay1]

theorem pay3_at (Q : FVec Ideal S1024x1024 .f32) (y : S1024x1024.Idx) : k0_pay3 (F := Ideal) Q y = Q y := by
  rw [eq_ix2 y]
  pointwise [k0_pay3]

theorem idx : ∀ t : Fin cfg0.N, win0_0.index t = ![t.val % 2, t.val / 4] ∧ win0_1.index t = ![t.val % 2, t.val / 2 % 2] ∧
    win0_2.index t = ![t.val / 4, t.val / 2 % 2] := (by decide +kernel : ∀ t : Fin grid0.N, _)

/-- The grid has four points for each 1024 rows of the weight. -/
theorem hN : 8 % 4 = 0 ∧ 2048 = 256 * 8 := by decide

variable (m : (ℓ : Loc nD τ sig) → Buf (Elt Ideal) ℓ)

/-- The argument `t`. -/
abbrev A0 (c : Dev nD) : FVec Ideal S4096x2048 .bf16 := m ((c : Thread nD τ).loc main_arg0)
/-- The argument `dy`. -/
abbrev A1 (c : Dev nD) : FVec Ideal S4096x2048 .bf16 := m ((c : Thread nD τ).loc main_arg1)

theorem iblk0 (c : Dev nD) (t : Fin cfg0.N) : iblk m c 0 t = blk0 (H := 2048) hN rfl (A0 m c) t := by
  funext y; blk_ext [iblk, V, idx t, blk0, hr, kk, col0]
theorem iblk1 (c : Dev nD) (t : Fin cfg0.N) : iblk m c 1 t = blk1 (H := 2048) rfl (A1 m c) t := by
  funext y; blk_ext [iblk, V, idx t, blk1, hr, kk, col1]

/-- A first point leaves its part over a zero fill. -/
theorem scA (c : Dev nD) (t : Fin cfg0.N) (h : t.val % 2 = 0) (y : S1024x1024.Idx) :
    (outsAt0 m c t.val t.isLt).2 y = 0 + part (iblk m c 0 t) (iblk m c 1 t) y := by
  rw [outsAt0_A m c t h (by omega)]
  frame_open
  simp (disch := decide) only [↓ View.readCov_skip, ↓ View.readCov_cons_toLoadRect, ↓ View.readCov_fill]
  frame_out
  rw [pay2_at, pay1_at]

/-- A second point adds its part to what the point before it left. -/
theorem scB (c : Dev nD) (t : Fin cfg0.N) (h : ¬t.val % 2 = 0) (y : S1024x1024.Idx) :
    (outsAt0 m c t.val t.isLt).2 y
      = (outsAt0 m c (t.val - 1) (Nat.lt_of_le_of_lt (Nat.sub_le _ _) t.isLt)).2 y + part (iblk m c 0 t) (iblk m c 1 t) y := by
  rw [outsAt0_B m c t h (by omega)]
  frame_open
  simp (disch := decide) only [↓ View.readCov_skip, ↓ View.readCov_cons_toLoadRect, ↓ View.readCov_fill]
  frame_out
  rw [pay2_at, read_unread_whole]

/-- A second point writes back the sum. -/
theorem outB (c : Dev nD) (t : Fin cfg0.N) (h : t.val % 2 = 1) (y : S1024x1024.Idx) :
    (outsAt0 m c t.val t.isLt).1 y = (outsAt0 m c t.val t.isLt).2 y := by
  rw [outsAt0_B m c t (by omega) h]
  frame_open
  simp (disch := decide) only [↓ View.readCov_skip, ↓ View.readCov_cons_toLoadRect, ↓ View.readCov_fill]
  frame_out
  rw [pay3_at]

theorem arr (c : Dev nD) : (dats m 0 c).arrAt 2 cfg0.N = outW (A0 m c) (A1 m c) := by
  refine (dats m 0 c).arrAt_eq_of_covers 2 _ (by decide +kernel) fun t hf y => ?_
  have ht := (flush0_2 t).mp hf
  have key : ∀ z : S1024x1024.Idx, (outsAt0 m c t.val t.isLt).1 z
      = outW (A0 m c) (A1 m c) (ix2 (col0 hN t (z 0)) (col1 t (z 1))) := fun z => by
    rw [outB m c t ht]
    refine (Pipeline.eq_sum_fin_of_reset_step_apply_of_flush (fun n h => (outsAt0 m c n h).2) 2 (fun _ => (0 : EReal))
      (fun t => part (iblk m c 0 t) (iblk m c 1 t)) (scA m c) (scB m c) t ht z).trans ?_
    rw [zero_add, eq_ix2 z]
    exact (Finset.sum_congr rfl fun s _ => congrArg₂ (fun X W => part X W (ix2 (z 0) (z 1))) (iblk0 m c (pt hN t s)) (iblk1 m c (pt hN t s))).trans
      (sum_part (H := 2048) hN rfl (A0 m c) (A1 m c) t (z 0) (z 1))
  rw [after0_2]
  generalize (outsAt0 m c t.val t.isLt).1 = Q at key
  refine (key ((cfg0.win 2).xinj (cfg0.grid.coords t) y)).trans (congrArg (outW (A0 m c) (A1 m c)) ?_)
  symm
  blk_ext [idx t, col0, col1]

end Cert.Kernel17Ideal.Body

end
-- ==== Proof.ProdDt2.lean ====
module

public import proofs.«01_k».proof.Proof.Prod
public import proofs.«01_k».proof.Proof.Gen.Kernel18Ideal.Frame
public import Idealize.ShloMosaic.Lib.Pipeline.ReadBack

@[expose] public section

set_option maxRecDepth 16384

noncomputable section

namespace Cert.Kernel18Ideal.Body

open Idealize.ShloMosaic Cert.Kernel18Ideal Cert.Kernel18Ideal.Gen Cert.Prod
open Idealize.ShloMosaic.TcCoe Idealize.SL.Sem

/-!
The gradient of the projection out at its rows. Point `2 i + j` of the grid makes rows `1024 i …` at columns `1024 j …`.
-/

/-- A point's product. -/
theorem out_at (X : FVec Ideal S1024x2048 .bf16) (W : FVec Ideal S1024x2048 .bf16) (y : S1024x1024.Idx) :
    out0_2 (F := Ideal) X W y = ∑ d, X (ix2 (y 0) d) * W (ix2 (y 1) d) := by
  unfold out0_2
  frame_out
  refine (congrArg _ (eq_ix2 y)).trans ?_
  pointwise [k0_pay1]

/-- Row `r` of a point's rows. -/
def row (t : Fin 8) (r : Fin 1024) : Fin 4096 := ⟨1024 * (t.val / 2) + r.val, by omega⟩
/-- Column `l` of a point's columns. -/
def col (t : Fin 8) (l : Fin 1024) : Fin 2048 := ⟨1024 * (t.val % 2) + l.val, by omega⟩

theorem idx : ∀ t : Fin cfg0.N, win0_0.index t = ![t.val / 2, 0] ∧ win0_1.index t = ![t.val % 2, 0] ∧
    win0_2.index t = ![t.val / 2, t.val % 2] := (by decide +kernel : ∀ t : Fin grid0.N, _)

variable (m : (ℓ : Loc nD τ sig) → Buf (Elt Ideal) ℓ)

/-- The argument `dy`. -/
abbrev A0 (c : Dev nD) : FVec Ideal S4096x2048 .bf16 := m ((c : Thread nD τ).loc main_arg0)
/-- The argument `w_out`. -/
abbrev A1 (c : Dev nD) : FVec Ideal S2048x2048 .bf16 := m ((c : Thread nD τ).loc main_arg1)

theorem iblk0 (c : Dev nD) (t : Fin cfg0.N) : iblk m c 0 t = fun y : S1024x2048.Idx => A0 m c (ix2 (row t (y 0)) (y 1)) := by
  funext y; blk_ext [iblk, V, idx t, row]
theorem iblk1 (c : Dev nD) (t : Fin cfg0.N) : iblk m c 1 t = fun y : S1024x2048.Idx => A1 m c (ix2 (col t (y 0)) (y 1)) := by
  funext y; blk_ext [iblk, V, idx t, col]

theorem arr (c : Dev nD) : (dats m 0 c).arrAt 2 cfg0.N = outT (A0 m c) (A1 m c) := by
  refine (dats m 0 c).arrAt_eq_of_covers 2 _ (by decide +kernel) fun t hf y => ?_
  have key : ∀ z : S1024x1024.Idx, out0_2 (iblk m c 0 t) (iblk m c 1 t) z
      = outT (A0 m c) (A1 m c) (ix2 (row t (z 0)) (col t (z 1))) := fun z => by
    rw [out_at, iblk0, iblk1]; rfl
  rw [after0_2]
  generalize out0_2 (iblk m c 0 t) (iblk m c 1 t) = Q at key
  refine (key ((cfg0.win 2).xinj (cfg0.grid.coords t) y)).trans (congrArg (outT (A0 m c) (A1 m c)) ?_)
  symm
  blk_ext [idx t, row, col]

end Cert.Kernel18Ideal.Body

end
-- ==== Proof.ProdIn2.lean ====
module

public import proofs.«01_k».proof.Proof.ProdQkvg
public import proofs.«01_k».proof.Proof.Gen.Kernel19Ideal.Frame
public import Idealize.ShloMosaic.Lib.Pipeline.ReadBack

@[expose] public section

set_option maxRecDepth 16384

noncomputable section

namespace Cert.Kernel19Ideal.Body

open Idealize.ShloMosaic Cert.Kernel19Ideal Cert.Kernel19Ideal.Gen Cert.Prod.Qkvg
open Idealize.ShloMosaic.TcCoe Idealize.SL.Sem

/-!
The projection in. Point `8 i + j` of the grid makes rows `1088 i …` at the columns of part `j`.
-/

/-- A point's product. -/
theorem out_at (X : FVec Ideal S1088x2048 .bf16) (W : FVec Ideal S1x2048x640 .bf16) (y : S1088x640.Idx) :
    out0_2 (F := Ideal) X W y = ∑ k, X (ix2 (y 0) k) * W (ix3 0 k (y 1)) := by
  unfold out0_2
  frame_out
  refine (congrArg _ (eq_ix2 y)).trans ?_
  pointwise [k0_pay1]

/-- Row `r` of a point's rows. -/
def row (t : Fin 32) (r : Fin 1088) : Fin 4352 := ⟨1088 * (t.val / 8) + r.val, by omega⟩
/-- A point's part of the columns. -/
def jt (t : Fin 32) : Fin 8 := ⟨t.val % 8, by omega⟩

theorem idx : ∀ t : Fin cfg0.N, win0_0.index t = ![t.val / 8, 0] ∧ win0_1.index t = ![t.val % 8, 0, 0] ∧
    win0_2.index t = ![t.val / 8, t.val % 8] := (by decide +kernel : ∀ t : Fin grid0.N, _)

variable (m : (ℓ : Loc nD τ sig) → Buf (Elt Ideal) ℓ)

/-- The argument `h`. -/
abbrev A0 (c : Dev nD) : FVec Ideal S4352x2048 .bf16 := m ((c : Thread nD τ).loc main_arg0)
/-- The argument `w_in`. -/
abbrev A1 (c : Dev nD) : FVec Ideal S8x2048x640 .bf16 := m ((c : Thread nD τ).loc main_arg1)

theorem iblk0 (c : Dev nD) (t : Fin cfg0.N) : iblk m c 0 t = fun y : S1088x2048.Idx => A0 m c (ix2 (row t (y 0)) (y 1)) := by
  funext y; blk_ext [iblk, V, idx t, row]
theorem iblk1 (c : Dev nD) (t : Fin cfg0.N) :
    iblk m c 1 t = fun y : S1x2048x640.Idx => A1 m c (ix3 (jt t) (y 1) (y 2)) := by
  funext y; blk_ext [iblk, V, idx t, jt]

theorem arr (c : Dev nD) : (dats m 0 c).arrAt 2 cfg0.N = inP (A0 m c) (A1 m c) := by
  refine (dats m 0 c).arrAt_eq_of_covers 2 _ (by decide +kernel) fun t hf y => ?_
  have key : ∀ z : S1088x640.Idx, out0_2 (iblk m c 0 t) (iblk m c 1 t) z
      = inP (A0 m c) (A1 m c) (ix2 (row t (z 0)) (col (jt t) (z 1))) := fun z => by
    rw [out_at, iblk0, iblk1]
    exact inP_col (A0 m c) (A1 m c) (row t (z 0)) (jt t) (z 1)
  rw [after0_2]
  generalize out0_2 (iblk m c 0 t) (iblk m c 1 t) = Q at key
  refine (key ((cfg0.win 2).xinj (cfg0.grid.coords t) y)).trans (congrArg (inP (A0 m c) (A1 m c)) ?_)
  symm
  blk_ext [idx t, row, jt, col]

end Cert.Kernel19Ideal.Body

end
-- ==== Proof.ProdOut2.lean ====
module

public import proofs.«01_k».proof.Proof.Prod
public import proofs.«01_k».proof.Proof.Gen.Kernel20Ideal.Frame
public import Idealize.ShloMosaic.Lib.Pipeline.ReadBack

@[expose] public section

set_option maxRecDepth 16384

noncomputable section

namespace Cert.Kernel20Ideal.Body

open Idealize.ShloMosaic Cert.Kernel20Ideal Cert.Kernel20Ideal.Gen Cert.Prod
open Idealize.ShloMosaic.TcCoe Idealize.SL.Sem

/-!
The projection out. Point `2 i + j` of the grid makes rows `1024 i …` at columns `1024 j …`.
-/

/-- A point's product. -/
theorem out_at (X : FVec Ideal S1024x2048 .bf16) (W : FVec Ideal S2048x1024 .bf16) (y : S1024x1024.Idx) :
    out0_2 (F := Ideal) X W y = ∑ e, X (ix2 (y 0) e) * W (ix2 e (y 1)) := by
  unfold out0_2
  frame_out
  refine (congrArg _ (eq_ix2 y)).trans ?_
  pointwise [k0_pay1]

/-- Row `r` of a point's rows. -/
def row (t : Fin 8) (r : Fin 1024) : Fin 4096 := ⟨1024 * (t.val / 2) + r.val, by omega⟩
/-- Column `l` of a point's columns. -/
def col (t : Fin 8) (l : Fin 1024) : Fin 2048 := ⟨1024 * (t.val % 2) + l.val, by omega⟩

theorem idx : ∀ t : Fin cfg0.N, win0_0.index t = ![t.val / 2, 0] ∧ win0_1.index t = ![0, t.val % 2] ∧
    win0_2.index t = ![t.val / 2, t.val % 2] := (by decide +kernel : ∀ t : Fin grid0.N, _)

variable (m : (ℓ : Loc nD τ sig) → Buf (Elt Ideal) ℓ)

/-- The argument `t`. -/
abbrev A0 (c : Dev nD) : FVec Ideal S4096x2048 .bf16 := m ((c : Thread nD τ).loc main_arg0)
/-- The argument `w_out`. -/
abbrev A1 (c : Dev nD) : FVec Ideal S2048x2048 .bf16 := m ((c : Thread nD τ).loc main_arg1)

theorem iblk0 (c : Dev nD) (t : Fin cfg0.N) : iblk m c 0 t = fun y : S1024x2048.Idx => A0 m c (ix2 (row t (y 0)) (y 1)) := by
  funext y; blk_ext [iblk, V, idx t, row]
theorem iblk1 (c : Dev nD) (t : Fin cfg0.N) : iblk m c 1 t = fun y : S2048x1024.Idx => A1 m c (ix2 (y 0) (col t (y 1))) := by
  funext y; blk_ext [iblk, V, idx t, col]

theorem arr (c : Dev nD) : (dats m 0 c).arrAt 2 cfg0.N = outP (A0 m c) (A1 m c) := by
  refine (dats m 0 c).arrAt_eq_of_covers 2 _ (by decide +kernel) fun t hf y => ?_
  have key : ∀ z : S1024x1024.Idx, out0_2 (iblk m c 0 t) (iblk m c 1 t) z
      = outP (A0 m c) (A1 m c) (ix2 (row t (z 0)) (col t (z 1))) := fun z => by
    rw [out_at, iblk0, iblk1]; rfl
  rw [after0_2]
  generalize out0_2 (iblk m c 0 t) (iblk m c 1 t) = Q at key
  refine (key ((cfg0.win 2).xinj (cfg0.grid.coords t) y)).trans (congrArg (outP (A0 m c) (A1 m c)) ?_)
  symm
  blk_ext [idx t, row, col]

end Cert.Kernel20Ideal.Body

end
-- ==== Proof.ProdRef2.lean ====
module

public import proofs.«01_k».proof.Proof.ProdQkvg
public import proofs.«01_k».proof.Proof.Gen.Reference15Ideal.Read
public import proofs.«01_k».proof.Proof.Gen.Reference16Ideal.Read
public import proofs.«01_k».proof.Proof.Gen.Reference17Ideal.Read
public import proofs.«01_k».proof.Proof.Gen.Reference18Ideal.Read
public import proofs.«01_k».proof.Proof.Gen.Reference19Ideal.Read
public import proofs.«01_k».proof.Proof.Gen.Reference20Ideal.Read

@[expose] public section

set_option maxRecDepth 16384

noncomputable section

/-!
The references of layer 2's six products, read at an index.
-/

namespace Cert.Reference15Ideal.Body

open Idealize.ShloMosaic Cert.Reference15Ideal Cert.Reference15Ideal.Gen Cert.Reference15Ideal.Read Cert.Prod.Qkvg

variable (X0 : FVec Ideal S4352x2048 .bf16) (X1 : FVec Ideal S4352x5120 .bf16)

theorem r6 (c : Fin 5120) (k : Fin 2048) : val_main_v6 (F := Ideal) X0 X1 (ix2 c k) = ∑ n, X0 (ix2 n k) * X1 (ix2 n c) := by
  pointwise [val_main_v6, val_main_v1, val_main_v0]
  exact Finset.sum_congr rfl fun n _ => mul_comm _ _

theorem r_at (v : Fin 8) (k : Fin 2048) (l : Fin 640) : val_main_v10 (F := Ideal) X0 X1 (ix3 v k l)
    = ∑ n, X0 (ix2 n k) * X1 (ix2 n (col v l)) := by
  refine Eq.trans ?_ (r6 X0 X1 (col v l) k)
  unfold col
  pointwise [val_main_v10, val_main_v9, val_main_v8, val_main_v7]

theorem r_eq : val_main_v10 (F := Ideal) X0 X1 = inW X0 X1 :=
  funext fun y => (congrArg _ (eq_ix3 y)).trans (r_at X0 X1 (y 0) (y 1) (y 2))

end Cert.Reference15Ideal.Body

namespace Cert.Reference16Ideal.Body

open Idealize.ShloMosaic Cert.Reference16Ideal Cert.Reference16Ideal.Gen Cert.Reference16Ideal.Read Cert.Prod.Qkvg

variable (X0 : FVec Ideal S4352x5120 .bf16) (X1 : FVec Ideal S8x2048x640 .bf16)

theorem r4 (k : Fin 2048) (c : Fin 5120) : val_main_v4 (F := Ideal) X1 (ix2 k c) = wc X1 k c := by
  unfold wc dv wl
  pointwise [val_main_v4, val_main_v3, val_main_v1]

theorem r_at (n : Fin 4352) (k : Fin 2048) : val_main_v6 (F := Ideal) X0 X1 (ix2 n k) = ∑ c, X0 (ix2 n c) * wc X1 k c := by
  pointwise [val_main_v6, r4, val_main_v0]

theorem r_eq : val_main_v6 (F := Ideal) X0 X1 = inH X0 X1 :=
  funext fun y => (congrArg _ (eq_ix2 y)).trans (r_at X0 X1 (y 0) (y 1))

end Cert.Reference16Ideal.Body

namespace Cert.Reference17Ideal.Body

open Idealize.ShloMosaic Cert.Reference17Ideal Cert.Reference17Ideal.Gen Cert.Reference17Ideal.Read Cert.Prod

variable (X0 : FVec Ideal S4096x2048 .bf16) (X1 : FVec Ideal S4096x2048 .bf16)

theorem r_at (e : Fin 2048) (d : Fin 2048) : val_main_v6 (F := Ideal) X0 X1 (ix2 e d) = ∑ n, X0 (ix2 n e) * X1 (ix2 n d) := by
  pointwise [val_main_v6, val_main_v5, val_main_v4, val_main_v1, val_main_v0]
  exact Finset.sum_congr rfl fun n _ => mul_comm _ _

theorem r_eq : val_main_v6 (F := Ideal) X0 X1 = outW X0 X1 :=
  funext fun y => (congrArg _ (eq_ix2 y)).trans (r_at X0 X1 (y 0) (y 1))

end Cert.Reference17Ideal.Body

namespace Cert.Reference18Ideal.Body

open Idealize.ShloMosaic Cert.Reference18Ideal Cert.Reference18Ideal.Gen Cert.Reference18Ideal.Read Cert.Prod

variable (X0 : FVec Ideal S4096x2048 .bf16) (X1 : FVec Ideal S2048x2048 .bf16)

theorem r_at (n : Fin 4096) (e : Fin 2048) : val_main_v4 (F := Ideal) X0 X1 (ix2 n e) = ∑ d, X0 (ix2 n d) * X1 (ix2 e d) := by
  pointwise [val_main_v4, val_main_v1, val_main_v0]

theorem r_eq : val_main_v4 (F := Ideal) X0 X1 = outT X0 X1 :=
  funext fun y => (congrArg _ (eq_ix2 y)).trans (r_at X0 X1 (y 0) (y 1))

end Cert.Reference18Ideal.Body

namespace Cert.Reference19Ideal.Body

open Idealize.ShloMosaic Cert.Reference19Ideal Cert.Reference19Ideal.Gen Cert.Reference19Ideal.Read Cert.Prod.Qkvg

variable (X0 : FVec Ideal S4352x2048 .bf16) (X1 : FVec Ideal S8x2048x640 .bf16)

theorem r3 (k : Fin 2048) (c : Fin 5120) : val_main_v3 (F := Ideal) X1 (ix2 k c) = wc X1 k c := by
  unfold wc dv wl
  pointwise [val_main_v3, val_main_v2, val_main_v1]

theorem r_at (n : Fin 4352) (c : Fin 5120) : val_main_v4 (F := Ideal) X0 X1 (ix2 n c) = ∑ k, X0 (ix2 n k) * wc X1 k c := by
  pointwise [val_main_v4, r3, val_main_v0]

theorem r_eq : val_main_v4 (F := Ideal) X0 X1 = inP X0 X1 :=
  funext fun y => (congrArg _ (eq_ix2 y)).trans (r_at X0 X1 (y 0) (y 1))

end Cert.Reference19Ideal.Body

namespace Cert.Reference20Ideal.Body

open Idealize.ShloMosaic Cert.Reference20Ideal Cert.Reference20Ideal.Gen Cert.Reference20Ideal.Read Cert.Prod

variable (X0 : FVec Ideal S4096x2048 .bf16) (X1 : FVec Ideal S2048x2048 .bf16)

theorem r_at (n : Fin 4096) (d : Fin 2048) : val_main_v2 (F := Ideal) X0 X1 (ix2 n d) = ∑ e, X0 (ix2 n e) * X1 (ix2 e d) := by
  pointwise [val_main_v2, val_main_v1, val_main_v0]

theorem r_eq : val_main_v2 (F := Ideal) X0 X1 = outP X0 X1 :=
  funext fun y => (congrArg _ (eq_ix2 y)).trans (r_at X0 X1 (y 0) (y 1))

end Cert.Reference20Ideal.Body

end
-- ==== Proof.ProdClaims2.lean ====
module

public import proofs.«01_k».proof.Defs
public import proofs.«01_k».proof.Proof.ProdDwin2
public import proofs.«01_k».proof.Proof.ProdDh2
public import proofs.«01_k».proof.Proof.ProdDwout2
public import proofs.«01_k».proof.Proof.ProdDt2
public import proofs.«01_k».proof.Proof.ProdIn2
public import proofs.«01_k».proof.Proof.ProdOut2
public import proofs.«01_k».proof.Proof.ProdRef2
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import proofs.«01_k».proof.Proof.Gen.Kernel17
public import proofs.«01_k».proof.Proof.Gen.Kernel17.Frame
public import proofs.«01_k».proof.Proof.Gen.Kernel17Ideal
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Reference17Ideal.Read
public import proofs.«01_k».proof.Proof.Gen.Kernel18
public import proofs.«01_k».proof.Proof.Gen.Kernel18.Frame
public import proofs.«01_k».proof.Proof.Gen.Kernel18Ideal
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Reference18Ideal.Read
public import proofs.«01_k».proof.Proof.Gen.Kernel19
public import proofs.«01_k».proof.Proof.Gen.Kernel19.Frame
public import proofs.«01_k».proof.Proof.Gen.Kernel19Ideal
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.Gen.Reference19Ideal.Read
public import proofs.«01_k».proof.Proof.Gen.Kernel20
public import proofs.«01_k».proof.Proof.Gen.Kernel20.Frame
public import proofs.«01_k».proof.Proof.Gen.Kernel20Ideal
public import proofs.«01_k».proof.Proof.Gen.Kernel20Ideal.Frame
public import proofs.«01_k».proof.Proof.Gen.Kernel20Ideal.Value
public import proofs.«01_k».proof.Proof.Gen.Reference20Ideal
public import proofs.«01_k».proof.Proof.Gen.Reference20Ideal.Run
public import proofs.«01_k».proof.Proof.Gen.Reference20Ideal.Read
public import Idealize.ShloMosaic.Adequacy
public import Idealize.ShloMosaic.Init

@[expose] public section

set_option maxRecDepth 16384

noncomputable section

/-!
The claims of layer 2's six products.
-/

namespace Cert.Proof.ProdClaims

open Idealize.ShloMosaic Idealize.SL.Sem Cert.Prod

/-! The gradient of the projection in at its weight. -/

theorem frame_p15 : Cert.quiescent_Kernel15 := fun m ρ _ => Cert.Kernel15.Gen.frame m ρ
theorem frame_pi15 : Cert.quiescent_Kernel15Ideal := fun m ρ _ => Cert.Kernel15Ideal.Gen.frame m ρ
theorem frame_ri15 : Cert.quiescent_Reference15Ideal := fun m ρ _ =>
  (θ_run Cert.Reference15Ideal.defs _ _).mono (fun r h => ⟨fun c => (h c).2, sem_eq_zero_of_no_sems (by decide) r.2⟩)
    (Cert.Reference15Ideal.Value.run (F := Ideal) m ρ)

theorem algebraic15 : Cert.algebraic_Kernel15Ideal_Reference15Ideal := by
  intro m ρ m' ρ' _ ha
  refine ⟨fun c => Qkvg.inW (Cert.Kernel15Ideal.Body.A0 m c) (Cert.Kernel15Ideal.Body.A1 m c), ?_, ?_⟩
  · exact (θ_run Cert.Kernel15Ideal.defs _ _).mono (fun r h c => ⟨(h c).1.trans (Cert.Kernel15Ideal.Body.arr m c), (h c).2⟩)
      (Cert.Kernel15Ideal.Value.run_blocks m ρ)
  · refine (θ_run Cert.Reference15Ideal.defs _ _).mono (fun r h c => ⟨?_, (h c).2⟩)
      (Cert.Reference15Ideal.Value.run (F := Ideal) m' ρ')
    refine (h c).1.trans ((Cert.Reference15Ideal.Read.val_main_v10_eq _ _).trans ?_)
    rw [(ha c).1, (ha c).2]
    exact Cert.Reference15Ideal.Body.r_eq _ _

/-! The gradient of the projection in at its rows. -/

theorem frame_p16 : Cert.quiescent_Kernel16 := fun m ρ _ => Cert.Kernel16.Gen.frame m ρ
theorem frame_pi16 : Cert.quiescent_Kernel16Ideal := fun m ρ _ => Cert.Kernel16Ideal.Gen.frame m ρ
theorem frame_ri16 : Cert.quiescent_Reference16Ideal := fun m ρ _ =>
  (θ_run Cert.Reference16Ideal.defs _ _).mono (fun r h => ⟨fun c => (h c).2, sem_eq_zero_of_no_sems (by decide) r.2⟩)
    (Cert.Reference16Ideal.Value.run (F := Ideal) m ρ)

theorem algebraic16 : Cert.algebraic_Kernel16Ideal_Reference16Ideal := by
  intro m ρ m' ρ' _ ha
  refine ⟨fun c => Qkvg.inH (Cert.Kernel16Ideal.Body.A0 m c) (Cert.Kernel16Ideal.Body.A1 m c), ?_, ?_⟩
  · exact (θ_run Cert.Kernel16Ideal.defs _ _).mono (fun r h c => ⟨(h c).1.trans (Cert.Kernel16Ideal.Body.arr m c), (h c).2⟩)
      (Cert.Kernel16Ideal.Value.run_blocks m ρ)
  · refine (θ_run Cert.Reference16Ideal.defs _ _).mono (fun r h c => ⟨?_, (h c).2⟩)
      (Cert.Reference16Ideal.Value.run (F := Ideal) m' ρ')
    refine (h c).1.trans ((Cert.Reference16Ideal.Read.val_main_v6_eq _ _).trans ?_)
    rw [(ha c).1, (ha c).2]
    exact Cert.Reference16Ideal.Body.r_eq _ _

/-! The gradient of the projection out at its weight. -/

theorem frame_p17 : Cert.quiescent_Kernel17 := fun m ρ _ => Cert.Kernel17.Gen.frame m ρ
theorem frame_pi17 : Cert.quiescent_Kernel17Ideal := fun m ρ _ => Cert.Kernel17Ideal.Gen.frame m ρ
theorem frame_ri17 : Cert.quiescent_Reference17Ideal := fun m ρ _ =>
  (θ_run Cert.Reference17Ideal.defs _ _).mono (fun r h => ⟨fun c => (h c).2, sem_eq_zero_of_no_sems (by decide) r.2⟩)
    (Cert.Reference17Ideal.Value.run (F := Ideal) m ρ)

theorem algebraic17 : Cert.algebraic_Kernel17Ideal_Reference17Ideal := by
  intro m ρ m' ρ' _ ha
  refine ⟨fun c => outW (Cert.Kernel17Ideal.Body.A0 m c) (Cert.Kernel17Ideal.Body.A1 m c), ?_, ?_⟩
  · exact (θ_run Cert.Kernel17Ideal.defs _ _).mono (fun r h c => ⟨(h c).1.trans (Cert.Kernel17Ideal.Body.arr m c), (h c).2⟩)
      (Cert.Kernel17Ideal.Value.run_blocks m ρ)
  · refine (θ_run Cert.Reference17Ideal.defs _ _).mono (fun r h c => ⟨?_, (h c).2⟩)
      (Cert.Reference17Ideal.Value.run (F := Ideal) m' ρ')
    refine (h c).1.trans ((Cert.Reference17Ideal.Read.val_main_v6_eq _ _).trans ?_)
    rw [(ha c).1, (ha c).2]
    exact Cert.Reference17Ideal.Body.r_eq _ _

/-! The gradient of the projection out at its rows. -/

theorem frame_p18 : Cert.quiescent_Kernel18 := fun m ρ _ => Cert.Kernel18.Gen.frame m ρ
theorem frame_pi18 : Cert.quiescent_Kernel18Ideal := fun m ρ _ => Cert.Kernel18Ideal.Gen.frame m ρ
theorem frame_ri18 : Cert.quiescent_Reference18Ideal := fun m ρ _ =>
  (θ_run Cert.Reference18Ideal.defs _ _).mono (fun r h => ⟨fun c => (h c).2, sem_eq_zero_of_no_sems (by decide) r.2⟩)
    (Cert.Reference18Ideal.Value.run (F := Ideal) m ρ)

theorem algebraic18 : Cert.algebraic_Kernel18Ideal_Reference18Ideal := by
  intro m ρ m' ρ' _ ha
  refine ⟨fun c => outT (Cert.Kernel18Ideal.Body.A0 m c) (Cert.Kernel18Ideal.Body.A1 m c), ?_, ?_⟩
  · exact (θ_run Cert.Kernel18Ideal.defs _ _).mono (fun r h c => ⟨(h c).1.trans (Cert.Kernel18Ideal.Body.arr m c), (h c).2⟩)
      (Cert.Kernel18Ideal.Value.run_blocks m ρ)
  · refine (θ_run Cert.Reference18Ideal.defs _ _).mono (fun r h c => ⟨?_, (h c).2⟩)
      (Cert.Reference18Ideal.Value.run (F := Ideal) m' ρ')
    refine (h c).1.trans ((Cert.Reference18Ideal.Read.val_main_v4_eq _ _).trans ?_)
    rw [(ha c).1, (ha c).2]
    exact Cert.Reference18Ideal.Body.r_eq _ _

/-! The projection in. -/

theorem frame_p19 : Cert.quiescent_Kernel19 := fun m ρ _ => Cert.Kernel19.Gen.frame m ρ
theorem frame_pi19 : Cert.quiescent_Kernel19Ideal := fun m ρ _ => Cert.Kernel19Ideal.Gen.frame m ρ
theorem frame_ri19 : Cert.quiescent_Reference19Ideal := fun m ρ _ =>
  (θ_run Cert.Reference19Ideal.defs _ _).mono (fun r h => ⟨fun c => (h c).2, sem_eq_zero_of_no_sems (by decide) r.2⟩)
    (Cert.Reference19Ideal.Value.run (F := Ideal) m ρ)

theorem algebraic19 : Cert.algebraic_Kernel19Ideal_Reference19Ideal := by
  intro m ρ m' ρ' _ ha
  refine ⟨fun c => Qkvg.inP (Cert.Kernel19Ideal.Body.A0 m c) (Cert.Kernel19Ideal.Body.A1 m c), ?_, ?_⟩
  · exact (θ_run Cert.Kernel19Ideal.defs _ _).mono (fun r h c => ⟨(h c).1.trans (Cert.Kernel19Ideal.Body.arr m c), (h c).2⟩)
      (Cert.Kernel19Ideal.Value.run_blocks m ρ)
  · refine (θ_run Cert.Reference19Ideal.defs _ _).mono (fun r h c => ⟨?_, (h c).2⟩)
      (Cert.Reference19Ideal.Value.run (F := Ideal) m' ρ')
    refine (h c).1.trans ((Cert.Reference19Ideal.Read.val_main_v4_eq _ _).trans ?_)
    rw [(ha c).1, (ha c).2]
    exact Cert.Reference19Ideal.Body.r_eq _ _

/-! The projection out. -/

theorem frame_p20 : Cert.quiescent_Kernel20 := fun m ρ _ => Cert.Kernel20.Gen.frame m ρ
theorem frame_pi20 : Cert.quiescent_Kernel20Ideal := fun m ρ _ => Cert.Kernel20Ideal.Gen.frame m ρ
theorem frame_ri20 : Cert.quiescent_Reference20Ideal := fun m ρ _ =>
  (θ_run Cert.Reference20Ideal.defs _ _).mono (fun r h => ⟨fun c => (h c).2, sem_eq_zero_of_no_sems (by decide) r.2⟩)
    (Cert.Reference20Ideal.Value.run (F := Ideal) m ρ)

theorem algebraic20 : Cert.algebraic_Kernel20Ideal_Reference20Ideal := by
  intro m ρ m' ρ' _ ha
  refine ⟨fun c => outP (Cert.Kernel20Ideal.Body.A0 m c) (Cert.Kernel20Ideal.Body.A1 m c), ?_, ?_⟩
  · exact (θ_run Cert.Kernel20Ideal.defs _ _).mono (fun r h c => ⟨(h c).1.trans (Cert.Kernel20Ideal.Body.arr m c), (h c).2⟩)
      (Cert.Kernel20Ideal.Value.run_blocks m ρ)
  · refine (θ_run Cert.Reference20Ideal.defs _ _).mono (fun r h c => ⟨?_, (h c).2⟩)
      (Cert.Reference20Ideal.Value.run (F := Ideal) m' ρ')
    refine (h c).1.trans ((Cert.Reference20Ideal.Read.val_main_v2_eq _ _).trans ?_)
    rw [(ha c).1, (ha c).2]
    exact Cert.Reference20Ideal.Body.r_eq _ _

end Cert.Proof.ProdClaims

end
-- ==== Proof.Fwd.lean ====
module

public import Idealize.ShloMosaic.PureOps.Ideal
public import Idealize.ShloMosaic.PureOps.Ideal.Laws
public import Idealize.ShloMosaic.Lib.IdealHost
public import Idealize.ShloMosaic.Lib.ValueIdx
public import Idealize.ShloMosaic.Lib.Claim
public import Idealize.ShloMosaic.Lib.Pointwise
public import proofs.«01_k».proof.Proof.Gate

@[expose] public section

set_option maxRecDepth 16384

noncomputable section

namespace Cert.Fwd

open Idealize.ShloMosaic
open Cert.Gate (Lanes Weights Biases kN kEps grp)

/-!
The mathematics of the gating unit's forward call, over whole arrays of extended reals and any whole number of chunks of 128
rows: `X` holds the planes `u`, `v`, `g`, `G` and `B` the norm's gain and offset, `W` and `C` the spatial weights and biases.
-/

/-- Three planes of rows. -/
abbrev Planes (N : Nat) := (⟨3, ![3, N, 4096]⟩ : Shape).Idx → EReal

variable {N : Nat}

/-- A row's place in its chunk. -/
def pos (n : Fin N) : Fin 128 := ⟨n.val % 128, by omega⟩
/-- Row `q` of the chunk of row `n`. -/
def mate (hN : N % 128 = 0) (n : Fin N) (q : Fin 128) : Fin N := ⟨n.val / 128 * 128 + q.val, by omega⟩

variable (X : Planes N) (G B : Lanes) (W : Weights) (C : Biases)

/-- The mean of a row of `v`. -/
def mean (n : Fin N) : EReal := Ideal.div (∑ l, X (ix3 1 n l)) kN
/-- A row of `v` about its mean. -/
def xc (n : Fin N) (l : Fin 4096) : EReal := X (ix3 1 n l) - mean X n
/-- The reciprocal of a row's deviation. -/
def rs (n : Fin N) : EReal := Ideal.rsqrt (Ideal.div (∑ l, xc X n l * xc X n l) kN + kEps)
/-- The normalised row, scaled and offset. -/
def vn (n : Fin N) (l : Fin 4096) : EReal := xc X n l * rs X n * G (ix1 l) + B (ix1 l)
/-- The spatial product. -/
def sv (hN : N % 128 = 0) (n : Fin N) (l : Fin 4096) : EReal :=
  (∑ q, vn X G B (mate hN n q) l * W (ix3 (grp l) (pos n) q)) + C (ix2 (grp l) (pos n))
/-- The gated value: `u * s * silu g`. -/
def tv (hN : N % 128 = 0) (n : Fin N) (l : Fin 4096) : EReal :=
  X (ix3 0 n l) * sv X G B W C hN n l * (X (ix3 2 n l) * Ideal.logistic (X (ix3 2 n l)))
/-- The gated rows. -/
def tA (hN : N % 128 = 0) : (⟨2, ![N, 4096]⟩ : Shape).Idx → EReal := fun y => tv X G B W C hN (y 0) (y 1)

/-! The rows of a chunk as a block of their own. -/

/-- A vector as a row. -/
def vBlk (A : Lanes) : (⟨2, ![1, 4096]⟩ : Shape).Idx → EReal := fun y => A (ix1 (y 1))
/-- The biases with the position first. -/
def bBlk (A : Biases) : (⟨2, ![128, 16]⟩ : Shape).Idx → EReal := fun y => A (ix2 (y 1) (y 0))

/-- Gating needs no rows but those of the chunk: a chunk of `X`, kept as a block `Y`, gives the chunk of the gated rows. -/
theorem tv_blk (hN : N % 128 = 0) (Y : Planes 128) (f : Fin 128 → Fin N) (t : Nat) (hf : ∀ r, (f r).val = 128 * t + r.val)
    (hY : ∀ a r l, Y (ix3 a r l) = X (ix3 a (f r) l)) (r : Fin 128) (l : Fin 4096) :
    tv Y G B W C (by decide) r l = tv X G B W C hN (f r) l := by
  have hv : ∀ r l, vn Y G B r l = vn X G B (f r) l := fun r l => by unfold vn rs xc mean; simp only [hY]
  have hm : ∀ q, mate hN (f r) q = f q := fun q => Fin.ext (by show (f r).val / 128 * 128 + q.val = _; rw [hf, hf]; omega)
  have hm' : ∀ q, mate (by decide) r q = q := fun q => Fin.ext (by show r.val / 128 * 128 + q.val = _; omega)
  have hp : pos (f r) = pos r := Fin.ext (by show (f r).val % 128 = r.val % 128; rw [hf]; omega)
  unfold tv sv
  simp only [hv, hm, hm', hp, hY]

end Cert.Fwd
end
-- ==== Proof.FwdBlock.lean ====
module

public import proofs.«01_k».proof.Proof.Fwd
public import proofs.«01_k».proof.Proof.Gen.Kernel21Ideal.Frame
public import Idealize.ShloMosaic.Lib.Pipeline.ValueKit
public import Idealize.ShloMosaic.Lib.Pipeline.ReadBack

@[expose] public section

set_option maxRecDepth 16384

noncomputable section

namespace Cert.Kernel21Ideal.Body

open Idealize.ShloMosaic Cert.Kernel21Ideal Cert.Kernel21Ideal.Gen
open Cert.Fwd
open Cert.Gate (Lanes Weights Biases grp)

/-!
What a point of the forward gating unit writes: the gated rows of its chunk.
-/

/-- The plane `v` of a point's rows. -/
def planeV (X : FVec Ideal S3x128x4096 .f32) : FVec Ideal S1x128x4096 .f32 :=
  View.ld (Val := Elt Ideal) (e' := .f32) X
    (Rect.unit (s := S3x128x4096) ![1, 0, 0] ![1, 128, 4096] inb_S3x128x4096_S1x128x4096_1_0_0)

theorem vn_at (X : FVec Ideal S3x128x4096 .f32) (G B : Lanes) (r : Fin 128) (l : Fin 4096) :
    k0_pay3 (F := Ideal) (planeV X) (vBlk G) (vBlk B) (ix2 r l) = vn X G B r l := by
  pointwise [k0_pay3, planeV, vBlk]
  rfl

/-- A group's rows, as the point computes them. -/
def tE (X : FVec Ideal S3x128x4096 .f32) (VN : FVec Ideal S128x4096 .f32) (WS : FVec Ideal S16x128x128 .bf16)
    (BS : FVec Ideal S128x16 .f32) (y : S128x4096.Idx) : EReal :=
  X (ix3 0 (y 0) (y 1)) * ((∑ q : Fin 128, WS (ix3 (grp (y 1)) (y 0) q) * VN (ix2 q (y 1))) + BS (ix2 (y 0) (grp (y 1))))
    * (X (ix3 2 (y 0) (y 1)) * Ideal.logistic (X (ix3 2 (y 0) (y 1))))

set_option maxHeartbeats 2000000 in
theorem out_at (X : FVec Ideal S3x128x4096 .f32) (LG LB : FVec Ideal S1x4096 .f32) (WS : FVec Ideal S16x128x128 .bf16)
    (BS : FVec Ideal S128x16 .f32) (y : S128x4096.Idx) :
    out0_5 (F := Ideal) X LG LB WS BS y = tE X (k0_pay3 (planeV X) LG LB) WS BS y := by
  unfold out0_5
  frame_out
  canon_tiles x h using (View.cover_of_tiledBy _ ![128, 256] (by sl_kernel_rfl) y)
  all_goals
    unfold planeV; open_payloads; pointwise [tE, grp]; blk_point []

theorem tE_eq (X : FVec Ideal S3x128x4096 .f32) (G B : Lanes) (W : Weights) (C : Biases) (r : Fin 128) (l : Fin 4096) :
    tE X (k0_pay3 (planeV X) (vBlk G) (vBlk B)) W (bBlk C) (ix2 r l) = tv X G B W C (by decide) r l := by
  have hm : ∀ q, mate (by decide) r q = q := fun q => Fin.ext (by
    show r.val / 128 * 128 + q.val = _
    omega)
  have hp : pos r = r := Fin.ext (Nat.mod_eq_of_lt r.isLt)
  unfold tv sv
  rw [hp]
  simp only [hm]
  refine congrArg (fun s => X (ix3 0 r l) * (s + C (ix2 (grp l) r)) * (X (ix3 2 r l) * Ideal.logistic (X (ix3 2 r l))))
    (Finset.sum_congr rfl fun q _ => ?_)
  exact (congrArg _ (vn_at X G B q l)).trans (mul_comm _ _)

/-- A point's block is the gating unit of its own rows. -/
theorem out_eq (X : FVec Ideal S3x128x4096 .f32) (G B : Lanes) (W : Weights) (C : Biases) (y : S128x4096.Idx) :
    out0_5 (F := Ideal) X (vBlk G) (vBlk B) W (bBlk C) y = tv X G B W C (by decide) (y 0) (y 1) := by
  rw [out_at]
  exact (congrArg _ (eq_ix2 y)).trans (tE_eq X G B W C (y 0) (y 1))

end Cert.Kernel21Ideal.Body
end
-- ==== Proof.FwdArr3.lean ====
module

public import proofs.«01_k».proof.Proof.FwdBlock
public import proofs.«01_k».proof.Proof.Gen.Kernel21Ideal.Frame

@[expose] public section

set_option maxRecDepth 16384

noncomputable section

namespace Cert.Kernel21Ideal.Body

open Idealize.ShloMosaic Cert.Kernel21Ideal Cert.Kernel21Ideal.Gen Cert.Fwd
open Idealize.ShloMosaic.TcCoe Idealize.SL.Sem

/-!
The forward gating unit of layer 3: point `t` of the grid makes the rows `128 t … 128 t + 127`.
-/

/-- Row `r` of point `t`. -/
def row (t : Fin cfg0.N) (r : Fin 128) : Fin 4096 :=
  ⟨128 * t.val + r.val, by have := lt_of_lt_of_eq t.isLt (show cfg0.N = 32 from N_0); omega⟩

theorem idx : ∀ t : Fin cfg0.N, win0_0.index t = ![0, t.val, 0] ∧ win0_1.index t = ![0, 0] ∧ win0_2.index t = ![0, 0] ∧
    win0_3.index t = ![0, 0, 0] ∧ win0_4.index t = ![0, 0] ∧ win0_5.index t = ![t.val, 0] :=
  (by decide +kernel : ∀ t : Fin grid0.N, _)

variable (m : (ℓ : Loc nD τ sig) → Buf (Elt Ideal) ℓ)

/-- The argument `z3`. -/
abbrev A0 (c : Dev nD) : FVec Ideal S3x4096x4096 .f32 := m ((c : Thread nD τ).loc main_arg0)
/-- The argument `ln_g`. -/
abbrev A1 (c : Dev nD) : FVec Ideal S4096 .f32 := m ((c : Thread nD τ).loc main_arg1)
/-- The argument `ln_b`. -/
abbrev A2 (c : Dev nD) : FVec Ideal S4096 .f32 := m ((c : Thread nD τ).loc main_arg2)
/-- The argument `w_s`. -/
abbrev A3 (c : Dev nD) : FVec Ideal S16x128x128 .f32 := m ((c : Thread nD τ).loc main_arg3)
/-- The argument `b_s`. -/
abbrev A4 (c : Dev nD) : FVec Ideal S16x128 .f32 := m ((c : Thread nD τ).loc main_arg4)

theorem iblk0 (c : Dev nD) (t : Fin cfg0.N) :
    iblk m c 0 t = fun y : S3x128x4096.Idx => A0 m c (ix3 (y 0) (row t (y 1)) (y 2)) := by
  funext y
  idx_vars y
  blk_ext [iblk, V, idx t, row]

theorem iblk1 (c : Dev nD) (t : Fin cfg0.N) : iblk m c 1 t = vBlk (A1 m c) := by
  funext y
  unfold iblk
  entry_read
  unfold A1 vBlk
  show View.read _ _ _ _ = (m (c, Proc.tc.devRef main_arg1)) _
  generalize m (c, Proc.tc.devRef main_arg1) = A
  blk_simp [idx t]
  pointwise
  blk_ext [idx t]

theorem iblk2 (c : Dev nD) (t : Fin cfg0.N) : iblk m c 2 t = vBlk (A2 m c) := by
  funext y
  unfold iblk
  entry_read
  unfold A2 vBlk
  show View.read _ _ _ _ = (m (c, Proc.tc.devRef main_arg2)) _
  generalize m (c, Proc.tc.devRef main_arg2) = A
  blk_simp [idx t]
  pointwise
  blk_ext [idx t]

theorem iblk3 (c : Dev nD) (t : Fin cfg0.N) : iblk m c 3 t = A3 m c := by
  funext y
  unfold iblk
  entry_read
  blk_simp [idx t]
  pointwise
  blk_ext [idx t]

theorem iblk4 (c : Dev nD) (t : Fin cfg0.N) : iblk m c 4 t = bBlk (A4 m c) := by
  funext y
  unfold iblk
  entry_read
  unfold A4 bBlk
  show View.read _ _ _ _ = (m (c, Proc.tc.devRef main_arg4)) _
  generalize m (c, Proc.tc.devRef main_arg4) = A
  blk_simp [idx t]
  pointwise
  blk_ext [idx t]

theorem arr (c : Dev nD) :
    (dats m 0 c).arrAt 5 cfg0.N = tA (A0 m c) (A1 m c) (A2 m c) (A3 m c) (A4 m c) (by decide) := by
  refine (dats m 0 c).arrAt_eq_of_covers 5 _ (by decide +kernel) fun t hf y => ?_
  have key : ∀ z : S128x4096.Idx, out0_5 (iblk m c 0 t) (iblk m c 1 t) (iblk m c 2 t) (iblk m c 3 t) (iblk m c 4 t) z
      = tA (A0 m c) (A1 m c) (A2 m c) (A3 m c) (A4 m c) (by decide) (ix2 (row t (z 0)) (z 1)) := fun z => by
    rw [iblk0, iblk1, iblk2, iblk3, iblk4]
    refine (out_eq _ _ _ _ _ z).trans ?_
    exact tv_blk _ _ _ _ _ _ _ (row t) t.val (fun _ => rfl) (fun _ _ _ => rfl) (z 0) (z 1)
  rw [after0_5]
  generalize out0_5 (iblk m c 0 t) (iblk m c 1 t) (iblk m c 2 t) (iblk m c 3 t) (iblk m c 4 t) = Q at key
  refine (key ((cfg0.win 5).xinj (cfg0.grid.coords t) y)).trans
    (congrArg (tA (A0 m c) (A1 m c) (A2 m c) (A3 m c) (A4 m c) (by decide)) ?_)
  symm
  blk_ext [idx t, row]

end Cert.Kernel21Ideal.Body
end
-- ==== Proof.FwdArr0.lean ====
module

public import proofs.«01_k».proof.Proof.FwdBlock
public import proofs.«01_k».proof.Proof.Gen.Kernel22Ideal.Frame

@[expose] public section

set_option maxRecDepth 16384

noncomputable section

namespace Cert.Kernel22Ideal.Body

open Idealize.ShloMosaic Cert.Kernel22Ideal Cert.Kernel22Ideal.Gen Cert.Fwd
open Idealize.ShloMosaic.TcCoe Idealize.SL.Sem

/-!
The forward gating unit of layer 0: point `t` of the grid makes the rows `128 t … 128 t + 127`.
-/

/-- Row `r` of point `t`. -/
def row (t : Fin cfg0.N) (r : Fin 128) : Fin 4352 :=
  ⟨128 * t.val + r.val, by have := lt_of_lt_of_eq t.isLt (show cfg0.N = 34 from N_0); omega⟩

theorem idx : ∀ t : Fin cfg0.N, win0_0.index t = ![0, t.val, 0] ∧ win0_1.index t = ![0, 0] ∧ win0_2.index t = ![0, 0] ∧
    win0_3.index t = ![0, 0, 0] ∧ win0_4.index t = ![0, 0] ∧ win0_5.index t = ![t.val, 0] :=
  (by decide +kernel : ∀ t : Fin grid0.N, _)

/-- The points of this call and of layer 3's run the same body. -/
theorem out_eq (X : FVec Ideal S3x128x4096 .f32) (G B : Gate.Lanes) (W : Gate.Weights) (C : Gate.Biases) (y : S128x4096.Idx) :
    out0_5 (F := Ideal) X (vBlk G) (vBlk B) W (bBlk C) y = tv X G B W C (by decide) (y 0) (y 1) :=
  Eq.trans (by rfl) (Cert.Kernel21Ideal.Body.out_eq X G B W C y)

variable (m : (ℓ : Loc nD τ sig) → Buf (Elt Ideal) ℓ)

/-- The argument `z3`. -/
abbrev A0 (c : Dev nD) : FVec Ideal S3x4352x4096 .f32 := m ((c : Thread nD τ).loc main_arg0)
/-- The argument `ln_g`. -/
abbrev A1 (c : Dev nD) : FVec Ideal S4096 .f32 := m ((c : Thread nD τ).loc main_arg1)
/-- The argument `ln_b`. -/
abbrev A2 (c : Dev nD) : FVec Ideal S4096 .f32 := m ((c : Thread nD τ).loc main_arg2)
/-- The argument `w_s`. -/
abbrev A3 (c : Dev nD) : FVec Ideal S16x128x128 .f32 := m ((c : Thread nD τ).loc main_arg3)
/-- The argument `b_s`. -/
abbrev A4 (c : Dev nD) : FVec Ideal S16x128 .f32 := m ((c : Thread nD τ).loc main_arg4)

theorem iblk0 (c : Dev nD) (t : Fin cfg0.N) :
    iblk m c 0 t = fun y : S3x128x4096.Idx => A0 m c (ix3 (y 0) (row t (y 1)) (y 2)) := by
  funext y
  idx_vars y
  blk_ext [iblk, V, idx t, row]

theorem iblk1 (c : Dev nD) (t : Fin cfg0.N) : iblk m c 1 t = vBlk (A1 m c) := by
  funext y
  unfold iblk
  entry_read
  unfold A1 vBlk
  show View.read _ _ _ _ = (m (c, Proc.tc.devRef main_arg1)) _
  generalize m (c, Proc.tc.devRef main_arg1) = A
  blk_simp [idx t]
  pointwise
  blk_ext [idx t]

theorem iblk2 (c : Dev nD) (t : Fin cfg0.N) : iblk m c 2 t = vBlk (A2 m c) := by
  funext y
  unfold iblk
  entry_read
  unfold A2 vBlk
  show View.read _ _ _ _ = (m (c, Proc.tc.devRef main_arg2)) _
  generalize m (c, Proc.tc.devRef main_arg2) = A
  blk_simp [idx t]
  pointwise
  blk_ext [idx t]

theorem iblk3 (c : Dev nD) (t : Fin cfg0.N) : iblk m c 3 t = A3 m c := by
  funext y
  unfold iblk
  entry_read
  blk_simp [idx t]
  pointwise
  blk_ext [idx t]

theorem iblk4 (c : Dev nD) (t : Fin cfg0.N) : iblk m c 4 t = bBlk (A4 m c) := by
  funext y
  unfold iblk
  entry_read
  unfold A4 bBlk
  show View.read _ _ _ _ = (m (c, Proc.tc.devRef main_arg4)) _
  generalize m (c, Proc.tc.devRef main_arg4) = A
  blk_simp [idx t]
  pointwise
  blk_ext [idx t]

theorem arr (c : Dev nD) :
    (dats m 0 c).arrAt 5 cfg0.N = tA (A0 m c) (A1 m c) (A2 m c) (A3 m c) (A4 m c) (by decide) := by
  refine (dats m 0 c).arrAt_eq_of_covers 5 _ (by decide +kernel) fun t hf y => ?_
  have key : ∀ z : S128x4096.Idx, out0_5 (iblk m c 0 t) (iblk m c 1 t) (iblk m c 2 t) (iblk m c 3 t) (iblk m c 4 t) z
      = tA (A0 m c) (A1 m c) (A2 m c) (A3 m c) (A4 m c) (by decide) (ix2 (row t (z 0)) (z 1)) := fun z => by
    rw [iblk0, iblk1, iblk2, iblk3, iblk4]
    refine (out_eq _ _ _ _ _ z).trans ?_
    exact tv_blk _ _ _ _ _ _ _ (row t) t.val (fun _ => rfl) (fun _ _ _ => rfl) (z 0) (z 1)
  rw [after0_5]
  generalize out0_5 (iblk m c 0 t) (iblk m c 1 t) (iblk m c 2 t) (iblk m c 3 t) (iblk m c 4 t) = Q at key
  refine (key ((cfg0.win 5).xinj (cfg0.grid.coords t) y)).trans
    (congrArg (tA (A0 m c) (A1 m c) (A2 m c) (A3 m c) (A4 m c) (by decide)) ?_)
  symm
  blk_ext [idx t, row]

end Cert.Kernel22Ideal.Body
end
-- ==== Proof.FwdRef3.lean ====
module

public import proofs.«01_k».proof.Proof.Fwd
public import proofs.«01_k».proof.Proof.Gen.Reference21Ideal.Read
public import Idealize.ShloMosaic.Lib.Claim
public import Idealize.ShloMosaic.Lib.Pointwise

@[expose] public section

set_option maxRecDepth 16384

noncomputable section

namespace Cert.Reference21Ideal.Body

open Idealize.ShloMosaic Cert.Reference21Ideal Cert.Reference21Ideal.Gen Cert.Reference21Ideal.Read Cert.Fwd
open Cert.Gate (Lanes Weights Biases)

/-!
The forward gating unit's reference at layer 3's rows, read at an index.
-/

variable (X : Planes 4096) (G B : Lanes) (W : Weights) (C : Biases)

theorem r11 (n : Fin 4096) (l : Fin 4096) : val_main_v11 (F := Ideal) X (ix2 n l) = xc X n l := by
  pointwise [val_main_v11, val_main_v10, val_main_v9, val_main_v8, val_main_v7, val_main_v6, val_main_v3, val_main_v2,
    val_main_cst, val_main_cst_0]
  rfl

theorem r21 (n : Fin 4096) (i : Fin 1) : val_main_v21 (F := Ideal) X (ix2 n i) = rs X n := by
  pointwise [val_main_v21, val_main_v20, val_main_v19, val_main_v16, val_main_v15, val_main_v14, val_main_v13, val_main_v12, r11,
    val_main_cst_1, val_main_cst_2, val_main_cst_3]
  rfl

theorem r29 (n : Fin 4096) (l : Fin 4096) : val_main_v29 (F := Ideal) X G B (ix2 n l) = vn X G B n l := by
  pointwise [val_main_v29, val_main_v28, val_main_v27, val_main_v26, val_main_v25, val_main_v24, val_main_v23, val_main_v22, r21,
    val_main_v18, val_main_v17, val_main_v9, val_main_v8, val_main_v7, val_main_v6, val_main_v3, val_main_v2, val_main_cst,
    val_main_cst_0]
  rfl

theorem r38 (n : Fin 4096) (l : Fin 4096) :
    val_main_v38 (F := Ideal) X G B W C (ix2 n l) = sv X G B W C (by decide) n l := by
  pointwise [val_main_v38, val_main_v37, val_main_v36, val_main_v35, val_main_v34, val_main_v33, val_main_v32, val_main_v31,
    val_main_v30, r29]
  rfl

theorem r42 (n : Fin 4096) (l : Fin 4096) :
    val_main_v42 (F := Ideal) X G B W C (ix2 n l) = tv X G B W C (by decide) n l := by
  pointwise [val_main_v42, val_main_v41, val_main_v40, val_main_v39, val_main_call0_v5, val_main_call0_v4, val_main_call0_v3,
    val_main_call0_v2, val_main_call0_v1, val_main_call0_v0, val_main_call0_cst, val_main_call0_cst_0, r38, val_main_v5,
    val_main_v4, val_main_v1, val_main_v0]
  rfl

theorem r_eq : val_main_v42 (F := Ideal) X G B W C = tA X G B W C (by decide) := by
  funext y
  exact (congrArg _ (eq_ix2 y)).trans (r42 X G B W C (y 0) (y 1))

end Cert.Reference21Ideal.Body
end
-- ==== Proof.FwdRef0.lean ====
module

public import proofs.«01_k».proof.Proof.Fwd
public import proofs.«01_k».proof.Proof.Gen.Reference22Ideal.Read
public import Idealize.ShloMosaic.Lib.Claim
public import Idealize.ShloMosaic.Lib.Pointwise

@[expose] public section

set_option maxRecDepth 16384

noncomputable section

namespace Cert.Reference22Ideal.Body

open Idealize.ShloMosaic Cert.Reference22Ideal Cert.Reference22Ideal.Gen Cert.Reference22Ideal.Read Cert.Fwd
open Cert.Gate (Lanes Weights Biases)

/-!
The forward gating unit's reference at layer 0's rows, read at an index.
-/

variable (X : Planes 4352) (G B : Lanes) (W : Weights) (C : Biases)

theorem r11 (n : Fin 4352) (l : Fin 4096) : val_main_v11 (F := Ideal) X (ix2 n l) = xc X n l := by
  pointwise [val_main_v11, val_main_v10, val_main_v9, val_main_v8, val_main_v7, val_main_v6, val_main_v3, val_main_v2,
    val_main_cst, val_main_cst_0]
  rfl

theorem r21 (n : Fin 4352) (i : Fin 1) : val_main_v21 (F := Ideal) X (ix2 n i) = rs X n := by
  pointwise [val_main_v21, val_main_v20, val_main_v19, val_main_v16, val_main_v15, val_main_v14, val_main_v13, val_main_v12, r11,
    val_main_cst_1, val_main_cst_2, val_main_cst_3]
  rfl

theorem r29 (n : Fin 4352) (l : Fin 4096) : val_main_v29 (F := Ideal) X G B (ix2 n l) = vn X G B n l := by
  pointwise [val_main_v29, val_main_v28, val_main_v27, val_main_v26, val_main_v25, val_main_v24, val_main_v23, val_main_v22, r21,
    val_main_v18, val_main_v17, val_main_v9, val_main_v8, val_main_v7, val_main_v6, val_main_v3, val_main_v2, val_main_cst,
    val_main_cst_0]
  rfl

theorem r38 (n : Fin 4352) (l : Fin 4096) :
    val_main_v38 (F := Ideal) X G B W C (ix2 n l) = sv X G B W C (by decide) n l := by
  pointwise [val_main_v38, val_main_v37, val_main_v36, val_main_v35, val_main_v34, val_main_v33, val_main_v32, val_main_v31,
    val_main_v30, r29]
  rfl

theorem r42 (n : Fin 4352) (l : Fin 4096) :
    val_main_v42 (F := Ideal) X G B W C (ix2 n l) = tv X G B W C (by decide) n l := by
  pointwise [val_main_v42, val_main_v41, val_main_v40, val_main_v39, val_main_call0_v5, val_main_call0_v4, val_main_call0_v3,
    val_main_call0_v2, val_main_call0_v1, val_main_call0_v0, val_main_call0_cst, val_main_call0_cst_0, r38, val_main_v5,
    val_main_v4, val_main_v1, val_main_v0]
  rfl

theorem r_eq : val_main_v42 (F := Ideal) X G B W C = tA X G B W C (by decide) := by
  funext y
  exact (congrArg _ (eq_ix2 y)).trans (r42 X G B W C (y 0) (y 1))

end Cert.Reference22Ideal.Body
end
-- ==== Proof.FwdClaims.lean ====
module

public import proofs.«01_k».proof.Defs
public import proofs.«01_k».proof.Proof.FwdArr3
public import proofs.«01_k».proof.Proof.FwdArr0
public import proofs.«01_k».proof.Proof.FwdRef3
public import proofs.«01_k».proof.Proof.FwdRef0
public import proofs.«01_k».proof.Proof.Gen.Kernel21
public import proofs.«01_k».proof.Proof.Gen.Kernel21.Frame
public import proofs.«01_k».proof.Proof.Gen.Kernel21Ideal
public import proofs.«01_k».proof.Proof.Gen.Kernel21Ideal.Frame
public import proofs.«01_k».proof.Proof.Gen.Kernel21Ideal.Value
public import proofs.«01_k».proof.Proof.Gen.Reference21Ideal
public import proofs.«01_k».proof.Proof.Gen.Reference21Ideal.Run
public import proofs.«01_k».proof.Proof.Gen.Reference21Ideal.Read
public import proofs.«01_k».proof.Proof.Gen.Kernel22
public import proofs.«01_k».proof.Proof.Gen.Kernel22.Frame
public import proofs.«01_k».proof.Proof.Gen.Kernel22Ideal
public import proofs.«01_k».proof.Proof.Gen.Kernel22Ideal.Frame
public import proofs.«01_k».proof.Proof.Gen.Kernel22Ideal.Value
public import proofs.«01_k».proof.Proof.Gen.Reference22Ideal
public import proofs.«01_k».proof.Proof.Gen.Reference22Ideal.Run
public import proofs.«01_k».proof.Proof.Gen.Reference22Ideal.Read
public import Idealize.ShloMosaic.Adequacy
public import Idealize.ShloMosaic.Init

@[expose] public section

set_option maxRecDepth 16384

noncomputable section

/-!
The claims of the two forward gating units.
-/

namespace Cert.Proof.FwdClaims

open Idealize.ShloMosaic Idealize.SL.Sem Cert.Fwd

/-! Layer 3. -/

theorem frame_p21 : Cert.quiescent_Kernel21 := fun m ρ _ => Cert.Kernel21.Gen.frame m ρ
theorem frame_pi21 : Cert.quiescent_Kernel21Ideal := fun m ρ _ => Cert.Kernel21Ideal.Gen.frame m ρ
theorem frame_ri21 : Cert.quiescent_Reference21Ideal := fun m ρ _ =>
  (θ_run Cert.Reference21Ideal.defs _ _).mono (fun r h => ⟨fun c => (h c).2, sem_eq_zero_of_no_sems (by decide) r.2⟩)
    (Cert.Reference21Ideal.Value.run (F := Ideal) m ρ)

theorem algebraic21 : Cert.algebraic_Kernel21Ideal_Reference21Ideal := by
  intro m ρ m' ρ' _ ha
  refine ⟨fun c => tA (Cert.Kernel21Ideal.Body.A0 m c) (Cert.Kernel21Ideal.Body.A1 m c) (Cert.Kernel21Ideal.Body.A2 m c)
    (Cert.Kernel21Ideal.Body.A3 m c) (Cert.Kernel21Ideal.Body.A4 m c) (by decide), ?_, ?_⟩
  · exact (θ_run Cert.Kernel21Ideal.defs _ _).mono (fun r h c => ⟨(h c).1.trans (Cert.Kernel21Ideal.Body.arr m c), (h c).2⟩)
      (Cert.Kernel21Ideal.Value.run_blocks m ρ)
  · refine (θ_run Cert.Reference21Ideal.defs _ _).mono (fun r h c => ⟨?_, (h c).2⟩)
      (Cert.Reference21Ideal.Value.run (F := Ideal) m' ρ')
    obtain ⟨e0, e1, e2, e3, e4⟩ := ha c
    refine (h c).1.trans ((Cert.Reference21Ideal.Read.val_main_v42_eq m' c).trans ?_)
    rw [e0, e1, e2, e3, e4]
    exact Cert.Reference21Ideal.Body.r_eq _ _ _ _ _

/-! Layer 0. -/

theorem frame_p22 : Cert.quiescent_Kernel22 := fun m ρ _ => Cert.Kernel22.Gen.frame m ρ
theorem frame_pi22 : Cert.quiescent_Kernel22Ideal := fun m ρ _ => Cert.Kernel22Ideal.Gen.frame m ρ
theorem frame_ri22 : Cert.quiescent_Reference22Ideal := fun m ρ _ =>
  (θ_run Cert.Reference22Ideal.defs _ _).mono (fun r h => ⟨fun c => (h c).2, sem_eq_zero_of_no_sems (by decide) r.2⟩)
    (Cert.Reference22Ideal.Value.run (F := Ideal) m ρ)

theorem algebraic22 : Cert.algebraic_Kernel22Ideal_Reference22Ideal := by
  intro m ρ m' ρ' _ ha
  refine ⟨fun c => tA (Cert.Kernel22Ideal.Body.A0 m c) (Cert.Kernel22Ideal.Body.A1 m c) (Cert.Kernel22Ideal.Body.A2 m c)
    (Cert.Kernel22Ideal.Body.A3 m c) (Cert.Kernel22Ideal.Body.A4 m c) (by decide), ?_, ?_⟩
  · exact (θ_run Cert.Kernel22Ideal.defs _ _).mono (fun r h c => ⟨(h c).1.trans (Cert.Kernel22Ideal.Body.arr m c), (h c).2⟩)
      (Cert.Kernel22Ideal.Value.run_blocks m ρ)
  · refine (θ_run Cert.Reference22Ideal.defs _ _).mono (fun r h c => ⟨?_, (h c).2⟩)
      (Cert.Reference22Ideal.Value.run (F := Ideal) m' ρ')
    obtain ⟨e0, e1, e2, e3, e4⟩ := ha c
    refine (h c).1.trans ((Cert.Reference22Ideal.Read.val_main_v42_eq m' c).trans ?_)
    rw [e0, e1, e2, e3, e4]
    exact Cert.Reference22Ideal.Body.r_eq _ _ _ _ _

end Cert.Proof.FwdClaims

end
-- ==== Proof.Layer0Ref.lean ====
module

public import proofs.«01_k».proof.Proof.Ref
public import proofs.«01_k».proof.Proof.Gen.Reference23Ideal.Read
public import Idealize.ShloMosaic.Lib.Claim
public import Idealize.ShloMosaic.Lib.Pointwise

@[expose] public section

set_option maxRecDepth 16384

noncomputable section

namespace Cert.Reference23Ideal.Body

open Idealize.ShloMosaic Cert.Reference23Ideal Cert.Reference23Ideal.Gen Cert.Reference23Ideal.Read Cert.Gate
open Cert.ReferenceIdeal.Body (sum_first_last)

/-!
Layer 0's reference's operations read at an index, in terms of the gradient's mathematics.
-/

variable (X : Planes 4352) (D : Plane 4352) (G B : Lanes) (W : Weights) (C : Biases)

theorem r11 (n : Fin 4352) (l : Fin 4096) : val_main_v11 (F := Ideal) X (ix2 n l) = xc X n l := by
  pointwise [val_main_v11, val_main_v10, val_main_v9, val_main_v8, val_main_v7, val_main_v6, val_main_v3, val_main_v2,
    val_main_cst, val_main_cst_0]
  rfl

theorem r20 (n : Fin 4352) (l : Fin 4096) : val_main_v20 (F := Ideal) X (ix2 n l) = xc X n l := by
  pointwise [val_main_v20, val_main_v19, val_main_v9, val_main_v8, val_main_v7, val_main_v6, val_main_v3, val_main_v2,
    val_main_cst, val_main_cst_0]
  rfl

theorem r22 (n : Fin 4352) (i : Fin 1) : val_main_v22 (F := Ideal) X (ix2 n i) = vr X n := by
  pointwise [val_main_v22, val_main_v21, val_main_v18, val_main_v17, val_main_v16, val_main_v15, val_main_v12, r11,
    val_main_cst_2, val_main_cst_3, val_main_cst_4]
  rfl

theorem r23 (n : Fin 4352) (i : Fin 1) : val_main_v23 (F := Ideal) X (ix2 n i) = rs X n := by
  pointwise [val_main_v23, r22]
  rfl

theorem r26 (n : Fin 4352) (i : Fin 1) : val_main_v26 (F := Ideal) X (ix2 n i) = hs X n := by
  pointwise [val_main_v26, val_main_v25, val_main_v24, r23, r22, val_main_cst_5]
  rfl

theorem r28 (n : Fin 4352) (l : Fin 4096) : val_main_v28 (F := Ideal) X (ix2 n l) = xh X n l := by
  pointwise [val_main_v28, val_main_v27, r23, r20]
  rfl

theorem r34 (n : Fin 4352) (l : Fin 4096) : val_main_v34 (F := Ideal) X G B (ix2 n l) = vn X G B n l := by
  pointwise [val_main_v34, val_main_v33, val_main_v32, val_main_v31, val_main_v30, val_main_v29, r28]
  rfl

theorem r43 (n : Fin 4352) (l : Fin 4096) : val_main_v43 (F := Ideal) X G B W C (ix2 n l) = sv X G B W C n l := by
  pointwise [val_main_v43, val_main_v42, val_main_v41, val_main_v40, val_main_v39, val_main_v38, val_main_v37, val_main_v36,
    val_main_v35, r34]
  rfl

theorem r45_2 (n : Fin 4352) (l : Fin 4096) : val_main_v45_2 (F := Ideal) X (ix2 n l) = lg X n l := by
  pointwise [val_main_v45_2, val_main_call0_v4, val_main_call0_v3, val_main_call0_v2, val_main_call0_v1, val_main_call0_v0,
    val_main_call0_cst, val_main_call0_cst_0, val_main_v5, val_main_v4]
  rfl

theorem r45_1 (n : Fin 4352) (l : Fin 4096) : val_main_v45_1 (F := Ideal) X (ix2 n l) = lg X n l * (1 - lg X n l) := by
  pointwise [val_main_v45_1, val_main_call0_v7, val_main_call0_v6, val_main_call0_cst_1, r45_2]

theorem r45_0 (n : Fin 4352) (l : Fin 4096) : val_main_v45_0 (F := Ideal) X (ix2 n l) = sg X n l := by
  pointwise [val_main_v45_0, r45_2, val_main_v5, val_main_v4]
  rfl

theorem r50 (n : Fin 4352) (l : Fin 4096) : val_main_v50 (F := Ideal) X D (ix2 n l) = ds X D n l := by
  pointwise [val_main_v50, val_main_v48, r45_0, val_main_v1, val_main_v0]
  rfl

theorem r51 (n : Fin 4352) (l : Fin 4096) : val_main_v51 (F := Ideal) X D G B W C (ix2 n l) = du X D G B W C n l := by
  pointwise [val_main_v51, val_main_v48, r45_0, r43]
  rfl

theorem r49 (n : Fin 4352) (l : Fin 4096) : val_main_v49 (F := Ideal) X D G B W C (ix2 n l) = dg X D G B W C n l := by
  pointwise [val_main_v49, val_main_call1_v1, val_main_call1_v2, val_main_call1_v0, val_main_v47, val_main_v44, r43, r45_1,
    r45_2, val_main_v5, val_main_v4, val_main_v1, val_main_v0]
  rfl

theorem r63 (n : Fin 4352) (l : Fin 4096) : val_main_v63 (F := Ideal) X D W (ix2 n l) = dvn X D W n l := by
  pointwise [val_main_v63, val_main_v62, val_main_v61, val_main_v59, val_main_v52, r50]
  rfl

theorem r71 (n : Fin 4352) (l : Fin 4096) : val_main_v71 (F := Ideal) X D G W (ix2 n l) = dxh X D G W n l := by
  pointwise [val_main_v71, val_main_v70, val_main_v29, r63]
  rfl

theorem r77 (n : Fin 4352) (l : Fin 4096) : val_main_v77 (F := Ideal) X D G W (ix2 n l) = dxh X D G W n l * rs X n := by
  pointwise [val_main_v77, val_main_v76, r71, r23]

theorem r85 (n : Fin 4352) (l : Fin 4096) : val_main_v85 (F := Ideal) X D G W (ix2 n l) = dvr X D G W n := by
  pointwise [val_main_v85, val_main_v84, val_main_v83, val_main_v82, val_main_v78, val_main_v75, val_main_v74, val_main_v73,
    r20, r71, r26, val_main_cst_13, val_main_cst_15, val_main_cst_16]
  refine (Fin.sum_univ_one _).trans ?_
  rfl

theorem r86 (n : Fin 4352) (l : Fin 4096) : val_main_v86 (F := Ideal) X D G W (ix2 n l) = dvr X D G W n * (kTwo * xc X n l) := by
  pointwise [val_main_v86, r85, val_main_v14, val_main_v13, val_main_cst_1, r11]

theorem r96 (n : Fin 4352) (l : Fin 4096) : val_main_v96 (F := Ideal) X D G W (ix2 n l) = dv X D G W n l := by
  pointwise [val_main_v96, val_main_v95, val_main_v94, val_main_v93, val_main_v92, val_main_v91, val_main_v90, val_main_v89,
    val_main_v88, val_main_v87, val_main_v81, val_main_v80, val_main_v79, r77, r86, val_main_cst_14, val_main_cst_17,
    val_main_cst_18, val_main_cst_19]
  refine (congrArg _ (Fin.sum_univ_one _)).trans ?_
  rfl

theorem r105_0 (n : Fin 4352) (l : Fin 4096) : val_main_v105 (F := Ideal) X D G B W C (ix3 0 n l) = du X D G B W C n l := by
  pointwise [val_main_v105, val_main_v104, val_main_v103, val_main_v102, val_main_v101, val_main_v100, val_main_v99,
    val_main_v98, val_main_v97, val_main_cst_20, val_main_cst_21, val_main_cst_22, r51]

theorem r105_1 (n : Fin 4352) (l : Fin 4096) : val_main_v105 (F := Ideal) X D G B W C (ix3 1 n l) = dv X D G W n l := by
  pointwise [val_main_v105, val_main_v104, val_main_v103, val_main_v102, val_main_v101, val_main_v100, val_main_v99,
    val_main_v98, val_main_v97, val_main_cst_20, val_main_cst_21, val_main_cst_22, r96]

theorem r105_2 (n : Fin 4352) (l : Fin 4096) : val_main_v105 (F := Ideal) X D G B W C (ix3 2 n l) = dg X D G B W C n l := by
  pointwise [val_main_v105, val_main_v104, val_main_v103, val_main_v102, val_main_v101, val_main_v100, val_main_v99,
    val_main_v98, val_main_v97, val_main_cst_20, val_main_cst_21, val_main_cst_22, r49]

theorem r60 (h : Fin 16) (i j : Fin 128) : val_main_v60 (F := Ideal) X D G B (ix3 h i j)
    = ∑ t, ∑ e, ds X D (Gate.row t i) (lane h e) * vn X G B (Gate.row t j) (lane h e) := by
  pointwise [val_main_v60, val_main_v59, val_main_v35, val_main_v52, r50, r34]
  rfl

theorem r106 (i : Fin 1) (l : Fin 4096) : val_main_v106 (F := Ideal) X D W (ix2 i l) = ∑ n, xh X n l * dvn X D W n l := by
  pointwise [val_main_v106, val_main_v72, val_main_v69, val_main_v68, val_main_v67, r28, r63, val_main_cst_11, val_main_cst_12]
  exact Fin.sum_univ_one _

theorem r107 (i : Fin 1) (l : Fin 4096) : val_main_v107 (F := Ideal) X D W (ix2 i l) = ∑ n, dvn X D W n l := by
  pointwise [val_main_v107, val_main_v66, val_main_v65, val_main_v64, r63, val_main_cst_9, val_main_cst_10]
  exact Fin.sum_univ_one _

theorem r53 (i : Fin 128) (h : Fin 16) : val_main_v53 (F := Ideal) X D (ix2 i h) = ∑ t, ∑ e, ds X D (Gate.row t i) (lane h e) := by
  unfold val_main_v53
  refine (sum_first_last _ _ _ _ _).trans ?_
  pointwise [val_main_v52, val_main_cst_6, r50]
  rfl

theorem r55 (i : Fin 128) (h : Fin 16) : val_main_v55 (F := Ideal) X D (ix2 i h) = ∑ t, ∑ e, ds X D (Gate.row t i) (lane h e) := by
  unfold val_main_v55
  refine (sum_first_last _ _ _ _ _).trans ?_
  pointwise [val_main_v54, val_main_cst_7, r53]
  refine (Fin.sum_univ_one _).trans ?_
  exact Fin.sum_univ_one _

theorem r108 (i : Fin 128) (h : Fin 16) : val_main_v108 (F := Ideal) X D (ix2 i h) = ∑ t, ∑ e, ds X D (Gate.row t i) (lane h e) := by
  pointwise [val_main_v108, val_main_v58, val_main_v57, val_main_v56, val_main_cst_8, r55]
  exact Fin.sum_univ_one _

end Cert.Reference23Ideal.Body
end
-- ==== Proof.Layer0.lean ====
module

public import proofs.«01_k».proof.Proof.Runs
public import proofs.«01_k».proof.Proof.Gen.Kernel23Ideal.Frame

@[expose] public section

set_option maxRecDepth 16384

noncomputable section

namespace Cert.Kernel23Ideal.Body

open Idealize.ShloMosaic Cert.Kernel23Ideal Cert.Kernel23Ideal.Gen
open Idealize.ShloMosaic.TcCoe Idealize.SL.Sem
open Cert.KernelIdeal.Body (runA runB)

/-!
The points of layer 0's call run the body of layer 3's: on the same blocks they leave the same.
-/

/-- The first point of layer 3's grid. -/
def tA : Fin Cert.KernelIdeal.cfg0.N := ⟨0, by decide⟩
/-- A later one. -/
def tB : Fin Cert.KernelIdeal.cfg0.N := ⟨1, by decide⟩
/-- Layer 3's device. -/
def cc : Dev Cert.KernelIdeal.nD := ⟨0, by decide⟩

variable (m : (ℓ : Loc nD τ sig) → Buf (Elt Ideal) ℓ)

set_option maxHeartbeats 4000000 in
theorem outs_A (c : Dev nD) (t : Fin cfg0.N) (h : t.val % 34 = 0) : outsAt0 m c t.val t.isLt
    = runA cc tA rfl (iblk m c 0 t) (iblk m c 1 t) (iblk m c 2 t) (iblk m c 3 t) (iblk m c 4 t) (iblk m c 5 t) := by
  rw [outsAt0_A m c t h h h]
  unfold runA
  refine Prod.ext ?_ (Prod.ext ?_ (Prod.ext ?_ (Prod.ext ?_ ?_))) <;>
    (frame_open
     simp (disch := decide) only [↓ View.readCov_skip, ↓ View.readCov_cons_toLoadRect, ↓ View.readCov_fill, View.readCov_eq_canon']
     frame_out
     rfl)

set_option maxHeartbeats 4000000 in
theorem outs_B (c : Dev nD) (t : Fin cfg0.N) (h : ¬t.val % 34 = 0) : outsAt0 m c t.val t.isLt
    = runB cc tB (by decide) (iblk m c 0 t) (iblk m c 1 t) (iblk m c 2 t) (iblk m c 3 t) (iblk m c 4 t) (iblk m c 5 t)
        (outsAt0 m c (t.val - 1) (by omega)).2.1 (outsAt0 m c (t.val - 1) (by omega)).2.2.1
        (outsAt0 m c (t.val - 1) (by omega)).2.2.2.1 (outsAt0 m c (t.val - 1) (by omega)).2.2.2.2 := by
  rw [outsAt0_B m c t h h h]
  unfold runB
  refine Prod.ext ?_ (Prod.ext ?_ (Prod.ext ?_ (Prod.ext ?_ ?_))) <;>
    (frame_open
     simp (disch := decide) only [↓ View.readCov_skip, ↓ View.readCov_cons_toLoadRect, ↓ View.readCov_fill, View.readCov_eq_canon']
     frame_out
     rfl)

end Cert.Kernel23Ideal.Body
end
-- ==== Proof.Layer0Arr.lean ====
module

public import proofs.«01_k».proof.Proof.Points
public import proofs.«01_k».proof.Proof.Layer0

@[expose] public section

set_option maxRecDepth 16384

noncomputable section

namespace Cert.Kernel23Ideal.Body

open Idealize.ShloMosaic Cert.Kernel23Ideal Cert.Kernel23Ideal.Gen
open Idealize.ShloMosaic.TcCoe Idealize.SL.Sem
open Cert.KernelIdeal.Body (xBlk dBlk vBlk bBlk ch Points g6 g7 g8 g9 g10)

/-!
The blocks layer 0's points read and the five output arrays after its run, as functions of the call's arguments.
-/

variable (m : (ℓ : Loc nD τ sig) → Buf (Elt Ideal) ℓ)

/-- The argument `z3`. -/
abbrev A0 (c : Dev nD) : FVec Ideal S3x4352x4096 .f32 := m ((c : Thread nD τ).loc main_arg0)
/-- The argument `dt`. -/
abbrev A1 (c : Dev nD) : FVec Ideal S4352x4096 .f32 := m ((c : Thread nD τ).loc main_arg1)
/-- The argument `ln_g`. -/
abbrev A2 (c : Dev nD) : FVec Ideal S4096 .f32 := m ((c : Thread nD τ).loc main_arg2)
/-- The argument `ln_b`. -/
abbrev A3 (c : Dev nD) : FVec Ideal S4096 .f32 := m ((c : Thread nD τ).loc main_arg3)
/-- The argument `w_s`. -/
abbrev A4 (c : Dev nD) : FVec Ideal S16x128x128 .f32 := m ((c : Thread nD τ).loc main_arg4)
/-- The argument `b_s`. -/
abbrev A5 (c : Dev nD) : FVec Ideal S16x128 .f32 := m ((c : Thread nD τ).loc main_arg5)

/-- One point per chunk. -/
theorem points_eq : cfg0.N = 4352 / 128 := N_0

theorem idx : ∀ t : Fin cfg0.N, win0_0.index t = ![0, t.val, 0] ∧ win0_1.index t = ![t.val, 0] ∧ win0_2.index t = ![0, 0] ∧
    win0_3.index t = ![0, 0] ∧ win0_4.index t = ![0, 0, 0] ∧ win0_5.index t = ![0, 0] ∧ win0_6.index t = ![0, t.val, 0] :=
  (by decide +kernel : ∀ t : Fin grid0.N, _)

theorem iblk0 (c : Dev nD) (t : Fin cfg0.N) : iblk m c 0 t = xBlk (A0 m c) (ch points_eq t) := by
  funext y
  idx_vars y
  unfold xBlk
  blk_ext [iblk, V, idx t, Gate.row, ch]

theorem iblk1 (c : Dev nD) (t : Fin cfg0.N) : iblk m c 1 t = dBlk (A1 m c) (ch points_eq t) := by
  funext y
  unfold dBlk
  blk_ext [iblk, V, idx t, Gate.row, ch]

theorem iblk2 (c : Dev nD) (t : Fin cfg0.N) : iblk m c 2 t = vBlk (A2 m c) := by
  funext y
  unfold iblk
  entry_read
  unfold A2 vBlk
  show View.read _ _ _ _ = (m (c, Proc.tc.devRef main_arg2)) _
  generalize m (c, Proc.tc.devRef main_arg2) = A
  blk_simp [idx t]
  pointwise
  blk_ext [idx t]

theorem iblk3 (c : Dev nD) (t : Fin cfg0.N) : iblk m c 3 t = vBlk (A3 m c) := by
  funext y
  unfold iblk
  entry_read
  unfold A3 vBlk
  show View.read _ _ _ _ = (m (c, Proc.tc.devRef main_arg3)) _
  generalize m (c, Proc.tc.devRef main_arg3) = A
  blk_simp [idx t]
  pointwise
  blk_ext [idx t]

theorem iblk4 (c : Dev nD) (t : Fin cfg0.N) : iblk m c 4 t = (A4 m c) := by
  funext y
  unfold iblk
  entry_read
  blk_simp [idx t]
  pointwise
  blk_ext [idx t]

theorem iblk5 (c : Dev nD) (t : Fin cfg0.N) : iblk m c 5 t = bBlk (A5 m c) := by
  funext y
  unfold iblk
  entry_read
  unfold A5 bBlk
  show View.read _ _ _ _ = (m (c, Proc.tc.devRef main_arg5)) _
  generalize m (c, Proc.tc.devRef main_arg5) = A
  blk_simp [idx t]
  pointwise
  blk_ext [idx t]

theorem points (c : Dev nD) : Points points_eq 34 (outsAt0 m c) (A0 m c) (A1 m c) (A2 m c) (A3 m c) (A4 m c) (A5 m c) where
  le := le_of_eq N_0
  first t h := ⟨cc, tA, rfl, by rw [outs_A m c t h, iblk0, iblk1, iblk2, iblk3, iblk4, iblk5]⟩
  later t h := ⟨cc, tB, by decide, by rw [outs_B m c t h, iblk0, iblk1, iblk2, iblk3, iblk4, iblk5]⟩

theorem arr6 (c : Dev nD) :
    (dats m 0 c).arrAt 6 cfg0.N = g6 (A0 m c) (A1 m c) (A2 m c) (A3 m c) (A4 m c) (A5 m c) := by
  refine (dats m 0 c).arrAt_eq_of_covers 6 _ (by decide +kernel) fun t hf y => ?_
  have key := (points m c).left6 t
  rw [after0_6]
  generalize (outsAt0 m c t.val t.isLt).1 = Q at key
  refine (key ((cfg0.win 6).xinj (cfg0.grid.coords t) y)).trans (congrArg (g6 (A0 m c) (A1 m c) (A2 m c) (A3 m c) (A4 m c) (A5 m c)) ?_)
  symm
  blk_ext [idx t, Gate.row]

theorem arr7 (c : Dev nD) : (dats m 0 c).arrAt 7 cfg0.N = g7 (A0 m c) (A1 m c) (A4 m c) := by
  refine (dats m 0 c).arrAt_eq_of_after_last 7 ⟨33, by decide⟩ (by decide +kernel) _ fun j => ?_
  rw [after0_7, (points m c).left7 ⟨33, by decide⟩ rfl]
  exact congrArg (g7 (A0 m c) (A1 m c) (A4 m c) : S1x4096.Idx → EReal) (funext fun a => by fin_cases a <;> rfl)

theorem arr8 (c : Dev nD) : (dats m 0 c).arrAt 8 cfg0.N = g8 (A0 m c) (A1 m c) (A4 m c) := by
  refine (dats m 0 c).arrAt_eq_of_after_last 8 ⟨33, by decide⟩ (by decide +kernel) _ fun j => ?_
  rw [after0_8, (points m c).left8 ⟨33, by decide⟩ rfl]
  exact congrArg (g8 (A0 m c) (A1 m c) (A4 m c) : S1x4096.Idx → EReal) (funext fun a => by fin_cases a <;> rfl)

theorem arr9 (c : Dev nD) : (dats m 0 c).arrAt 9 cfg0.N = g9 (A0 m c) (A1 m c) (A2 m c) (A3 m c) := by
  refine (dats m 0 c).arrAt_eq_of_after_last 9 ⟨33, by decide⟩ (by decide +kernel) _ fun j => ?_
  rw [after0_9, (points m c).left9 ⟨33, by decide⟩ rfl]
  exact congrArg (g9 (A0 m c) (A1 m c) (A2 m c) (A3 m c) : S16x128x128.Idx → EReal) (funext fun a => by fin_cases a <;> rfl)

theorem arr10 (c : Dev nD) : (dats m 0 c).arrAt 10 cfg0.N = g10 (A0 m c) (A1 m c) := by
  refine (dats m 0 c).arrAt_eq_of_after_last 10 ⟨33, by decide⟩ (by decide +kernel) _ fun j => ?_
  rw [after0_10, (points m c).left10 ⟨33, by decide⟩ rfl]
  exact congrArg (g10 (A0 m c) (A1 m c) : S128x16.Idx → EReal) (funext fun a => by fin_cases a <;> rfl)

end Cert.Kernel23Ideal.Body
end
-- ==== Proof.Layer0Claims.lean ====
module

public import proofs.«01_k».proof.Defs
public import proofs.«01_k».proof.Proof.Pre
public import proofs.«01_k».proof.Proof.Values
public import proofs.«01_k».proof.Proof.Layer0Ref
public import proofs.«01_k».proof.Proof.Layer0Arr
public import proofs.«01_k».proof.Proof.Gen.Kernel23
public import proofs.«01_k».proof.Proof.Gen.Kernel23.Frame
public import proofs.«01_k».proof.Proof.Gen.Kernel23Ideal
public import proofs.«01_k».proof.Proof.Gen.Kernel23Ideal.Frame
public import proofs.«01_k».proof.Proof.Gen.Kernel23Ideal.Value
public import proofs.«01_k».proof.Proof.Gen.Reference23Ideal
public import proofs.«01_k».proof.Proof.Gen.Reference23Ideal.Run
public import proofs.«01_k».proof.Proof.Gen.Reference23Ideal.Read
public import Idealize.ShloMosaic.Adequacy
public import Idealize.ShloMosaic.Init

@[expose] public section

set_option maxRecDepth 16384

noncomputable section

namespace Cert.Proof.Layer0Claims

open Idealize.ShloMosaic Idealize.SL.Sem Cert.Gate Cert.Kernel23Ideal.Body Cert.Reference23Ideal.Body
open Cert.KernelIdeal.Body (g6 g7 g8 g9 g10)

/-!
The claims of layer 0's gating unit's backward call.
-/

instance : Cert.Pre_finite3.Facts := Cert.Pre_finite3.Body.facts

theorem frame_p : Cert.quiescent_Kernel23 := fun m ρ _ => Cert.Kernel23.Gen.frame m ρ
theorem frame_pi : Cert.quiescent_Kernel23Ideal := fun m ρ _ => Cert.Kernel23Ideal.Gen.frame m ρ
theorem frame_pi_pre : Cert.quiescent_Kernel23Ideal_pre_finite3 := fun m ρ _ => Cert.Kernel23Ideal.Gen.frame m ρ
theorem frame_ri : Cert.quiescent_Reference23Ideal := fun m ρ _ =>
  (θ_run Cert.Reference23Ideal.defs _ _).mono (fun r h => ⟨fun c => (h c).2.2.2.2.2, sem_eq_zero_of_no_sems (by decide) r.2⟩)
    (Cert.Reference23Ideal.Value.run (F := Ideal) m ρ)
theorem frame_ri_pre : Cert.quiescent_Reference23Ideal_pre_finite3 := fun m ρ _ => frame_ri m ρ trivial

/-- The precondition, as the values' lemma reads it. -/
theorem finite {m : (ℓ : Loc Cert.Kernel23Ideal.nD Cert.Kernel23Ideal.τ Cert.Kernel23Ideal.sig) → Buf (Elt Ideal) ℓ}
    (h : Cert.Pre_Kernel23Ideal_finite3 m) (c : Dev Cert.Kernel23Ideal.nD) :
    Finite (A0 m c) (A1 m c) (A2 m c) (A3 m c) (A4 m c) (A5 m c) where
  X := Cert.Pre_finite.Body.real_of_cmp _ _ (h c).1
  D := Cert.Pre_finite.Body.real_of_cmp _ _ (h c).2.1
  G := Cert.Pre_finite.Body.real_of_cmp _ _ (h c).2.2.1
  B := Cert.Pre_finite.Body.real_of_cmp _ _ (h c).2.2.2.1
  W := Cert.Pre_finite.Body.real_of_cmp _ _ (h c).2.2.2.2.1
  C := Cert.Pre_finite.Body.real_of_cmp _ _ (h c).2.2.2.2.2

theorem algebraic : Cert.algebraic_Kernel23Ideal_Reference23Ideal_pre_finite3 := by
  intro m ρ m' ρ' hp ha
  refine ⟨fun c => g6 (A0 m c) (A1 m c) (A2 m c) (A3 m c) (A4 m c) (A5 m c), fun c => g7 (A0 m c) (A1 m c) (A4 m c),
    fun c => g8 (A0 m c) (A1 m c) (A4 m c), fun c => g9 (A0 m c) (A1 m c) (A2 m c) (A3 m c), fun c => g10 (A0 m c) (A1 m c), ?_, ?_⟩
  · exact (θ_run Cert.Kernel23Ideal.defs _ _).mono (fun r h c =>
      ⟨(h c).1.trans (arr6 m c), (h c).2.1.trans (arr7 m c), (h c).2.2.1.trans (arr8 m c),
        (h c).2.2.2.1.trans (arr9 m c), (h c).2.2.2.2.1.trans (arr10 m c), (h c).2.2.2.2.2⟩)
      (Cert.Kernel23Ideal.Value.run_blocks m ρ)
  · refine (θ_run Cert.Reference23Ideal.defs _ _).mono (fun r h c => ?_) (Cert.Reference23Ideal.Value.run (F := Ideal) m' ρ')
    obtain ⟨h1, h2, h3, h4, h5, h6⟩ := h c
    obtain ⟨e0, e1, e2, e3, e4, e5⟩ := ha c
    refine ⟨h1.trans ((Cert.Reference23Ideal.Read.val_main_v105_eq m' c).trans ?_),
      h2.trans ((Cert.Reference23Ideal.Read.val_main_v106_eq _ _ _).trans ?_),
      h3.trans ((Cert.Reference23Ideal.Read.val_main_v107_eq _ _ _).trans ?_),
      h4.trans ((Cert.Reference23Ideal.Read.val_main_v60_eq _ _ _ _).trans ?_),
      h5.trans ((Cert.Reference23Ideal.Read.val_main_v108_eq _ _).trans ?_), h6⟩
    · rw [e0, e1, e2, e3, e4, e5]
      exact Cert.Values.dz_eq (finite hp c) (r105_0 _ _ _ _ _ _) (r105_1 _ _ _ _ _ _) (r105_2 _ _ _ _ _ _)
    · rw [e0, e1, e4]
      exact Cert.Values.dgam_eq (r106 _ _ _)
    · rw [e0, e1, e4]
      exact Cert.Values.dbeta_eq (r107 _ _ _)
    · rw [e0, e1, e2, e3]
      exact Cert.Values.dw_eq (r60 _ _ _ _)
    · rw [e0, e1]
      exact Cert.Values.db_eq (r108 _ _)

end Cert.Proof.Layer0Claims

end
-- ==== Proof.lean ====
module

public import proofs.«01_k».proof.Defs
public import proofs.«01_k».proof.Proof.Claims
public import proofs.«01_k».proof.Proof.AttnClaims
public import proofs.«01_k».proof.Proof.ProdClaims
public import proofs.«01_k».proof.Proof.ProdClaims3
public import proofs.«01_k».proof.Proof.ProdClaims2
public import proofs.«01_k».proof.Proof.FwdClaims
public import proofs.«01_k».proof.Proof.Layer0Claims
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import proofs.«01_k».proof.Proof.Gen.Kernel17
public import proofs.«01_k».proof.Proof.Gen.Kernel17.Frame
public import proofs.«01_k».proof.Proof.Gen.Kernel17Ideal
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Reference17Ideal.Read
public import proofs.«01_k».proof.Proof.Gen.Kernel18
public import proofs.«01_k».proof.Proof.Gen.Kernel18.Frame
public import proofs.«01_k».proof.Proof.Gen.Kernel18Ideal
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Reference18Ideal.Read
public import proofs.«01_k».proof.Proof.Gen.Kernel19
public import proofs.«01_k».proof.Proof.Gen.Kernel19.Frame
public import proofs.«01_k».proof.Proof.Gen.Kernel19Ideal
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.Gen.Reference19Ideal.Read
public import proofs.«01_k».proof.Proof.Gen.Kernel20
public import proofs.«01_k».proof.Proof.Gen.Kernel20.Frame
public import proofs.«01_k».proof.Proof.Gen.Kernel20Ideal
public import proofs.«01_k».proof.Proof.Gen.Kernel20Ideal.Frame
public import proofs.«01_k».proof.Proof.Gen.Kernel20Ideal.Value
public import proofs.«01_k».proof.Proof.Gen.Reference20Ideal
public import proofs.«01_k».proof.Proof.Gen.Reference20Ideal.Run
public import proofs.«01_k».proof.Proof.Gen.Reference20Ideal.Read
public import proofs.«01_k».proof.Proof.Gen.Kernel21
public import proofs.«01_k».proof.Proof.Gen.Kernel21.Frame
public import proofs.«01_k».proof.Proof.Gen.Kernel21Ideal
public import proofs.«01_k».proof.Proof.Gen.Kernel21Ideal.Frame
public import proofs.«01_k».proof.Proof.Gen.Kernel21Ideal.Value
public import proofs.«01_k».proof.Proof.Gen.Reference21Ideal
public import proofs.«01_k».proof.Proof.Gen.Reference21Ideal.Run
public import proofs.«01_k».proof.Proof.Gen.Reference21Ideal.Read
public import proofs.«01_k».proof.Proof.Gen.Kernel22
public import proofs.«01_k».proof.Proof.Gen.Kernel22.Frame
public import proofs.«01_k».proof.Proof.Gen.Kernel22Ideal
public import proofs.«01_k».proof.Proof.Gen.Kernel22Ideal.Frame
public import proofs.«01_k».proof.Proof.Gen.Kernel22Ideal.Value
public import proofs.«01_k».proof.Proof.Gen.Reference22Ideal
public import proofs.«01_k».proof.Proof.Gen.Reference22Ideal.Run
public import proofs.«01_k».proof.Proof.Gen.Reference22Ideal.Read
public import proofs.«01_k».proof.Proof.Gen.Kernel23
public import proofs.«01_k».proof.Proof.Gen.Kernel23.Frame
public import proofs.«01_k».proof.Proof.Gen.Kernel23Ideal
public import proofs.«01_k».proof.Proof.Gen.Kernel23Ideal.Frame
public import proofs.«01_k».proof.Proof.Gen.Kernel23Ideal.Value
public import proofs.«01_k».proof.Proof.Gen.Reference23Ideal
public import proofs.«01_k».proof.Proof.Gen.Reference23Ideal.Run
public import proofs.«01_k».proof.Proof.Gen.Reference23Ideal.Read
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts,
    Cert.Kernel3.Gen.facts, Cert.Kernel3Ideal.Gen.facts, Cert.Reference3Ideal.Gen.facts, Cert.Kernel4.Gen.facts,
    Cert.Kernel4Ideal.Gen.facts, Cert.Reference4Ideal.Gen.facts, Cert.Kernel5.Gen.facts, Cert.Kernel5Ideal.Gen.facts,
    Cert.Reference5Ideal.Gen.facts, Cert.Kernel6.Gen.facts, Cert.Kernel6Ideal.Gen.facts, Cert.Reference6Ideal.Gen.facts,
    Cert.Kernel7.Gen.facts, Cert.Kernel7Ideal.Gen.facts, Cert.Reference7Ideal.Gen.facts, Cert.Kernel8.Gen.facts,
    Cert.Kernel8Ideal.Gen.facts, Cert.Reference8Ideal.Gen.facts, Cert.Kernel9.Gen.facts, Cert.Kernel9Ideal.Gen.facts,
    Cert.Reference9Ideal.Gen.facts, Cert.Kernel10.Gen.facts, Cert.Kernel10Ideal.Gen.facts, Cert.Reference10Ideal.Gen.facts,
    Cert.Kernel11.Gen.facts, Cert.Kernel11Ideal.Gen.facts, Cert.Reference11Ideal.Gen.facts, Cert.Kernel12.Gen.facts,
    Cert.Kernel12Ideal.Gen.facts, Cert.Reference12Ideal.Gen.facts, Cert.Kernel13.Gen.facts, Cert.Kernel13Ideal.Gen.facts,
    Cert.Reference13Ideal.Gen.facts, Cert.Kernel14.Gen.facts, Cert.Kernel14Ideal.Gen.facts, Cert.Reference14Ideal.Gen.facts,
    Cert.Kernel15.Gen.facts, Cert.Kernel15Ideal.Gen.facts, Cert.Reference15Ideal.Gen.facts, Cert.Kernel16.Gen.facts,
    Cert.Kernel16Ideal.Gen.facts, Cert.Reference16Ideal.Gen.facts, Cert.Kernel17.Gen.facts, Cert.Kernel17Ideal.Gen.facts,
    Cert.Reference17Ideal.Gen.facts, Cert.Kernel18.Gen.facts, Cert.Kernel18Ideal.Gen.facts, Cert.Reference18Ideal.Gen.facts,
    Cert.Kernel19.Gen.facts, Cert.Kernel19Ideal.Gen.facts, Cert.Reference19Ideal.Gen.facts, Cert.Kernel20.Gen.facts,
    Cert.Kernel20Ideal.Gen.facts, Cert.Reference20Ideal.Gen.facts, Cert.Kernel21.Gen.facts, Cert.Kernel21Ideal.Gen.facts,
    Cert.Reference21Ideal.Gen.facts, Cert.Kernel22.Gen.facts, Cert.Kernel22Ideal.Gen.facts, Cert.Reference22Ideal.Gen.facts,
    Cert.Kernel23.Gen.facts, Cert.Kernel23Ideal.Gen.facts, Cert.Reference23Ideal.Gen.facts,
    Cert.Pre_finite.Body.facts, Cert.Pre_finite2.Body.facts, Cert.Pre_finite3.Body.facts,
    GateClaims.frame_p, GateClaims.frame_pi, GateClaims.frame_pi_pre, GateClaims.frame_ri, GateClaims.frame_ri_pre,
    AttnClaims.frame_p, AttnClaims.frame_pi, AttnClaims.frame_pi_pre, AttnClaims.frame_ri, AttnClaims.frame_ri_pre,
    ProdClaims.frame_p3, ProdClaims.frame_pi3, ProdClaims.frame_ri3, ProdClaims.frame_p4, ProdClaims.frame_pi4,
    ProdClaims.frame_ri4, ProdClaims.frame_p5, ProdClaims.frame_pi5, ProdClaims.frame_ri5, ProdClaims.frame_p6,
    ProdClaims.frame_pi6, ProdClaims.frame_ri6, ProdClaims.frame_p7, ProdClaims.frame_pi7, ProdClaims.frame_ri7,
    ProdClaims.frame_p8, ProdClaims.frame_pi8, ProdClaims.frame_ri8, ProdClaims.frame_p9, ProdClaims.frame_pi9,
    ProdClaims.frame_ri9, ProdClaims.frame_p10, ProdClaims.frame_pi10, ProdClaims.frame_ri10, ProdClaims.frame_p11,
    ProdClaims.frame_pi11, ProdClaims.frame_ri11, ProdClaims.frame_p12, ProdClaims.frame_pi12, ProdClaims.frame_ri12,
    ProdClaims.frame_p13, ProdClaims.frame_pi13, ProdClaims.frame_ri13, ProdClaims.frame_p14, ProdClaims.frame_pi14,
    ProdClaims.frame_ri14, ProdClaims.frame_p15, ProdClaims.frame_pi15, ProdClaims.frame_ri15, ProdClaims.frame_p16,
    ProdClaims.frame_pi16, ProdClaims.frame_ri16, ProdClaims.frame_p17, ProdClaims.frame_pi17, ProdClaims.frame_ri17,
    ProdClaims.frame_p18, ProdClaims.frame_pi18, ProdClaims.frame_ri18, ProdClaims.frame_p19, ProdClaims.frame_pi19,
    ProdClaims.frame_ri19, ProdClaims.frame_p20, ProdClaims.frame_pi20, ProdClaims.frame_ri20, FwdClaims.frame_p21,
    FwdClaims.frame_pi21, FwdClaims.frame_ri21, FwdClaims.frame_p22, FwdClaims.frame_pi22, FwdClaims.frame_ri22,
    Layer0Claims.frame_p, Layer0Claims.frame_pi, Layer0Claims.frame_pi_pre, Layer0Claims.frame_ri,
    Layer0Claims.frame_ri_pre,
    trivial, GateClaims.algebraic, AttnClaims.preserves, AttnClaims.algebraic,
    trivial, ProdClaims.algebraic3, trivial, ProdClaims.algebraic4, trivial, ProdClaims.algebraic5, trivial,
    ProdClaims.algebraic6, trivial, ProdClaims.algebraic7, trivial, ProdClaims.algebraic8, trivial, ProdClaims.algebraic9,
    trivial, ProdClaims.algebraic10, trivial, ProdClaims.algebraic11, trivial, ProdClaims.algebraic12, trivial,
    ProdClaims.algebraic13, trivial, ProdClaims.algebraic14, trivial, ProdClaims.algebraic15, trivial,
    ProdClaims.algebraic16, trivial, ProdClaims.algebraic17, trivial, ProdClaims.algebraic18, trivial,
    ProdClaims.algebraic19, trivial, ProdClaims.algebraic20, trivial, FwdClaims.algebraic21, trivial, FwdClaims.algebraic22,
    trivial, Layer0Claims.algebraic⟩

end Cert.Proof

end
